-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Kernel30Ideal_finite [hPre_finite : Cert.Pre_finite.Facts] (m : (ℓ : Loc Cert.Kernel30Ideal.nD Cert.Kernel30Ideal.τ Cert.Kernel30Ideal.sig) → Buf (Elt Ideal) ℓ) : Prop :=
  ∀ c : Dev Cert.Kernel30Ideal.nD,
    (Cert.Pre_finite.fn (F := Ideal) (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2)) (m ((c.tc : Thread Cert.Kernel30Ideal.nD Cert.Kernel30Ideal.τ).loc Cert.Kernel30Ideal.main_arg3))) = (fun _ => 1#1)

def Pre_Reference30Ideal (m : (ℓ : Loc Cert.Reference30Ideal.nD Cert.Reference30Ideal.τ Cert.Reference30Ideal.sig) → Buf (Elt Ideal) ℓ) : Prop :=
  True

def Pre_Reference30Ideal_finite [hPre_finite : Cert.Pre_finite.Facts] (m : (ℓ : Loc Cert.Reference30Ideal.nD Cert.Reference30Ideal.τ Cert.Reference30Ideal.sig) → Buf (Elt Ideal) ℓ) : Prop :=
  ∀ c : Dev Cert.Reference30Ideal.nD,
    (Cert.Pre_finite.fn (F := Ideal) (m ((c.tc : Thread Cert.Reference30Ideal.nD Cert.Reference30Ideal.τ).loc Cert.Reference30Ideal.main_arg0)) (m ((c.tc : Thread Cert.Reference30Ideal.nD Cert.Reference30Ideal.τ).loc Cert.Reference30Ideal.main_arg1)) (m ((c.tc : Thread Cert.Reference30Ideal.nD Cert.Reference30Ideal.τ).loc Cert.Reference30Ideal.main_arg2)) (m ((c.tc : Thread Cert.Reference30Ideal.nD Cert.Reference30Ideal.τ).loc Cert.Reference30Ideal.main_arg3))) = (fun _ => 1#1)

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def Pre_Kernel44 (m : (ℓ : Loc Cert.Kernel44.nD Cert.Kernel44.τ Cert.Kernel44.sig) → Buf (Elt Bits) ℓ) : Prop :=
  True

def Pre_Kernel44Ideal (m : (ℓ : Loc Cert.Kernel44Ideal.nD Cert.Kernel44Ideal.τ Cert.Kernel44Ideal.sig) → Buf (Elt Ideal) ℓ) : Prop :=
  True

def Pre_Reference44Ideal (m : (ℓ : Loc Cert.Reference44Ideal.nD Cert.Reference44Ideal.τ Cert.Reference44Ideal.sig) → Buf (Elt Ideal) ℓ) : Prop :=
  True

def Pre_Kernel45 (m : (ℓ : Loc Cert.Kernel45.nD Cert.Kernel45.τ Cert.Kernel45.sig) → Buf (Elt Bits) ℓ) : Prop :=
  True

def Pre_Kernel45Ideal (m : (ℓ : Loc Cert.Kernel45Ideal.nD Cert.Kernel45Ideal.τ Cert.Kernel45Ideal.sig) → Buf (Elt Ideal) ℓ) : Prop :=
  True

def Pre_Reference45Ideal (m : (ℓ : Loc Cert.Reference45Ideal.nD Cert.Reference45Ideal.τ Cert.Reference45Ideal.sig) → Buf (Elt Ideal) ℓ) : Prop :=
  True

def Pre_Kernel46 (m : (ℓ : Loc Cert.Kernel46.nD Cert.Kernel46.τ Cert.Kernel46.sig) → Buf (Elt Bits) ℓ) : Prop :=
  True

def Pre_Kernel46Ideal (m : (ℓ : Loc Cert.Kernel46Ideal.nD Cert.Kernel46Ideal.τ Cert.Kernel46Ideal.sig) → Buf (Elt Ideal) ℓ) : Prop :=
  True

def Pre_Reference46Ideal (m : (ℓ : Loc Cert.Reference46Ideal.nD Cert.Reference46Ideal.τ Cert.Reference46Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Kernel30Ideal_pre_finite [hKernel30Ideal : Cert.Kernel30Ideal.Facts] [hPre_finite : Cert.Pre_finite.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal_finite m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Reference30Ideal_pre_finite [hReference30Ideal : Cert.Reference30Ideal.Facts] [hPre_finite : Cert.Pre_finite.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal_finite m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1)
      ∧ r.2.mem ((c.tc : Thread Cert.Kernel42.nD Cert.Kernel42.τ).loc Cert.Kernel42.main_arg2) = m ((c.tc : Thread Cert.Kernel42.nD Cert.Kernel42.τ).loc Cert.Kernel42.main_arg2))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
      ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1)
      ∧ r.2.mem ((c.tc : Thread Cert.Reference42Ideal.nD Cert.Reference42Ideal.τ).loc Cert.Reference42Ideal.main_arg2) = m ((c.tc : Thread Cert.Reference42Ideal.nD Cert.Reference42Ideal.τ).loc Cert.Reference42Ideal.main_arg2))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0)
      ∧ r.2.mem ((c.tc : Thread Cert.Kernel43.nD Cert.Kernel43.τ).loc Cert.Kernel43.main_arg1) = m ((c.tc : Thread Cert.Kernel43.nD Cert.Kernel43.τ).loc Cert.Kernel43.main_arg1)
      ∧ r.2.mem ((c.tc : Thread Cert.Kernel43.nD Cert.Kernel43.τ).loc Cert.Kernel43.main_arg2) = m ((c.tc : Thread Cert.Kernel43.nD Cert.Kernel43.τ).loc Cert.Kernel43.main_arg2)
      ∧ r.2.mem ((c.tc : Thread Cert.Kernel43.nD Cert.Kernel43.τ).loc Cert.Kernel43.main_arg3) = m ((c.tc : Thread Cert.Kernel43.nD Cert.Kernel43.τ).loc Cert.Kernel43.main_arg3))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
      ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
      ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
      ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0)
      ∧ r.2.mem ((c.tc : Thread Cert.Reference43Ideal.nD Cert.Reference43Ideal.τ).loc Cert.Reference43Ideal.main_arg1) = m ((c.tc : Thread Cert.Reference43Ideal.nD Cert.Reference43Ideal.τ).loc Cert.Reference43Ideal.main_arg1)
      ∧ r.2.mem ((c.tc : Thread Cert.Reference43Ideal.nD Cert.Reference43Ideal.τ).loc Cert.Reference43Ideal.main_arg2) = m ((c.tc : Thread Cert.Reference43Ideal.nD Cert.Reference43Ideal.τ).loc Cert.Reference43Ideal.main_arg2)
      ∧ r.2.mem ((c.tc : Thread Cert.Reference43Ideal.nD Cert.Reference43Ideal.τ).loc Cert.Reference43Ideal.main_arg3) = m ((c.tc : Thread Cert.Reference43Ideal.nD Cert.Reference43Ideal.τ).loc Cert.Reference43Ideal.main_arg3))
      ∧ r.2.sem = fun _ => 0)

def quiescent_Kernel44 [hKernel44 : Cert.Kernel44.Facts] : Prop :=
  ∀ (m : (ℓ : Loc Cert.Kernel44.nD Cert.Kernel44.τ Cert.Kernel44.sig) → Buf (Elt Bits) ℓ) (g : Dev Cert.Kernel44.nD → PrngReg), Pre_Kernel44 m →
    θ_run (Cert.Kernel44.defs (F := Bits)) (onTc (τ := Cert.Kernel44.τ) (Cert.Kernel44.main (F := Bits))) ⟨m, fun _ => 0, g⟩ (fun r => (∀ c : Dev Cert.Kernel44.nD,
      r.2.mem ((c.tc : Thread Cert.Kernel44.nD Cert.Kernel44.τ).loc Cert.Kernel44.main_arg0) = m ((c.tc : Thread Cert.Kernel44.nD Cert.Kernel44.τ).loc Cert.Kernel44.main_arg0)
      ∧ r.2.mem ((c.tc : Thread Cert.Kernel44.nD Cert.Kernel44.τ).loc Cert.Kernel44.main_arg1) = m ((c.tc : Thread Cert.Kernel44.nD Cert.Kernel44.τ).loc Cert.Kernel44.main_arg1)
      ∧ r.2.mem ((c.tc : Thread Cert.Kernel44.nD Cert.Kernel44.τ).loc Cert.Kernel44.main_arg2) = m ((c.tc : Thread Cert.Kernel44.nD Cert.Kernel44.τ).loc Cert.Kernel44.main_arg2))
      ∧ r.2.sem = fun _ => 0)

def quiescent_Kernel44Ideal [hKernel44Ideal : Cert.Kernel44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg), Pre_Kernel44Ideal m →
    θ_run (Cert.Kernel44Ideal.defs (F := Ideal)) (onTc (τ := Cert.Kernel44Ideal.τ) (Cert.Kernel44Ideal.main (F := Ideal))) ⟨m, fun _ => 0, g⟩ (fun r => (∀ c : Dev Cert.Kernel44Ideal.nD,
      r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
      ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
      ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2))
      ∧ r.2.sem = fun _ => 0)

def quiescent_Reference44Ideal [hReference44Ideal : Cert.Reference44Ideal.Facts] : Prop :=
  ∀ (m : (ℓ : Loc Cert.Reference44Ideal.nD Cert.Reference44Ideal.τ Cert.Reference44Ideal.sig) → Buf (Elt Ideal) ℓ) (g : Dev Cert.Reference44Ideal.nD → PrngReg), Pre_Reference44Ideal m →
    θ_run (Cert.Reference44Ideal.defs (F := Ideal)) (onTc (τ := Cert.Reference44Ideal.τ) (Cert.Reference44Ideal.main (F := Ideal))) ⟨m, fun _ => 0, g⟩ (fun r => (∀ c : Dev Cert.Reference44Ideal.nD,
      r.2.mem ((c.tc : Thread Cert.Reference44Ideal.nD Cert.Reference44Ideal.τ).loc Cert.Reference44Ideal.main_arg0) = m ((c.tc : Thread Cert.Reference44Ideal.nD Cert.Reference44Ideal.τ).loc Cert.Reference44Ideal.main_arg0)
      ∧ r.2.mem ((c.tc : Thread Cert.Reference44Ideal.nD Cert.Reference44Ideal.τ).loc Cert.Reference44Ideal.main_arg1) = m ((c.tc : Thread Cert.Reference44Ideal.nD Cert.Reference44Ideal.τ).loc Cert.Reference44Ideal.main_arg1)
      ∧ r.2.mem ((c.tc : Thread Cert.Reference44Ideal.nD Cert.Reference44Ideal.τ).loc Cert.Reference44Ideal.main_arg2) = m ((c.tc : Thread Cert.Reference44Ideal.nD Cert.Reference44Ideal.τ).loc Cert.Reference44Ideal.main_arg2))
      ∧ r.2.sem = fun _ => 0)

def quiescent_Kernel45 [hKernel45 : Cert.Kernel45.Facts] : Prop :=
  ∀ (m : (ℓ : Loc Cert.Kernel45.nD Cert.Kernel45.τ Cert.Kernel45.sig) → Buf (Elt Bits) ℓ) (g : Dev Cert.Kernel45.nD → PrngReg), Pre_Kernel45 m →
    θ_run (Cert.Kernel45.defs (F := Bits)) (onTc (τ := Cert.Kernel45.τ) (Cert.Kernel45.main (F := Bits))) ⟨m, fun _ => 0, g⟩ (fun r => (∀ c : Dev Cert.Kernel45.nD,
      r.2.mem ((c.tc : Thread Cert.Kernel45.nD Cert.Kernel45.τ).loc Cert.Kernel45.main_arg0) = m ((c.tc : Thread Cert.Kernel45.nD Cert.Kernel45.τ).loc Cert.Kernel45.main_arg0)
      ∧ r.2.mem ((c.tc : Thread Cert.Kernel45.nD Cert.Kernel45.τ).loc Cert.Kernel45.main_arg1) = m ((c.tc : Thread Cert.Kernel45.nD Cert.Kernel45.τ).loc Cert.Kernel45.main_arg1)
      ∧ r.2.mem ((c.tc : Thread Cert.Kernel45.nD Cert.Kernel45.τ).loc Cert.Kernel45.main_arg2) = m ((c.tc : Thread Cert.Kernel45.nD Cert.Kernel45.τ).loc Cert.Kernel45.main_arg2)
      ∧ r.2.mem ((c.tc : Thread Cert.Kernel45.nD Cert.Kernel45.τ).loc Cert.Kernel45.main_arg3) = m ((c.tc : Thread Cert.Kernel45.nD Cert.Kernel45.τ).loc Cert.Kernel45.main_arg3))
      ∧ r.2.sem = fun _ => 0)

def quiescent_Kernel45Ideal [hKernel45Ideal : Cert.Kernel45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg), Pre_Kernel45Ideal m →
    θ_run (Cert.Kernel45Ideal.defs (F := Ideal)) (onTc (τ := Cert.Kernel45Ideal.τ) (Cert.Kernel45Ideal.main (F := Ideal))) ⟨m, fun _ => 0, g⟩ (fun r => (∀ c : Dev Cert.Kernel45Ideal.nD,
      r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
      ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1)
      ∧ r.2.mem ((c.tc : Thread Cert.Kernel45Ideal.nD Cert.Kernel45Ideal.τ).loc Cert.Kernel45Ideal.main_arg2) = m ((c.tc : Thread Cert.Kernel45Ideal.nD Cert.Kernel45Ideal.τ).loc Cert.Kernel45Ideal.main_arg2)
      ∧ r.2.mem ((c.tc : Thread Cert.Kernel45Ideal.nD Cert.Kernel45Ideal.τ).loc Cert.Kernel45Ideal.main_arg3) = m ((c.tc : Thread Cert.Kernel45Ideal.nD Cert.Kernel45Ideal.τ).loc Cert.Kernel45Ideal.main_arg3))
      ∧ r.2.sem = fun _ => 0)

def quiescent_Reference45Ideal [hReference45Ideal : Cert.Reference45Ideal.Facts] : Prop :=
  ∀ (m : (ℓ : Loc Cert.Reference45Ideal.nD Cert.Reference45Ideal.τ Cert.Reference45Ideal.sig) → Buf (Elt Ideal) ℓ) (g : Dev Cert.Reference45Ideal.nD → PrngReg), Pre_Reference45Ideal m →
    θ_run (Cert.Reference45Ideal.defs (F := Ideal)) (onTc (τ := Cert.Reference45Ideal.τ) (Cert.Reference45Ideal.main (F := Ideal))) ⟨m, fun _ => 0, g⟩ (fun r => (∀ c : Dev Cert.Reference45Ideal.nD,
      r.2.mem ((c.tc : Thread Cert.Reference45Ideal.nD Cert.Reference45Ideal.τ).loc Cert.Reference45Ideal.main_arg0) = m ((c.tc : Thread Cert.Reference45Ideal.nD Cert.Reference45Ideal.τ).loc Cert.Reference45Ideal.main_arg0)
      ∧ r.2.mem ((c.tc : Thread Cert.Reference45Ideal.nD Cert.Reference45Ideal.τ).loc Cert.Reference45Ideal.main_arg1) = m ((c.tc : Thread Cert.Reference45Ideal.nD Cert.Reference45Ideal.τ).loc Cert.Reference45Ideal.main_arg1)
      ∧ r.2.mem ((c.tc : Thread Cert.Reference45Ideal.nD Cert.Reference45Ideal.τ).loc Cert.Reference45Ideal.main_arg2) = m ((c.tc : Thread Cert.Reference45Ideal.nD Cert.Reference45Ideal.τ).loc Cert.Reference45Ideal.main_arg2)
      ∧ r.2.mem ((c.tc : Thread Cert.Reference45Ideal.nD Cert.Reference45Ideal.τ).loc Cert.Reference45Ideal.main_arg3) = m ((c.tc : Thread Cert.Reference45Ideal.nD Cert.Reference45Ideal.τ).loc Cert.Reference45Ideal.main_arg3))
      ∧ r.2.sem = fun _ => 0)

def quiescent_Kernel46 [hKernel46 : Cert.Kernel46.Facts] : Prop :=
  ∀ (m : (ℓ : Loc Cert.Kernel46.nD Cert.Kernel46.τ Cert.Kernel46.sig) → Buf (Elt Bits) ℓ) (g : Dev Cert.Kernel46.nD → PrngReg), Pre_Kernel46 m →
    θ_run (Cert.Kernel46.defs (F := Bits)) (onTc (τ := Cert.Kernel46.τ) (Cert.Kernel46.main (F := Bits))) ⟨m, fun _ => 0, g⟩ (fun r => (∀ c : Dev Cert.Kernel46.nD,
      r.2.mem ((c.tc : Thread Cert.Kernel46.nD Cert.Kernel46.τ).loc Cert.Kernel46.main_arg0) = m ((c.tc : Thread Cert.Kernel46.nD Cert.Kernel46.τ).loc Cert.Kernel46.main_arg0)
      ∧ r.2.mem ((c.tc : Thread Cert.Kernel46.nD Cert.Kernel46.τ).loc Cert.Kernel46.main_arg1) = m ((c.tc : Thread Cert.Kernel46.nD Cert.Kernel46.τ).loc Cert.Kernel46.main_arg1)
      ∧ r.2.mem ((c.tc : Thread Cert.Kernel46.nD Cert.Kernel46.τ).loc Cert.Kernel46.main_arg2) = m ((c.tc : Thread Cert.Kernel46.nD Cert.Kernel46.τ).loc Cert.Kernel46.main_arg2)
      ∧ r.2.mem ((c.tc : Thread Cert.Kernel46.nD Cert.Kernel46.τ).loc Cert.Kernel46.main_arg3) = m ((c.tc : Thread Cert.Kernel46.nD Cert.Kernel46.τ).loc Cert.Kernel46.main_arg3))
      ∧ r.2.sem = fun _ => 0)

def quiescent_Kernel46Ideal [hKernel46Ideal : Cert.Kernel46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg), Pre_Kernel46Ideal m →
    θ_run (Cert.Kernel46Ideal.defs (F := Ideal)) (onTc (τ := Cert.Kernel46Ideal.τ) (Cert.Kernel46Ideal.main (F := Ideal))) ⟨m, fun _ => 0, g⟩ (fun r => (∀ c : Dev Cert.Kernel46Ideal.nD,
      r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
      ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1)
      ∧ r.2.mem ((c.tc : Thread Cert.Kernel46Ideal.nD Cert.Kernel46Ideal.τ).loc Cert.Kernel46Ideal.main_arg2) = m ((c.tc : Thread Cert.Kernel46Ideal.nD Cert.Kernel46Ideal.τ).loc Cert.Kernel46Ideal.main_arg2)
      ∧ r.2.mem ((c.tc : Thread Cert.Kernel46Ideal.nD Cert.Kernel46Ideal.τ).loc Cert.Kernel46Ideal.main_arg3) = m ((c.tc : Thread Cert.Kernel46Ideal.nD Cert.Kernel46Ideal.τ).loc Cert.Kernel46Ideal.main_arg3))
      ∧ r.2.sem = fun _ => 0)

def quiescent_Reference46Ideal [hReference46Ideal : Cert.Reference46Ideal.Facts] : Prop :=
  ∀ (m : (ℓ : Loc Cert.Reference46Ideal.nD Cert.Reference46Ideal.τ Cert.Reference46Ideal.sig) → Buf (Elt Ideal) ℓ) (g : Dev Cert.Reference46Ideal.nD → PrngReg), Pre_Reference46Ideal m →
    θ_run (Cert.Reference46Ideal.defs (F := Ideal)) (onTc (τ := Cert.Reference46Ideal.τ) (Cert.Reference46Ideal.main (F := Ideal))) ⟨m, fun _ => 0, g⟩ (fun r => (∀ c : Dev Cert.Reference46Ideal.nD,
      r.2.mem ((c.tc : Thread Cert.Reference46Ideal.nD Cert.Reference46Ideal.τ).loc Cert.Reference46Ideal.main_arg0) = m ((c.tc : Thread Cert.Reference46Ideal.nD Cert.Reference46Ideal.τ).loc Cert.Reference46Ideal.main_arg0)
      ∧ r.2.mem ((c.tc : Thread Cert.Reference46Ideal.nD Cert.Reference46Ideal.τ).loc Cert.Reference46Ideal.main_arg1) = m ((c.tc : Thread Cert.Reference46Ideal.nD Cert.Reference46Ideal.τ).loc Cert.Reference46Ideal.main_arg1)
      ∧ r.2.mem ((c.tc : Thread Cert.Reference46Ideal.nD Cert.Reference46Ideal.τ).loc Cert.Reference46Ideal.main_arg2) = m ((c.tc : Thread Cert.Reference46Ideal.nD Cert.Reference46Ideal.τ).loc Cert.Reference46Ideal.main_arg2)
      ∧ r.2.mem ((c.tc : Thread Cert.Reference46Ideal.nD Cert.Reference46Ideal.τ).loc Cert.Reference46Ideal.main_arg3) = m ((c.tc : Thread Cert.Reference46Ideal.nD Cert.Reference46Ideal.τ).loc Cert.Reference46Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v442) = v0 c
          ∧ r.2.mem ((c.tc : Thread Cert.ReferenceIdeal.nD Cert.ReferenceIdeal.τ).loc Cert.ReferenceIdeal.main_v440) = v1 c
          ∧ r.2.mem ((c.tc : Thread Cert.ReferenceIdeal.nD Cert.ReferenceIdeal.τ).loc Cert.ReferenceIdeal.main_v163) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v9) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v9)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v9) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v9)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v9) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_v4) = v1 c
          ∧ r.2.mem ((c.tc : Thread Cert.Reference25Ideal.nD Cert.Reference25Ideal.τ).loc Cert.Reference25Ideal.main_v10) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v10) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v13) = v0 c
          ∧ r.2.mem ((c.tc : Thread Cert.Reference27Ideal.nD Cert.Reference27Ideal.τ).loc Cert.Reference27Ideal.main_v14) = v1 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v29) = v0 c
          ∧ r.2.mem ((c.tc : Thread Cert.Reference28Ideal.nD Cert.Reference28Ideal.τ).loc Cert.Reference28Ideal.main_v30) = v1 c
          ∧ r.2.mem ((c.tc : Thread Cert.Reference28Ideal.nD Cert.Reference28Ideal.τ).loc Cert.Reference28Ideal.main_v31) = v2 c
          ∧ r.2.mem ((c.tc : Thread Cert.Reference28Ideal.nD Cert.Reference28Ideal.τ).loc Cert.Reference28Ideal.main_v32) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v57) = v0 c
          ∧ r.2.mem ((c.tc : Thread Cert.Reference29Ideal.nD Cert.Reference29Ideal.τ).loc Cert.Reference29Ideal.main_v58) = v1 c
          ∧ r.2.mem ((c.tc : Thread Cert.Reference29Ideal.nD Cert.Reference29Ideal.τ).loc Cert.Reference29Ideal.main_v33) = v2 c
          ∧ r.2.mem ((c.tc : Thread Cert.Reference29Ideal.nD Cert.Reference29Ideal.τ).loc Cert.Reference29Ideal.main_v30) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4))

def preserves_Kernel30_Kernel30Ideal : Prop :=
  True

def algebraic_Kernel30Ideal_Reference30Ideal_pre_finite [hKernel30Ideal : Cert.Kernel30Ideal.Facts] [hReference30Ideal : Cert.Reference30Ideal.Facts] [hPre_finite : Cert.Pre_finite.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal_finite m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v63) = v0 c
          ∧ r.2.mem ((c.tc : Thread Cert.Reference30Ideal.nD Cert.Reference30Ideal.τ).loc Cert.Reference30Ideal.main_v61) = v1 c
          ∧ r.2.mem ((c.tc : Thread Cert.Reference30Ideal.nD Cert.Reference30Ideal.τ).loc Cert.Reference30Ideal.main_v60) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v20) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v1) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v5) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v3) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v4) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)) →
    ∃ (v0 : (c : Dev Cert.Kernel36Ideal.nD) → Buf (Elt Ideal) ((c.tc : Thread Cert.Kernel36Ideal.nD Cert.Kernel36Ideal.τ).loc Cert.Kernel36Ideal.main_v0)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v2) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)) →
    ∃ (v0 : (c : Dev Cert.Kernel37Ideal.nD) → Buf (Elt Ideal) ((c.tc : Thread Cert.Kernel37Ideal.nD Cert.Kernel37Ideal.τ).loc Cert.Kernel37Ideal.main_v0)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v7) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)) →
    ∃ (v0 : (c : Dev Cert.Kernel38Ideal.nD) → Buf (Elt Ideal) ((c.tc : Thread Cert.Kernel38Ideal.nD Cert.Kernel38Ideal.τ).loc Cert.Kernel38Ideal.main_v0)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v5) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)) →
    ∃ (v0 : (c : Dev Cert.Kernel39Ideal.nD) → Buf (Elt Ideal) ((c.tc : Thread Cert.Kernel39Ideal.nD Cert.Kernel39Ideal.τ).loc Cert.Kernel39Ideal.main_v0)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0) = v0 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v6) = v0 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)
      ∧ m' ((c.tc : Thread Cert.Reference40Ideal.nD Cert.Reference40Ideal.τ).loc Cert.Reference40Ideal.main_arg3) = m ((c.tc : Thread Cert.Kernel40Ideal.nD Cert.Kernel40Ideal.τ).loc Cert.Kernel40Ideal.main_arg3)) →
    ∃ (v0 : (c : Dev Cert.Kernel40Ideal.nD) → Buf (Elt Ideal) ((c.tc : Thread Cert.Kernel40Ideal.nD Cert.Kernel40Ideal.τ).loc Cert.Kernel40Ideal.main_v0)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0) = v0 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
          ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v15) = v0 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2)
          ∧ r.2.mem ((c.tc : Thread Cert.Reference40Ideal.nD Cert.Reference40Ideal.τ).loc Cert.Reference40Ideal.main_arg3) = m' ((c.tc : Thread Cert.Reference40Ideal.nD Cert.Reference40Ideal.τ).loc Cert.Reference40Ideal.main_arg3))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)) →
    ∃ (v0 : (c : Dev Cert.Kernel41Ideal.nD) → Buf (Elt Ideal) ((c.tc : Thread Cert.Kernel41Ideal.nD Cert.Kernel41Ideal.τ).loc Cert.Kernel41Ideal.main_v0)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0) = v0 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v2) = v0 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)
      ∧ m' ((c.tc : Thread Cert.Reference42Ideal.nD Cert.Reference42Ideal.τ).loc Cert.Reference42Ideal.main_arg2) = m ((c.tc : Thread Cert.Kernel42Ideal.nD Cert.Kernel42Ideal.τ).loc Cert.Kernel42Ideal.main_arg2)) →
    ∃ (v0 : (c : Dev Cert.Kernel42Ideal.nD) → Buf (Elt Ideal) ((c.tc : Thread Cert.Kernel42Ideal.nD Cert.Kernel42Ideal.τ).loc Cert.Kernel42Ideal.main_v0)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v0) = v0 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
          ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v19) = v0 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1)
          ∧ r.2.mem ((c.tc : Thread Cert.Reference42Ideal.nD Cert.Reference42Ideal.τ).loc Cert.Reference42Ideal.main_arg2) = m' ((c.tc : Thread Cert.Reference42Ideal.nD Cert.Reference42Ideal.τ).loc Cert.Reference42Ideal.main_arg2))

def preserves_Kernel43_Kernel43Ideal : Prop :=
  True

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)
      ∧ m' ((c.tc : Thread Cert.Reference43Ideal.nD Cert.Reference43Ideal.τ).loc Cert.Reference43Ideal.main_arg1) = m ((c.tc : Thread Cert.Kernel43Ideal.nD Cert.Kernel43Ideal.τ).loc Cert.Kernel43Ideal.main_arg1)
      ∧ m' ((c.tc : Thread Cert.Reference43Ideal.nD Cert.Reference43Ideal.τ).loc Cert.Reference43Ideal.main_arg2) = m ((c.tc : Thread Cert.Kernel43Ideal.nD Cert.Kernel43Ideal.τ).loc Cert.Kernel43Ideal.main_arg2)
      ∧ m' ((c.tc : Thread Cert.Reference43Ideal.nD Cert.Reference43Ideal.τ).loc Cert.Reference43Ideal.main_arg3) = m ((c.tc : Thread Cert.Kernel43Ideal.nD Cert.Kernel43Ideal.τ).loc Cert.Kernel43Ideal.main_arg3)) →
    ∃ (v0 : (c : Dev Cert.Kernel43Ideal.nD) → Buf (Elt Ideal) ((c.tc : Thread Cert.Kernel43Ideal.nD Cert.Kernel43Ideal.τ).loc Cert.Kernel43Ideal.main_v0_0)) (v1 : (c : Dev Cert.Kernel43Ideal.nD) → Buf (Elt Ideal) ((c.tc : Thread Cert.Kernel43Ideal.nD Cert.Kernel43Ideal.τ).loc Cert.Kernel43Ideal.main_v0_1)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v0_0) = v0 c
          ∧ r.2.mem ((c.tc : Thread Cert.Kernel43Ideal.nD Cert.Kernel43Ideal.τ).loc Cert.Kernel43Ideal.main_v0_1) = v1 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
          ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
          ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
          ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v22) = v0 c
          ∧ r.2.mem ((c.tc : Thread Cert.Reference43Ideal.nD Cert.Reference43Ideal.τ).loc Cert.Reference43Ideal.main_v23) = v1 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0)
          ∧ r.2.mem ((c.tc : Thread Cert.Reference43Ideal.nD Cert.Reference43Ideal.τ).loc Cert.Reference43Ideal.main_arg1) = m' ((c.tc : Thread Cert.Reference43Ideal.nD Cert.Reference43Ideal.τ).loc Cert.Reference43Ideal.main_arg1)
          ∧ r.2.mem ((c.tc : Thread Cert.Reference43Ideal.nD Cert.Reference43Ideal.τ).loc Cert.Reference43Ideal.main_arg2) = m' ((c.tc : Thread Cert.Reference43Ideal.nD Cert.Reference43Ideal.τ).loc Cert.Reference43Ideal.main_arg2)
          ∧ r.2.mem ((c.tc : Thread Cert.Reference43Ideal.nD Cert.Reference43Ideal.τ).loc Cert.Reference43Ideal.main_arg3) = m' ((c.tc : Thread Cert.Reference43Ideal.nD Cert.Reference43Ideal.τ).loc Cert.Reference43Ideal.main_arg3))

def preserves_Kernel44_Kernel44Ideal : Prop :=
  True

def algebraic_Kernel44Ideal_Reference44Ideal [hKernel44Ideal : Cert.Kernel44Ideal.Facts] [hReference44Ideal : Cert.Reference44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg)
    (m' : (ℓ : Loc Cert.Reference44Ideal.nD Cert.Reference44Ideal.τ Cert.Reference44Ideal.sig) → Buf (Elt Ideal) ℓ) (g' : Dev Cert.Reference44Ideal.nD → PrngReg), Pre_Kernel44Ideal m →
    (∀ c : Dev Cert.Kernel44Ideal.nD,
      m' ((c.tc : Thread Cert.Reference44Ideal.nD Cert.Reference44Ideal.τ).loc Cert.Reference44Ideal.main_arg0) = m ((c.tc : Thread Cert.Kernel44Ideal.nD Cert.Kernel44Ideal.τ).loc Cert.Kernel44Ideal.main_arg0)
      ∧ m' ((c.tc : Thread Cert.Reference44Ideal.nD Cert.Reference44Ideal.τ).loc Cert.Reference44Ideal.main_arg1) = m ((c.tc : Thread Cert.Kernel44Ideal.nD Cert.Kernel44Ideal.τ).loc Cert.Kernel44Ideal.main_arg1)
      ∧ m' ((c.tc : Thread Cert.Reference44Ideal.nD Cert.Reference44Ideal.τ).loc Cert.Reference44Ideal.main_arg2) = m ((c.tc : Thread Cert.Kernel44Ideal.nD Cert.Kernel44Ideal.τ).loc Cert.Kernel44Ideal.main_arg2)) →
    ∃ (v0 : (c : Dev Cert.Kernel44Ideal.nD) → Buf (Elt Ideal) ((c.tc : Thread Cert.Kernel44Ideal.nD Cert.Kernel44Ideal.τ).loc Cert.Kernel44Ideal.main_v0)),
      θ_run (Cert.Kernel44Ideal.defs (F := Ideal)) (onTc (τ := Cert.Kernel44Ideal.τ) (Cert.Kernel44Ideal.main (F := Ideal))) ⟨m, fun _ => 0, g⟩ (fun r => ∀ c : Dev Cert.Kernel44Ideal.nD,
          r.2.mem ((c.tc : Thread Cert.Kernel44Ideal.nD Cert.Kernel44Ideal.τ).loc Cert.Kernel44Ideal.main_v0) = v0 c
          ∧ r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
          ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
          ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2))
      ∧ θ_run (Cert.Reference44Ideal.defs (F := Ideal)) (onTc (τ := Cert.Reference44Ideal.τ) (Cert.Reference44Ideal.main (F := Ideal))) ⟨m', fun _ => 0, g'⟩ (fun r => ∀ c : Dev Cert.Reference44Ideal.nD,
          r.2.mem ((c.tc : Thread Cert.Reference44Ideal.nD Cert.Reference44Ideal.τ).loc Cert.Reference44Ideal.main_v21) = v0 c
          ∧ r.2.mem ((c.tc : Thread Cert.Reference44Ideal.nD Cert.Reference44Ideal.τ).loc Cert.Reference44Ideal.main_arg0) = m' ((c.tc : Thread Cert.Reference44Ideal.nD Cert.Reference44Ideal.τ).loc Cert.Reference44Ideal.main_arg0)
          ∧ r.2.mem ((c.tc : Thread Cert.Reference44Ideal.nD Cert.Reference44Ideal.τ).loc Cert.Reference44Ideal.main_arg1) = m' ((c.tc : Thread Cert.Reference44Ideal.nD Cert.Reference44Ideal.τ).loc Cert.Reference44Ideal.main_arg1)
          ∧ r.2.mem ((c.tc : Thread Cert.Reference44Ideal.nD Cert.Reference44Ideal.τ).loc Cert.Reference44Ideal.main_arg2) = m' ((c.tc : Thread Cert.Reference44Ideal.nD Cert.Reference44Ideal.τ).loc Cert.Reference44Ideal.main_arg2))

def preserves_Kernel45_Kernel45Ideal : Prop :=
  True

def algebraic_Kernel45Ideal_Reference45Ideal [hKernel45Ideal : Cert.Kernel45Ideal.Facts] [hReference45Ideal : Cert.Reference45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg)
    (m' : (ℓ : Loc Cert.Reference45Ideal.nD Cert.Reference45Ideal.τ Cert.Reference45Ideal.sig) → Buf (Elt Ideal) ℓ) (g' : Dev Cert.Reference45Ideal.nD → PrngReg), Pre_Kernel45Ideal m →
    (∀ c : Dev Cert.Kernel45Ideal.nD,
      m' ((c.tc : Thread Cert.Reference45Ideal.nD Cert.Reference45Ideal.τ).loc Cert.Reference45Ideal.main_arg0) = m ((c.tc : Thread Cert.Kernel45Ideal.nD Cert.Kernel45Ideal.τ).loc Cert.Kernel45Ideal.main_arg0)
      ∧ m' ((c.tc : Thread Cert.Reference45Ideal.nD Cert.Reference45Ideal.τ).loc Cert.Reference45Ideal.main_arg1) = m ((c.tc : Thread Cert.Kernel45Ideal.nD Cert.Kernel45Ideal.τ).loc Cert.Kernel45Ideal.main_arg1)
      ∧ m' ((c.tc : Thread Cert.Reference45Ideal.nD Cert.Reference45Ideal.τ).loc Cert.Reference45Ideal.main_arg2) = m ((c.tc : Thread Cert.Kernel45Ideal.nD Cert.Kernel45Ideal.τ).loc Cert.Kernel45Ideal.main_arg2)
      ∧ m' ((c.tc : Thread Cert.Reference45Ideal.nD Cert.Reference45Ideal.τ).loc Cert.Reference45Ideal.main_arg3) = m ((c.tc : Thread Cert.Kernel45Ideal.nD Cert.Kernel45Ideal.τ).loc Cert.Kernel45Ideal.main_arg3)) →
    ∃ (v0 : (c : Dev Cert.Kernel45Ideal.nD) → Buf (Elt Ideal) ((c.tc : Thread Cert.Kernel45Ideal.nD Cert.Kernel45Ideal.τ).loc Cert.Kernel45Ideal.main_v0_0)) (v1 : (c : Dev Cert.Kernel45Ideal.nD) → Buf (Elt Ideal) ((c.tc : Thread Cert.Kernel45Ideal.nD Cert.Kernel45Ideal.τ).loc Cert.Kernel45Ideal.main_v0_1)) (v2 : (c : Dev Cert.Kernel45Ideal.nD) → Buf (Elt Ideal) ((c.tc : Thread Cert.Kernel45Ideal.nD Cert.Kernel45Ideal.τ).loc Cert.Kernel45Ideal.main_v0_2)),
      θ_run (Cert.Kernel45Ideal.defs (F := Ideal)) (onTc (τ := Cert.Kernel45Ideal.τ) (Cert.Kernel45Ideal.main (F := Ideal))) ⟨m, fun _ => 0, g⟩ (fun r => ∀ c : Dev Cert.Kernel45Ideal.nD,
          r.2.mem ((c.tc : Thread Cert.Kernel45Ideal.nD Cert.Kernel45Ideal.τ).loc Cert.Kernel45Ideal.main_v0_0) = v0 c
          ∧ r.2.mem ((c.tc : Thread Cert.Kernel45Ideal.nD Cert.Kernel45Ideal.τ).loc Cert.Kernel45Ideal.main_v0_1) = v1 c
          ∧ r.2.mem ((c.tc : Thread Cert.Kernel45Ideal.nD Cert.Kernel45Ideal.τ).loc Cert.Kernel45Ideal.main_v0_2) = v2 c
          ∧ r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
          ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1)
          ∧ r.2.mem ((c.tc : Thread Cert.Kernel45Ideal.nD Cert.Kernel45Ideal.τ).loc Cert.Kernel45Ideal.main_arg2) = m ((c.tc : Thread Cert.Kernel45Ideal.nD Cert.Kernel45Ideal.τ).loc Cert.Kernel45Ideal.main_arg2)
          ∧ r.2.mem ((c.tc : Thread Cert.Kernel45Ideal.nD Cert.Kernel45Ideal.τ).loc Cert.Kernel45Ideal.main_arg3) = m ((c.tc : Thread Cert.Kernel45Ideal.nD Cert.Kernel45Ideal.τ).loc Cert.Kernel45Ideal.main_arg3))
      ∧ θ_run (Cert.Reference45Ideal.defs (F := Ideal)) (onTc (τ := Cert.Reference45Ideal.τ) (Cert.Reference45Ideal.main (F := Ideal))) ⟨m', fun _ => 0, g'⟩ (fun r => ∀ c : Dev Cert.Reference45Ideal.nD,
          r.2.mem ((c.tc : Thread Cert.Reference45Ideal.nD Cert.Reference45Ideal.τ).loc Cert.Reference45Ideal.main_v53) = v0 c
          ∧ r.2.mem ((c.tc : Thread Cert.Reference45Ideal.nD Cert.Reference45Ideal.τ).loc Cert.Reference45Ideal.main_v31) = v1 c
          ∧ r.2.mem ((c.tc : Thread Cert.Reference45Ideal.nD Cert.Reference45Ideal.τ).loc Cert.Reference45Ideal.main_v28) = v2 c
          ∧ r.2.mem ((c.tc : Thread Cert.Reference45Ideal.nD Cert.Reference45Ideal.τ).loc Cert.Reference45Ideal.main_arg0) = m' ((c.tc : Thread Cert.Reference45Ideal.nD Cert.Reference45Ideal.τ).loc Cert.Reference45Ideal.main_arg0)
          ∧ r.2.mem ((c.tc : Thread Cert.Reference45Ideal.nD Cert.Reference45Ideal.τ).loc Cert.Reference45Ideal.main_arg1) = m' ((c.tc : Thread Cert.Reference45Ideal.nD Cert.Reference45Ideal.τ).loc Cert.Reference45Ideal.main_arg1)
          ∧ r.2.mem ((c.tc : Thread Cert.Reference45Ideal.nD Cert.Reference45Ideal.τ).loc Cert.Reference45Ideal.main_arg2) = m' ((c.tc : Thread Cert.Reference45Ideal.nD Cert.Reference45Ideal.τ).loc Cert.Reference45Ideal.main_arg2)
          ∧ r.2.mem ((c.tc : Thread Cert.Reference45Ideal.nD Cert.Reference45Ideal.τ).loc Cert.Reference45Ideal.main_arg3) = m' ((c.tc : Thread Cert.Reference45Ideal.nD Cert.Reference45Ideal.τ).loc Cert.Reference45Ideal.main_arg3))

def preserves_Kernel46_Kernel46Ideal : Prop :=
  True

def algebraic_Kernel46Ideal_Reference46Ideal [hKernel46Ideal : Cert.Kernel46Ideal.Facts] [hReference46Ideal : Cert.Reference46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg)
    (m' : (ℓ : Loc Cert.Reference46Ideal.nD Cert.Reference46Ideal.τ Cert.Reference46Ideal.sig) → Buf (Elt Ideal) ℓ) (g' : Dev Cert.Reference46Ideal.nD → PrngReg), Pre_Kernel46Ideal m →
    (∀ c : Dev Cert.Kernel46Ideal.nD,
      m' ((c.tc : Thread Cert.Reference46Ideal.nD Cert.Reference46Ideal.τ).loc Cert.Reference46Ideal.main_arg0) = m ((c.tc : Thread Cert.Kernel46Ideal.nD Cert.Kernel46Ideal.τ).loc Cert.Kernel46Ideal.main_arg0)
      ∧ m' ((c.tc : Thread Cert.Reference46Ideal.nD Cert.Reference46Ideal.τ).loc Cert.Reference46Ideal.main_arg1) = m ((c.tc : Thread Cert.Kernel46Ideal.nD Cert.Kernel46Ideal.τ).loc Cert.Kernel46Ideal.main_arg1)
      ∧ m' ((c.tc : Thread Cert.Reference46Ideal.nD Cert.Reference46Ideal.τ).loc Cert.Reference46Ideal.main_arg2) = m ((c.tc : Thread Cert.Kernel46Ideal.nD Cert.Kernel46Ideal.τ).loc Cert.Kernel46Ideal.main_arg2)
      ∧ m' ((c.tc : Thread Cert.Reference46Ideal.nD Cert.Reference46Ideal.τ).loc Cert.Reference46Ideal.main_arg3) = m ((c.tc : Thread Cert.Kernel46Ideal.nD Cert.Kernel46Ideal.τ).loc Cert.Kernel46Ideal.main_arg3)) →
    ∃ (v0 : (c : Dev Cert.Kernel46Ideal.nD) → Buf (Elt Ideal) ((c.tc : Thread Cert.Kernel46Ideal.nD Cert.Kernel46Ideal.τ).loc Cert.Kernel46Ideal.main_v0_0)) (v1 : (c : Dev Cert.Kernel46Ideal.nD) → Buf (Elt Ideal) ((c.tc : Thread Cert.Kernel46Ideal.nD Cert.Kernel46Ideal.τ).loc Cert.Kernel46Ideal.main_v0_1)),
      θ_run (Cert.Kernel46Ideal.defs (F := Ideal)) (onTc (τ := Cert.Kernel46Ideal.τ) (Cert.Kernel46Ideal.main (F := Ideal))) ⟨m, fun _ => 0, g⟩ (fun r => ∀ c : Dev Cert.Kernel46Ideal.nD,
          r.2.mem ((c.tc : Thread Cert.Kernel46Ideal.nD Cert.Kernel46Ideal.τ).loc Cert.Kernel46Ideal.main_v0_0) = v0 c
          ∧ r.2.mem ((c.tc : Thread Cert.Kernel46Ideal.nD Cert.Kernel46Ideal.τ).loc Cert.Kernel46Ideal.main_v0_1) = v1 c
          ∧ r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
          ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1)
          ∧ r.2.mem ((c.tc : Thread Cert.Kernel46Ideal.nD Cert.Kernel46Ideal.τ).loc Cert.Kernel46Ideal.main_arg2) = m ((c.tc : Thread Cert.Kernel46Ideal.nD Cert.Kernel46Ideal.τ).loc Cert.Kernel46Ideal.main_arg2)
          ∧ r.2.mem ((c.tc : Thread Cert.Kernel46Ideal.nD Cert.Kernel46Ideal.τ).loc Cert.Kernel46Ideal.main_arg3) = m ((c.tc : Thread Cert.Kernel46Ideal.nD Cert.Kernel46Ideal.τ).loc Cert.Kernel46Ideal.main_arg3))
      ∧ θ_run (Cert.Reference46Ideal.defs (F := Ideal)) (onTc (τ := Cert.Reference46Ideal.τ) (Cert.Reference46Ideal.main (F := Ideal))) ⟨m', fun _ => 0, g'⟩ (fun r => ∀ c : Dev Cert.Reference46Ideal.nD,
          r.2.mem ((c.tc : Thread Cert.Reference46Ideal.nD Cert.Reference46Ideal.τ).loc Cert.Reference46Ideal.main_v30) = v0 c
          ∧ r.2.mem ((c.tc : Thread Cert.Reference46Ideal.nD Cert.Reference46Ideal.τ).loc Cert.Reference46Ideal.main_v27) = v1 c
          ∧ r.2.mem ((c.tc : Thread Cert.Reference46Ideal.nD Cert.Reference46Ideal.τ).loc Cert.Reference46Ideal.main_arg0) = m' ((c.tc : Thread Cert.Reference46Ideal.nD Cert.Reference46Ideal.τ).loc Cert.Reference46Ideal.main_arg0)
          ∧ r.2.mem ((c.tc : Thread Cert.Reference46Ideal.nD Cert.Reference46Ideal.τ).loc Cert.Reference46Ideal.main_arg1) = m' ((c.tc : Thread Cert.Reference46Ideal.nD Cert.Reference46Ideal.τ).loc Cert.Reference46Ideal.main_arg1)
          ∧ r.2.mem ((c.tc : Thread Cert.Reference46Ideal.nD Cert.Reference46Ideal.τ).loc Cert.Reference46Ideal.main_arg2) = m' ((c.tc : Thread Cert.Reference46Ideal.nD Cert.Reference46Ideal.τ).loc Cert.Reference46Ideal.main_arg2)
          ∧ r.2.mem ((c.tc : Thread Cert.Reference46Ideal.nD Cert.Reference46Ideal.τ).loc Cert.Reference46Ideal.main_arg3) = m' ((c.tc : Thread Cert.Reference46Ideal.nD Cert.Reference46Ideal.τ).loc Cert.Reference46Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hKernel44 : Cert.Kernel44.Facts) (hKernel44Ideal : Cert.Kernel44Ideal.Facts) (hReference44Ideal : Cert.Reference44Ideal.Facts) (hKernel45 : Cert.Kernel45.Facts) (hKernel45Ideal : Cert.Kernel45Ideal.Facts) (hReference45Ideal : Cert.Reference45Ideal.Facts) (hKernel46 : Cert.Kernel46.Facts) (hKernel46Ideal : Cert.Kernel46Ideal.Facts) (hReference46Ideal : Cert.Reference46Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Kernel30Ideal_pre_finite (hKernel30Ideal := hKernel30Ideal) (hPre_finite := hPre_finite)
    ∧ quiescent_Reference30Ideal (hReference30Ideal := hReference30Ideal)
    ∧ quiescent_Reference30Ideal_pre_finite (hReference30Ideal := hReference30Ideal) (hPre_finite := hPre_finite)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ quiescent_Kernel44 (hKernel44 := hKernel44)
    ∧ quiescent_Kernel44Ideal (hKernel44Ideal := hKernel44Ideal)
    ∧ quiescent_Reference44Ideal (hReference44Ideal := hReference44Ideal)
    ∧ quiescent_Kernel45 (hKernel45 := hKernel45)
    ∧ quiescent_Kernel45Ideal (hKernel45Ideal := hKernel45Ideal)
    ∧ quiescent_Reference45Ideal (hReference45Ideal := hReference45Ideal)
    ∧ quiescent_Kernel46 (hKernel46 := hKernel46)
    ∧ quiescent_Kernel46Ideal (hKernel46Ideal := hKernel46Ideal)
    ∧ quiescent_Reference46Ideal (hReference46Ideal := hReference46Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal_pre_finite (hKernel30Ideal := hKernel30Ideal) (hReference30Ideal := hReference30Ideal) (hPre_finite := hPre_finite)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
    ∧ preserves_Kernel43_Kernel43Ideal
    ∧ algebraic_Kernel43Ideal_Reference43Ideal (hKernel43Ideal := hKernel43Ideal) (hReference43Ideal := hReference43Ideal)
    ∧ preserves_Kernel44_Kernel44Ideal
    ∧ algebraic_Kernel44Ideal_Reference44Ideal (hKernel44Ideal := hKernel44Ideal) (hReference44Ideal := hReference44Ideal)
    ∧ preserves_Kernel45_Kernel45Ideal
    ∧ algebraic_Kernel45Ideal_Reference45Ideal (hKernel45Ideal := hKernel45Ideal) (hReference45Ideal := hReference45Ideal)
    ∧ preserves_Kernel46_Kernel46Ideal
    ∧ algebraic_Kernel46Ideal_Reference46Ideal (hKernel46Ideal := hKernel46Ideal) (hReference46Ideal := hReference46Ideal)
-- ==== Pre_finite.lean ====
abbrev S4096x4096 : Shape := ⟨2, ![4096, 4096]⟩
abbrev S256x4096 : Shape := ⟨2, ![256, 4096]⟩
abbrev S_ : Shape := ⟨0, ![]⟩

class Facts : Prop where
  bcast_S_S256x4096 : S_.BroadcastsInDim S256x4096 (![] : Fin 0 → Fin S256x4096.rank)
  reducesTo_S256x4096_S_d0_1 : S256x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4096x4096 .f32) (main_arg1 : FVec F S256x4096 .f32) (main_arg2 : FVec F S256x4096 .f32) (main_arg3 : FVec F S4096x4096 .f32) : IVec S_ 1 :=
  let main_v0 : FVec F S256x4096 .f32 := Host.absf main_arg2
  let main_cst : FVec F S_ .f32 := constant S_ .f32 0x7F800000#32
  let main_v1 : FVec F S256x4096 .f32 := broadcastInDim S256x4096 ![] bcast_S_S256x4096 main_cst
  let main_v2 : IVec S256x4096 1 := cmpf .olt main_v0 main_v1
  let main_c : IVec S_ 1 := constantI S_ 1 1#1
  let main_v3 : IVec S_ 1 := (fun x v => Host.reduce IntOp.andi x v reducesTo_S256x4096_S_d0_1 h_S_) main_v2 main_c
  let main_v4 : FVec F S4096x4096 .f32 := Host.absf main_arg3
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x2048 : Shape := ⟨2, ![4096, 2048]⟩
abbrev S32x2048 : Shape := ⟨2, ![32, 2048]⟩
abbrev S1x2048 : Shape := ⟨2, ![1, 2048]⟩
abbrev S128x2048 : Shape := ⟨2, ![128, 2048]⟩
abbrev S160x2048 : Shape := ⟨2, ![160, 2048]⟩
abbrev S2048 : Shape := ⟨1, ![2048]⟩

abbrev nBuf : Space → Nat
  | .hbm => 7
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S32x2048, .f32⟩
  | .hbm, ⟨3, _⟩ => ⟨S1x2048, .f32⟩
  | .hbm, ⟨4, _⟩ => ⟨S4096x2048, .f32⟩
  | .hbm, ⟨5, _⟩ => ⟨S32x2048, .f32⟩
  | .hbm, ⟨6, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S32x2048, .f32⟩
  | .local _ .vmem, ⟨3, _⟩ => ⟨S32x2048, .f32⟩
  | .local _ .vmem, ⟨4, _⟩ => ⟨S128x2048, .f32⟩
  | .local _ .vmem, ⟨5, _⟩ => ⟨S128x2048, .f32⟩
  | .local _ .vmem, ⟨6, _⟩ => ⟨S32x2048, .f32⟩
  | .local _ .vmem, ⟨7, _⟩ => ⟨S32x2048, .f32⟩
  | .local _ .vmem, ⟨8, _⟩ => ⟨S32x2048, .f32⟩
  | .local _ .vmem, ⟨9, _⟩ => ⟨S128x2048, .f32⟩
  | .local _ .vmem, ⟨10, _⟩ => ⟨S128x2048, .f32⟩
  | .local _ .vmem, ⟨11, _⟩ => ⟨S32x2048, .f32⟩
  | .local _ .vmem, ⟨12, _⟩ => ⟨S1x2048, .f32⟩
  | .local _ .vmem, ⟨13, _⟩ => ⟨S160x2048, .f32⟩
  | .local _ .vmem, ⟨14, _⟩ => ⟨S160x2048, .f32⟩
  | .local _ .vmem, ⟨15, _⟩ => ⟨S32x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32_211 : BitVec 32 := 0#32
  let v404 : BitVec 1 := Scalar.cmpi .eq arg0 c0_i32_211
  let v405 : BitVec 32 := Scalar.extui v404
  let c0_i32_212 : BitVec 32 := 0#32
  let v406 : BitVec 1 := Scalar.cmpi .ne v405 c0_i32_212
  v406

def k0_cond2 (i : grid0.Coords) : BitVec 1 :=
  let arg0 : BitVec 32 := BitVec.ofNat 32 (i 0).val
  let c0_i32_213 : BitVec 32 := 0#32
  let v407 : BitVec 1 := Scalar.cmpi .sgt arg0 c0_i32_213
  let v408 : BitVec 32 := Scalar.extui v407
  let c0_i32_214 : BitVec 32 := 0#32
  let v409 : BitVec 1 := Scalar.cmpi .ne v408 c0_i32_214
  v409

def k0_cond3 (i : grid0.Coords) : BitVec 1 :=
  let arg0 : BitVec 32 := BitVec.ofNat 32 (i 0).val
  let c0_i32_215 : BitVec 32 := 0#32
  let v410 : BitVec 1 := Scalar.cmpi .eq arg0 c0_i32_215
  let v411 : BitVec 32 := Scalar.extui v410
  let c0_i32_216 : BitVec 32 := 0#32
  let v412 : BitVec 1 := Scalar.cmpi .ne v411 c0_i32_216
  v412

def k0_cond4 (i : grid0.Coords) : BitVec 1 :=
  let arg0 : BitVec 32 := BitVec.ofNat 32 (i 0).val
  let c0_i32_217 : BitVec 32 := 0#32
  let v413 : BitVec 1 := Scalar.cmpi .sgt arg0 c0_i32_217
  let v414 : BitVec 32 := Scalar.extui v413
  let c0_i32_218 : BitVec 32 := 0#32
  let v415 : BitVec 1 := Scalar.cmpi .ne v414 c0_i32_218
  v415

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S4096x2048 : Shape := ⟨2, ![4096, 2048]⟩
abbrev S32x2048 : Shape := ⟨2, ![32, 2048]⟩
abbrev S1x2048 : Shape := ⟨2, ![1, 2048]⟩
abbrev S_ : Shape := ⟨0, ![]⟩
abbrev S30x2048 : Shape := ⟨2, ![30, 2048]⟩
abbrev S4126x2048 : Shape := ⟨2, ![4126, 2048]⟩
abbrev S2048 : Shape := ⟨1, ![2048]⟩

abbrev nBuf : Space → Nat
  | .hbm => 544
  | .vmem => 0
  | .smem => 0
  | _ => 0

abbrev hbmTy0_0 (i : Nat) : BufTy := match i % 128 with
  | 0 => ⟨S4096x2048, .f32⟩
  | 1 => ⟨S4096x2048, .f32⟩
  | 2 => ⟨S32x2048, .f32⟩
  | 3 => ⟨S1x2048, .f32⟩
  | 4 => ⟨S_, .f32⟩
  | 5 => ⟨S30x2048, .f32⟩
  | 6 => ⟨S4126x2048, .f32⟩
  | 7 => ⟨S_, .f32⟩
  | 8 => ⟨S30x2048, .f32⟩
  | 9 => ⟨S1x2048, .f32⟩
  | 10 => ⟨S4096x2048, .f32⟩
  | 11 => ⟨S4096x2048, .f32⟩
  | 12 => ⟨S4096x2048, .f32⟩
  | 13 => ⟨S_, .f32⟩
  | 14 => ⟨S4096x2048, .f32⟩
  | 15 => ⟨S4096x2048, .f32⟩
  | 16 => ⟨S1x2048, .f32⟩
  | 17 => ⟨S4096x2048, .f32⟩
  | 18 => ⟨S4096x2048, .f32⟩
  | 19 => ⟨S4096x2048, .f32⟩
  | 20 => ⟨S4096x2048, .f32⟩
  | 21 => ⟨S1x2048, .f32⟩
  | 22 => ⟨S4096x2048, .f32⟩
  | 23 => ⟨S4096x2048, .f32⟩
  | 24 => ⟨S4096x2048, .f32⟩
  | 25 => ⟨S4096x2048, .f32⟩
  | 26 => ⟨S1x2048, .f32⟩
  | 27 => ⟨S4096x2048, .f32⟩
  | 28 => ⟨S4096x2048, .f32⟩
  | 29 => ⟨S4096x2048, .f32⟩
  | 30 => ⟨S4096x2048, .f32⟩
  | 31 => ⟨S1x2048, .f32⟩
  | 32 => ⟨S4096x2048, .f32⟩
  | 33 => ⟨S4096x2048, .f32⟩
  | 34 => ⟨S4096x2048, .f32⟩
  | 35 => ⟨S4096x2048, .f32⟩
  | 36 => ⟨S1x2048, .f32⟩
  | 37 => ⟨S4096x2048, .f32⟩
  | 38 => ⟨S4096x2048, .f32⟩
  | 39 => ⟨S4096x2048, .f32⟩
  | 40 => ⟨S4096x2048, .f32⟩
  | 41 => ⟨S1x2048, .f32⟩
  | 42 => ⟨S4096x2048, .f32⟩
  | 43 => ⟨S4096x2048, .f32⟩
  | 44 => ⟨S4096x2048, .f32⟩
  | 45 => ⟨S4096x2048, .f32⟩
  | 46 => ⟨S1x2048, .f32⟩
  | 47 => ⟨S4096x2048, .f32⟩
  | 48 => ⟨S4096x2048, .f32⟩
  | 49 => ⟨S4096x2048, .f32⟩
  | 50 => ⟨S4096x2048, .f32⟩
  | 51 => ⟨S1x2048, .f32⟩
  | 52 => ⟨S4096x2048, .f32⟩
  | 53 => ⟨S4096x2048, .f32⟩
  | 54 => ⟨S4096x2048, .f32⟩
  | 55 => ⟨S4096x2048, .f32⟩
  | 56 => ⟨S1x2048, .f32⟩
  | 57 => ⟨S4096x2048, .f32⟩
  | 58 => ⟨S4096x2048, .f32⟩
  | 59 => ⟨S4096x2048, .f32⟩
  | 60 => ⟨S4096x2048, .f32⟩
  | 61 => ⟨S1x2048, .f32⟩
  | 62 => ⟨S4096x2048, .f32⟩
  | 63 => ⟨S4096x2048, .f32⟩
  | 64 => ⟨S4096x2048, .f32⟩
  | 65 => ⟨S4096x2048, .f32⟩
  | 66 => ⟨S1x2048, .f32⟩
  | 67 => ⟨S4096x2048, .f32⟩
  | 68 => ⟨S4096x2048, .f32⟩
  | 69 => ⟨S4096x2048, .f32⟩
  | 70 => ⟨S4096x2048, .f32⟩
  | 71 => ⟨S1x2048, .f32⟩
  | 72 => ⟨S4096x2048, .f32⟩
  | 73 => ⟨S4096x2048, .f32⟩
  | 74 => ⟨S4096x2048, .f32⟩
  | 75 => ⟨S4096x2048, .f32⟩
  | 76 => ⟨S1x2048, .f32⟩
  | 77 => ⟨S4096x2048, .f32⟩
  | 78 => ⟨S4096x2048, .f32⟩
  | 79 => ⟨S4096x2048, .f32⟩
  | 80 => ⟨S4096x2048, .f32⟩
  | 81 => ⟨S1x2048, .f32⟩
  | 82 => ⟨S4096x2048, .f32⟩
  | 83 => ⟨S4096x2048, .f32⟩
  | 84 => ⟨S4096x2048, .f32⟩
  | 85 => ⟨S4096x2048, .f32⟩
  | 86 => ⟨S1x2048, .f32⟩
  | 87 => ⟨S4096x2048, .f32⟩
  | 88 => ⟨S4096x2048, .f32⟩
  | 89 => ⟨S4096x2048, .f32⟩
  | 90 => ⟨S4096x2048, .f32⟩
  | 91 => ⟨S1x2048, .f32⟩
  | 92 => ⟨S4096x2048, .f32⟩
  | 93 => ⟨S4096x2048, .f32⟩
  | 94 => ⟨S4096x2048, .f32⟩
  | 95 => ⟨S4096x2048, .f32⟩
  | 96 => ⟨S1x2048, .f32⟩
  | 97 => ⟨S4096x2048, .f32⟩
  | 98 => ⟨S4096x2048, .f32⟩
  | 99 => ⟨S4096x2048, .f32⟩
  | 100 => ⟨S4096x2048, .f32⟩
  | 101 => ⟨S1x2048, .f32⟩
  | 102 => ⟨S4096x2048, .f32⟩
  | 103 => ⟨S4096x2048, .f32⟩
  | 104 => ⟨S4096x2048, .f32⟩
  | 105 => ⟨S4096x2048, .f32⟩
  | 106 => ⟨S1x2048, .f32⟩
  | 107 => ⟨S4096x2048, .f32⟩
  | 108 => ⟨S4096x2048, .f32⟩
  | 109 => ⟨S4096x2048, .f32⟩
  | 110 => ⟨S4096x2048, .f32⟩
  | 111 => ⟨S1x2048, .f32⟩
  | 112 => ⟨S4096x2048, .f32⟩
  | 113 => ⟨S4096x2048, .f32⟩
  | 114 => ⟨S4096x2048, .f32⟩
  | 115 => ⟨S4096x2048, .f32⟩
  | 116 => ⟨S1x2048, .f32⟩
  | 117 => ⟨S4096x2048, .f32⟩
  | 118 => ⟨S4096x2048, .f32⟩
  | 119 => ⟨S4096x2048, .f32⟩
  | 120 => ⟨S4096x2048, .f32⟩
  | 121 => ⟨S1x2048, .f32⟩
  | 122 => ⟨S4096x2048, .f32⟩
  | 123 => ⟨S4096x2048, .f32⟩
  | 124 => ⟨S4096x2048, .f32⟩
  | 125 => ⟨S4096x2048, .f32⟩
  | 126 => ⟨S1x2048, .f32⟩
  | 127 => ⟨S4096x2048, .f32⟩
  | _ => ⟨S4096x2048, .f32⟩

abbrev hbmTy0_1 (i : Nat) : BufTy := match i % 128 with
  | 0 => ⟨S4096x2048, .f32⟩
  | 1 => ⟨S4096x2048, .f32⟩
  | 2 => ⟨S4096x2048, .f32⟩
  | 3 => ⟨S1x2048, .f32⟩
  | 4 => ⟨S4096x2048, .f32⟩
  | 5 => ⟨S4096x2048, .f32⟩
  | 6 => ⟨S4096x2048, .f32⟩
  | 7 => ⟨S4096x2048, .f32⟩
  | 8 => ⟨S1x2048, .f32⟩
  | 9 => ⟨S4096x2048, .f32⟩
  | 10 => ⟨S4096x2048, .f32⟩
  | 11 => ⟨S4096x2048, .f32⟩
  | 12 => ⟨S4096x2048, .f32⟩
  | 13 => ⟨S1x2048, .f32⟩
  | 14 => ⟨S4096x2048, .f32⟩
  | 15 => ⟨S4096x2048, .f32⟩
  | 16 => ⟨S4096x2048, .f32⟩
  | 17 => ⟨S4096x2048, .f32⟩
  | 18 => ⟨S1x2048, .f32⟩
  | 19 => ⟨S4096x2048, .f32⟩
  | 20 => ⟨S4096x2048, .f32⟩
  | 21 => ⟨S4096x2048, .f32⟩
  | 22 => ⟨S4096x2048, .f32⟩
  | 23 => ⟨S1x2048, .f32⟩
  | 24 => ⟨S4096x2048, .f32⟩
  | 25 => ⟨S4096x2048, .f32⟩
  | 26 => ⟨S4096x2048, .f32⟩
  | 27 => ⟨S4096x2048, .f32⟩
  | 28 => ⟨S1x2048, .f32⟩
  | 29 => ⟨S4096x2048, .f32⟩
  | 30 => ⟨S4096x2048, .f32⟩
  | 31 => ⟨S4096x2048, .f32⟩
  | 32 => ⟨S4096x2048, .f32⟩
  | 33 => ⟨S1x2048, .f32⟩
  | 34 => ⟨S4096x2048, .f32⟩
  | 35 => ⟨S4096x2048, .f32⟩
  | 36 => ⟨S4096x2048, .f32⟩
  | 37 => ⟨S4096x2048, .f32⟩
  | 38 => ⟨S4096x2048, .f32⟩
  | 39 => ⟨S4096x2048, .f32⟩
  | 40 => ⟨S4096x2048, .f32⟩
  | 41 => ⟨S_, .f32⟩
  | 42 => ⟨S2048, .f32⟩
  | 43 => ⟨S1x2048, .f32⟩
  | 44 => ⟨S4096x2048, .f32⟩
  | 45 => ⟨S4096x2048, .f32⟩
  | 46 => ⟨S4096x2048, .f32⟩
  | 47 => ⟨S_, .f32⟩
  | 48 => ⟨S2048, .f32⟩
  | 49 => ⟨S1x2048, .f32⟩
  | 50 => ⟨S_, .f32⟩
  | 51 => ⟨S4126x2048, .f32⟩
  | 52 => ⟨S_, .f32⟩
  | 53 => ⟨S32x2048, .f32⟩
  | 54 => ⟨S4096x2048, .f32⟩
  | 55 => ⟨S4096x2048, .f32⟩
  | 56 => ⟨S4096x2048, .f32⟩
  | 57 => ⟨S_, .f32⟩
  | 58 => ⟨S2048, .f32⟩
  | 59 => ⟨S1x2048, .f32⟩
  | 60 => ⟨S_, .f32⟩
  | 61 => ⟨S4126x2048, .f32⟩
  | 62 => ⟨S4126x2048, .f32⟩
  | 63 => ⟨S_, .f32⟩
  | 64 => ⟨S32x2048, .f32⟩
  | 65 => ⟨S32x2048, .f32⟩
  | 66 => ⟨S4096x2048, .f32⟩
  | 67 => ⟨S4096x2048, .f32⟩
  | 68 => ⟨S4096x2048, .f32⟩
  | 69 => ⟨S_, .f32⟩
  | 70 => ⟨S2048, .f32⟩
  | 71 => ⟨S1x2048, .f32⟩
  | 72 => ⟨S_, .f32⟩
  | 73 => ⟨S4126x2048, .f32⟩
  | 74 => ⟨S4126x2048, .f32⟩
  | 75 => ⟨S_, .f32⟩
  | 76 => ⟨S32x2048, .f32⟩
  | 77 => ⟨S32x2048, .f32⟩
  | 78 => ⟨S4096x2048, .f32⟩
  | 79 => ⟨S4096x2048, .f32⟩
  | 80 => ⟨S4096x2048, .f32⟩
  | 81 => ⟨S_, .f32⟩
  | 82 => ⟨S2048, .f32⟩
  | 83 => ⟨S1x2048, .f32⟩
  | 84 => ⟨S_, .f32⟩
  | 85 => ⟨S4126x2048, .f32⟩
  | 86 => ⟨S4126x2048, .f32⟩
  | 87 => ⟨S_, .f32⟩
  | 88 => ⟨S32x2048, .f32⟩
  | 89 => ⟨S32x2048, .f32⟩
  | 90 => ⟨S4096x2048, .f32⟩
  | 91 => ⟨S4096x2048, .f32⟩
  | 92 => ⟨S4096x2048, .f32⟩
  | 93 => ⟨S_, .f32⟩
  | 94 => ⟨S2048, .f32⟩
  | 95 => ⟨S1x2048, .f32⟩
  | 96 => ⟨S_, .f32⟩
  | 97 => ⟨S4126x2048, .f32⟩
  | 98 => ⟨S4126x2048, .f32⟩
  | 99 => ⟨S_, .f32⟩
  | 100 => ⟨S32x2048, .f32⟩
  | 101 => ⟨S32x2048, .f32⟩
  | 102 => ⟨S4096x2048, .f32⟩
  | 103 => ⟨S4096x2048, .f32⟩
  | 104 => ⟨S4096x2048, .f32⟩
  | 105 => ⟨S_, .f32⟩
  | 106 => ⟨S2048, .f32⟩
  | 107 => ⟨S1x2048, .f32⟩
  | 108 => ⟨S_, .f32⟩
  | 109 => ⟨S4126x2048, .f32⟩
  | 110 => ⟨S4126x2048, .f32⟩
  | 111 => ⟨S_, .f32⟩
  | 112 => ⟨S32x2048, .f32⟩
  | 113 => ⟨S32x2048, .f32⟩
  | 114 => ⟨S4096x2048, .f32⟩
  | 115 => ⟨S4096x2048, .f32⟩
  | 116 => ⟨S4096x2048, .f32⟩
  | 117 => ⟨S_, .f32⟩
  | 118 => ⟨S2048, .f32⟩
  | 119 => ⟨S1x2048, .f32⟩
  | 120 => ⟨S_, .f32⟩
  | 121 => ⟨S4126x2048, .f32⟩
  | 122 => ⟨S4126x2048, .f32⟩
  | 123 => ⟨S_, .f32⟩
  | 124 => ⟨S32x2048, .f32⟩
  | 125 => ⟨S32x2048, .f32⟩
  | 126 => ⟨S4096x2048, .f32⟩
  | 127 => ⟨S4096x2048, .f32⟩
  | _ => ⟨S4096x2048, .f32⟩

abbrev hbmTy0_2 (i : Nat) : BufTy := match i % 128 with
  | 0 => ⟨S4096x2048, .f32⟩
  | 1 => ⟨S_, .f32⟩
  | 2 => ⟨S2048, .f32⟩
  | 3 => ⟨S1x2048, .f32⟩
  | 4 => ⟨S_, .f32⟩
  | 5 => ⟨S4126x2048, .f32⟩
  | 6 => ⟨S4126x2048, .f32⟩
  | 7 => ⟨S_, .f32⟩
  | 8 => ⟨S32x2048, .f32⟩
  | 9 => ⟨S32x2048, .f32⟩
  | 10 => ⟨S4096x2048, .f32⟩
  | 11 => ⟨S4096x2048, .f32⟩
  | 12 => ⟨S4096x2048, .f32⟩
  | 13 => ⟨S_, .f32⟩
  | 14 => ⟨S2048, .f32⟩
  | 15 => ⟨S1x2048, .f32⟩
  | 16 => ⟨S_, .f32⟩
  | 17 => ⟨S4126x2048, .f32⟩
  | 18 => ⟨S4126x2048, .f32⟩
  | 19 => ⟨S_, .f32⟩
  | 20 => ⟨S32x2048, .f32⟩
  | 21 => ⟨S32x2048, .f32⟩
  | 22 => ⟨S4096x2048, .f32⟩
  | 23 => ⟨S4096x2048, .f32⟩
  | 24 => ⟨S4096x2048, .f32⟩
  | 25 => ⟨S_, .f32⟩
  | 26 => ⟨S2048, .f32⟩
  | 27 => ⟨S1x2048, .f32⟩
  | 28 => ⟨S_, .f32⟩
  | 29 => ⟨S4126x2048, .f32⟩
  | 30 => ⟨S4126x2048, .f32⟩
  | 31 => ⟨S_, .f32⟩
  | 32 => ⟨S32x2048, .f32⟩
  | 33 => ⟨S32x2048, .f32⟩
  | 34 => ⟨S4096x2048, .f32⟩
  | 35 => ⟨S4096x2048, .f32⟩
  | 36 => ⟨S4096x2048, .f32⟩
  | 37 => ⟨S_, .f32⟩
  | 38 => ⟨S2048, .f32⟩
  | 39 => ⟨S1x2048, .f32⟩
  | 40 => ⟨S_, .f32⟩
  | 41 => ⟨S4126x2048, .f32⟩
  | 42 => ⟨S4126x2048, .f32⟩
  | 43 => ⟨S_, .f32⟩
  | 44 => ⟨S32x2048, .f32⟩
  | 45 => ⟨S32x2048, .f32⟩
  | 46 => ⟨S4096x2048, .f32⟩
  | 47 => ⟨S4096x2048, .f32⟩
  | 48 => ⟨S4096x2048, .f32⟩
  | 49 => ⟨S_, .f32⟩
  | 50 => ⟨S2048, .f32⟩
  | 51 => ⟨S1x2048, .f32⟩
  | 52 => ⟨S_, .f32⟩
  | 53 => ⟨S4126x2048, .f32⟩
  | 54 => ⟨S4126x2048, .f32⟩
  | 55 => ⟨S_, .f32⟩
  | 56 => ⟨S32x2048, .f32⟩
  | 57 => ⟨S32x2048, .f32⟩
  | 58 => ⟨S4096x2048, .f32⟩
  | 59 => ⟨S4096x2048, .f32⟩
  | 60 => ⟨S4096x2048, .f32⟩
  | 61 => ⟨S_, .f32⟩
  | 62 => ⟨S2048, .f32⟩
  | 63 => ⟨S1x2048, .f32⟩
  | 64 => ⟨S_, .f32⟩
  | 65 => ⟨S4126x2048, .f32⟩
  | 66 => ⟨S4126x2048, .f32⟩
  | 67 => ⟨S_, .f32⟩
  | 68 => ⟨S32x2048, .f32⟩
  | 69 => ⟨S32x2048, .f32⟩
  | 70 => ⟨S4096x2048, .f32⟩
  | 71 => ⟨S4096x2048, .f32⟩
  | 72 => ⟨S4096x2048, .f32⟩
  | 73 => ⟨S_, .f32⟩
  | 74 => ⟨S2048, .f32⟩
  | 75 => ⟨S1x2048, .f32⟩
  | 76 => ⟨S_, .f32⟩
  | 77 => ⟨S4126x2048, .f32⟩
  | 78 => ⟨S4126x2048, .f32⟩
  | 79 => ⟨S_, .f32⟩
  | 80 => ⟨S32x2048, .f32⟩
  | 81 => ⟨S32x2048, .f32⟩
  | 82 => ⟨S4096x2048, .f32⟩
  | 83 => ⟨S4096x2048, .f32⟩
  | 84 => ⟨S4096x2048, .f32⟩
  | 85 => ⟨S_, .f32⟩
  | 86 => ⟨S2048, .f32⟩
  | 87 => ⟨S1x2048, .f32⟩
  | 88 => ⟨S_, .f32⟩
  | 89 => ⟨S4126x2048, .f32⟩
  | 90 => ⟨S4126x2048, .f32⟩
  | 91 => ⟨S_, .f32⟩
  | 92 => ⟨S32x2048, .f32⟩
  | 93 => ⟨S32x2048, .f32⟩
  | 94 => ⟨S4096x2048, .f32⟩
  | 95 => ⟨S4096x2048, .f32⟩
  | 96 => ⟨S4096x2048, .f32⟩
  | 97 => ⟨S_, .f32⟩
  | 98 => ⟨S2048, .f32⟩
  | 99 => ⟨S1x2048, .f32⟩
  | 100 => ⟨S_, .f32⟩
  | 101 => ⟨S4126x2048, .f32⟩
  | 102 => ⟨S4126x2048, .f32⟩
  | 103 => ⟨S_, .f32⟩
  | 104 => ⟨S32x2048, .f32⟩
  | 105 => ⟨S32x2048, .f32⟩
  | 106 => ⟨S4096x2048, .f32⟩
  | 107 => ⟨S4096x2048, .f32⟩
  | 108 => ⟨S4096x2048, .f32⟩
  | 109 => ⟨S_, .f32⟩
  | 110 => ⟨S2048, .f32⟩
  | 111 => ⟨S1x2048, .f32⟩
  | 112 => ⟨S_, .f32⟩
  | 113 => ⟨S4126x2048, .f32⟩
  | 114 => ⟨S4126x2048, .f32⟩
  | 115 => ⟨S_, .f32⟩
  | 116 => ⟨S32x2048, .f32⟩
  | 117 => ⟨S32x2048, .f32⟩
  | 118 => ⟨S4096x2048, .f32⟩
  | 119 => ⟨S4096x2048, .f32⟩
  | 120 => ⟨S4096x2048, .f32⟩
  | 121 => ⟨S_, .f32⟩
  | 122 => ⟨S2048, .f32⟩
  | 123 => ⟨S1x2048, .f32⟩
  | 124 => ⟨S_, .f32⟩
  | 125 => ⟨S4126x2048, .f32⟩
  | 126 => ⟨S4126x2048, .f32⟩
  | 127 => ⟨S_, .f32⟩
  | _ => ⟨S4096x2048, .f32⟩

abbrev hbmTy0_3 (i : Nat) : BufTy := match i % 128 with
  | 0 => ⟨S32x2048, .f32⟩
  | 1 => ⟨S32x2048, .f32⟩
  | 2 => ⟨S4096x2048, .f32⟩
  | 3 => ⟨S4096x2048, .f32⟩
  | 4 => ⟨S4096x2048, .f32⟩
  | 5 => ⟨S_, .f32⟩
  | 6 => ⟨S2048, .f32⟩
  | 7 => ⟨S1x2048, .f32⟩
  | 8 => ⟨S_, .f32⟩
  | 9 => ⟨S4126x2048, .f32⟩
  | 10 => ⟨S4126x2048, .f32⟩
  | 11 => ⟨S_, .f32⟩
  | 12 => ⟨S32x2048, .f32⟩
  | 13 => ⟨S32x2048, .f32⟩
  | 14 => ⟨S4096x2048, .f32⟩
  | 15 => ⟨S4096x2048, .f32⟩
  | 16 => ⟨S4096x2048, .f32⟩
  | 17 => ⟨S_, .f32⟩
  | 18 => ⟨S2048, .f32⟩
  | 19 => ⟨S1x2048, .f32⟩
  | 20 => ⟨S_, .f32⟩
  | 21 => ⟨S4126x2048, .f32⟩
  | 22 => ⟨S4126x2048, .f32⟩
  | 23 => ⟨S_, .f32⟩
  | 24 => ⟨S32x2048, .f32⟩
  | 25 => ⟨S32x2048, .f32⟩
  | 26 => ⟨S4096x2048, .f32⟩
  | 27 => ⟨S4096x2048, .f32⟩
  | 28 => ⟨S4096x2048, .f32⟩
  | 29 => ⟨S_, .f32⟩
  | 30 => ⟨S2048, .f32⟩
  | 31 => ⟨S1x2048, .f32⟩
  | 32 => ⟨S_, .f32⟩
  | 33 => ⟨S4126x2048, .f32⟩
  | 34 => ⟨S4126x2048, .f32⟩
  | 35 => ⟨S_, .f32⟩
  | 36 => ⟨S32x2048, .f32⟩
  | 37 => ⟨S32x2048, .f32⟩
  | 38 => ⟨S4096x2048, .f32⟩
  | 39 => ⟨S4096x2048, .f32⟩
  | 40 => ⟨S4096x2048, .f32⟩
  | 41 => ⟨S_, .f32⟩
  | 42 => ⟨S2048, .f32⟩
  | 43 => ⟨S1x2048, .f32⟩
  | 44 => ⟨S_, .f32⟩
  | 45 => ⟨S4126x2048, .f32⟩
  | 46 => ⟨S4126x2048, .f32⟩
  | 47 => ⟨S_, .f32⟩
  | 48 => ⟨S32x2048, .f32⟩
  | 49 => ⟨S32x2048, .f32⟩
  | 50 => ⟨S4096x2048, .f32⟩
  | 51 => ⟨S4096x2048, .f32⟩
  | 52 => ⟨S4096x2048, .f32⟩
  | 53 => ⟨S_, .f32⟩
  | 54 => ⟨S2048, .f32⟩
  | 55 => ⟨S1x2048, .f32⟩
  | 56 => ⟨S_, .f32⟩
  | 57 => ⟨S4126x2048, .f32⟩
  | 58 => ⟨S4126x2048, .f32⟩
  | 59 => ⟨S_, .f32⟩
  | 60 => ⟨S32x2048, .f32⟩
  | 61 => ⟨S32x2048, .f32⟩
  | 62 => ⟨S4096x2048, .f32⟩
  | 63 => ⟨S4096x2048, .f32⟩
  | 64 => ⟨S4096x2048, .f32⟩
  | 65 => ⟨S_, .f32⟩
  | 66 => ⟨S2048, .f32⟩
  | 67 => ⟨S1x2048, .f32⟩
  | 68 => ⟨S_, .f32⟩
  | 69 => ⟨S4126x2048, .f32⟩
  | 70 => ⟨S4126x2048, .f32⟩
  | 71 => ⟨S_, .f32⟩
  | 72 => ⟨S32x2048, .f32⟩
  | 73 => ⟨S32x2048, .f32⟩
  | 74 => ⟨S4096x2048, .f32⟩
  | 75 => ⟨S4096x2048, .f32⟩
  | 76 => ⟨S4096x2048, .f32⟩
  | 77 => ⟨S_, .f32⟩
  | 78 => ⟨S2048, .f32⟩
  | 79 => ⟨S1x2048, .f32⟩
  | 80 => ⟨S_, .f32⟩
  | 81 => ⟨S4126x2048, .f32⟩
  | 82 => ⟨S4126x2048, .f32⟩
  | 83 => ⟨S_, .f32⟩
  | 84 => ⟨S32x2048, .f32⟩
  | 85 => ⟨S32x2048, .f32⟩
  | 86 => ⟨S4096x2048, .f32⟩
  | 87 => ⟨S4096x2048, .f32⟩
  | 88 => ⟨S4096x2048, .f32⟩
  | 89 => ⟨S_, .f32⟩
  | 90 => ⟨S2048, .f32⟩
  | 91 => ⟨S1x2048, .f32⟩
  | 92 => ⟨S_, .f32⟩
  | 93 => ⟨S4126x2048, .f32⟩
  | 94 => ⟨S4126x2048, .f32⟩
  | 95 => ⟨S_, .f32⟩
  | 96 => ⟨S32x2048, .f32⟩
  | 97 => ⟨S32x2048, .f32⟩
  | 98 => ⟨S4096x2048, .f32⟩
  | 99 => ⟨S4096x2048, .f32⟩
  | 100 => ⟨S4096x2048, .f32⟩
  | 101 => ⟨S_, .f32⟩
  | 102 => ⟨S2048, .f32⟩
  | 103 => ⟨S1x2048, .f32⟩
  | 104 => ⟨S_, .f32⟩
  | 105 => ⟨S4126x2048, .f32⟩
  | 106 => ⟨S4126x2048, .f32⟩
  | 107 => ⟨S_, .f32⟩
  | 108 => ⟨S32x2048, .f32⟩
  | 109 => ⟨S32x2048, .f32⟩
  | 110 => ⟨S4096x2048, .f32⟩
  | 111 => ⟨S4096x2048, .f32⟩
  | 112 => ⟨S4096x2048, .f32⟩
  | 113 => ⟨S_, .f32⟩
  | 114 => ⟨S2048, .f32⟩
  | 115 => ⟨S1x2048, .f32⟩
  | 116 => ⟨S_, .f32⟩
  | 117 => ⟨S4126x2048, .f32⟩
  | 118 => ⟨S4126x2048, .f32⟩
  | 119 => ⟨S_, .f32⟩
  | 120 => ⟨S32x2048, .f32⟩
  | 121 => ⟨S32x2048, .f32⟩
  | 122 => ⟨S4096x2048, .f32⟩
  | 123 => ⟨S4096x2048, .f32⟩
  | 124 => ⟨S4096x2048, .f32⟩
  | 125 => ⟨S_, .f32⟩
  | 126 => ⟨S2048, .f32⟩
  | 127 => ⟨S1x2048, .f32⟩
  | _ => ⟨S4096x2048, .f32⟩

abbrev hbmTy0_4 (i : Nat) : BufTy := match i % 128 with
  | 0 => ⟨S_, .f32⟩
  | 1 => ⟨S4126x2048, .f32⟩
  | 2 => ⟨S4126x2048, .f32⟩
  | 3 => ⟨S_, .f32⟩
  | 4 => ⟨S32x2048, .f32⟩
  | 5 => ⟨S32x2048, .f32⟩
  | 6 => ⟨S4096x2048, .f32⟩
  | 7 => ⟨S4096x2048, .f32⟩
  | 8 => ⟨S4096x2048, .f32⟩
  | 9 => ⟨S_, .f32⟩
  | 10 => ⟨S2048, .f32⟩
  | 11 => ⟨S1x2048, .f32⟩
  | 12 => ⟨S_, .f32⟩
  | 13 => ⟨S4126x2048, .f32⟩
  | 14 => ⟨S4126x2048, .f32⟩
  | 15 => ⟨S_, .f32⟩
  | 16 => ⟨S32x2048, .f32⟩
  | 17 => ⟨S32x2048, .f32⟩
  | 18 => ⟨S4096x2048, .f32⟩
  | 19 => ⟨S4096x2048, .f32⟩
  | 20 => ⟨S4096x2048, .f32⟩
  | 21 => ⟨S_, .f32⟩
  | 22 => ⟨S2048, .f32⟩
  | 23 => ⟨S1x2048, .f32⟩
  | 24 => ⟨S_, .f32⟩
  | 25 => ⟨S4126x2048, .f32⟩
  | 26 => ⟨S4126x2048, .f32⟩
  | 27 => ⟨S_, .f32⟩
  | 28 => ⟨S32x2048, .f32⟩
  | 29 => ⟨S32x2048, .f32⟩
  | 30 => ⟨S30x2048, .f32⟩
  | 31 => ⟨S4096x2048, .f32⟩
  | _ => ⟨S4096x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_cst_2 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_cst_3 : Ref sig .tc := ⟨.hbm, 175, rfl⟩
abbrev main_v167 : Ref sig .tc := ⟨.hbm, 176, rfl⟩
abbrev main_v168 : Ref sig .tc := ⟨.hbm, 177, rfl⟩
abbrev main_cst_4 : Ref sig .tc := ⟨.hbm, 178, rfl⟩
abbrev main_v169 : Ref sig .tc := ⟨.hbm, 179, rfl⟩
abbrev main_cst_5 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_cst_6 : Ref sig .tc := ⟨.hbm, 185, rfl⟩
abbrev main_v174 : Ref sig .tc := ⟨.hbm, 186, rfl⟩
abbrev main_v175 : Ref sig .tc := ⟨.hbm, 187, rfl⟩
abbrev main_cst_7 : Ref sig .tc := ⟨.hbm, 188, rfl⟩
abbrev main_v176 : Ref sig .tc := ⟨.hbm, 189, rfl⟩
abbrev main_v177 : Ref sig .tc := ⟨.hbm, 190, rfl⟩
abbrev main_cst_8 : Ref sig .tc := ⟨.hbm, 191, rfl⟩
abbrev main_v178 : Ref sig .tc := ⟨.hbm, 192, rfl⟩
abbrev main_v179 : Ref sig .tc := ⟨.hbm, 193, rfl⟩
abbrev main_v180 : Ref sig .tc := ⟨.hbm, 194, rfl⟩
abbrev main_v181 : Ref sig .tc := ⟨.hbm, 195, rfl⟩
abbrev main_v182 : Ref sig .tc := ⟨.hbm, 196, rfl⟩
abbrev main_cst_9 : Ref sig .tc := ⟨.hbm, 197, rfl⟩
abbrev main_v183 : Ref sig .tc := ⟨.hbm, 198, rfl⟩
abbrev main_v184 : Ref sig .tc := ⟨.hbm, 199, rfl⟩
abbrev main_cst_10 : Ref sig .tc := ⟨.hbm, 200, rfl⟩
abbrev main_v185 : Ref sig .tc := ⟨.hbm, 201, rfl⟩
abbrev main_v186 : Ref sig .tc := ⟨.hbm, 202, rfl⟩
abbrev main_cst_11 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_cst_12 : Ref sig .tc := ⟨.hbm, 209, rfl⟩
abbrev main_v192 : Ref sig .tc := ⟨.hbm, 210, rfl⟩
abbrev main_v193 : Ref sig .tc := ⟨.hbm, 211, rfl⟩
abbrev main_cst_13 : Ref sig .tc := ⟨.hbm, 212, rfl⟩
abbrev main_v194 : Ref sig .tc := ⟨.hbm, 213, rfl⟩
abbrev main_v195 : Ref sig .tc := ⟨.hbm, 214, rfl⟩
abbrev main_cst_14 : Ref sig .tc := ⟨.hbm, 215, rfl⟩
abbrev main_v196 : Ref sig .tc := ⟨.hbm, 216, rfl⟩
abbrev main_v197 : Ref sig .tc := ⟨.hbm, 217, rfl⟩
abbrev main_v198 : Ref sig .tc := ⟨.hbm, 218, rfl⟩
abbrev main_v199 : Ref sig .tc := ⟨.hbm, 219, rfl⟩
abbrev main_v200 : Ref sig .tc := ⟨.hbm, 220, rfl⟩
abbrev main_cst_15 : Ref sig .tc := ⟨.hbm, 221, rfl⟩
abbrev main_v201 : Ref sig .tc := ⟨.hbm, 222, rfl⟩
abbrev main_v202 : Ref sig .tc := ⟨.hbm, 223, rfl⟩
abbrev main_cst_16 : Ref sig .tc := ⟨.hbm, 224, rfl⟩
abbrev main_v203 : Ref sig .tc := ⟨.hbm, 225, rfl⟩
abbrev main_v204 : Ref sig .tc := ⟨.hbm, 226, rfl⟩
abbrev main_cst_17 : Ref sig .tc := ⟨.hbm, 227, rfl⟩
abbrev main_v205 : Ref sig .tc := ⟨.hbm, 228, rfl⟩
abbrev main_v206 : Ref sig .tc := ⟨.hbm, 229, rfl⟩
abbrev main_v207 : Ref sig .tc := ⟨.hbm, 230, rfl⟩
abbrev main_v208 : Ref sig .tc := ⟨.hbm, 231, rfl⟩
abbrev main_v209 : Ref sig .tc := ⟨.hbm, 232, rfl⟩
abbrev main_cst_18 : Ref sig .tc := ⟨.hbm, 233, rfl⟩
abbrev main_v210 : Ref sig .tc := ⟨.hbm, 234, rfl⟩
abbrev main_v211 : Ref sig .tc := ⟨.hbm, 235, rfl⟩
abbrev main_cst_19 : Ref sig .tc := ⟨.hbm, 236, rfl⟩
abbrev main_v212 : Ref sig .tc := ⟨.hbm, 237, rfl⟩
abbrev main_v213 : Ref sig .tc := ⟨.hbm, 238, rfl⟩
abbrev main_cst_20 : Ref sig .tc := ⟨.hbm, 239, rfl⟩
abbrev main_v214 : Ref sig .tc := ⟨.hbm, 240, rfl⟩
abbrev main_v215 : Ref sig .tc := ⟨.hbm, 241, rfl⟩
abbrev main_v216 : Ref sig .tc := ⟨.hbm, 242, rfl⟩
abbrev main_v217 : Ref sig .tc := ⟨.hbm, 243, rfl⟩
abbrev main_v218 : Ref sig .tc := ⟨.hbm, 244, rfl⟩
abbrev main_cst_21 : Ref sig .tc := ⟨.hbm, 245, rfl⟩
abbrev main_v219 : Ref sig .tc := ⟨.hbm, 246, rfl⟩
abbrev main_v220 : Ref sig .tc := ⟨.hbm, 247, rfl⟩
abbrev main_cst_22 : Ref sig .tc := ⟨.hbm, 248, rfl⟩
abbrev main_v221 : Ref sig .tc := ⟨.hbm, 249, rfl⟩
abbrev main_v222 : Ref sig .tc := ⟨.hbm, 250, rfl⟩
abbrev main_cst_23 : Ref sig .tc := ⟨.hbm, 251, rfl⟩
abbrev main_v223 : Ref sig .tc := ⟨.hbm, 252, rfl⟩
abbrev main_v224 : Ref sig .tc := ⟨.hbm, 253, rfl⟩
abbrev main_v225 : Ref sig .tc := ⟨.hbm, 254, rfl⟩
abbrev main_v226 : Ref sig .tc := ⟨.hbm, 255, rfl⟩
abbrev main_v227 : Ref sig .tc := ⟨.hbm, 256, rfl⟩
abbrev main_cst_24 : Ref sig .tc := ⟨.hbm, 257, rfl⟩
abbrev main_v228 : Ref sig .tc := ⟨.hbm, 258, rfl⟩
abbrev main_v229 : Ref sig .tc := ⟨.hbm, 259, rfl⟩
abbrev main_cst_25 : Ref sig .tc := ⟨.hbm, 260, rfl⟩
abbrev main_v230 : Ref sig .tc := ⟨.hbm, 261, rfl⟩
abbrev main_v231 : Ref sig .tc := ⟨.hbm, 262, rfl⟩
abbrev main_cst_26 : Ref sig .tc := ⟨.hbm, 263, rfl⟩
abbrev main_v232 : Ref sig .tc := ⟨.hbm, 264, rfl⟩
abbrev main_v233 : Ref sig .tc := ⟨.hbm, 265, rfl⟩
abbrev main_v234 : Ref sig .tc := ⟨.hbm, 266, rfl⟩
abbrev main_v235 : Ref sig .tc := ⟨.hbm, 267, rfl⟩
abbrev main_v236 : Ref sig .tc := ⟨.hbm, 268, rfl⟩
abbrev main_cst_27 : Ref sig .tc := ⟨.hbm, 269, rfl⟩
abbrev main_v237 : Ref sig .tc := ⟨.hbm, 270, rfl⟩
abbrev main_v238 : Ref sig .tc := ⟨.hbm, 271, rfl⟩
abbrev main_cst_28 : Ref sig .tc := ⟨.hbm, 272, rfl⟩
abbrev main_v239 : Ref sig .tc := ⟨.hbm, 273, rfl⟩
abbrev main_v240 : Ref sig .tc := ⟨.hbm, 274, rfl⟩
abbrev main_cst_29 : Ref sig .tc := ⟨.hbm, 275, rfl⟩
abbrev main_v241 : Ref sig .tc := ⟨.hbm, 276, rfl⟩
abbrev main_v242 : Ref sig .tc := ⟨.hbm, 277, rfl⟩
abbrev main_v243 : Ref sig .tc := ⟨.hbm, 278, rfl⟩
abbrev main_v244 : Ref sig .tc := ⟨.hbm, 279, rfl⟩
abbrev main_v245 : Ref sig .tc := ⟨.hbm, 280, rfl⟩
abbrev main_cst_30 : Ref sig .tc := ⟨.hbm, 281, rfl⟩
abbrev main_v246 : Ref sig .tc := ⟨.hbm, 282, rfl⟩
abbrev main_v247 : Ref sig .tc := ⟨.hbm, 283, rfl⟩
abbrev main_cst_31 : Ref sig .tc := ⟨.hbm, 284, rfl⟩
abbrev main_v248 : Ref sig .tc := ⟨.hbm, 285, rfl⟩
abbrev main_v249 : Ref sig .tc := ⟨.hbm, 286, rfl⟩
abbrev main_cst_32 : Ref sig .tc := ⟨.hbm, 287, rfl⟩
abbrev main_v250 : Ref sig .tc := ⟨.hbm, 288, rfl⟩
abbrev main_v251 : Ref sig .tc := ⟨.hbm, 289, rfl⟩
abbrev main_v252 : Ref sig .tc := ⟨.hbm, 290, rfl⟩
abbrev main_v253 : Ref sig .tc := ⟨.hbm, 291, rfl⟩
abbrev main_v254 : Ref sig .tc := ⟨.hbm, 292, rfl⟩
abbrev main_cst_33 : Ref sig .tc := ⟨.hbm, 293, rfl⟩
abbrev main_v255 : Ref sig .tc := ⟨.hbm, 294, rfl⟩
abbrev main_v256 : Ref sig .tc := ⟨.hbm, 295, rfl⟩
abbrev main_cst_34 : Ref sig .tc := ⟨.hbm, 296, rfl⟩
abbrev main_v257 : Ref sig .tc := ⟨.hbm, 297, rfl⟩
abbrev main_v258 : Ref sig .tc := ⟨.hbm, 298, rfl⟩
abbrev main_cst_35 : Ref sig .tc := ⟨.hbm, 299, rfl⟩
abbrev main_v259 : Ref sig .tc := ⟨.hbm, 300, rfl⟩
abbrev main_v260 : Ref sig .tc := ⟨.hbm, 301, rfl⟩
abbrev main_v261 : Ref sig .tc := ⟨.hbm, 302, rfl⟩
abbrev main_v262 : Ref sig .tc := ⟨.hbm, 303, rfl⟩
abbrev main_v263 : Ref sig .tc := ⟨.hbm, 304, rfl⟩
abbrev main_cst_36 : Ref sig .tc := ⟨.hbm, 305, rfl⟩
abbrev main_v264 : Ref sig .tc := ⟨.hbm, 306, rfl⟩
abbrev main_v265 : Ref sig .tc := ⟨.hbm, 307, rfl⟩
abbrev main_cst_37 : Ref sig .tc := ⟨.hbm, 308, rfl⟩
abbrev main_v266 : Ref sig .tc := ⟨.hbm, 309, rfl⟩
abbrev main_v267 : Ref sig .tc := ⟨.hbm, 310, rfl⟩
abbrev main_cst_38 : Ref sig .tc := ⟨.hbm, 311, rfl⟩
abbrev main_v268 : Ref sig .tc := ⟨.hbm, 312, rfl⟩
abbrev main_v269 : Ref sig .tc := ⟨.hbm, 313, rfl⟩
abbrev main_v270 : Ref sig .tc := ⟨.hbm, 314, rfl⟩
abbrev main_v271 : Ref sig .tc := ⟨.hbm, 315, rfl⟩
abbrev main_v272 : Ref sig .tc := ⟨.hbm, 316, rfl⟩
abbrev main_cst_39 : Ref sig .tc := ⟨.hbm, 317, rfl⟩
abbrev main_v273 : Ref sig .tc := ⟨.hbm, 318, rfl⟩
abbrev main_v274 : Ref sig .tc := ⟨.hbm, 319, rfl⟩
abbrev main_cst_40 : Ref sig .tc := ⟨.hbm, 320, rfl⟩
abbrev main_v275 : Ref sig .tc := ⟨.hbm, 321, rfl⟩
abbrev main_v276 : Ref sig .tc := ⟨.hbm, 322, rfl⟩
abbrev main_cst_41 : Ref sig .tc := ⟨.hbm, 323, rfl⟩
abbrev main_v277 : Ref sig .tc := ⟨.hbm, 324, rfl⟩
abbrev main_v278 : Ref sig .tc := ⟨.hbm, 325, rfl⟩
abbrev main_v279 : Ref sig .tc := ⟨.hbm, 326, rfl⟩
abbrev main_v280 : Ref sig .tc := ⟨.hbm, 327, rfl⟩
abbrev main_v281 : Ref sig .tc := ⟨.hbm, 328, rfl⟩
abbrev main_cst_42 : Ref sig .tc := ⟨.hbm, 329, rfl⟩
abbrev main_v282 : Ref sig .tc := ⟨.hbm, 330, rfl⟩
abbrev main_v283 : Ref sig .tc := ⟨.hbm, 331, rfl⟩
abbrev main_cst_43 : Ref sig .tc := ⟨.hbm, 332, rfl⟩
abbrev main_v284 : Ref sig .tc := ⟨.hbm, 333, rfl⟩
abbrev main_v285 : Ref sig .tc := ⟨.hbm, 334, rfl⟩
abbrev main_cst_44 : Ref sig .tc := ⟨.hbm, 335, rfl⟩
abbrev main_v286 : Ref sig .tc := ⟨.hbm, 336, rfl⟩
abbrev main_v287 : Ref sig .tc := ⟨.hbm, 337, rfl⟩
abbrev main_v288 : Ref sig .tc := ⟨.hbm, 338, rfl⟩
abbrev main_v289 : Ref sig .tc := ⟨.hbm, 339, rfl⟩
abbrev main_v290 : Ref sig .tc := ⟨.hbm, 340, rfl⟩
abbrev main_cst_45 : Ref sig .tc := ⟨.hbm, 341, rfl⟩
abbrev main_v291 : Ref sig .tc := ⟨.hbm, 342, rfl⟩
abbrev main_v292 : Ref sig .tc := ⟨.hbm, 343, rfl⟩
abbrev main_cst_46 : Ref sig .tc := ⟨.hbm, 344, rfl⟩
abbrev main_v293 : Ref sig .tc := ⟨.hbm, 345, rfl⟩
abbrev main_v294 : Ref sig .tc := ⟨.hbm, 346, rfl⟩
abbrev main_cst_47 : Ref sig .tc := ⟨.hbm, 347, rfl⟩
abbrev main_v295 : Ref sig .tc := ⟨.hbm, 348, rfl⟩
abbrev main_v296 : Ref sig .tc := ⟨.hbm, 349, rfl⟩
abbrev main_v297 : Ref sig .tc := ⟨.hbm, 350, rfl⟩
abbrev main_v298 : Ref sig .tc := ⟨.hbm, 351, rfl⟩
abbrev main_v299 : Ref sig .tc := ⟨.hbm, 352, rfl⟩
abbrev main_cst_48 : Ref sig .tc := ⟨.hbm, 353, rfl⟩
abbrev main_v300 : Ref sig .tc := ⟨.hbm, 354, rfl⟩
abbrev main_v301 : Ref sig .tc := ⟨.hbm, 355, rfl⟩
abbrev main_cst_49 : Ref sig .tc := ⟨.hbm, 356, rfl⟩
abbrev main_v302 : Ref sig .tc := ⟨.hbm, 357, rfl⟩
abbrev main_v303 : Ref sig .tc := ⟨.hbm, 358, rfl⟩
abbrev main_cst_50 : Ref sig .tc := ⟨.hbm, 359, rfl⟩
abbrev main_v304 : Ref sig .tc := ⟨.hbm, 360, rfl⟩
abbrev main_v305 : Ref sig .tc := ⟨.hbm, 361, rfl⟩
abbrev main_v306 : Ref sig .tc := ⟨.hbm, 362, rfl⟩
abbrev main_v307 : Ref sig .tc := ⟨.hbm, 363, rfl⟩
abbrev main_v308 : Ref sig .tc := ⟨.hbm, 364, rfl⟩
abbrev main_cst_51 : Ref sig .tc := ⟨.hbm, 365, rfl⟩
abbrev main_v309 : Ref sig .tc := ⟨.hbm, 366, rfl⟩
abbrev main_v310 : Ref sig .tc := ⟨.hbm, 367, rfl⟩
abbrev main_cst_52 : Ref sig .tc := ⟨.hbm, 368, rfl⟩
abbrev main_v311 : Ref sig .tc := ⟨.hbm, 369, rfl⟩
abbrev main_v312 : Ref sig .tc := ⟨.hbm, 370, rfl⟩
abbrev main_cst_53 : Ref sig .tc := ⟨.hbm, 371, rfl⟩
abbrev main_v313 : Ref sig .tc := ⟨.hbm, 372, rfl⟩
abbrev main_v314 : Ref sig .tc := ⟨.hbm, 373, rfl⟩
abbrev main_v315 : Ref sig .tc := ⟨.hbm, 374, rfl⟩
abbrev main_v316 : Ref sig .tc := ⟨.hbm, 375, rfl⟩
abbrev main_v317 : Ref sig .tc := ⟨.hbm, 376, rfl⟩
abbrev main_cst_54 : Ref sig .tc := ⟨.hbm, 377, rfl⟩
abbrev main_v318 : Ref sig .tc := ⟨.hbm, 378, rfl⟩
abbrev main_v319 : Ref sig .tc := ⟨.hbm, 379, rfl⟩
abbrev main_cst_55 : Ref sig .tc := ⟨.hbm, 380, rfl⟩
abbrev main_v320 : Ref sig .tc := ⟨.hbm, 381, rfl⟩
abbrev main_v321 : Ref sig .tc := ⟨.hbm, 382, rfl⟩
abbrev main_cst_56 : Ref sig .tc := ⟨.hbm, 383, rfl⟩
abbrev main_v322 : Ref sig .tc := ⟨.hbm, 384, rfl⟩
abbrev main_v323 : Ref sig .tc := ⟨.hbm, 385, rfl⟩
abbrev main_v324 : Ref sig .tc := ⟨.hbm, 386, rfl⟩
abbrev main_v325 : Ref sig .tc := ⟨.hbm, 387, rfl⟩
abbrev main_v326 : Ref sig .tc := ⟨.hbm, 388, rfl⟩
abbrev main_cst_57 : Ref sig .tc := ⟨.hbm, 389, rfl⟩
abbrev main_v327 : Ref sig .tc := ⟨.hbm, 390, rfl⟩
abbrev main_v328 : Ref sig .tc := ⟨.hbm, 391, rfl⟩
abbrev main_cst_58 : Ref sig .tc := ⟨.hbm, 392, rfl⟩
abbrev main_v329 : Ref sig .tc := ⟨.hbm, 393, rfl⟩
abbrev main_v330 : Ref sig .tc := ⟨.hbm, 394, rfl⟩
abbrev main_cst_59 : Ref sig .tc := ⟨.hbm, 395, rfl⟩
abbrev main_v331 : Ref sig .tc := ⟨.hbm, 396, rfl⟩
abbrev main_v332 : Ref sig .tc := ⟨.hbm, 397, rfl⟩
abbrev main_v333 : Ref sig .tc := ⟨.hbm, 398, rfl⟩
abbrev main_v334 : Ref sig .tc := ⟨.hbm, 399, rfl⟩
abbrev main_v335 : Ref sig .tc := ⟨.hbm, 400, rfl⟩
abbrev main_cst_60 : Ref sig .tc := ⟨.hbm, 401, rfl⟩
abbrev main_v336 : Ref sig .tc := ⟨.hbm, 402, rfl⟩
abbrev main_v337 : Ref sig .tc := ⟨.hbm, 403, rfl⟩
abbrev main_cst_61 : Ref sig .tc := ⟨.hbm, 404, rfl⟩
abbrev main_v338 : Ref sig .tc := ⟨.hbm, 405, rfl⟩
abbrev main_v339 : Ref sig .tc := ⟨.hbm, 406, rfl⟩
abbrev main_cst_62 : Ref sig .tc := ⟨.hbm, 407, rfl⟩
abbrev main_v340 : Ref sig .tc := ⟨.hbm, 408, rfl⟩
abbrev main_v341 : Ref sig .tc := ⟨.hbm, 409, rfl⟩
abbrev main_v342 : Ref sig .tc := ⟨.hbm, 410, rfl⟩
abbrev main_v343 : Ref sig .tc := ⟨.hbm, 411, rfl⟩
abbrev main_v344 : Ref sig .tc := ⟨.hbm, 412, rfl⟩
abbrev main_cst_63 : Ref sig .tc := ⟨.hbm, 413, rfl⟩
abbrev main_v345 : Ref sig .tc := ⟨.hbm, 414, rfl⟩
abbrev main_v346 : Ref sig .tc := ⟨.hbm, 415, rfl⟩
abbrev main_cst_64 : Ref sig .tc := ⟨.hbm, 416, rfl⟩
abbrev main_v347 : Ref sig .tc := ⟨.hbm, 417, rfl⟩
abbrev main_v348 : Ref sig .tc := ⟨.hbm, 418, rfl⟩
abbrev main_cst_65 : Ref sig .tc := ⟨.hbm, 419, rfl⟩
abbrev main_v349 : Ref sig .tc := ⟨.hbm, 420, rfl⟩
abbrev main_v350 : Ref sig .tc := ⟨.hbm, 421, rfl⟩
abbrev main_v351 : Ref sig .tc := ⟨.hbm, 422, rfl⟩
abbrev main_v352 : Ref sig .tc := ⟨.hbm, 423, rfl⟩
abbrev main_v353 : Ref sig .tc := ⟨.hbm, 424, rfl⟩
abbrev main_cst_66 : Ref sig .tc := ⟨.hbm, 425, rfl⟩
abbrev main_v354 : Ref sig .tc := ⟨.hbm, 426, rfl⟩
abbrev main_v355 : Ref sig .tc := ⟨.hbm, 427, rfl⟩
abbrev main_cst_67 : Ref sig .tc := ⟨.hbm, 428, rfl⟩
abbrev main_v356 : Ref sig .tc := ⟨.hbm, 429, rfl⟩
abbrev main_v357 : Ref sig .tc := ⟨.hbm, 430, rfl⟩
abbrev main_cst_68 : Ref sig .tc := ⟨.hbm, 431, rfl⟩
abbrev main_v358 : Ref sig .tc := ⟨.hbm, 432, rfl⟩
abbrev main_v359 : Ref sig .tc := ⟨.hbm, 433, rfl⟩
abbrev main_v360 : Ref sig .tc := ⟨.hbm, 434, rfl⟩
abbrev main_v361 : Ref sig .tc := ⟨.hbm, 435, rfl⟩
abbrev main_v362 : Ref sig .tc := ⟨.hbm, 436, rfl⟩
abbrev main_cst_69 : Ref sig .tc := ⟨.hbm, 437, rfl⟩
abbrev main_v363 : Ref sig .tc := ⟨.hbm, 438, rfl⟩
abbrev main_v364 : Ref sig .tc := ⟨.hbm, 439, rfl⟩
abbrev main_cst_70 : Ref sig .tc := ⟨.hbm, 440, rfl⟩
abbrev main_v365 : Ref sig .tc := ⟨.hbm, 441, rfl⟩
abbrev main_v366 : Ref sig .tc := ⟨.hbm, 442, rfl⟩
abbrev main_cst_71 : Ref sig .tc := ⟨.hbm, 443, rfl⟩
abbrev main_v367 : Ref sig .tc := ⟨.hbm, 444, rfl⟩
abbrev main_v368 : Ref sig .tc := ⟨.hbm, 445, rfl⟩
abbrev main_v369 : Ref sig .tc := ⟨.hbm, 446, rfl⟩
abbrev main_v370 : Ref sig .tc := ⟨.hbm, 447, rfl⟩
abbrev main_v371 : Ref sig .tc := ⟨.hbm, 448, rfl⟩
abbrev main_cst_72 : Ref sig .tc := ⟨.hbm, 449, rfl⟩
abbrev main_v372 : Ref sig .tc := ⟨.hbm, 450, rfl⟩
abbrev main_v373 : Ref sig .tc := ⟨.hbm, 451, rfl⟩
abbrev main_cst_73 : Ref sig .tc := ⟨.hbm, 452, rfl⟩
abbrev main_v374 : Ref sig .tc := ⟨.hbm, 453, rfl⟩
abbrev main_v375 : Ref sig .tc := ⟨.hbm, 454, rfl⟩
abbrev main_cst_74 : Ref sig .tc := ⟨.hbm, 455, rfl⟩
abbrev main_v376 : Ref sig .tc := ⟨.hbm, 456, rfl⟩
abbrev main_v377 : Ref sig .tc := ⟨.hbm, 457, rfl⟩
abbrev main_v378 : Ref sig .tc := ⟨.hbm, 458, rfl⟩
abbrev main_v379 : Ref sig .tc := ⟨.hbm, 459, rfl⟩
abbrev main_v380 : Ref sig .tc := ⟨.hbm, 460, rfl⟩
abbrev main_cst_75 : Ref sig .tc := ⟨.hbm, 461, rfl⟩
abbrev main_v381 : Ref sig .tc := ⟨.hbm, 462, rfl⟩
abbrev main_v382 : Ref sig .tc := ⟨.hbm, 463, rfl⟩
abbrev main_cst_76 : Ref sig .tc := ⟨.hbm, 464, rfl⟩
abbrev main_v383 : Ref sig .tc := ⟨.hbm, 465, rfl⟩
abbrev main_v384 : Ref sig .tc := ⟨.hbm, 466, rfl⟩
abbrev main_cst_77 : Ref sig .tc := ⟨.hbm, 467, rfl⟩
abbrev main_v385 : Ref sig .tc := ⟨.hbm, 468, rfl⟩
abbrev main_v386 : Ref sig .tc := ⟨.hbm, 469, rfl⟩
abbrev main_v387 : Ref sig .tc := ⟨.hbm, 470, rfl⟩
abbrev main_v388 : Ref sig .tc := ⟨.hbm, 471, rfl⟩
abbrev main_v389 : Ref sig .tc := ⟨.hbm, 472, rfl⟩
abbrev main_cst_78 : Ref sig .tc := ⟨.hbm, 473, rfl⟩
abbrev main_v390 : Ref sig .tc := ⟨.hbm, 474, rfl⟩
abbrev main_v391 : Ref sig .tc := ⟨.hbm, 475, rfl⟩
abbrev main_cst_79 : Ref sig .tc := ⟨.hbm, 476, rfl⟩
abbrev main_v392 : Ref sig .tc := ⟨.hbm, 477, rfl⟩
abbrev main_v393 : Ref sig .tc := ⟨.hbm, 478, rfl⟩
abbrev main_cst_80 : Ref sig .tc := ⟨.hbm, 479, rfl⟩
abbrev main_v394 : Ref sig .tc := ⟨.hbm, 480, rfl⟩
abbrev main_v395 : Ref sig .tc := ⟨.hbm, 481, rfl⟩
abbrev main_v396 : Ref sig .tc := ⟨.hbm, 482, rfl⟩
abbrev main_v397 : Ref sig .tc := ⟨.hbm, 483, rfl⟩
abbrev main_v398 : Ref sig .tc := ⟨.hbm, 484, rfl⟩
abbrev main_cst_81 : Ref sig .tc := ⟨.hbm, 485, rfl⟩
abbrev main_v399 : Ref sig .tc := ⟨.hbm, 486, rfl⟩
abbrev main_v400 : Ref sig .tc := ⟨.hbm, 487, rfl⟩
abbrev main_cst_82 : Ref sig .tc := ⟨.hbm, 488, rfl⟩
abbrev main_v401 : Ref sig .tc := ⟨.hbm, 489, rfl⟩
abbrev main_v402 : Ref sig .tc := ⟨.hbm, 490, rfl⟩
abbrev main_cst_83 : Ref sig .tc := ⟨.hbm, 491, rfl⟩
abbrev main_v403 : Ref sig .tc := ⟨.hbm, 492, rfl⟩
abbrev main_v404 : Ref sig .tc := ⟨.hbm, 493, rfl⟩
abbrev main_v405 : Ref sig .tc := ⟨.hbm, 494, rfl⟩
abbrev main_v406 : Ref sig .tc := ⟨.hbm, 495, rfl⟩
abbrev main_v407 : Ref sig .tc := ⟨.hbm, 496, rfl⟩
abbrev main_cst_84 : Ref sig .tc := ⟨.hbm, 497, rfl⟩
abbrev main_v408 : Ref sig .tc := ⟨.hbm, 498, rfl⟩
abbrev main_v409 : Ref sig .tc := ⟨.hbm, 499, rfl⟩
abbrev main_cst_85 : Ref sig .tc := ⟨.hbm, 500, rfl⟩
abbrev main_v410 : Ref sig .tc := ⟨.hbm, 501, rfl⟩
abbrev main_v411 : Ref sig .tc := ⟨.hbm, 502, rfl⟩
abbrev main_cst_86 : Ref sig .tc := ⟨.hbm, 503, rfl⟩
abbrev main_v412 : Ref sig .tc := ⟨.hbm, 504, rfl⟩
abbrev main_v413 : Ref sig .tc := ⟨.hbm, 505, rfl⟩
abbrev main_v414 : Ref sig .tc := ⟨.hbm, 506, rfl⟩
abbrev main_v415 : Ref sig .tc := ⟨.hbm, 507, rfl⟩
abbrev main_v416 : Ref sig .tc := ⟨.hbm, 508, rfl⟩
abbrev main_cst_87 : Ref sig .tc := ⟨.hbm, 509, rfl⟩
abbrev main_v417 : Ref sig .tc := ⟨.hbm, 510, rfl⟩
abbrev main_v418 : Ref sig .tc := ⟨.hbm, 511, rfl⟩
abbrev main_cst_88 : Ref sig .tc := ⟨.hbm, 512, rfl⟩
abbrev main_v419 : Ref sig .tc := ⟨.hbm, 513, rfl⟩
abbrev main_v420 : Ref sig .tc := ⟨.hbm, 514, rfl⟩
abbrev main_cst_89 : Ref sig .tc := ⟨.hbm, 515, rfl⟩
abbrev main_v421 : Ref sig .tc := ⟨.hbm, 516, rfl⟩
abbrev main_v422 : Ref sig .tc := ⟨.hbm, 517, rfl⟩
abbrev main_v423 : Ref sig .tc := ⟨.hbm, 518, rfl⟩
abbrev main_v424 : Ref sig .tc := ⟨.hbm, 519, rfl⟩
abbrev main_v425 : Ref sig .tc := ⟨.hbm, 520, rfl⟩
abbrev main_cst_90 : Ref sig .tc := ⟨.hbm, 521, rfl⟩
abbrev main_v426 : Ref sig .tc := ⟨.hbm, 522, rfl⟩
abbrev main_v427 : Ref sig .tc := ⟨.hbm, 523, rfl⟩
abbrev main_cst_91 : Ref sig .tc := ⟨.hbm, 524, rfl⟩
abbrev main_v428 : Ref sig .tc := ⟨.hbm, 525, rfl⟩
abbrev main_v429 : Ref sig .tc := ⟨.hbm, 526, rfl⟩
abbrev main_cst_92 : Ref sig .tc := ⟨.hbm, 527, rfl⟩
abbrev main_v430 : Ref sig .tc := ⟨.hbm, 528, rfl⟩
abbrev main_v431 : Ref sig .tc := ⟨.hbm, 529, rfl⟩
abbrev main_v432 : Ref sig .tc := ⟨.hbm, 530, rfl⟩
abbrev main_v433 : Ref sig .tc := ⟨.hbm, 531, rfl⟩
abbrev main_v434 : Ref sig .tc := ⟨.hbm, 532, rfl⟩
abbrev main_cst_93 : Ref sig .tc := ⟨.hbm, 533, rfl⟩
abbrev main_v435 : Ref sig .tc := ⟨.hbm, 534, rfl⟩
abbrev main_v436 : Ref sig .tc := ⟨.hbm, 535, rfl⟩
abbrev main_cst_94 : Ref sig .tc := ⟨.hbm, 536, rfl⟩
abbrev main_v437 : Ref sig .tc := ⟨.hbm, 537, rfl⟩
abbrev main_v438 : Ref sig .tc := ⟨.hbm, 538, rfl⟩
abbrev main_cst_95 : Ref sig .tc := ⟨.hbm, 539, rfl⟩
abbrev main_v439 : Ref sig .tc := ⟨.hbm, 540, rfl⟩
abbrev main_v440 : Ref sig .tc := ⟨.hbm, 541, rfl⟩
abbrev main_v441 : Ref sig .tc := ⟨.hbm, 542, rfl⟩
abbrev main_v442 : Ref sig .tc := ⟨.hbm, 543, rfl⟩

abbrev nD : Nat := 1
abbrev τ : Topo := Topo.v7x

variable {F : FTy → Type} [FloatOps F]
-- ==== Kernel2.lean ====
abbrev S4096x4096 : Shape := ⟨2, ![4096, 4096]⟩
abbrev S4096x16384 : Shape := ⟨2, ![4096, 16384]⟩
abbrev S4x4096x4096 : Shape := ⟨3, ![4, 4096, 4096]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .bf16⟩
  | .hbm, ⟨2, _⟩ => ⟨S4x4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x4096 : Shape := ⟨2, ![4096, 4096]⟩
abbrev S4096x16384 : Shape := ⟨2, ![4096, 16384]⟩
abbrev S_ : Shape := ⟨0, ![]⟩
abbrev S16384x4096 : Shape := ⟨2, ![16384, 4096]⟩
abbrev S4096x4x4096 : Shape := ⟨3, ![4096, 4, 4096]⟩
abbrev S4x4096x4096 : Shape := ⟨3, ![4, 4096, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .bf16⟩
  | .hbm, ⟨2, _⟩ => ⟨S_, .bf16⟩
  | .hbm, ⟨3, _⟩ => ⟨S4096x16384, .bf16⟩
  | .hbm, ⟨4, _⟩ => ⟨S4096x4096, .f32⟩
  | .hbm, ⟨5, _⟩ => ⟨S4096x16384, .f32⟩
  | .hbm, ⟨6, _⟩ => ⟨S4096x16384, .f32⟩
  | .hbm, ⟨7, _⟩ => ⟨S4096x16384, .f32⟩
  | .hbm, ⟨8, _⟩ => ⟨S16384x4096, .f32⟩
  | .hbm, ⟨9, _⟩ => ⟨S4096x16384, .f32⟩
  | .hbm, ⟨10, _⟩ => ⟨S4096x16384, .bf16⟩
  | .hbm, ⟨11, _⟩ => ⟨S4096x4x4096, .bf16⟩
  | .hbm, ⟨12, _⟩ => ⟨S4x4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel3.lean ====
abbrev S4096x4096 : Shape := ⟨2, ![4096, 4096]⟩
abbrev S16384x4096 : Shape := ⟨2, ![16384, 4096]⟩
abbrev S4096x16384 : Shape := ⟨2, ![4096, 16384]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S16384x4096, .bf16⟩
  | .hbm, ⟨2, _⟩ => ⟨S4096x16384, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x4096 : Shape := ⟨2, ![4096, 4096]⟩
abbrev S16384x4096 : Shape := ⟨2, ![16384, 4096]⟩
abbrev S_ : Shape := ⟨0, ![]⟩
abbrev S4096x16384 : Shape := ⟨2, ![4096, 16384]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S16384x4096, .bf16⟩
  | .hbm, ⟨2, _⟩ => ⟨S_, .f32⟩
  | .hbm, ⟨3, _⟩ => ⟨S4096x16384, .f32⟩
  | .hbm, ⟨4, _⟩ => ⟨S16384x4096, .f32⟩
  | .hbm, ⟨5, _⟩ => ⟨S4096x4096, .f32⟩
  | .hbm, ⟨6, _⟩ => ⟨S4096x4096, .f32⟩
  | .hbm, ⟨7, _⟩ => ⟨S4096x16384, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S4096x16384 : Shape := ⟨2, ![4096, 16384]⟩
abbrev S4096x4096 : Shape := ⟨2, ![4096, 4096]⟩
abbrev S1x4096x4096 : Shape := ⟨3, ![1, 4096, 4096]⟩
abbrev S4x4096x4096 : Shape := ⟨3, ![4, 4096, 4096]⟩
abbrev S1024x1024 : Shape := ⟨2, ![1024, 1024]⟩
abbrev S1x1024x1024 : Shape := ⟨3, ![1, 1024, 1024]⟩

abbrev nBuf : Space → Nat
  | .hbm => 13
  | .vmem => 9
  | .smem => 0
  | _ => 0

abbrev bufTy : (tb : Table) → Fin (tcTables nBuf tb) → BufTy
  | .hbm, ⟨0, _⟩ => ⟨S4096x16384, .bf16⟩
  | .hbm, ⟨1, _⟩ => ⟨S4096x16384, .bf16⟩
  | .hbm, ⟨2, _⟩ => ⟨S4096x4096, .f32⟩
  | .hbm, ⟨3, _⟩ => ⟨S4096x4096, .bf16⟩
  | .hbm, ⟨4, _⟩ => ⟨S4096x4096, .bf16⟩
  | .hbm, ⟨5, _⟩ => ⟨S4096x4096, .bf16⟩
  | .hbm, ⟨6, _⟩ => ⟨S4096x4096, .bf16⟩
  | .hbm, ⟨7, _⟩ => ⟨S1x4096x4096, .bf16⟩
  | .hbm, ⟨8, _⟩ => ⟨S1x4096x4096, .bf16⟩
  | .hbm, ⟨9, _⟩ => ⟨S1x4096x4096, .bf16⟩
  | .hbm, ⟨10, _⟩ => ⟨S1x4096x4096, .bf16⟩
  | .hbm, ⟨11, _⟩ => ⟨S4x4096x4096, .bf16⟩
  | .hbm, ⟨12, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S4096x16384 : Shape := ⟨2, ![4096, 16384]⟩
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x16384, .bf16⟩
  | .hbm, ⟨1, _⟩ => ⟨S4096x16384, .bf16⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x16384, .f32⟩
  | .hbm, ⟨6, _⟩ => ⟨S4096x16384, .f32⟩
  | .hbm, ⟨7, _⟩ => ⟨S4096x16384, .f32⟩
  | .hbm, ⟨8, _⟩ => ⟨S4096x4096, .f32⟩
  | .hbm, ⟨9, _⟩ => ⟨S4096x4096, .f32⟩
  | _, _ => ⟨S4096x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel5.lean ====
abbrev S4096x16384 : Shape := ⟨2, ![4096, 16384]⟩
abbrev S4096x4096 : Shape := ⟨2, ![4096, 4096]⟩
abbrev S16384x4096 : Shape := ⟨2, ![16384, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x16384, .bf16⟩
  | .hbm, ⟨1, _⟩ => ⟨S4096x4096, .bf16⟩
  | .hbm, ⟨2, _⟩ => ⟨S16384x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x16384 : Shape := ⟨2, ![4096, 16384]⟩
abbrev S4096x4096 : Shape := ⟨2, ![4096, 4096]⟩
abbrev S_ : Shape := ⟨0, ![]⟩
abbrev S16384x4096 : Shape := ⟨2, ![16384, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x16384, .bf16⟩
  | .hbm, ⟨1, _⟩ => ⟨S4096x4096, .bf16⟩
  | .hbm, ⟨2, _⟩ => ⟨S_, .bf16⟩
  | .hbm, ⟨3, _⟩ => ⟨S16384x4096, .bf16⟩
  | .hbm, ⟨4, _⟩ => ⟨S4096x16384, .f32⟩
  | .hbm, ⟨5, _⟩ => ⟨S16384x4096, .f32⟩
  | .hbm, ⟨6, _⟩ => ⟨S4096x4096, .f32⟩
  | .hbm, ⟨7, _⟩ => ⟨S4096x4096, .f32⟩
  | .hbm, ⟨8, _⟩ => ⟨S4096x16384, .f32⟩
  | .hbm, ⟨9, _⟩ => ⟨S16384x4096, .f32⟩
  | .hbm, ⟨10, _⟩ => ⟨S16384x4096, .bf16⟩
  | _, _ => ⟨S4096x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S4096x4096 : Shape := ⟨2, ![4096, 4096]⟩
abbrev S4096x16384 : Shape := ⟨2, ![4096, 16384]⟩
abbrev S1x4096x4096 : Shape := ⟨3, ![1, 4096, 4096]⟩
abbrev S4x4096x4096 : Shape := ⟨3, ![4, 4096, 4096]⟩
abbrev S1024x1024 : Shape := ⟨2, ![1024, 1024]⟩
abbrev S1x1024x1024 : Shape := ⟨3, ![1, 1024, 1024]⟩

abbrev nBuf : Space → Nat
  | .hbm => 12
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .bf16⟩
  | .hbm, ⟨2, _⟩ => ⟨S4096x4096, .bf16⟩
  | .hbm, ⟨3, _⟩ => ⟨S4096x4096, .bf16⟩
  | .hbm, ⟨4, _⟩ => ⟨S4096x4096, .bf16⟩
  | .hbm, ⟨5, _⟩ => ⟨S4096x4096, .bf16⟩
  | .hbm, ⟨6, _⟩ => ⟨S1x4096x4096, .bf16⟩
  | .hbm, ⟨7, _⟩ => ⟨S1x4096x4096, .bf16⟩
  | .hbm, ⟨8, _⟩ => ⟨S1x4096x4096, .bf16⟩
  | .hbm, ⟨9, _⟩ => ⟨S1x4096x4096, .bf16⟩
  | .hbm, ⟨10, _⟩ => ⟨S4x4096x4096, .bf16⟩
  | .hbm, ⟨11, _⟩ => ⟨S4096x16384, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x4096 : Shape := ⟨2, ![4096, 4096]⟩
abbrev S4096x16384 : Shape := ⟨2, ![4096, 16384]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .bf16⟩
  | .hbm, ⟨2, _⟩ => ⟨S4096x4096, .f32⟩
  | .hbm, ⟨3, _⟩ => ⟨S4096x16384, .f32⟩
  | .hbm, ⟨4, _⟩ => ⟨S4096x16384, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S4096x16384 : Shape := ⟨2, ![4096, 16384]⟩
abbrev S16384x4096 : Shape := ⟨2, ![16384, 4096]⟩
abbrev S4096x4096 : Shape := ⟨2, ![4096, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x16384, .bf16⟩
  | .hbm, ⟨1, _⟩ => ⟨S16384x4096, .bf16⟩
  | .hbm, ⟨2, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x16384 : Shape := ⟨2, ![4096, 16384]⟩
abbrev S16384x4096 : Shape := ⟨2, ![16384, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x16384, .bf16⟩
  | .hbm, ⟨1, _⟩ => ⟨S16384x4096, .bf16⟩
  | .hbm, ⟨2, _⟩ => ⟨S4096x16384, .f32⟩
  | .hbm, ⟨3, _⟩ => ⟨S16384x4096, .f32⟩
  | .hbm, ⟨4, _⟩ => ⟨S4096x4096, .f32⟩
  | _, _ => ⟨S4096x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S4096x4096 : Shape := ⟨2, ![4096, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x4096 : Shape := ⟨2, ![4096, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .bf16⟩
  | .hbm, ⟨3, _⟩ => ⟨S4096x4096, .bf16⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S4096x4096 : Shape := ⟨2, ![4096, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x4096 : Shape := ⟨2, ![4096, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S4096x4096 : Shape := ⟨2, ![4096, 4096]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel11.lean ====
abbrev S4096x4096 : Shape := ⟨2, ![4096, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S4096x4096 : Shape := ⟨2, ![4096, 4096]⟩
abbrev S4096x2048 : Shape := ⟨2, ![4096, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x4096 : Shape := ⟨2, ![4096, 4096]⟩
abbrev S4096x2048 : Shape := ⟨2, ![4096, 2048]⟩
abbrev S_ : Shape := ⟨0, ![]⟩
abbrev S2048x4096 : Shape := ⟨2, ![2048, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S_, .bf16⟩
  | .hbm, ⟨3, _⟩ => ⟨S4096x2048, .bf16⟩
  | .hbm, ⟨4, _⟩ => ⟨S4096x4096, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S2048x4096, .f32⟩
  | .hbm, ⟨9, _⟩ => ⟨S4096x2048, .f32⟩
  | .hbm, ⟨10, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel13.lean ====
abbrev S4096x2048 : Shape := ⟨2, ![4096, 2048]⟩
abbrev S4096x4096 : Shape := ⟨2, ![4096, 4096]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x4096, .f32⟩
  | .hbm, ⟨3, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S4096x2048 : Shape := ⟨2, ![4096, 2048]⟩
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x4096, .f32⟩
  | .hbm, ⟨9, _⟩ => ⟨S4096x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel14.lean ====
abbrev S4096x4096 : Shape := ⟨2, ![4096, 4096]⟩
abbrev S4096x2048 : Shape := ⟨2, ![4096, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x4096 : Shape := ⟨2, ![4096, 4096]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S4096x2048, .f32⟩
  | .hbm, ⟨4, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S4096x2048 : Shape := ⟨2, ![4096, 2048]⟩
abbrev S4096x4096 : Shape := ⟨2, ![4096, 4096]⟩
abbrev S4x2048x1024 : Shape := ⟨3, ![4, 2048, 1024]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S4x2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x2048 : Shape := ⟨2, ![4096, 2048]⟩
abbrev S4096x4096 : Shape := ⟨2, ![4096, 4096]⟩
abbrev S_ : Shape := ⟨0, ![]⟩
abbrev S2048x4096 : Shape := ⟨2, ![2048, 4096]⟩
abbrev S2048x4x1024 : Shape := ⟨3, ![2048, 4, 1024]⟩
abbrev S4x2048x1024 : Shape := ⟨3, ![4, 2048, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S_, .bf16⟩
  | .hbm, ⟨3, _⟩ => ⟨S2048x4096, .bf16⟩
  | .hbm, ⟨4, _⟩ => ⟨S4096x2048, .f32⟩
  | .hbm, ⟨5, _⟩ => ⟨S2048x4096, .f32⟩
  | .hbm, ⟨6, _⟩ => ⟨S4096x4096, .f32⟩
  | .hbm, ⟨7, _⟩ => ⟨S4096x4096, .f32⟩
  | .hbm, ⟨8, _⟩ => ⟨S4096x2048, .f32⟩
  | .hbm, ⟨9, _⟩ => ⟨S2048x4096, .f32⟩
  | .hbm, ⟨10, _⟩ => ⟨S2048x4096, .bf16⟩
  | .hbm, ⟨11, _⟩ => ⟨S2048x4x1024, .bf16⟩
  | .hbm, ⟨12, _⟩ => ⟨S4x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel16.lean ====
abbrev S4096x4096 : Shape := ⟨2, ![4096, 4096]⟩
abbrev S2048x4096 : Shape := ⟨2, ![2048, 4096]⟩
abbrev S2048x1024 : Shape := ⟨2, ![2048, 1024]⟩
abbrev S1x2048x1024 : Shape := ⟨3, ![1, 2048, 1024]⟩
abbrev S4x2048x1024 : Shape := ⟨3, ![4, 2048, 1024]⟩
abbrev S4096x2048 : Shape := ⟨2, ![4096, 2048]⟩
abbrev S1024x1024 : Shape := ⟨2, ![1024, 1024]⟩
abbrev S1x1024x1024 : Shape := ⟨3, ![1, 1024, 1024]⟩

abbrev nBuf : Space → Nat
  | .hbm => 12
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S2048x4096, .bf16⟩
  | .hbm, ⟨2, _⟩ => ⟨S2048x1024, .bf16⟩
  | .hbm, ⟨3, _⟩ => ⟨S2048x1024, .bf16⟩
  | .hbm, ⟨4, _⟩ => ⟨S2048x1024, .bf16⟩
  | .hbm, ⟨5, _⟩ => ⟨S2048x1024, .bf16⟩
  | .hbm, ⟨6, _⟩ => ⟨S1x2048x1024, .bf16⟩
  | .hbm, ⟨7, _⟩ => ⟨S1x2048x1024, .bf16⟩
  | .hbm, ⟨8, _⟩ => ⟨S1x2048x1024, .bf16⟩
  | .hbm, ⟨9, _⟩ => ⟨S1x2048x1024, .bf16⟩
  | .hbm, ⟨10, _⟩ => ⟨S4x2048x1024, .bf16⟩
  | .hbm, ⟨11, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x4096 : Shape := ⟨2, ![4096, 4096]⟩
abbrev S2048x4096 : Shape := ⟨2, ![2048, 4096]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S2048x4096, .bf16⟩
  | .hbm, ⟨2, _⟩ => ⟨S_, .f32⟩
  | .hbm, ⟨3, _⟩ => ⟨S4096x2048, .f32⟩
  | .hbm, ⟨4, _⟩ => ⟨S2048x4096, .f32⟩
  | .hbm, ⟨5, _⟩ => ⟨S4096x4096, .f32⟩
  | .hbm, ⟨6, _⟩ => ⟨S4096x4096, .f32⟩
  | .hbm, ⟨7, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel17.lean ====
abbrev S4096x2048 : Shape := ⟨2, ![4096, 2048]⟩
abbrev S2048x4096 : Shape := ⟨2, ![2048, 4096]⟩
abbrev S2048x1024 : Shape := ⟨2, ![2048, 1024]⟩
abbrev S1x2048x1024 : Shape := ⟨3, ![1, 2048, 1024]⟩
abbrev S4x2048x1024 : Shape := ⟨3, ![4, 2048, 1024]⟩
abbrev S4096x4096 : Shape := ⟨2, ![4096, 4096]⟩
abbrev S1024x1024 : Shape := ⟨2, ![1024, 1024]⟩
abbrev S1x1024x1024 : Shape := ⟨3, ![1, 1024, 1024]⟩

abbrev nBuf : Space → Nat
  | .hbm => 12
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S2048x1024, .bf16⟩
  | .hbm, ⟨3, _⟩ => ⟨S2048x1024, .bf16⟩
  | .hbm, ⟨4, _⟩ => ⟨S2048x1024, .bf16⟩
  | .hbm, ⟨5, _⟩ => ⟨S2048x1024, .bf16⟩
  | .hbm, ⟨6, _⟩ => ⟨S1x2048x1024, .bf16⟩
  | .hbm, ⟨7, _⟩ => ⟨S1x2048x1024, .bf16⟩
  | .hbm, ⟨8, _⟩ => ⟨S1x2048x1024, .bf16⟩
  | .hbm, ⟨9, _⟩ => ⟨S1x2048x1024, .bf16⟩
  | .hbm, ⟨10, _⟩ => ⟨S4x2048x1024, .bf16⟩
  | .hbm, ⟨11, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x2048 : Shape := ⟨2, ![4096, 2048]⟩
abbrev S2048x4096 : Shape := ⟨2, ![2048, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S4096x2048, .f32⟩
  | .hbm, ⟨3, _⟩ => ⟨S2048x4096, .f32⟩
  | .hbm, ⟨4, _⟩ => ⟨S4096x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel18.lean ====
abbrev S4096x4720 : Shape := ⟨2, ![4096, 4720]⟩
abbrev S32x4720 : Shape := ⟨2, ![32, 4720]⟩

abbrev nBuf : Space → Nat
  | .hbm => 7
  | .vmem => 14
  | .smem => 0
  | _ => 0

abbrev bufTy : (tb : Table) → Fin (tcTables nBuf tb) → BufTy
  | .hbm, ⟨0, _⟩ => ⟨S4096x4720, .f32⟩
  | .hbm, ⟨1, _⟩ => ⟨S4096x4720, .f32⟩
  | .hbm, ⟨2, _⟩ => ⟨S4096x4720, .f32⟩
  | .hbm, ⟨3, _⟩ => ⟨S4096x4720, .f32⟩
  | .hbm, ⟨4, _⟩ => ⟨S4096x4720, .f32⟩
  | .hbm, ⟨5, _⟩ => ⟨S4096x4720, .f32⟩
  | .hbm, ⟨6, _⟩ => ⟨S4096x4720, .f32⟩
  | .local _ .vmem, ⟨0, _⟩ => ⟨S32x4720, .f32⟩
  | .local _ .vmem, ⟨1, _⟩ => ⟨S32x4720, .f32⟩
  | .local _ .vmem, ⟨2, _⟩ => ⟨S32x4720, .f32⟩
  | .local _ .vmem, ⟨3, _⟩ => ⟨S32x4720, .f32⟩
  | .local _ .vmem, ⟨4, _⟩ => ⟨S32x4720, .f32⟩
  | .local _ .vmem, ⟨5, _⟩ => ⟨S32x4720, .f32⟩
  | .local _ .vmem, ⟨6, _⟩ => ⟨S32x4720, .f32⟩
  | .local _ .vmem, ⟨7, _⟩ => ⟨S32x4720, .f32⟩
  | .local _ .vmem, ⟨8, _⟩ => ⟨S32x4720, .f32⟩
  | .local _ .vmem, ⟨9, _⟩ => ⟨S32x4720, .f32⟩
  | .local _ .vmem, ⟨10, _⟩ => ⟨S32x4720, .f32⟩
  | .local _ .vmem, ⟨11, _⟩ => ⟨S32x4720, .f32⟩
  | .local _ .vmem, ⟨12, _⟩ => ⟨S32x4720, .f32⟩
  | .local _ .vmem, ⟨13, _⟩ => ⟨S32x4720, .f32⟩
  | _, _ => ⟨S4096x4720, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x4720 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x4720 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x4720 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x4720 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x4720 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x4720 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x4720 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference18Ideal.lean ====
abbrev S4096x4720 : Shape := ⟨2, ![4096, 4720]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x4720, .f32⟩
  | .hbm, ⟨1, _⟩ => ⟨S4096x4720, .f32⟩
  | .hbm, ⟨2, _⟩ => ⟨S4096x4720, .f32⟩
  | .hbm, ⟨3, _⟩ => ⟨S4096x4720, .f32⟩
  | .hbm, ⟨4, _⟩ => ⟨S_, .f32⟩
  | .hbm, ⟨5, _⟩ => ⟨S4096x4720, .f32⟩
  | .hbm, ⟨6, _⟩ => ⟨S4096x4720, .f32⟩
  | .hbm, ⟨7, _⟩ => ⟨S_, .f32⟩
  | .hbm, ⟨8, _⟩ => ⟨S4096x4720, .f32⟩
  | .hbm, ⟨9, _⟩ => ⟨S4096x4720, .f32⟩
  | .hbm, ⟨10, _⟩ => ⟨S4096x4720, .f32⟩
  | .hbm, ⟨11, _⟩ => ⟨S_, .f32⟩
  | .hbm, ⟨12, _⟩ => ⟨S4096x4720, .f32⟩
  | .hbm, ⟨13, _⟩ => ⟨S4096x4720, .f32⟩
  | .hbm, ⟨14, _⟩ => ⟨S4096x4720, .f32⟩
  | .hbm, ⟨15, _⟩ => ⟨S_, .f32⟩
  | .hbm, ⟨16, _⟩ => ⟨S4096x4720, .f32⟩
  | .hbm, ⟨17, _⟩ => ⟨S4096x4720, .f32⟩
  | .hbm, ⟨18, _⟩ => ⟨S4096x4720, .f32⟩
  | .hbm, ⟨19, _⟩ => ⟨S_, .f32⟩
  | .hbm, ⟨20, _⟩ => ⟨S4096x4720, .f32⟩
  | .hbm, ⟨21, _⟩ => ⟨S4096x4720, .f32⟩
  | .hbm, ⟨22, _⟩ => ⟨S_, .f32⟩
  | .hbm, ⟨23, _⟩ => ⟨S4096x4720, .f32⟩
  | .hbm, ⟨24, _⟩ => ⟨S4096x4720, .f32⟩
  | .hbm, ⟨25, _⟩ => ⟨S4096x4720, .f32⟩
  | .hbm, ⟨26, _⟩ => ⟨S_, .f32⟩
  | .hbm, ⟨27, _⟩ => ⟨S4096x4720, .f32⟩
  | .hbm, ⟨28, _⟩ => ⟨S4096x4720, .f32⟩
  | .hbm, ⟨29, _⟩ => ⟨S4096x4720, .f32⟩
  | .hbm, ⟨30, _⟩ => ⟨S_, .f32⟩
  | .hbm, ⟨31, _⟩ => ⟨S4096x4720, .f32⟩
  | .hbm, ⟨32, _⟩ => ⟨S4096x4720, .f32⟩
  | .hbm, ⟨33, _⟩ => ⟨S4096x4720, .f32⟩
  | .hbm, ⟨34, _⟩ => ⟨S_, .f32⟩
  | .hbm, ⟨35, _⟩ => ⟨S4096x4720, .f32⟩
  | .hbm, ⟨36, _⟩ => ⟨S4096x4720, .f32⟩
  | _, _ => ⟨S4096x4720, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S96x512 : Shape := ⟨2, ![96, 512]⟩

abbrev nBuf : Space → Nat
  | .hbm => 7
  | .vmem => 7
  | .smem => 0
  | _ => 0

abbrev bufTy : (tb : Table) → Fin (tcTables nBuf tb) → BufTy
  | .hbm, ⟨0, _⟩ => ⟨S96x512, .f32⟩
  | .hbm, ⟨1, _⟩ => ⟨S96x512, .f32⟩
  | .hbm, ⟨2, _⟩ => ⟨S96x512, .f32⟩
  | .hbm, ⟨3, _⟩ => ⟨S96x512, .f32⟩
  | .hbm, ⟨4, _⟩ => ⟨S96x512, .f32⟩
  | .hbm, ⟨5, _⟩ => ⟨S96x512, .f32⟩
  | .hbm, ⟨6, _⟩ => ⟨S96x512, .f32⟩
  | .local _ .vmem, ⟨0, _⟩ => ⟨S96x512, .f32⟩
  | .local _ .vmem, ⟨1, _⟩ => ⟨S96x512, .f32⟩
  | .local _ .vmem, ⟨2, _⟩ => ⟨S96x512, .f32⟩
  | .local _ .vmem, ⟨3, _⟩ => ⟨S96x512, .f32⟩
  | .local _ .vmem, ⟨4, _⟩ => ⟨S96x512, .f32⟩
  | .local _ .vmem, ⟨5, _⟩ => ⟨S96x512, .f32⟩
  | .local _ .vmem, ⟨6, _⟩ => ⟨S96x512, .f32⟩
  | _, _ => ⟨S96x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S96x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S96x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S96x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S96x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S96x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S96x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S96x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference19Ideal.lean ====
abbrev S96x512 : Shape := ⟨2, ![96, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S96x512, .f32⟩
  | .hbm, ⟨1, _⟩ => ⟨S96x512, .f32⟩
  | .hbm, ⟨2, _⟩ => ⟨S96x512, .f32⟩
  | .hbm, ⟨3, _⟩ => ⟨S96x512, .f32⟩
  | .hbm, ⟨4, _⟩ => ⟨S_, .f32⟩
  | .hbm, ⟨5, _⟩ => ⟨S96x512, .f32⟩
  | .hbm, ⟨6, _⟩ => ⟨S96x512, .f32⟩
  | .hbm, ⟨7, _⟩ => ⟨S_, .f32⟩
  | .hbm, ⟨8, _⟩ => ⟨S96x512, .f32⟩
  | .hbm, ⟨9, _⟩ => ⟨S96x512, .f32⟩
  | .hbm, ⟨10, _⟩ => ⟨S96x512, .f32⟩
  | .hbm, ⟨11, _⟩ => ⟨S_, .f32⟩
  | .hbm, ⟨12, _⟩ => ⟨S96x512, .f32⟩
  | .hbm, ⟨13, _⟩ => ⟨S96x512, .f32⟩
  | .hbm, ⟨14, _⟩ => ⟨S96x512, .f32⟩
  | .hbm, ⟨15, _⟩ => ⟨S_, .f32⟩
  | .hbm, ⟨16, _⟩ => ⟨S96x512, .f32⟩
  | .hbm, ⟨17, _⟩ => ⟨S96x512, .f32⟩
  | .hbm, ⟨18, _⟩ => ⟨S96x512, .f32⟩
  | .hbm, ⟨19, _⟩ => ⟨S_, .f32⟩
  | .hbm, ⟨20, _⟩ => ⟨S96x512, .f32⟩
  | .hbm, ⟨21, _⟩ => ⟨S96x512, .f32⟩
  | .hbm, ⟨22, _⟩ => ⟨S_, .f32⟩
  | .hbm, ⟨23, _⟩ => ⟨S96x512, .f32⟩
  | .hbm, ⟨24, _⟩ => ⟨S96x512, .f32⟩
  | .hbm, ⟨25, _⟩ => ⟨S96x512, .f32⟩
  | .hbm, ⟨26, _⟩ => ⟨S_, .f32⟩
  | .hbm, ⟨27, _⟩ => ⟨S96x512, .f32⟩
  | .hbm, ⟨28, _⟩ => ⟨S96x512, .f32⟩
  | .hbm, ⟨29, _⟩ => ⟨S96x512, .f32⟩
  | .hbm, ⟨30, _⟩ => ⟨S_, .f32⟩
  | .hbm, ⟨31, _⟩ => ⟨S96x512, .f32⟩
  | .hbm, ⟨32, _⟩ => ⟨S96x512, .f32⟩
  | .hbm, ⟨33, _⟩ => ⟨S96x512, .f32⟩
  | .hbm, ⟨34, _⟩ => ⟨S_, .f32⟩
  | .hbm, ⟨35, _⟩ => ⟨S96x512, .f32⟩
  | .hbm, ⟨36, _⟩ => ⟨S96x512, .f32⟩
  | _, _ => ⟨S96x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S256x512 : Shape := ⟨2, ![256, 512]⟩

abbrev nBuf : Space → Nat
  | .hbm => 7
  | .vmem => 7
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference20Ideal.lean ====
abbrev S256x512 : Shape := ⟨2, ![256, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S_, .f32⟩
  | .hbm, ⟨5, _⟩ => ⟨S256x512, .f32⟩
  | .hbm, ⟨6, _⟩ => ⟨S256x512, .f32⟩
  | .hbm, ⟨7, _⟩ => ⟨S_, .f32⟩
  | .hbm, ⟨8, _⟩ => ⟨S256x512, .f32⟩
  | .hbm, ⟨9, _⟩ => ⟨S256x512, .f32⟩
  | .hbm, ⟨10, _⟩ => ⟨S256x512, .f32⟩
  | .hbm, ⟨11, _⟩ => ⟨S_, .f32⟩
  | .hbm, ⟨12, _⟩ => ⟨S256x512, .f32⟩
  | .hbm, ⟨13, _⟩ => ⟨S256x512, .f32⟩
  | .hbm, ⟨14, _⟩ => ⟨S256x512, .f32⟩
  | .hbm, ⟨15, _⟩ => ⟨S_, .f32⟩
  | .hbm, ⟨16, _⟩ => ⟨S256x512, .f32⟩
  | .hbm, ⟨17, _⟩ => ⟨S256x512, .f32⟩
  | .hbm, ⟨18, _⟩ => ⟨S256x512, .f32⟩
  | .hbm, ⟨19, _⟩ => ⟨S_, .f32⟩
  | .hbm, ⟨20, _⟩ => ⟨S256x512, .f32⟩
  | .hbm, ⟨21, _⟩ => ⟨S256x512, .f32⟩
  | .hbm, ⟨22, _⟩ => ⟨S_, .f32⟩
  | .hbm, ⟨23, _⟩ => ⟨S256x512, .f32⟩
  | .hbm, ⟨24, _⟩ => ⟨S256x512, .f32⟩
  | .hbm, ⟨25, _⟩ => ⟨S256x512, .f32⟩
  | .hbm, ⟨26, _⟩ => ⟨S_, .f32⟩
  | .hbm, ⟨27, _⟩ => ⟨S256x512, .f32⟩
  | .hbm, ⟨28, _⟩ => ⟨S256x512, .f32⟩
  | .hbm, ⟨29, _⟩ => ⟨S256x512, .f32⟩
  | .hbm, ⟨30, _⟩ => ⟨S_, .f32⟩
  | .hbm, ⟨31, _⟩ => ⟨S256x512, .f32⟩
  | .hbm, ⟨32, _⟩ => ⟨S256x512, .f32⟩
  | .hbm, ⟨33, _⟩ => ⟨S256x512, .f32⟩
  | .hbm, ⟨34, _⟩ => ⟨S_, .f32⟩
  | .hbm, ⟨35, _⟩ => ⟨S256x512, .f32⟩
  | .hbm, ⟨36, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S31x512 : Shape := ⟨2, ![31, 512]⟩

abbrev nBuf : Space → Nat
  | .hbm => 7
  | .vmem => 7
  | .smem => 0
  | _ => 0

abbrev bufTy : (tb : Table) → Fin (tcTables nBuf tb) → BufTy
  | .hbm, ⟨0, _⟩ => ⟨S31x512, .f32⟩
  | .hbm, ⟨1, _⟩ => ⟨S31x512, .f32⟩
  | .hbm, ⟨2, _⟩ => ⟨S31x512, .f32⟩
  | .hbm, ⟨3, _⟩ => ⟨S31x512, .f32⟩
  | .hbm, ⟨4, _⟩ => ⟨S31x512, .f32⟩
  | .hbm, ⟨5, _⟩ => ⟨S31x512, .f32⟩
  | .hbm, ⟨6, _⟩ => ⟨S31x512, .f32⟩
  | .local _ .vmem, ⟨0, _⟩ => ⟨S31x512, .f32⟩
  | .local _ .vmem, ⟨1, _⟩ => ⟨S31x512, .f32⟩
  | .local _ .vmem, ⟨2, _⟩ => ⟨S31x512, .f32⟩
  | .local _ .vmem, ⟨3, _⟩ => ⟨S31x512, .f32⟩
  | .local _ .vmem, ⟨4, _⟩ => ⟨S31x512, .f32⟩
  | .local _ .vmem, ⟨5, _⟩ => ⟨S31x512, .f32⟩
  | .local _ .vmem, ⟨6, _⟩ => ⟨S31x512, .f32⟩
  | _, _ => ⟨S31x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S31x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S31x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S31x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S31x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S31x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S31x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S31x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference21Ideal.lean ====
abbrev S31x512 : Shape := ⟨2, ![31, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S31x512, .f32⟩
  | .hbm, ⟨1, _⟩ => ⟨S31x512, .f32⟩
  | .hbm, ⟨2, _⟩ => ⟨S31x512, .f32⟩
  | .hbm, ⟨3, _⟩ => ⟨S31x512, .f32⟩
  | .hbm, ⟨4, _⟩ => ⟨S_, .f32⟩
  | .hbm, ⟨5, _⟩ => ⟨S31x512, .f32⟩
  | .hbm, ⟨6, _⟩ => ⟨S31x512, .f32⟩
  | .hbm, ⟨7, _⟩ => ⟨S_, .f32⟩
  | .hbm, ⟨8, _⟩ => ⟨S31x512, .f32⟩
  | .hbm, ⟨9, _⟩ => ⟨S31x512, .f32⟩
  | .hbm, ⟨10, _⟩ => ⟨S31x512, .f32⟩
  | .hbm, ⟨11, _⟩ => ⟨S_, .f32⟩
  | .hbm, ⟨12, _⟩ => ⟨S31x512, .f32⟩
  | .hbm, ⟨13, _⟩ => ⟨S31x512, .f32⟩
  | .hbm, ⟨14, _⟩ => ⟨S31x512, .f32⟩
  | .hbm, ⟨15, _⟩ => ⟨S_, .f32⟩
  | .hbm, ⟨16, _⟩ => ⟨S31x512, .f32⟩
  | .hbm, ⟨17, _⟩ => ⟨S31x512, .f32⟩
  | .hbm, ⟨18, _⟩ => ⟨S31x512, .f32⟩
  | .hbm, ⟨19, _⟩ => ⟨S_, .f32⟩
  | .hbm, ⟨20, _⟩ => ⟨S31x512, .f32⟩
  | .hbm, ⟨21, _⟩ => ⟨S31x512, .f32⟩
  | .hbm, ⟨22, _⟩ => ⟨S_, .f32⟩
  | .hbm, ⟨23, _⟩ => ⟨S31x512, .f32⟩
  | .hbm, ⟨24, _⟩ => ⟨S31x512, .f32⟩
  | .hbm, ⟨25, _⟩ => ⟨S31x512, .f32⟩
  | .hbm, ⟨26, _⟩ => ⟨S_, .f32⟩
  | .hbm, ⟨27, _⟩ => ⟨S31x512, .f32⟩
  | .hbm, ⟨28, _⟩ => ⟨S31x512, .f32⟩
  | .hbm, ⟨29, _⟩ => ⟨S31x512, .f32⟩
  | .hbm, ⟨30, _⟩ => ⟨S_, .f32⟩
  | .hbm, ⟨31, _⟩ => ⟨S31x512, .f32⟩
  | .hbm, ⟨32, _⟩ => ⟨S31x512, .f32⟩
  | .hbm, ⟨33, _⟩ => ⟨S31x512, .f32⟩
  | .hbm, ⟨34, _⟩ => ⟨S_, .f32⟩
  | .hbm, ⟨35, _⟩ => ⟨S31x512, .f32⟩
  | .hbm, ⟨36, _⟩ => ⟨S31x512, .f32⟩
  | _, _ => ⟨S31x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S2048x1024 : Shape := ⟨2, ![2048, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference22Ideal.lean ====
abbrev S2048x1024 : Shape := ⟨2, ![2048, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S1024x4096 : Shape := ⟨2, ![1024, 4096]⟩
abbrev S64x4096 : Shape := ⟨2, ![64, 4096]⟩

abbrev nBuf : Space → Nat
  | .hbm => 7
  | .vmem => 14
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x4096, .f32⟩
  | .hbm, ⟨3, _⟩ => ⟨S1024x4096, .f32⟩
  | .hbm, ⟨4, _⟩ => ⟨S1024x4096, .f32⟩
  | .hbm, ⟨5, _⟩ => ⟨S1024x4096, .f32⟩
  | .hbm, ⟨6, _⟩ => ⟨S1024x4096, .f32⟩
  | .local _ .vmem, ⟨0, _⟩ => ⟨S64x4096, .f32⟩
  | .local _ .vmem, ⟨1, _⟩ => ⟨S64x4096, .f32⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | .local _ .vmem, ⟨8, _⟩ => ⟨S64x4096, .f32⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference23Ideal.lean ====
abbrev S1024x4096 : Shape := ⟨2, ![1024, 4096]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x4096, .f32⟩
  | .hbm, ⟨3, _⟩ => ⟨S1024x4096, .f32⟩
  | .hbm, ⟨4, _⟩ => ⟨S_, .f32⟩
  | .hbm, ⟨5, _⟩ => ⟨S1024x4096, .f32⟩
  | .hbm, ⟨6, _⟩ => ⟨S1024x4096, .f32⟩
  | .hbm, ⟨7, _⟩ => ⟨S_, .f32⟩
  | .hbm, ⟨8, _⟩ => ⟨S1024x4096, .f32⟩
  | .hbm, ⟨9, _⟩ => ⟨S1024x4096, .f32⟩
  | .hbm, ⟨10, _⟩ => ⟨S1024x4096, .f32⟩
  | .hbm, ⟨11, _⟩ => ⟨S_, .f32⟩
  | .hbm, ⟨12, _⟩ => ⟨S1024x4096, .f32⟩
  | .hbm, ⟨13, _⟩ => ⟨S1024x4096, .f32⟩
  | .hbm, ⟨14, _⟩ => ⟨S1024x4096, .f32⟩
  | .hbm, ⟨15, _⟩ => ⟨S_, .f32⟩
  | .hbm, ⟨16, _⟩ => ⟨S1024x4096, .f32⟩
  | .hbm, ⟨17, _⟩ => ⟨S1024x4096, .f32⟩
  | .hbm, ⟨18, _⟩ => ⟨S1024x4096, .f32⟩
  | .hbm, ⟨19, _⟩ => ⟨S_, .f32⟩
  | .hbm, ⟨20, _⟩ => ⟨S1024x4096, .f32⟩
  | .hbm, ⟨21, _⟩ => ⟨S1024x4096, .f32⟩
  | .hbm, ⟨22, _⟩ => ⟨S_, .f32⟩
  | .hbm, ⟨23, _⟩ => ⟨S1024x4096, .f32⟩
  | .hbm, ⟨24, _⟩ => ⟨S1024x4096, .f32⟩
  | .hbm, ⟨25, _⟩ => ⟨S1024x4096, .f32⟩
  | .hbm, ⟨26, _⟩ => ⟨S_, .f32⟩
  | .hbm, ⟨27, _⟩ => ⟨S1024x4096, .f32⟩
  | .hbm, ⟨28, _⟩ => ⟨S1024x4096, .f32⟩
  | .hbm, ⟨29, _⟩ => ⟨S1024x4096, .f32⟩
  | .hbm, ⟨30, _⟩ => ⟨S_, .f32⟩
  | .hbm, ⟨31, _⟩ => ⟨S1024x4096, .f32⟩
  | .hbm, ⟨32, _⟩ => ⟨S1024x4096, .f32⟩
  | .hbm, ⟨33, _⟩ => ⟨S1024x4096, .f32⟩
  | .hbm, ⟨34, _⟩ => ⟨S_, .f32⟩
  | .hbm, ⟨35, _⟩ => ⟨S1024x4096, .f32⟩
  | .hbm, ⟨36, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S4096x4096 : Shape := ⟨2, ![4096, 4096]⟩
abbrev S64x4096 : Shape := ⟨2, ![64, 4096]⟩

abbrev nBuf : Space → Nat
  | .hbm => 7
  | .vmem => 14
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .local _ .vmem, ⟨0, _⟩ => ⟨S64x4096, .f32⟩
  | .local _ .vmem, ⟨1, _⟩ => ⟨S64x4096, .f32⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | .local _ .vmem, ⟨8, _⟩ => ⟨S64x4096, .f32⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference24Ideal.lean ====
abbrev S4096x4096 : Shape := ⟨2, ![4096, 4096]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096x4096, .f32⟩
  | .hbm, ⟨36, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S472x128 : Shape := ⟨2, ![472, 128]⟩

abbrev nBuf : Space → Nat
  | .hbm => 7
  | .vmem => 7
  | .smem => 0
  | _ => 0

abbrev bufTy : (tb : Table) → Fin (tcTables nBuf tb) → BufTy
  | .hbm, ⟨0, _⟩ => ⟨S472x128, .f32⟩
  | .hbm, ⟨1, _⟩ => ⟨S472x128, .f32⟩
  | .hbm, ⟨2, _⟩ => ⟨S472x128, .f32⟩
  | .hbm, ⟨3, _⟩ => ⟨S472x128, .f32⟩
  | .hbm, ⟨4, _⟩ => ⟨S472x128, .f32⟩
  | .hbm, ⟨5, _⟩ => ⟨S472x128, .f32⟩
  | .hbm, ⟨6, _⟩ => ⟨S472x128, .f32⟩
  | .local _ .vmem, ⟨0, _⟩ => ⟨S472x128, .f32⟩
  | .local _ .vmem, ⟨1, _⟩ => ⟨S472x128, .f32⟩
  | .local _ .vmem, ⟨2, _⟩ => ⟨S472x128, .f32⟩
  | .local _ .vmem, ⟨3, _⟩ => ⟨S472x128, .f32⟩
  | .local _ .vmem, ⟨4, _⟩ => ⟨S472x128, .f32⟩
  | .local _ .vmem, ⟨5, _⟩ => ⟨S472x128, .f32⟩
  | .local _ .vmem, ⟨6, _⟩ => ⟨S472x128, .f32⟩
  | _, _ => ⟨S472x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S472x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S472x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S472x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S472x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S472x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S472x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S472x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference25Ideal.lean ====
abbrev S472x128 : Shape := ⟨2, ![472, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S472x128, .f32⟩
  | .hbm, ⟨1, _⟩ => ⟨S472x128, .f32⟩
  | .hbm, ⟨2, _⟩ => ⟨S472x128, .f32⟩
  | .hbm, ⟨3, _⟩ => ⟨S472x128, .f32⟩
  | .hbm, ⟨4, _⟩ => ⟨S_, .f32⟩
  | .hbm, ⟨5, _⟩ => ⟨S472x128, .f32⟩
  | .hbm, ⟨6, _⟩ => ⟨S472x128, .f32⟩
  | .hbm, ⟨7, _⟩ => ⟨S_, .f32⟩
  | .hbm, ⟨8, _⟩ => ⟨S472x128, .f32⟩
  | .hbm, ⟨9, _⟩ => ⟨S472x128, .f32⟩
  | .hbm, ⟨10, _⟩ => ⟨S472x128, .f32⟩
  | .hbm, ⟨11, _⟩ => ⟨S_, .f32⟩
  | .hbm, ⟨12, _⟩ => ⟨S472x128, .f32⟩
  | .hbm, ⟨13, _⟩ => ⟨S472x128, .f32⟩
  | .hbm, ⟨14, _⟩ => ⟨S472x128, .f32⟩
  | .hbm, ⟨15, _⟩ => ⟨S_, .f32⟩
  | .hbm, ⟨16, _⟩ => ⟨S472x128, .f32⟩
  | .hbm, ⟨17, _⟩ => ⟨S472x128, .f32⟩
  | .hbm, ⟨18, _⟩ => ⟨S472x128, .f32⟩
  | .hbm, ⟨19, _⟩ => ⟨S_, .f32⟩
  | .hbm, ⟨20, _⟩ => ⟨S472x128, .f32⟩
  | .hbm, ⟨21, _⟩ => ⟨S472x128, .f32⟩
  | .hbm, ⟨22, _⟩ => ⟨S_, .f32⟩
  | .hbm, ⟨23, _⟩ => ⟨S472x128, .f32⟩
  | .hbm, ⟨24, _⟩ => ⟨S472x128, .f32⟩
  | .hbm, ⟨25, _⟩ => ⟨S472x128, .f32⟩
  | .hbm, ⟨26, _⟩ => ⟨S_, .f32⟩
  | .hbm, ⟨27, _⟩ => ⟨S472x128, .f32⟩
  | .hbm, ⟨28, _⟩ => ⟨S472x128, .f32⟩
  | .hbm, ⟨29, _⟩ => ⟨S472x128, .f32⟩
  | .hbm, ⟨30, _⟩ => ⟨S_, .f32⟩
  | .hbm, ⟨31, _⟩ => ⟨S472x128, .f32⟩
  | .hbm, ⟨32, _⟩ => ⟨S472x128, .f32⟩
  | .hbm, ⟨33, _⟩ => ⟨S472x128, .f32⟩
  | .hbm, ⟨34, _⟩ => ⟨S_, .f32⟩
  | .hbm, ⟨35, _⟩ => ⟨S472x128, .f32⟩
  | .hbm, ⟨36, _⟩ => ⟨S472x128, .f32⟩
  | _, _ => ⟨S472x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S4096x16384 : Shape := ⟨2, ![4096, 16384]⟩
abbrev S64x16384 : Shape := ⟨2, ![64, 16384]⟩

abbrev nBuf : Space → Nat
  | .hbm => 3
  | .vmem => 6
  | .smem => 0
  | _ => 0

abbrev bufTy : (tb : Table) → Fin (tcTables nBuf tb) → BufTy
  | .hbm, ⟨0, _⟩ => ⟨S4096x16384, .f32⟩
  | .hbm, ⟨1, _⟩ => ⟨S4096x16384, .f32⟩
  | .hbm, ⟨2, _⟩ => ⟨S4096x16384, .bf16⟩
  | .local _ .vmem, ⟨0, _⟩ => ⟨S64x16384, .f32⟩
  | .local _ .vmem, ⟨1, _⟩ => ⟨S64x16384, .f32⟩
  | .local _ .vmem, ⟨2, _⟩ => ⟨S64x16384, .f32⟩
  | .local _ .vmem, ⟨3, _⟩ => ⟨S64x16384, .f32⟩
  | .local _ .vmem, ⟨4, _⟩ => ⟨S64x16384, .bf16⟩
  | .local _ .vmem, ⟨5, _⟩ => ⟨S64x16384, .bf16⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference26Ideal.lean ====
abbrev S4096x16384 : Shape := ⟨2, ![4096, 16384]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S4096x16384, .f32⟩
  | .hbm, ⟨2, _⟩ => ⟨S_, .f32⟩
  | .hbm, ⟨3, _⟩ => ⟨S4096x16384, .f32⟩
  | .hbm, ⟨4, _⟩ => ⟨S4096x16384, .f32⟩
  | .hbm, ⟨5, _⟩ => ⟨S_, .f32⟩
  | .hbm, ⟨6, _⟩ => ⟨S4096x16384, .f32⟩
  | .hbm, ⟨7, _⟩ => ⟨S4096x16384, .i1⟩
  | .hbm, ⟨8, _⟩ => ⟨S_, .f32⟩
  | .hbm, ⟨9, _⟩ => ⟨S4096x16384, .f32⟩
  | .hbm, ⟨10, _⟩ => ⟨S4096x16384, .f32⟩
  | .hbm, ⟨11, _⟩ => ⟨S_, .f32⟩
  | .hbm, ⟨12, _⟩ => ⟨S4096x16384, .f32⟩
  | .hbm, ⟨13, _⟩ => ⟨S4096x16384, .f32⟩
  | .hbm, ⟨14, _⟩ => ⟨S4096x16384, .f32⟩
  | .hbm, ⟨15, _⟩ => ⟨S_, .f32⟩
  | .hbm, ⟨16, _⟩ => ⟨S4096x16384, .f32⟩
  | .hbm, ⟨17, _⟩ => ⟨S4096x16384, .f32⟩
  | .hbm, ⟨18, _⟩ => ⟨S4096x16384, .bf16⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== Kernel27.lean ====
abbrev S4096x2048 : Shape := ⟨2, ![4096, 2048]⟩
abbrev S128x2048 : Shape := ⟨2, ![128, 2048]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .bf16⟩
  | .hbm, ⟨4, _⟩ => ⟨S4096x2048, .bf16⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .bf16⟩
  | .local _ .vmem, ⟨7, _⟩ => ⟨S128x2048, .bf16⟩
  | .local _ .vmem, ⟨8, _⟩ => ⟨S128x2048, .bf16⟩
  | .local _ .vmem, ⟨9, _⟩ => ⟨S128x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference27Ideal.lean ====
abbrev S4096x2048 : Shape := ⟨2, ![4096, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | .hbm, ⟨20, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel28.lean ====
abbrev S4096x4096 : Shape := ⟨2, ![4096, 4096]⟩
abbrev S128x4096 : Shape := ⟨2, ![128, 4096]⟩

abbrev nBuf : Space → Nat
  | .hbm => 9
  | .vmem => 18
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .bf16⟩
  | .hbm, ⟨6, _⟩ => ⟨S4096x4096, .bf16⟩
  | .hbm, ⟨7, _⟩ => ⟨S4096x4096, .bf16⟩
  | .hbm, ⟨8, _⟩ => ⟨S4096x4096, .bf16⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .f32⟩
  | .local _ .vmem, ⟨10, _⟩ => ⟨S128x4096, .bf16⟩
  | .local _ .vmem, ⟨11, _⟩ => ⟨S128x4096, .bf16⟩
  | .local _ .vmem, ⟨12, _⟩ => ⟨S128x4096, .bf16⟩
  | .local _ .vmem, ⟨13, _⟩ => ⟨S128x4096, .bf16⟩
  | .local _ .vmem, ⟨14, _⟩ => ⟨S128x4096, .bf16⟩
  | .local _ .vmem, ⟨15, _⟩ => ⟨S128x4096, .bf16⟩
  | .local _ .vmem, ⟨16, _⟩ => ⟨S128x4096, .bf16⟩
  | .local _ .vmem, ⟨17, _⟩ => ⟨S128x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference28Ideal.lean ====
abbrev S4096x4096 : Shape := ⟨2, ![4096, 4096]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .bf16⟩
  | .hbm, ⟨41, _⟩ => ⟨S4096x4096, .bf16⟩
  | .hbm, ⟨42, _⟩ => ⟨S4096x4096, .bf16⟩
  | .hbm, ⟨43, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel29.lean ====
abbrev S4096x4096 : Shape := ⟨2, ![4096, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩
abbrev S4096 : Shape := ⟨1, ![4096]⟩

abbrev nBuf : Space → Nat
  | .hbm => 9
  | .vmem => 14
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S1x4096, .f32⟩
  | .hbm, ⟨4, _⟩ => ⟨S4096x4096, .f32⟩
  | .hbm, ⟨5, _⟩ => ⟨S4096x4096, .f32⟩
  | .hbm, ⟨6, _⟩ => ⟨S4096x4096, .bf16⟩
  | .hbm, ⟨7, _⟩ => ⟨S1x4096, .f32⟩
  | .hbm, ⟨8, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S1x4096, .f32⟩
  | .local _ .vmem, ⟨7, _⟩ => ⟨S1x4096, .f32⟩
  | .local _ .vmem, ⟨8, _⟩ => ⟨S128x4096, .f32⟩
  | .local _ .vmem, ⟨9, _⟩ => ⟨S128x4096, .f32⟩
  | .local _ .vmem, ⟨10, _⟩ => ⟨S128x4096, .bf16⟩
  | .local _ .vmem, ⟨11, _⟩ => ⟨S128x4096, .bf16⟩
  | .local _ .vmem, ⟨12, _⟩ => ⟨S1x4096, .f32⟩
  | .local _ .vmem, ⟨13, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v64 : BitVec 1 := Scalar.cmpi .eq arg0 c0_i32
  let v65 : BitVec 32 := Scalar.extui v64
  let c0_i32_27 : BitVec 32 := 0#32
  let v66 : BitVec 1 := Scalar.cmpi .ne v65 c0_i32_27
  v66

def k0_cond2 (i : grid0.Coords) : BitVec 1 :=
  let arg0 : BitVec 32 := BitVec.ofNat 32 (i 0).val
  let c0_i32_28 : BitVec 32 := 0#32
  let v67 : BitVec 1 := Scalar.cmpi .sgt arg0 c0_i32_28
  let v68 : BitVec 32 := Scalar.extui v67
  let c0_i32_29 : BitVec 32 := 0#32
  let v69 : BitVec 1 := Scalar.cmpi .ne v68 c0_i32_29
  v69

def k0_cond3 (i : grid0.Coords) : BitVec 1 :=
  let arg0 : BitVec 32 := BitVec.ofNat 32 (i 0).val
  let c0_i32_30 : BitVec 32 := 0#32
  let v70 : BitVec 1 := Scalar.cmpi .eq arg0 c0_i32_30
  let v71 : BitVec 32 := Scalar.extui v70
  let c0_i32_31 : BitVec 32 := 0#32
  let v72 : BitVec 1 := Scalar.cmpi .ne v71 c0_i32_31
  v72

def k0_cond4 (i : grid0.Coords) : BitVec 1 :=
  let arg0 : BitVec 32 := BitVec.ofNat 32 (i 0).val
  let c0_i32_32 : BitVec 32 := 0#32
  let v73 : BitVec 1 := Scalar.cmpi .sgt arg0 c0_i32_32
  let v74 : BitVec 32 := Scalar.extui v73
  let c0_i32_33 : BitVec 32 := 0#32
  let v75 : BitVec 1 := Scalar.cmpi .ne v74 c0_i32_33
  v75

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference29Ideal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 81
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S1x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S4096, .f32⟩
  | .hbm, ⟨44, _⟩ => ⟨S1x4096, .f32⟩
  | .hbm, ⟨45, _⟩ => ⟨S4096x4096, .f32⟩
  | .hbm, ⟨46, _⟩ => ⟨S_, .f32⟩
  | .hbm, ⟨47, _⟩ => ⟨S4096, .f32⟩
  | .hbm, ⟨48, _⟩ => ⟨S1x4096, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x4096, .f32⟩
  | .hbm, ⟨56, _⟩ => ⟨S4096x4096, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x4096, .f32⟩
  | .hbm, ⟨64, _⟩ => ⟨S4096x4096, .f32⟩
  | .hbm, ⟨65, _⟩ => ⟨S4096x4096, .f32⟩
  | .hbm, ⟨66, _⟩ => ⟨S4096x4096, .f32⟩
  | .hbm, ⟨67, _⟩ => ⟨S_, .f32⟩
  | .hbm, ⟨68, _⟩ => ⟨S4096, .f32⟩
  | .hbm, ⟨69, _⟩ => ⟨S4096x1, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S_, .f32⟩
  | .hbm, ⟨74, _⟩ => ⟨S4096, .f32⟩
  | .hbm, ⟨75, _⟩ => ⟨S4096x4096, .f32⟩
  | .hbm, ⟨76, _⟩ => ⟨S4096x4096, .f32⟩
  | .hbm, ⟨77, _⟩ => ⟨S_, .f32⟩
  | .hbm, ⟨78, _⟩ => ⟨S4096x4096, .f32⟩
  | .hbm, ⟨79, _⟩ => ⟨S4096x4096, .f32⟩
  | .hbm, ⟨80, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_10 : Ref sig .tc := ⟨.hbm, 58, rfl⟩
abbrev main_v42 : Ref sig .tc := ⟨.hbm, 59, rfl⟩
abbrev main_v43 : Ref sig .tc := ⟨.hbm, 60, rfl⟩
abbrev main_cst_11 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_12 : Ref sig .tc := ⟨.hbm, 67, rfl⟩
abbrev main_v49 : Ref sig .tc := ⟨.hbm, 68, rfl⟩
abbrev main_v50 : Ref sig .tc := ⟨.hbm, 69, rfl⟩
abbrev main_cst_13 : Ref sig .tc := ⟨.hbm, 70, rfl⟩
abbrev main_v51 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_15 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== Kernel30.lean ====
abbrev S4096x4096 : Shape := ⟨2, ![4096, 4096]⟩
abbrev S256x4096 : Shape := ⟨2, ![256, 4096]⟩
abbrev S128x4096 : Shape := ⟨2, ![128, 4096]⟩
abbrev S128x1024 : Shape := ⟨2, ![128, 1024]⟩
abbrev S256x1024 : Shape := ⟨2, ![256, 1024]⟩
abbrev S128x256 : Shape := ⟨2, ![128, 256]⟩
abbrev S128 : Shape := ⟨1, ![128]⟩
abbrev S128x1 : Shape := ⟨2, ![128, 1]⟩
abbrev S1024x256 : Shape := ⟨2, ![1024, 256]⟩
abbrev S256x3072 : Shape := ⟨2, ![256, 3072]⟩
abbrev S128x3072 : Shape := ⟨2, ![128, 3072]⟩
abbrev S256x2048 : Shape := ⟨2, ![256, 2048]⟩
abbrev S128x2048 : Shape := ⟨2, ![128, 2048]⟩

abbrev nBuf : Space → Nat
  | .hbm => 7
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S256x4096, .f32⟩
  | .hbm, ⟨2, _⟩ => ⟨S256x4096, .f32⟩
  | .hbm, ⟨3, _⟩ => ⟨S4096x4096, .f32⟩
  | .hbm, ⟨4, _⟩ => ⟨S4096x4096, .bf16⟩
  | .hbm, ⟨5, _⟩ => ⟨S256x4096, .f32⟩
  | .hbm, ⟨6, _⟩ => ⟨S256x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S256x4096, .f32⟩
  | .local _ .vmem, ⟨5, _⟩ => ⟨S256x4096, .f32⟩
  | .local _ .vmem, ⟨6, _⟩ => ⟨S128x4096, .bf16⟩
  | .local _ .vmem, ⟨7, _⟩ => ⟨S128x4096, .bf16⟩
  | .local _ .vmem, ⟨8, _⟩ => ⟨S256x4096, .f32⟩
  | .local _ .vmem, ⟨9, _⟩ => ⟨S256x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v323 : BitVec 1 := Scalar.cmpi .eq arg0 c0_i32
  let v324 : BitVec 32 := Scalar.extui v323
  let c0_i32_88 : BitVec 32 := 0#32
  let v325 : BitVec 1 := Scalar.cmpi .ne v324 c0_i32_88
  v325

def k0_cond2 (i : grid0.Coords) : BitVec 1 :=
  let arg0 : BitVec 32 := BitVec.ofNat 32 (i 0).val
  let c0_i32_89 : BitVec 32 := 0#32
  let v326 : BitVec 1 := Scalar.cmpi .sgt arg0 c0_i32_89
  let v327 : BitVec 32 := Scalar.extui v326
  let c0_i32_90 : BitVec 32 := 0#32
  let v328 : BitVec 1 := Scalar.cmpi .ne v327 c0_i32_90
  v328

def k0_cond3 (i : grid0.Coords) : BitVec 1 :=
  let arg0 : BitVec 32 := BitVec.ofNat 32 (i 0).val
  let c0_i32_91 : BitVec 32 := 0#32
  let v329 : BitVec 1 := Scalar.cmpi .eq arg0 c0_i32_91
  let v330 : BitVec 32 := Scalar.extui v329
  let c0_i32_92 : BitVec 32 := 0#32
  let v331 : BitVec 1 := Scalar.cmpi .ne v330 c0_i32_92
  v331

def k0_cond4 (i : grid0.Coords) : BitVec 1 :=
  let arg0 : BitVec 32 := BitVec.ofNat 32 (i 0).val
  let c0_i32_93 : BitVec 32 := 0#32
  let v332 : BitVec 1 := Scalar.cmpi .sgt arg0 c0_i32_93
  let v333 : BitVec 32 := Scalar.extui v332
  let c0_i32_94 : BitVec 32 := 0#32
  let v334 : BitVec 1 := Scalar.cmpi .ne v333 c0_i32_94
  v334

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference30Ideal.lean ====
abbrev S4096x4096 : Shape := ⟨2, ![4096, 4096]⟩
abbrev S256x4096 : Shape := ⟨2, ![256, 4096]⟩
abbrev S4096x4x1024 : Shape := ⟨3, ![4096, 4, 1024]⟩
abbrev S256x4x1024 : Shape := ⟨3, ![256, 4, 1024]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x1024x4096 : Shape := ⟨3, ![4, 1024, 4096]⟩
abbrev S4x1024x256 : Shape := ⟨3, ![4, 1024, 256]⟩
abbrev S4x256x1024 : Shape := ⟨3, ![4, 256, 1024]⟩
abbrev S4x4096x1024 : Shape := ⟨3, ![4, 4096, 1024]⟩

abbrev nBuf : Space → Nat
  | .hbm => 82
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S256x4096, .f32⟩
  | .hbm, ⟨2, _⟩ => ⟨S256x4096, .f32⟩
  | .hbm, ⟨3, _⟩ => ⟨S4096x4096, .f32⟩
  | .hbm, ⟨4, _⟩ => ⟨S4096x4x1024, .f32⟩
  | .hbm, ⟨5, _⟩ => ⟨S256x4x1024, .f32⟩
  | .hbm, ⟨6, _⟩ => ⟨S256x4x1024, .f32⟩
  | .hbm, ⟨7, _⟩ => ⟨S4x4096x256, .f32⟩
  | .hbm, ⟨8, _⟩ => ⟨S_, .f32⟩
  | .hbm, ⟨9, _⟩ => ⟨S4x4096x256, .f32⟩
  | .hbm, ⟨10, _⟩ => ⟨S4x4096x256, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S4x4096x256, .f32⟩
  | .hbm, ⟨15, _⟩ => ⟨S4x4096x256, .i1⟩
  | .hbm, ⟨16, _⟩ => ⟨S4x4096x256, .f32⟩
  | .hbm, ⟨17, _⟩ => ⟨S_, .f32⟩
  | .hbm, ⟨18, _⟩ => ⟨S4x4096, .f32⟩
  | .hbm, ⟨19, _⟩ => ⟨S_, .f32⟩
  | .hbm, ⟨20, _⟩ => ⟨S4x4096, .f32⟩
  | .hbm, ⟨21, _⟩ => ⟨S4x4096, .f32⟩
  | .hbm, ⟨22, _⟩ => ⟨S_, .f32⟩
  | .hbm, ⟨23, _⟩ => ⟨S4x4096, .f32⟩
  | .hbm, ⟨24, _⟩ => ⟨S4x4096, .i1⟩
  | .hbm, ⟨25, _⟩ => ⟨S_, .f32⟩
  | .hbm, ⟨26, _⟩ => ⟨S4x4096, .f32⟩
  | .hbm, ⟨27, _⟩ => ⟨S4x4096, .i1⟩
  | .hbm, ⟨28, _⟩ => ⟨S_, .f32⟩
  | .hbm, ⟨29, _⟩ => ⟨S4x4096, .f32⟩
  | .hbm, ⟨30, _⟩ => ⟨S_, .f32⟩
  | .hbm, ⟨31, _⟩ => ⟨S4x4096, .f32⟩
  | .hbm, ⟨32, _⟩ => ⟨S_, .f32⟩
  | .hbm, ⟨33, _⟩ => ⟨S4x4096, .f32⟩
  | .hbm, ⟨34, _⟩ => ⟨S4x4096, .f32⟩
  | .hbm, ⟨35, _⟩ => ⟨S4x4096, .f32⟩
  | .hbm, ⟨36, _⟩ => ⟨S4x4096x1, .f32⟩
  | .hbm, ⟨37, _⟩ => ⟨S4x4096x256, .f32⟩
  | .hbm, ⟨38, _⟩ => ⟨S4x4096x256, .f32⟩
  | .hbm, ⟨39, _⟩ => ⟨S4x4096x256, .f32⟩
  | .hbm, ⟨40, _⟩ => ⟨S_, .f32⟩
  | .hbm, ⟨41, _⟩ => ⟨S4x4096, .f32⟩
  | .hbm, ⟨42, _⟩ => ⟨S4x4096x1, .f32⟩
  | .hbm, ⟨43, _⟩ => ⟨S4x4096x256, .f32⟩
  | .hbm, ⟨44, _⟩ => ⟨S4x4096x256, .f32⟩
  | .hbm, ⟨45, _⟩ => ⟨S4x4096x1, .f32⟩
  | .hbm, ⟨46, _⟩ => ⟨S_, .f32⟩
  | .hbm, ⟨47, _⟩ => ⟨S4x4096x1, .f32⟩
  | .hbm, ⟨48, _⟩ => ⟨S4x4096x1, .f32⟩
  | .hbm, ⟨49, _⟩ => ⟨S4x1024x4096, .f32⟩
  | .hbm, ⟨50, _⟩ => ⟨S4096x4x1024, .f32⟩
  | .hbm, ⟨51, _⟩ => ⟨S4096x4096, .f32⟩
  | .hbm, ⟨52, _⟩ => ⟨S4096x4x1024, .f32⟩
  | .hbm, ⟨53, _⟩ => ⟨S4x1024x4096, .f32⟩
  | .hbm, ⟨54, _⟩ => ⟨S4x4096x256, .f32⟩
  | .hbm, ⟨55, _⟩ => ⟨S4x1024x256, .f32⟩
  | .hbm, ⟨56, _⟩ => ⟨S256x4x1024, .f32⟩
  | .hbm, ⟨57, _⟩ => ⟨S4x4096x256, .f32⟩
  | .hbm, ⟨58, _⟩ => ⟨S4x4096x256, .f32⟩
  | .hbm, ⟨59, _⟩ => ⟨S4x4096x256, .f32⟩
  | .hbm, ⟨60, _⟩ => ⟨S_, .f32⟩
  | .hbm, ⟨61, _⟩ => ⟨S4x4096, .f32⟩
  | .hbm, ⟨62, _⟩ => ⟨S4x4096x1, .f32⟩
  | .hbm, ⟨63, _⟩ => ⟨S4x4096x1, .f32⟩
  | .hbm, ⟨64, _⟩ => ⟨S4x4096x256, .f32⟩
  | .hbm, ⟨65, _⟩ => ⟨S4x4096x256, .f32⟩
  | .hbm, ⟨66, _⟩ => ⟨S_, .f32⟩
  | .hbm, ⟨67, _⟩ => ⟨S4x4096, .f32⟩
  | .hbm, ⟨68, _⟩ => ⟨S4x4096x256, .f32⟩
  | .hbm, ⟨69, _⟩ => ⟨S4x4096x256, .f32⟩
  | .hbm, ⟨70, _⟩ => ⟨S4x4096x256, .f32⟩
  | .hbm, ⟨71, _⟩ => ⟨S_, .f32⟩
  | .hbm, ⟨72, _⟩ => ⟨S4x4096x256, .f32⟩
  | .hbm, ⟨73, _⟩ => ⟨S4x4096x256, .f32⟩
  | .hbm, ⟨74, _⟩ => ⟨S4x256x1024, .f32⟩
  | .hbm, ⟨75, _⟩ => ⟨S256x4x1024, .f32⟩
  | .hbm, ⟨76, _⟩ => ⟨S4x4096x1024, .f32⟩
  | .hbm, ⟨77, _⟩ => ⟨S4096x4x1024, .f32⟩
  | .hbm, ⟨78, _⟩ => ⟨S256x4096, .f32⟩
  | .hbm, ⟨79, _⟩ => ⟨S256x4096, .f32⟩
  | .hbm, ⟨80, _⟩ => ⟨S4096x4096, .f32⟩
  | .hbm, ⟨81, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_10 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_12 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩

abbrev nD : Nat := 1
abbrev τ : Topo := Topo.v7x

variable {F : FTy → Type} [FloatOps F]
-- ==== Kernel31.lean ====
abbrev S4096x4096 : Shape := ⟨2, ![4096, 4096]⟩
abbrev S256x4096 : Shape := ⟨2, ![256, 4096]⟩
abbrev S128x4096 : Shape := ⟨2, ![128, 4096]⟩
abbrev S128x1024 : Shape := ⟨2, ![128, 1024]⟩
abbrev S256x1024 : Shape := ⟨2, ![256, 1024]⟩
abbrev S128x256 : Shape := ⟨2, ![128, 256]⟩
abbrev S128 : Shape := ⟨1, ![128]⟩
abbrev S128x1 : Shape := ⟨2, ![128, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S256x4096, .f32⟩
  | .hbm, ⟨2, _⟩ => ⟨S256x4096, .f32⟩
  | .hbm, ⟨3, _⟩ => ⟨S4096x4096, .bf16⟩
  | .local _ .vmem, ⟨0, _⟩ => ⟨S128x4096, .f32⟩
  | .local _ .vmem, ⟨1, _⟩ => ⟨S128x4096, .f32⟩
  | .local _ .vmem, ⟨2, _⟩ => ⟨S256x4096, .f32⟩
  | .local _ .vmem, ⟨3, _⟩ => ⟨S256x4096, .f32⟩
  | .local _ .vmem, ⟨4, _⟩ => ⟨S128x4096, .bf16⟩
  | .local _ .vmem, ⟨5, _⟩ => ⟨S128x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference31Ideal.lean ====
abbrev S4096x4096 : Shape := ⟨2, ![4096, 4096]⟩
abbrev S256x4096 : Shape := ⟨2, ![256, 4096]⟩
abbrev S4096x4x1024 : Shape := ⟨3, ![4096, 4, 1024]⟩
abbrev S256x4x1024 : Shape := ⟨3, ![256, 4, 1024]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x1024x4096 : Shape := ⟨3, ![4, 1024, 4096]⟩

abbrev nBuf : Space → Nat
  | .hbm => 28
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S256x4096, .f32⟩
  | .hbm, ⟨2, _⟩ => ⟨S256x4096, .f32⟩
  | .hbm, ⟨3, _⟩ => ⟨S4096x4x1024, .f32⟩
  | .hbm, ⟨4, _⟩ => ⟨S256x4x1024, .f32⟩
  | .hbm, ⟨5, _⟩ => ⟨S256x4x1024, .f32⟩
  | .hbm, ⟨6, _⟩ => ⟨S4x4096x256, .f32⟩
  | .hbm, ⟨7, _⟩ => ⟨S_, .f32⟩
  | .hbm, ⟨8, _⟩ => ⟨S4x4096x256, .f32⟩
  | .hbm, ⟨9, _⟩ => ⟨S4x4096x256, .f32⟩
  | .hbm, ⟨10, _⟩ => ⟨S_, .f32⟩
  | .hbm, ⟨11, _⟩ => ⟨S4x4096, .f32⟩
  | .hbm, ⟨12, _⟩ => ⟨S_, .f32⟩
  | .hbm, ⟨13, _⟩ => ⟨S4x4096, .f32⟩
  | .hbm, ⟨14, _⟩ => ⟨S4x4096, .f32⟩
  | .hbm, ⟨15, _⟩ => ⟨S4x4096x1, .f32⟩
  | .hbm, ⟨16, _⟩ => ⟨S4x4096x256, .f32⟩
  | .hbm, ⟨17, _⟩ => ⟨S4x4096x256, .f32⟩
  | .hbm, ⟨18, _⟩ => ⟨S4x4096x256, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S4x4096x256, .f32⟩
  | .hbm, ⟨23, _⟩ => ⟨S4x4096x256, .f32⟩
  | .hbm, ⟨24, _⟩ => ⟨S4x1024x4096, .f32⟩
  | .hbm, ⟨25, _⟩ => ⟨S4096x4x1024, .f32⟩
  | .hbm, ⟨26, _⟩ => ⟨S4096x4096, .f32⟩
  | .hbm, ⟨27, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel32.lean ====
abbrev S256x4096 : Shape := ⟨2, ![256, 4096]⟩
abbrev S4096x4096 : Shape := ⟨2, ![4096, 4096]⟩
abbrev S256x1024 : Shape := ⟨2, ![256, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S256x4096, .f32⟩
  | .hbm, ⟨1, _⟩ => ⟨S4096x4096, .bf16⟩
  | .hbm, ⟨2, _⟩ => ⟨S256x4096, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference32Ideal.lean ====
abbrev S256x4096 : Shape := ⟨2, ![256, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S4096x4096, .bf16⟩
  | .hbm, ⟨2, _⟩ => ⟨S4096x4096, .f32⟩
  | .hbm, ⟨3, _⟩ => ⟨S256x4096, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel33.lean ====
abbrev S256x4096 : Shape := ⟨2, ![256, 4096]⟩
abbrev S4096x4096 : Shape := ⟨2, ![4096, 4096]⟩
abbrev S256x1024 : Shape := ⟨2, ![256, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S256x4096, .f32⟩
  | .hbm, ⟨1, _⟩ => ⟨S256x4096, .f32⟩
  | .hbm, ⟨2, _⟩ => ⟨S4096x4096, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference33Ideal.lean ====
abbrev S256x4096 : Shape := ⟨2, ![256, 4096]⟩
abbrev S_ : Shape := ⟨0, ![]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S256x4096, .f32⟩
  | .hbm, ⟨2, _⟩ => ⟨S_, .bf16⟩
  | .hbm, ⟨3, _⟩ => ⟨S4096x4096, .bf16⟩
  | .hbm, ⟨4, _⟩ => ⟨S4096x4096, .f32⟩
  | .hbm, ⟨5, _⟩ => ⟨S256x4096, .f32⟩
  | .hbm, ⟨6, _⟩ => ⟨S4096x4096, .f32⟩
  | .hbm, ⟨7, _⟩ => ⟨S4096x4096, .f32⟩
  | .hbm, ⟨8, _⟩ => ⟨S4096x4096, .bf16⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel34.lean ====
abbrev S256x4096 : Shape := ⟨2, ![256, 4096]⟩
abbrev S4096x4096 : Shape := ⟨2, ![4096, 4096]⟩
abbrev S256x1024 : Shape := ⟨2, ![256, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S256x4096, .f32⟩
  | .hbm, ⟨1, _⟩ => ⟨S4096x4096, .bf16⟩
  | .hbm, ⟨2, _⟩ => ⟨S256x4096, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference34Ideal.lean ====
abbrev S256x4096 : Shape := ⟨2, ![256, 4096]⟩
abbrev S4096x4096 : Shape := ⟨2, ![4096, 4096]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S4096x4096, .bf16⟩
  | .hbm, ⟨2, _⟩ => ⟨S_, .f32⟩
  | .hbm, ⟨3, _⟩ => ⟨S256x4096, .f32⟩
  | .hbm, ⟨4, _⟩ => ⟨S4096x4096, .f32⟩
  | .hbm, ⟨5, _⟩ => ⟨S256x4096, .f32⟩
  | .hbm, ⟨6, _⟩ => ⟨S256x4096, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel35.lean ====
abbrev S256x4096 : Shape := ⟨2, ![256, 4096]⟩
abbrev S4096x4096 : Shape := ⟨2, ![4096, 4096]⟩
abbrev S256x1024 : Shape := ⟨2, ![256, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S256x4096, .f32⟩
  | .hbm, ⟨1, _⟩ => ⟨S4096x4096, .bf16⟩
  | .hbm, ⟨2, _⟩ => ⟨S256x4096, .f32⟩
  | .hbm, ⟨3, _⟩ => ⟨S256x4096, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference35Ideal.lean ====
abbrev S256x4096 : Shape := ⟨2, ![256, 4096]⟩
abbrev S4096x4096 : Shape := ⟨2, ![4096, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S4096x4096, .bf16⟩
  | .hbm, ⟨2, _⟩ => ⟨S256x4096, .f32⟩
  | .hbm, ⟨3, _⟩ => ⟨S_, .f32⟩
  | .hbm, ⟨4, _⟩ => ⟨S256x4096, .f32⟩
  | .hbm, ⟨5, _⟩ => ⟨S4096x4096, .f32⟩
  | .hbm, ⟨6, _⟩ => ⟨S256x4096, .f32⟩
  | .hbm, ⟨7, _⟩ => ⟨S256x4096, .f32⟩
  | .hbm, ⟨8, _⟩ => ⟨S256x4096, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel36.lean ====
abbrev S4096x4096 : Shape := ⟨2, ![4096, 4096]⟩
abbrev S4096x512 : Shape := ⟨2, ![4096, 512]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x512, .bf16⟩
  | .hbm, ⟨2, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference36Ideal.lean ====
abbrev S4096x4096 : Shape := ⟨2, ![4096, 4096]⟩
abbrev S4096x512 : Shape := ⟨2, ![4096, 512]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x512, .bf16⟩
  | .hbm, ⟨2, _⟩ => ⟨S4096x4096, .f32⟩
  | .hbm, ⟨3, _⟩ => ⟨S4096x512, .f32⟩
  | .hbm, ⟨4, _⟩ => ⟨S4096x512, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel37.lean ====
abbrev S4096x4096 : Shape := ⟨2, ![4096, 4096]⟩
abbrev S4096x512 : Shape := ⟨2, ![4096, 512]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x512, .bf16⟩
  | .hbm, ⟨2, _⟩ => ⟨S4096x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference37Ideal.lean ====
abbrev S4096x4096 : Shape := ⟨2, ![4096, 4096]⟩
abbrev S4096x512 : Shape := ⟨2, ![4096, 512]⟩
abbrev S_ : Shape := ⟨0, ![]⟩
abbrev S512x4096 : Shape := ⟨2, ![512, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x512, .bf16⟩
  | .hbm, ⟨2, _⟩ => ⟨S_, .bf16⟩
  | .hbm, ⟨3, _⟩ => ⟨S4096x512, .bf16⟩
  | .hbm, ⟨4, _⟩ => ⟨S4096x4096, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S512x4096, .f32⟩
  | .hbm, ⟨9, _⟩ => ⟨S4096x512, .f32⟩
  | .hbm, ⟨10, _⟩ => ⟨S4096x512, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel38.lean ====
abbrev S4096x512 : Shape := ⟨2, ![4096, 512]⟩
abbrev S4096x4096 : Shape := ⟨2, ![4096, 4096]⟩
abbrev S1024x512 : Shape := ⟨2, ![1024, 512]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x4096, .f32⟩
  | .hbm, ⟨3, _⟩ => ⟨S4096x4096, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference38Ideal.lean ====
abbrev S4096x512 : Shape := ⟨2, ![4096, 512]⟩
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x4096, .f32⟩
  | .hbm, ⟨9, _⟩ => ⟨S4096x4096, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel39.lean ====
abbrev S4096x2048 : Shape := ⟨2, ![4096, 2048]⟩
abbrev S128x2048 : Shape := ⟨2, ![128, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference39Ideal.lean ====
abbrev S4096x2048 : Shape := ⟨2, ![4096, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel40.lean ====
abbrev S4096x4096 : Shape := ⟨2, ![4096, 4096]⟩
abbrev S128x4096 : Shape := ⟨2, ![128, 4096]⟩

abbrev nBuf : Space → Nat
  | .hbm => 5
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .bf16⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .bf16⟩
  | .local _ .vmem, ⟨9, _⟩ => ⟨S128x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference40Ideal.lean ====
abbrev S4096x4096 : Shape := ⟨2, ![4096, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Kernel41.lean ====
abbrev S4096x16384 : Shape := ⟨2, ![4096, 16384]⟩
abbrev S64x16384 : Shape := ⟨2, ![64, 16384]⟩

abbrev nBuf : Space → Nat
  | .hbm => 2
  | .vmem => 4
  | .smem => 0
  | _ => 0

abbrev bufTy : (tb : Table) → Fin (tcTables nBuf tb) → BufTy
  | .hbm, ⟨0, _⟩ => ⟨S4096x16384, .f32⟩
  | .hbm, ⟨1, _⟩ => ⟨S4096x16384, .bf16⟩
  | .local _ .vmem, ⟨0, _⟩ => ⟨S64x16384, .f32⟩
  | .local _ .vmem, ⟨1, _⟩ => ⟨S64x16384, .f32⟩
  | .local _ .vmem, ⟨2, _⟩ => ⟨S64x16384, .bf16⟩
  | .local _ .vmem, ⟨3, _⟩ => ⟨S64x16384, .bf16⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x16384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference41Ideal.lean ====
abbrev S4096x16384 : Shape := ⟨2, ![4096, 16384]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S_, .f32⟩
  | .hbm, ⟨2, _⟩ => ⟨S4096x16384, .f32⟩
  | .hbm, ⟨3, _⟩ => ⟨S4096x16384, .f32⟩
  | .hbm, ⟨4, _⟩ => ⟨S4096x16384, .f32⟩
  | .hbm, ⟨5, _⟩ => ⟨S4096x16384, .bf16⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel42.lean ====
abbrev S256x4096 : Shape := ⟨2, ![256, 4096]⟩
abbrev S1x4096 : Shape := ⟨2, ![1, 4096]⟩
abbrev S256 : Shape := ⟨1, ![256]⟩
abbrev S256x1 : Shape := ⟨2, ![256, 1]⟩

abbrev nBuf : Space → Nat
  | .hbm => 4
  | .vmem => 4
  | .smem => 0
  | _ => 0

abbrev bufTy : (tb : Table) → Fin (tcTables nBuf tb) → BufTy
  | .hbm, ⟨0, _⟩ => ⟨S256x4096, .f32⟩
  | .hbm, ⟨1, _⟩ => ⟨S1x4096, .f32⟩
  | .hbm, ⟨2, _⟩ => ⟨S1x4096, .f32⟩
  | .hbm, ⟨3, _⟩ => ⟨S256x4096, .f32⟩
  | .local _ .vmem, ⟨0, _⟩ => ⟨S256x4096, .f32⟩
  | .local _ .vmem, ⟨1, _⟩ => ⟨S1x4096, .f32⟩
  | .local _ .vmem, ⟨2, _⟩ => ⟨S1x4096, .f32⟩
  | .local _ .vmem, ⟨3, _⟩ => ⟨S256x4096, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== Reference42Ideal.lean ====
abbrev S256x4096 : Shape := ⟨2, ![256, 4096]⟩
abbrev S1x4096 : Shape := ⟨2, ![1, 4096]⟩
abbrev S_ : Shape := ⟨0, ![]⟩
abbrev S256 : Shape := ⟨1, ![256]⟩
abbrev S256x1 : Shape := ⟨2, ![256, 1]⟩

abbrev nBuf : Space → Nat
  | .hbm => 28
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S1x4096, .f32⟩
  | .hbm, ⟨2, _⟩ => ⟨S1x4096, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S256x4096, .f32⟩
  | .hbm, ⟨10, _⟩ => ⟨S256x4096, .f32⟩
  | .hbm, ⟨11, _⟩ => ⟨S256x4096, .f32⟩
  | .hbm, ⟨12, _⟩ => ⟨S_, .f32⟩
  | .hbm, ⟨13, _⟩ => ⟨S256, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S_, .f32⟩
  | .hbm, ⟨19, _⟩ => ⟨S256x1, .f32⟩
  | .hbm, ⟨20, _⟩ => ⟨S256x1, .f32⟩
  | .hbm, ⟨21, _⟩ => ⟨S256x1, .f32⟩
  | .hbm, ⟨22, _⟩ => ⟨S256x4096, .f32⟩
  | .hbm, ⟨23, _⟩ => ⟨S256x4096, .f32⟩
  | .hbm, ⟨24, _⟩ => ⟨S256x4096, .f32⟩
  | .hbm, ⟨25, _⟩ => ⟨S256x4096, .f32⟩
  | .hbm, ⟨26, _⟩ => ⟨S256x4096, .f32⟩
  | .hbm, ⟨27, _⟩ => ⟨S256x4096, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel43.lean ====
abbrev S4096x4096 : Shape := ⟨2, ![4096, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S1x4096, .f32⟩
  | .hbm, ⟨4, _⟩ => ⟨S4096x4096, .f32⟩
  | .hbm, ⟨5, _⟩ => ⟨S4096x4096, .bf16⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S1x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .bf16⟩
  | .local _ .vmem, ⟨9, _⟩ => ⟨S128x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference43Ideal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 34
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S1x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Kernel44.lean ====
abbrev S4096x2048 : Shape := ⟨2, ![4096, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S4096x2048, .bf16⟩
  | .local _ .vmem, ⟨0, _⟩ => ⟨S128x2048, .f32⟩
  | .local _ .vmem, ⟨1, _⟩ => ⟨S128x2048, .f32⟩
  | .local _ .vmem, ⟨2, _⟩ => ⟨S1x2048, .f32⟩
  | .local _ .vmem, ⟨3, _⟩ => ⟨S1x2048, .f32⟩
  | .local _ .vmem, ⟨4, _⟩ => ⟨S128x2048, .bf16⟩
  | .local _ .vmem, ⟨5, _⟩ => ⟨S128x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference44Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 38
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Kernel45.lean ====
abbrev S4096x2048 : Shape := ⟨2, ![4096, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S1x2048, .f32⟩
  | .hbm, ⟨6, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S1x2048, .f32⟩
  | .local _ .vmem, ⟨6, _⟩ => ⟨S128x2048, .f32⟩
  | .local _ .vmem, ⟨7, _⟩ => ⟨S128x2048, .f32⟩
  | .local _ .vmem, ⟨8, _⟩ => ⟨S1x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v81 : BitVec 1 := Scalar.cmpi .eq arg0 c0_i32
  let v82 : BitVec 32 := Scalar.extui v81
  let c0_i32_30 : BitVec 32 := 0#32
  let v83 : BitVec 1 := Scalar.cmpi .ne v82 c0_i32_30
  v83

def k0_cond2 (i : grid0.Coords) : BitVec 1 :=
  let arg0 : BitVec 32 := BitVec.ofNat 32 (i 0).val
  let c0_i32_31 : BitVec 32 := 0#32
  let v84 : BitVec 1 := Scalar.cmpi .sgt arg0 c0_i32_31
  let v85 : BitVec 32 := Scalar.extui v84
  let c0_i32_32 : BitVec 32 := 0#32
  let v86 : BitVec 1 := Scalar.cmpi .ne v85 c0_i32_32
  v86

def k0_cond3 (i : grid0.Coords) : BitVec 1 :=
  let arg0 : BitVec 32 := BitVec.ofNat 32 (i 0).val
  let c0_i32_33 : BitVec 32 := 0#32
  let v87 : BitVec 1 := Scalar.cmpi .eq arg0 c0_i32_33
  let v88 : BitVec 32 := Scalar.extui v87
  let c0_i32_34 : BitVec 32 := 0#32
  let v89 : BitVec 1 := Scalar.cmpi .ne v88 c0_i32_34
  v89

def k0_cond4 (i : grid0.Coords) : BitVec 1 :=
  let arg0 : BitVec 32 := BitVec.ofNat 32 (i 0).val
  let c0_i32_35 : BitVec 32 := 0#32
  let v90 : BitVec 1 := Scalar.cmpi .sgt arg0 c0_i32_35
  let v91 : BitVec 32 := Scalar.extui v90
  let c0_i32_36 : BitVec 32 := 0#32
  let v92 : BitVec 1 := Scalar.cmpi .ne v91 c0_i32_36
  v92

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference45Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 88
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S2048, .f32⟩
  | .hbm, ⟨55, _⟩ => ⟨S1x2048, .f32⟩
  | .hbm, ⟨56, _⟩ => ⟨S4096x2048, .f32⟩
  | .hbm, ⟨57, _⟩ => ⟨S_, .f32⟩
  | .hbm, ⟨58, _⟩ => ⟨S2048, .f32⟩
  | .hbm, ⟨59, _⟩ => ⟨S1x2048, .f32⟩
  | .hbm, ⟨60, _⟩ => ⟨S4096x2048, .f32⟩
  | .hbm, ⟨61, _⟩ => ⟨S4096x2048, .f32⟩
  | .hbm, ⟨62, _⟩ => ⟨S4096x2048, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S4096x2048, .f32⟩
  | .hbm, ⟨67, _⟩ => ⟨S4096x2048, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S_, .f32⟩
  | .hbm, ⟨73, _⟩ => ⟨S4096, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S4096x2048, .f32⟩
  | .hbm, ⟨78, _⟩ => ⟨S_, .f32⟩
  | .hbm, ⟨79, _⟩ => ⟨S4096, .f32⟩
  | .hbm, ⟨80, _⟩ => ⟨S4096x1, .f32⟩
  | .hbm, ⟨81, _⟩ => ⟨S_, .f32⟩
  | .hbm, ⟨82, _⟩ => ⟨S4096x1, .f32⟩
  | .hbm, ⟨83, _⟩ => ⟨S4096x1, .f32⟩
  | .hbm, ⟨84, _⟩ => ⟨S_, .f32⟩
  | .hbm, ⟨85, _⟩ => ⟨S4096, .f32⟩
  | .hbm, ⟨86, _⟩ => ⟨S4096x2048, .f32⟩
  | .hbm, ⟨87, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v25_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v25_1 : Ref sig .tc := ⟨.hbm, 47, rfl⟩
abbrev main_v25_0 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v26 : Ref sig .tc := ⟨.hbm, 52, rfl⟩
abbrev main_cst_6 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_7 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_8 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_9 : Ref sig .tc := ⟨.hbm, 69, rfl⟩
abbrev main_v40 : Ref sig .tc := ⟨.hbm, 70, rfl⟩
abbrev main_v41 : Ref sig .tc := ⟨.hbm, 71, rfl⟩
abbrev main_cst_10 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_11 : Ref sig .tc := ⟨.hbm, 78, rfl⟩
abbrev main_v47 : Ref sig .tc := ⟨.hbm, 79, rfl⟩
abbrev main_v48 : Ref sig .tc := ⟨.hbm, 80, rfl⟩
abbrev main_cst_12 : Ref sig .tc := ⟨.hbm, 81, rfl⟩
abbrev main_v49 : Ref sig .tc := ⟨.hbm, 82, rfl⟩
abbrev main_v50 : Ref sig .tc := ⟨.hbm, 83, rfl⟩
abbrev main_cst_13 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩

abbrev nD : Nat := 1
abbrev τ : Topo := Topo.v7x

variable {F : FTy → Type} [FloatOps F]
-- ==== Kernel46.lean ====
abbrev S256x4096 : Shape := ⟨2, ![256, 4096]⟩
abbrev S1x4096 : Shape := ⟨2, ![1, 4096]⟩
abbrev S256 : Shape := ⟨1, ![256]⟩
abbrev S256x1 : Shape := ⟨2, ![256, 1]⟩
abbrev S4096 : Shape := ⟨1, ![4096]⟩

abbrev nBuf : Space → Nat
  | .hbm => 6
  | .vmem => 6
  | .smem => 0
  | _ => 0

abbrev bufTy : (tb : Table) → Fin (tcTables nBuf tb) → BufTy
  | .hbm, ⟨0, _⟩ => ⟨S256x4096, .f32⟩
  | .hbm, ⟨1, _⟩ => ⟨S1x4096, .f32⟩
  | .hbm, ⟨2, _⟩ => ⟨S1x4096, .f32⟩
  | .hbm, ⟨3, _⟩ => ⟨S256x4096, .f32⟩
  | .hbm, ⟨4, _⟩ => ⟨S1x4096, .f32⟩
  | .hbm, ⟨5, _⟩ => ⟨S1x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v24 : BitVec 1 := Scalar.cmpi .eq arg0 c0_i32
  let v25 : BitVec 32 := Scalar.extui v24
  let c0_i32_9 : BitVec 32 := 0#32
  let v26 : BitVec 1 := Scalar.cmpi .ne v25 c0_i32_9
  v26

def k0_cond2 (i : grid0.Coords) : BitVec 1 :=
  let arg0 : BitVec 32 := BitVec.ofNat 32 (i 0).val
  let c0_i32_10 : BitVec 32 := 0#32
  let v27 : BitVec 1 := Scalar.cmpi .sgt arg0 c0_i32_10
  let v28 : BitVec 32 := Scalar.extui v27
  let c0_i32_11 : BitVec 32 := 0#32
  let v29 : BitVec 1 := Scalar.cmpi .ne v28 c0_i32_11
  v29

def k0_cond3 (i : grid0.Coords) : BitVec 1 :=
  let arg0 : BitVec 32 := BitVec.ofNat 32 (i 0).val
  let c0_i32_12 : BitVec 32 := 0#32
  let v30 : BitVec 1 := Scalar.cmpi .eq arg0 c0_i32_12
  let v31 : BitVec 32 := Scalar.extui v30
  let c0_i32_13 : BitVec 32 := 0#32
  let v32 : BitVec 1 := Scalar.cmpi .ne v31 c0_i32_13
  v32

def k0_cond4 (i : grid0.Coords) : BitVec 1 :=
  let arg0 : BitVec 32 := BitVec.ofNat 32 (i 0).val
  let c0_i32_14 : BitVec 32 := 0#32
  let v33 : BitVec 1 := Scalar.cmpi .sgt arg0 c0_i32_14
  let v34 : BitVec 32 := Scalar.extui v33
  let c0_i32_15 : BitVec 32 := 0#32
  let v35 : BitVec 1 := Scalar.cmpi .ne v34 c0_i32_15
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference46Ideal.lean ====
abbrev S256x4096 : Shape := ⟨2, ![256, 4096]⟩
abbrev S1x4096 : Shape := ⟨2, ![1, 4096]⟩
abbrev S_ : Shape := ⟨0, ![]⟩
abbrev S256 : Shape := ⟨1, ![256]⟩
abbrev S256x1 : Shape := ⟨2, ![256, 1]⟩
abbrev S4096 : Shape := ⟨1, ![4096]⟩

abbrev nBuf : Space → Nat
  | .hbm => 72
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S1x4096, .f32⟩
  | .hbm, ⟨2, _⟩ => ⟨S1x4096, .f32⟩
  | .hbm, ⟨3, _⟩ => ⟨S256x4096, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S256x4096, .f32⟩
  | .hbm, ⟨11, _⟩ => ⟨S256x4096, .f32⟩
  | .hbm, ⟨12, _⟩ => ⟨S256x4096, .f32⟩
  | .hbm, ⟨13, _⟩ => ⟨S_, .f32⟩
  | .hbm, ⟨14, _⟩ => ⟨S256x4096, .f32⟩
  | .hbm, ⟨15, _⟩ => ⟨S256x4096, .f32⟩
  | .hbm, ⟨16, _⟩ => ⟨S_, .f32⟩
  | .hbm, ⟨17, _⟩ => ⟨S256, .f32⟩
  | .hbm, ⟨18, _⟩ => ⟨S256x1, .f32⟩
  | .hbm, ⟨19, _⟩ => ⟨S_, .f32⟩
  | .hbm, ⟨20, _⟩ => ⟨S256x1, .f32⟩
  | .hbm, ⟨21, _⟩ => ⟨S256x1, .f32⟩
  | .hbm, ⟨22, _⟩ => ⟨S_, .f32⟩
  | .hbm, ⟨23, _⟩ => ⟨S256x1, .f32⟩
  | .hbm, ⟨24, _⟩ => ⟨S256x1, .f32⟩
  | .hbm, ⟨25, _⟩ => ⟨S256x1, .f32⟩
  | .hbm, ⟨26, _⟩ => ⟨S256x1, .f32⟩
  | .hbm, ⟨27, _⟩ => ⟨S_, .f32⟩
  | .hbm, ⟨28, _⟩ => ⟨S256x1, .f32⟩
  | .hbm, ⟨29, _⟩ => ⟨S256x1, .f32⟩
  | .hbm, ⟨30, _⟩ => ⟨S256x4096, .f32⟩
  | .hbm, ⟨31, _⟩ => ⟨S256x4096, .f32⟩
  | .hbm, ⟨32, _⟩ => ⟨S256x4096, .f32⟩
  | .hbm, ⟨33, _⟩ => ⟨S256x4096, .f32⟩
  | .hbm, ⟨34, _⟩ => ⟨S256x4096, .f32⟩
  | .hbm, ⟨35, _⟩ => ⟨S256x4096, .f32⟩
  | .hbm, ⟨36, _⟩ => ⟨S256x4096, .f32⟩
  | .hbm, ⟨37, _⟩ => ⟨S_, .f32⟩
  | .hbm, ⟨38, _⟩ => ⟨S4096, .f32⟩
  | .hbm, ⟨39, _⟩ => ⟨S1x4096, .f32⟩
  | .hbm, ⟨40, _⟩ => ⟨S256x4096, .f32⟩
  | .hbm, ⟨41, _⟩ => ⟨S_, .f32⟩
  | .hbm, ⟨42, _⟩ => ⟨S4096, .f32⟩
  | .hbm, ⟨43, _⟩ => ⟨S1x4096, .f32⟩
  | .hbm, ⟨44, _⟩ => ⟨S256x4096, .f32⟩
  | .hbm, ⟨45, _⟩ => ⟨S256x4096, .f32⟩
  | .hbm, ⟨46, _⟩ => ⟨S256x4096, .f32⟩
  | .hbm, ⟨47, _⟩ => ⟨S_, .f32⟩
  | .hbm, ⟨48, _⟩ => ⟨S256, .f32⟩
  | .hbm, ⟨49, _⟩ => ⟨S256x1, .f32⟩
  | .hbm, ⟨50, _⟩ => ⟨S256x4096, .f32⟩
  | .hbm, ⟨51, _⟩ => ⟨S256x4096, .f32⟩
  | .hbm, ⟨52, _⟩ => ⟨S256x1, .f32⟩
  | .hbm, ⟨53, _⟩ => ⟨S_, .f32⟩
  | .hbm, ⟨54, _⟩ => ⟨S256x1, .f32⟩
  | .hbm, ⟨55, _⟩ => ⟨S256x1, .f32⟩
  | .hbm, ⟨56, _⟩ => ⟨S_, .f32⟩
  | .hbm, ⟨57, _⟩ => ⟨S256, .f32⟩
  | .hbm, ⟨58, _⟩ => ⟨S256x4096, .f32⟩
  | .hbm, ⟨59, _⟩ => ⟨S256x4096, .f32⟩
  | .hbm, ⟨60, _⟩ => ⟨S256x4096, .f32⟩
  | .hbm, ⟨61, _⟩ => ⟨S256x4096, .f32⟩
  | .hbm, ⟨62, _⟩ => ⟨S_, .f32⟩
  | .hbm, ⟨63, _⟩ => ⟨S256, .f32⟩
  | .hbm, ⟨64, _⟩ => ⟨S256x1, .f32⟩
  | .hbm, ⟨65, _⟩ => ⟨S_, .f32⟩
  | .hbm, ⟨66, _⟩ => ⟨S256x1, .f32⟩
  | .hbm, ⟨67, _⟩ => ⟨S256x1, .f32⟩
  | .hbm, ⟨68, _⟩ => ⟨S_, .f32⟩
  | .hbm, ⟨69, _⟩ => ⟨S256, .f32⟩
  | .hbm, ⟨70, _⟩ => ⟨S256x4096, .f32⟩
  | .hbm, ⟨71, _⟩ => ⟨S256x4096, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_cst_12 : Ref sig .tc := ⟨.hbm, 65, rfl⟩
abbrev main_v48 : Ref sig .tc := ⟨.hbm, 66, rfl⟩
abbrev main_v49 : Ref sig .tc := ⟨.hbm, 67, rfl⟩
abbrev main_cst_13 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]
-- ==== Proof.Conv.Rows.lean ====
module
public import proofs.«01_k».proof.Proof.Gen.KernelIdeal.Value
public import Idealize.ShloMosaic.PureOps.Ideal
public import Idealize.ShloMosaic.Lib.Pipeline.ValueKit
public import Idealize.ShloMosaic.Lib.Pipeline.ReadBack
public import Idealize.ShloMosaic.Lib.Pointwise
@[expose] public section
set_option maxRecDepth 16384
noncomputable section
namespace Cert.KernelIdeal
open Idealize.ShloMosaic Idealize.ShloMosaic.TcCoe Idealize.ShloMosaic.Tactic
open Idealize.SL Idealize.SL.Sem
variable (m : (ℓ : Loc nD τ sig) → Buf (Elt Ideal) ℓ)
open Gen

theorem idx0 : ∀ t : Fin cfg0.N, win0_0.index t 0 = t.val ∧ win0_0.index t 1 = 0 := by decide +kernel
theorem idx1 : ∀ t : Fin cfg0.N, (t.val < 31 → win0_1.index t 0 = 4 * (t.val + 1)) ∧ win0_1.index t 1 = 0 := by decide +kernel
theorem idx2 : ∀ t : Fin cfg0.N, win0_2.index t 0 = t.val ∧ win0_2.index t 1 = 0 := by decide +kernel
theorem idx3 : ∀ t : Fin cfg0.N, (0 < t.val → win0_3.index t 0 = 4 * t.val - 1) ∧ win0_3.index t 1 = 0 := by decide +kernel
theorem idx4 : ∀ t : Fin cfg0.N, win0_4.index t 0 = 0 ∧ win0_4.index t 1 = 0 := by decide +kernel
theorem sel31 : ∀ t : Fin cfg0.N, Scalar.cmpi .eq (BitVec.ofNat 32 (grid0.coords t 0).val) 31#32 = if t.val = 31 then 1#1 else 0#1 := by decide +kernel
theorem sel0 : ∀ t : Fin cfg0.N, Scalar.cmpi .eq (BitVec.ofNat 32 (grid0.coords t 0).val) 0#32 = if t.val = 0 then 1#1 else 0#1 := by decide +kernel

/-- Row `n` of an array, zero past its last row. -/
def rowOr (X : S4096x2048.Idx → EReal) (n : ℕ) (k : Fin 2048) : EReal :=
  if h : n < 4096 then X (ix2 ⟨n, h⟩ k) else 0

/-- Row `n - 32` of an array, zero before its first row. -/
def rowBack (X : S4096x2048.Idx → EReal) (n : ℕ) (k : Fin 2048) : EReal :=
  if h : 32 ≤ n ∧ n < 4128 then X (ix2 ⟨n - 32, by omega⟩ k) else 0

theorem blk0 (c : Dev nD) (t : Fin cfg0.N) (r : Fin 128) (k : Fin 2048) :
    iblk m c 0 t (ix2 r k) = rowOr (m ((c : Thread nD τ).loc main_arg0)) (128 * t.val + r.val) k := by
  have ht : t.val < 32 := t.isLt
  unfold rowOr
  rw [dif_pos (by omega)]
  blk_ext [iblk, V, idx0 t]

theorem blk2 (c : Dev nD) (t : Fin cfg0.N) (r : Fin 128) (k : Fin 2048) :
    iblk m c 2 t (ix2 r k) = rowBack (m ((c : Thread nD τ).loc main_arg1)) (128 * t.val + 32 + r.val) k := by
  have ht : t.val < 32 := t.isLt
  unfold rowBack
  rw [dif_pos (by omega)]
  blk_ext [iblk, V, idx2 t]

theorem blk4 (c : Dev nD) (t : Fin cfg0.N) : iblk m c 4 t = m ((c : Thread nD τ).loc main_arg2) := by
  funext y
  idx_vars y
  blk_ext [iblk, V, idx4 t]

theorem pay2 (c : Dev nD) (t : Fin cfg0.N) (r : Fin 128) (k : Fin 2048) :
    k0_pay2 (F := Ideal) (iblk m c 0 t) (ix2 r k) = rowOr (m ((c : Thread nD τ).loc main_arg0)) (128 * t.val + r.val) k := by
  unfold k0_pay2
  pointwise
  exact blk0 m c t r k

theorem pay5 (c : Dev nD) (t : Fin cfg0.N) (r : Fin 128) (k : Fin 2048) :
    k0_pay5 (F := Ideal) (iblk m c 2 t) (ix2 r k) = rowBack (m ((c : Thread nD τ).loc main_arg1)) (128 * t.val + 32 + r.val) k := by
  unfold k0_pay5
  pointwise
  exact blk2 m c t r k

theorem pay3 (c : Dev nD) (t : Fin cfg0.N) (r : Fin 32) (k : Fin 2048) :
    k0_pay3 (F := Ideal) (grid0.coords t) (iblk m c 1 t) (ix2 r k) = rowOr (m ((c : Thread nD τ).loc main_arg0)) (128 * t.val + 128 + r.val) k := by
  have ht : t.val < 32 := t.isLt
  unfold rowOr k0_pay3
  pointwise
  rw [sel31 t]
  by_cases h : t.val = 31
  · rw [dif_neg (by omega), if_pos h]; rfl
  · rw [dif_pos (by omega), if_neg h]
    have e := (idx1 t).1 (by omega)
    show iblk m c 1 t (ix2 r k) = _
    blk_ext [iblk, V, e, (idx1 t).2]

theorem pay4 (c : Dev nD) (t : Fin cfg0.N) (r : Fin 32) (k : Fin 2048) :
    k0_pay4 (F := Ideal) (grid0.coords t) (iblk m c 3 t) (ix2 r k) = rowBack (m ((c : Thread nD τ).loc main_arg1)) (128 * t.val + r.val) k := by
  have ht : t.val < 32 := t.isLt
  unfold rowBack k0_pay4
  pointwise
  rw [sel0 t]
  by_cases h : t.val = 0
  · rw [dif_neg (by omega), if_pos h]; rfl
  · rw [dif_pos (by omega), if_neg h]
    have e := (idx3 t).1 (by omega)
    show iblk m c 3 t (ix2 r k) = _
    blk_ext [iblk, V, e, (idx3 t).2]

/-- The rows of the first scratch after its two stores: the rows of the cotangent from the block's first one on. -/
theorem dext_read (c : Dev nD) (t : Fin cfg0.N) (v : View sig .tc .vmem S160x2048 .f32) (o : ℕ)
    (io : ∀ a, (![o, 0] : Fin 2 → ℕ) a + (![128, 2048] : Fin 2 → ℕ) a ≤ S160x2048.size a) :
    View.readCov (Val := Elt Ideal) v [⟨Rect.unit (s := S160x2048) ![128, 0] S32x2048.size inb_S160x2048_S32x2048_128_0, k0_pay3 (F := Ideal) (grid0.coords t) (iblk m c 1 t)⟩,
        ⟨Rect.unit (s := S160x2048) ![0, 0] S128x2048.size inb_S160x2048_S128x2048_0_0, k0_pay2 (F := Ideal) (iblk m c 0 t)⟩]
      (Rect.unit (s := S160x2048) ![o, 0] ![128, 2048] io).toLoadRect
      = fun x : S128x2048.Idx => rowOr (m ((c : Thread nD τ).loc main_arg0)) (128 * t.val + (o + (x 0).val)) (x 1) := by
  rw [View.readCov_eq_canon']
  funext x
  refine (View.canon_apply_of_pieces (fun y : S160x2048.Idx => rowOr (m ((c : Thread nD τ).loc main_arg0)) (128 * t.val + (y 0).val) (y 1)) _ ?_ _ ?_).trans ?_
  · intro p hp x
    simp only [List.mem_cons, List.not_mem_nil, or_false] at hp
    rcases hp with rfl | rfl
    · obtain ⟨r, k, rfl⟩ : ∃ (r : Fin 32) (k : Fin 2048), x = ix2 r k := ⟨x 0, x 1, eq_ix2 x⟩
      refine (pay3 m c t r k).trans ?_
      show rowOr _ _ _ = rowOr _ _ _
      congr 1
      · show _ = 128 * t.val + (128 + 1 * r.val); omega
      · apply Fin.ext; show _ = 0 + 1 * k.val; omega
    · obtain ⟨r, k, rfl⟩ : ∃ (r : Fin 128) (k : Fin 2048), x = ix2 r k := ⟨x 0, x 1, eq_ix2 x⟩
      refine (pay2 m c t r k).trans ?_
      show rowOr _ _ _ = rowOr _ _ _
      congr 1
      · show _ = 128 * t.val + (0 + 1 * r.val); omega
      · apply Fin.ext; show _ = 0 + 1 * k.val; omega
  · set y := LoadRect.idx _ x
    simp only [List.mem_cons, List.not_mem_nil, or_false, exists_eq_or_imp, exists_eq_left, Rect.mem_set_unit, Fin.forall_fin_two]
    have h0 : (y 0).val < 160 := (y 0).isLt
    have h1 : (y 1).val < 2048 := (y 1).isLt
    show ((128 ≤ (y 0).val ∧ (y 0).val < 128 + 32) ∧ 0 ≤ (y 1).val ∧ (y 1).val < 0 + 2048) ∨ (0 ≤ (y 0).val ∧ (y 0).val < 0 + 128) ∧ 0 ≤ (y 1).val ∧ (y 1).val < 0 + 2048
    omega
  · show rowOr _ _ _ = rowOr _ _ _
    congr 1
    · show 128 * t.val + (o + 1 * (x 0).val) = _; omega
    · apply Fin.ext; show 0 + 1 * (x 1).val = _; omega

/-- The rows of the second scratch after its two stores: the rows of the operand from 32 before the block's first one on. -/
theorem uext_read (c : Dev nD) (t : Fin cfg0.N) (v : View sig .tc .vmem S160x2048 .f32) (o : ℕ)
    (io : ∀ a, (![o, 0] : Fin 2 → ℕ) a + (![128, 2048] : Fin 2 → ℕ) a ≤ S160x2048.size a) :
    View.readCov (Val := Elt Ideal) v [⟨Rect.unit (s := S160x2048) ![32, 0] S128x2048.size inb_S160x2048_S128x2048_32_0, k0_pay5 (F := Ideal) (iblk m c 2 t)⟩,
        ⟨Rect.unit (s := S160x2048) ![0, 0] S32x2048.size inb_S160x2048_S32x2048_0_0, k0_pay4 (F := Ideal) (grid0.coords t) (iblk m c 3 t)⟩]
      (Rect.unit (s := S160x2048) ![o, 0] ![128, 2048] io).toLoadRect
      = fun x : S128x2048.Idx => rowBack (m ((c : Thread nD τ).loc main_arg1)) (128 * t.val + (o + (x 0).val)) (x 1) := by
  rw [View.readCov_eq_canon']
  funext x
  refine (View.canon_apply_of_pieces (fun y : S160x2048.Idx => rowBack (m ((c : Thread nD τ).loc main_arg1)) (128 * t.val + (y 0).val) (y 1)) _ ?_ _ ?_).trans ?_
  · intro p hp x
    simp only [List.mem_cons, List.not_mem_nil, or_false] at hp
    rcases hp with rfl | rfl
    · obtain ⟨r, k, rfl⟩ : ∃ (r : Fin 128) (k : Fin 2048), x = ix2 r k := ⟨x 0, x 1, eq_ix2 x⟩
      refine (pay5 m c t r k).trans ?_
      show rowBack _ _ _ = rowBack _ _ _
      congr 1
      · show _ = 128 * t.val + (32 + 1 * r.val); omega
      · apply Fin.ext; show _ = 0 + 1 * k.val; omega
    · obtain ⟨r, k, rfl⟩ : ∃ (r : Fin 32) (k : Fin 2048), x = ix2 r k := ⟨x 0, x 1, eq_ix2 x⟩
      refine (pay4 m c t r k).trans ?_
      show rowBack _ _ _ = rowBack _ _ _
      congr 1
      · show _ = 128 * t.val + (0 + 1 * r.val); omega
      · apply Fin.ext; show _ = 0 + 1 * k.val; omega
  · set y := LoadRect.idx _ x
    simp only [List.mem_cons, List.not_mem_nil, or_false, exists_eq_or_imp, exists_eq_left, Rect.mem_set_unit, Fin.forall_fin_two]
    have h0 : (y 0).val < 160 := (y 0).isLt
    have h1 : (y 1).val < 2048 := (y 1).isLt
    show ((32 ≤ (y 0).val ∧ (y 0).val < 32 + 128) ∧ 0 ≤ (y 1).val ∧ (y 1).val < 0 + 2048) ∨ (0 ≤ (y 0).val ∧ (y 0).val < 0 + 32) ∧ 0 ≤ (y 1).val ∧ (y 1).val < 0 + 2048
    omega
  · show rowBack _ _ _ = rowBack _ _ _
    congr 1
    · show 128 * t.val + (o + 1 * (x 0).val) = _; omega
    · apply Fin.ext; show 0 + 1 * (x 1).val = _; omega

/-- Row `j` of the taps, zero past the last one. -/
def tap (w : S32x2048.Idx → EReal) (j : ℕ) (k : Fin 2048) : EReal :=
  if h : j < 32 then w (ix2 ⟨j, h⟩ k) else 0

/-- The gradient of the operand: row `n` gathers, over the 31 taps `j`, the cotangent's row `n + 30 - j`. -/
def duAt (w : S32x2048.Idx → EReal) (dc : S4096x2048.Idx → EReal) (n : ℕ) (k : Fin 2048) : EReal :=
  ∑ j ∈ Finset.range 31, tap w j k * rowOr dc (n + (30 - j)) k

/-- What one block of 128 rows adds to the gradient of tap `j`. -/
def dwBlock (dc u : S4096x2048.Idx → EReal) (t j : ℕ) (k : Fin 2048) : EReal :=
  if j < 31 then ∑ r : Fin 128, rowOr dc (128 * t + r.val) k * rowBack u (128 * t + (2 + j + r.val)) k else 0

theorem du_block (c : Dev nD) (t : Fin cfg0.N) (r : Fin 128) (k : Fin 2048) :
    (outsAt0 m c t.val t.isLt).1 (ix2 r k)
      = duAt (m ((c : Thread nD τ).loc main_arg2)) (m ((c : Thread nD τ).loc main_arg0)) (128 * t.val + r.val) k := by
  have ht : t.val < 32 := t.isLt
  have e : ∀ a, 128 * t.val + (a + r.val) = 128 * t.val + r.val + a := fun a => by omega
  by_cases h1 : 1 ≤ t.val
  · rw [outsAt0_B m c t (by omega) h1 (by omega) h1]
    frame_out
    simp only [dext_read m c t, blk4]
    pointwise [k0_pay10, k0_pay6, k0_pay14, k0_pay18, k0_pay22, k0_pay26, k0_pay30, k0_pay34, k0_pay38, k0_pay42, k0_pay46, k0_pay48]
    simp only [e, duAt, tap, Finset.sum_range_succ, Finset.sum_range_zero, zero_add, Nat.reduceSub, Nat.reduceLT, ↓reduceDIte, Nat.add_zero, Fin.reduceFinMk]
  · rw [outsAt0_A m c t (by omega) h1 (by omega) h1]
    frame_out
    simp only [dext_read m c t, blk4]
    pointwise [k0_pay10, k0_pay6, k0_pay14, k0_pay18, k0_pay22, k0_pay26, k0_pay30, k0_pay34, k0_pay38, k0_pay42, k0_pay46, k0_pay48]
    simp only [e, duAt, tap, Finset.sum_range_succ, Finset.sum_range_zero, zero_add, Nat.reduceSub, Nat.reduceLT, ↓reduceDIte, Nat.add_zero, Fin.reduceFinMk]

end Cert.KernelIdeal

end
-- ==== Proof.Conv.Sums.lean ====
module
public import proofs.«01_k».proof.Proof.Conv.Rows
public import Idealize.ShloMosaic.PureOps.Ideal
public import Idealize.ShloMosaic.Lib.Pipeline.ValueKit
public import Idealize.ShloMosaic.Lib.Pipeline.ReadBack
public import Idealize.ShloMosaic.Lib.Pointwise
@[expose] public section
set_option maxRecDepth 16384
noncomputable section
namespace Cert.KernelIdeal
open Idealize.ShloMosaic Idealize.ShloMosaic.TcCoe Idealize.ShloMosaic.Tactic
open Idealize.SL Idealize.SL.Sem
variable (m : (ℓ : Loc nD τ sig) → Buf (Elt Ideal) ℓ)
open Gen

theorem canon_cons_at (R : Rect S32x2048) (w : R.shape.Idx → EReal) (L : List (View.Piece (Elt Ideal) S32x2048 .f32))
    (y : S32x2048.Idx) (z : R.shape.Idx) (e : y = R.emb z) : View.canon (Val := Elt Ideal) (⟨R, w⟩ :: L) y = w z := by
  subst e
  exact View.canon_cons_emb (Val := Elt Ideal) R w L z

theorem canon_cons_off (R : Rect S32x2048) (w : R.shape.Idx → EReal) (L : List (View.Piece (Elt Ideal) S32x2048 .f32))
    (y : S32x2048.Idx) (h : y ∉ R.set) : View.canon (Val := Elt Ideal) (⟨R, w⟩ :: L) y = View.canon L y :=
  View.canon_cons_of_not_mem (Val := Elt Ideal) ⟨R, w⟩ L h

/-- A row stored over contents that hold the rows `G` before row `n` and zero from it on: the rows `G` through row `n`. -/
theorem canon_row (G : ℕ → Fin 2048 → EReal) (n : ℕ) (i : ∀ a, (![n, 0] : Fin 2 → ℕ) a + (![1, 2048] : Fin 2 → ℕ) a ≤ S32x2048.size a)
    (w : S1x2048.Idx → EReal) (L : List (View.Piece (Elt Ideal) S32x2048 .f32))
    (hL : ∀ (a : Fin 32) (k : Fin 2048), View.canon (Val := Elt Ideal) L (ix2 a k) = if a.val < n then G a.val k else 0)
    (hw : ∀ k, w (ix2 0 k) = G n k) (a : Fin 32) (k : Fin 2048) :
    View.canon (Val := Elt Ideal) (⟨Rect.unit (s := S32x2048) ![n, 0] ![1, 2048] i, w⟩ :: L) (ix2 a k) = if a.val < n + 1 then G a.val k else 0 := by
  by_cases h : a.val = n
  · have e : (ix2 a k : S32x2048.Idx) = (Rect.unit (s := S32x2048) ![n, 0] ![1, 2048] i).emb (ix2 (0 : Fin 1) k) := by
      funext x; apply Fin.ext
      fin_cases x
      · show a.val = n + 1 * 0; omega
      · show k.val = 0 + 1 * k.val; exact ((Nat.zero_add _).trans (Nat.one_mul _)).symm
    rw [if_pos (by omega), h, ← hw k]
    exact canon_cons_at (Rect.unit (s := S32x2048) ![n, 0] ![1, 2048] i) w L (ix2 a k) (ix2 (0 : Fin 1) k) e
  · have hn : (ix2 a k : S32x2048.Idx) ∉ (Rect.unit (s := S32x2048) ![n, 0] ![1, 2048] i).set := fun hm => h (by
      have h' : n ≤ a.val ∧ a.val < n + 1 := (Rect.mem_set_unit.mp hm) 0
      omega)
    refine (canon_cons_off (Rect.unit (s := S32x2048) ![n, 0] ![1, 2048] i) w L (ix2 a k) hn).trans ((hL a k).trans ?_)
    exact if_congr (by omega) rfl rfl

/-- The sum over one block's rows that is stored for tap `n`. -/
theorem dw_row (c : Dev nD) (t : Fin cfg0.N) (n : ℕ) (hn : n < 31) (k : Fin 2048) :
    k0_pay8 (F := Ideal) (iblk m c 0 t) (fun x => rowBack (m ((c : Thread nD τ).loc main_arg1)) (128 * t.val + (2 + n + (x 0).val)) (x 1)) (ix2 0 k)
      = dwBlock (m ((c : Thread nD τ).loc main_arg0)) (m ((c : Thread nD τ).loc main_arg1)) t.val n k := by
  pointwise [k0_pay8]
  rw [dwBlock, if_pos hn]
  exact Finset.sum_congr rfl fun r _ => by rw [blk0]

theorem dwBlock_zero (dc u : S4096x2048.Idx → EReal) (t : ℕ) (a : Fin 32) (k : Fin 2048) :
    (if a.val < 31 then dwBlock dc u t a.val k else 0) = dwBlock dc u t a.val k := by
  unfold dwBlock
  split_ifs <;> rfl

end Cert.KernelIdeal
-- ==== Proof.Conv.Points.lean ====
module
public import proofs.«01_k».proof.Proof.Conv.Sums
public import Idealize.ShloMosaic.PureOps.Ideal
public import Idealize.ShloMosaic.Lib.Pipeline.ValueKit
public import Idealize.ShloMosaic.Lib.Pipeline.ReadBack
public import Idealize.ShloMosaic.Lib.Pointwise
@[expose] public section
set_option maxRecDepth 16384
noncomputable section
namespace Cert.KernelIdeal
open Idealize.ShloMosaic Idealize.ShloMosaic.TcCoe Idealize.ShloMosaic.Tactic
open Idealize.SL Idealize.SL.Sem
variable (m : (ℓ : Loc nD τ sig) → Buf (Elt Ideal) ℓ)
open Gen

/-- The whole tile scratch read back through its full window. -/
theorem readCov_whole {κ} {sp} (v : View sig κ sp S32x2048 .f32) (L : List (View.Piece (Elt Ideal) S32x2048 .f32)) (i) (j : Fin 32) (k : Fin 2048) :
    View.readCov (Val := Elt Ideal) v L (Rect.unit (s := S32x2048) ![0, 0] ![32, 2048] i).toLoadRect (ix2 j k) = View.canon (Val := Elt Ideal) L (ix2 j k) := by
  have ei : (Rect.unit (s := S32x2048) ![0, 0] ![32, 2048] i).toLoadRect.idx (ix2 j k) = ix2 j k := by
    funext x; apply Fin.ext
    fin_cases x
    · show 0 + 1 * j.val = _; exact (Nat.zero_add _).trans (Nat.one_mul _)
    · show 0 + 1 * k.val = _; exact (Nat.zero_add _).trans (Nat.one_mul _)
  exact (congrFun (View.readCov_eq_canon' v L _) _).trans (congrArg (View.canon (Val := Elt Ideal) L) ei)

theorem canon_fill (i) (j : Fin 32) (k : Fin 2048) :
    (View.canon (Val := Elt Ideal) (s := S32x2048) (e := .f32) [⟨Rect.unit (s := S32x2048) ![0, 0] ![32, 2048] i, k0_pay7 (F := Ideal)⟩] (ix2 j k) : EReal) = (if j.val < 0 then (0 : EReal) else (0 : EReal) : EReal) := by
  have e : (ix2 j k : S32x2048.Idx) = (Rect.unit (s := S32x2048) ![0, 0] ![32, 2048] i).emb (ix2 j k) := by
    funext x; apply Fin.ext
    fin_cases x
    · show j.val = 0 + 1 * j.val; exact ((Nat.zero_add _).trans (Nat.one_mul _)).symm
    · show k.val = 0 + 1 * k.val; exact ((Nat.zero_add _).trans (Nat.one_mul _)).symm
  rw [if_neg (by omega)]
  refine (canon_cons_at (Rect.unit (s := S32x2048) ![0, 0] ![32, 2048] i) (k0_pay7 (F := Ideal)) [] (ix2 j k) (ix2 j k) e).trans ?_
  pointwise [k0_pay7]

theorem pay51 (a b : S32x2048.Idx → EReal) (j : Fin 32) (k : Fin 2048) : k0_pay51 (F := Ideal) a b (ix2 j k) = b (ix2 j k) + a (ix2 j k) := by
  pointwise [k0_pay51]

theorem pay50 (c : Dev nD) (t : Fin cfg0.N) (k : Fin 2048) :
    k0_pay50 (F := Ideal) (iblk m c 0 t) (ix2 0 k) = ∑ r : Fin 128, rowOr (m ((c : Thread nD τ).loc main_arg0)) (128 * t.val + r.val) k := by
  pointwise [k0_pay50]
  exact Finset.sum_congr rfl fun r _ => by rw [blk0]

theorem dwA (c : Dev nD) (t : Fin cfg0.N) (h : t.val = 0) (j : Fin 32) (k : Fin 2048) :
    (outsAt0 m c t.val t.isLt).2.1 (ix2 j k)
      = dwBlock (m ((c : Thread nD τ).loc main_arg0)) (m ((c : Thread nD τ).loc main_arg1)) t.val j.val k := by
  rw [outsAt0_A m c t (by omega) (by omega) (by omega) (by omega)]
  frame_out
  rw [← dwBlock_zero]
  simp only [uext_read m c t]
  refine (readCov_whole _ _ _ j k).trans ?_
  revert j k
  iterate 31 refine fun j k => canon_row (dwBlock (m ((c : Thread nD τ).loc main_arg0)) (m ((c : Thread nD τ).loc main_arg1)) t.val) _ _ _ _ ?_ (dw_row m c t _ (by norm_num)) j k
  exact fun j k => canon_fill _ j k

theorem dwB (c : Dev nD) (t : Fin cfg0.N) (h : 1 ≤ t.val) (j : Fin 32) (k : Fin 2048) :
    (outsAt0 m c t.val t.isLt).2.1 (ix2 j k)
      = (outsAt0 m c (t.val - 1) (by omega)).2.1 (ix2 j k)
        + dwBlock (m ((c : Thread nD τ).loc main_arg0)) (m ((c : Thread nD τ).loc main_arg1)) t.val j.val k := by
  have ht : t.val < 32 := t.isLt
  rw [outsAt0_B m c t (by omega) (by omega) (by omega) (by omega)]
  frame_out
  rw [← dwBlock_zero]
  simp only [uext_read m c t]
  refine (pay51 _ _ j k).trans (congrArg (fun z => _ + z) ?_)
  refine (readCov_whole _ _ _ j k).trans ?_
  revert j k
  iterate 31 refine fun j k => canon_row (dwBlock (m ((c : Thread nD τ).loc main_arg0)) (m ((c : Thread nD τ).loc main_arg1)) t.val) _ _ _ _ ?_ (dw_row m c t _ (by norm_num)) j k
  exact fun j k => canon_fill _ j k

theorem dbA (c : Dev nD) (t : Fin cfg0.N) (h : t.val = 0) (k : Fin 2048) :
    (outsAt0 m c t.val t.isLt).2.2 (ix2 0 k)
      = ∑ r : Fin 128, rowOr (m ((c : Thread nD τ).loc main_arg0)) (128 * t.val + r.val) k := by
  rw [outsAt0_A m c t (by omega) (by omega) (by omega) (by omega)]
  frame_out
  exact pay50 m c t k

theorem dbB (c : Dev nD) (t : Fin cfg0.N) (h : 1 ≤ t.val) (k : Fin 2048) :
    (outsAt0 m c t.val t.isLt).2.2 (ix2 0 k)
      = (outsAt0 m c (t.val - 1) (by omega)).2.2 (ix2 0 k)
        + ∑ r : Fin 128, rowOr (m ((c : Thread nD τ).loc main_arg0)) (128 * t.val + r.val) k := by
  have ht : t.val < 32 := t.isLt
  rw [outsAt0_B m c t (by omega) (by omega) (by omega) (by omega)]
  frame_out
  pointwise [k0_pay1]
  exact congrArg (fun z => _ + z) (pay50 m c t k)

end Cert.KernelIdeal
-- ==== Proof.Conv.Arrays.lean ====
module
public import proofs.«01_k».proof.Proof.Conv.Points
public import Idealize.ShloMosaic.PureOps.Ideal
public import Idealize.ShloMosaic.Lib.Pipeline.ValueKit
public import Idealize.ShloMosaic.Lib.Pipeline.ReadBack
public import Idealize.ShloMosaic.Lib.Pointwise
@[expose] public section
set_option maxRecDepth 16384
noncomputable section
namespace Cert.KernelIdeal
open Idealize.ShloMosaic Idealize.ShloMosaic.TcCoe Idealize.ShloMosaic.Tactic
open Idealize.SL Idealize.SL.Sem
variable (m : (ℓ : Loc nD τ sig) → Buf (Elt Ideal) ℓ)
open Gen

/-- The tap gradients after the first `n + 1` blocks. -/
theorem dw_upto (c : Dev nD) (j : Fin 32) (k : Fin 2048) : ∀ (n : ℕ) (h : n < cfg0.N),
    (outsAt0 m c n h).2.1 (ix2 j k)
      = ∑ s ∈ Finset.range (n + 1), dwBlock (m ((c : Thread nD τ).loc main_arg0)) (m ((c : Thread nD τ).loc main_arg1)) s j.val k := by
  intro n
  induction n with
  | zero => intro h; rw [Finset.sum_range_one]; exact dwA m c ⟨0, h⟩ rfl j k
  | succ n ih => intro h; rw [Finset.sum_range_succ, ← ih (by omega)]; exact dwB m c ⟨n + 1, h⟩ (by simp) j k

/-- The bias gradient after the first `n + 1` blocks. -/
theorem db_upto (c : Dev nD) (k : Fin 2048) : ∀ (n : ℕ) (h : n < cfg0.N),
    (outsAt0 m c n h).2.2 (ix2 0 k)
      = ∑ s ∈ Finset.range (n + 1), ∑ r : Fin 128, rowOr (m ((c : Thread nD τ).loc main_arg0)) (128 * s + r.val) k := by
  intro n
  induction n with
  | zero => intro h; rw [Finset.sum_range_one]; exact dbA m c ⟨0, h⟩ rfl k
  | succ n ih => intro h; rw [Finset.sum_range_succ, ← ih (by omega)]; exact dbB m c ⟨n + 1, h⟩ (by simp) k

theorem idx5 : ∀ t : Fin cfg0.N, win0_5.index t 0 = t.val ∧ win0_5.index t 1 = 0 := by decide +kernel

/-- The first result: the gradient of the operand. -/
theorem final5 (c : Dev nD) :
    (dats m 0 c).arrAt 5 cfg0.N
      = fun i : S4096x2048.Idx => duAt (m ((c : Thread nD τ).loc main_arg2)) (m ((c : Thread nD τ).loc main_arg0)) (i 0).val (i 1) := by
  refine (dats m 0 c).arrAt_eq_of_covers 5 _ (by decide +kernel) fun t hf y => ?_
  blk_simp
  rw [after0_5]
  idx_vars y
  refine (du_block m c t _ _).trans ?_
  refine congrArg₂ (duAt _ _) ?_ (Fin.ext ?_) <;> blk_simp [idx5 t] <;> omega

/-- The last block of rows is the one point that writes the two summed results back. -/
theorem last_point : ∃ t : Fin cfg0.N, t.val = 31 ∧ (cfg0.win 6).WholeAt t ∧ (cfg0.win 7).WholeAt t :=
  ⟨⟨31, by decide⟩, rfl, by decide +kernel, by decide +kernel⟩

/-- The second result: the tap gradients, summed over all blocks. -/
theorem final6 (c : Dev nD) :
    (dats m 0 c).arrAt 6 cfg0.N
      = fun i : S32x2048.Idx => ∑ s ∈ Finset.range 32, dwBlock (m ((c : Thread nD τ).loc main_arg0)) (m ((c : Thread nD τ).loc main_arg1)) s (i 0).val (i 1) := by
  obtain ⟨t, ht, h6, -⟩ := last_point
  refine (dats m 0 c).arrAt_eq_of_after_last 6 t h6 _ fun j => ?_
  blk_simp
  rw [after0_6]
  obtain ⟨a, k, rfl⟩ : ∃ (a : Fin 32) (k : Fin 2048), j = ix2 a k := ⟨j 0, j 1, eq_ix2 j⟩
  refine (dw_upto m c a k t.val t.isLt).trans ?_
  rw [ht]
  rfl

/-- The third result: the bias gradient, summed over all blocks. -/
theorem final7 (c : Dev nD) :
    (dats m 0 c).arrAt 7 cfg0.N
      = fun i : S1x2048.Idx => ∑ s ∈ Finset.range 32, ∑ r : Fin 128, rowOr (m ((c : Thread nD τ).loc main_arg0)) (128 * s + r.val) (i 1) := by
  obtain ⟨t, ht, -, h7⟩ := last_point
  refine (dats m 0 c).arrAt_eq_of_after_last 7 t h7 _ fun j => ?_
  blk_simp
  rw [after0_7]
  obtain ⟨k, rfl⟩ : ∃ (k : Fin 2048), j = ix2 0 k := ⟨j 1, (eq_ix2 j).trans (congrArg (fun a : Fin 1 => ix2 a (j 1)) (Subsingleton.elim (α := Fin 1) _ _))⟩
  refine (db_upto m c k t.val t.isLt).trans ?_
  rw [ht]
  rfl

end Cert.KernelIdeal
-- ==== Proof.Conv.Reference.lean ====
module
public import proofs.«01_k».proof.Proof.Gen.ReferenceIdeal.Run
public import Idealize.ShloMosaic.PureOps.Ideal
public import Idealize.ShloMosaic.Lib.Pipeline.ValueKit
public import Idealize.ShloMosaic.Lib.Pointwise
@[expose] public section
set_option maxRecDepth 16384
noncomputable section
namespace Cert.ReferenceIdeal
open Idealize.ShloMosaic Idealize.ShloMosaic.TcCoe Idealize.ShloMosaic.Tactic
open Idealize.SL Idealize.SL.Sem
open Gen Value

/-- Row `j` of the taps, zero outside the array. -/
def tapRow (w : S32x2048.Idx → EReal) (j : ℕ) (k : Fin 2048) : EReal :=
  if h : j < 32 then w (ix2 ⟨j, h⟩ k) else 0

/-- The cotangent moved down by `j` rows, zero outside the array. -/
def moved (dc : S4096x2048.Idx → EReal) (j n : ℕ) (k : Fin 2048) : EReal :=
  if h : j ≤ n ∧ n - j < 4096 then dc (ix2 ⟨n - j, h.2⟩ k) else 0

/-- The operand below 30 rows of zeros. -/
def below (u : S4096x2048.Idx → EReal) (n : ℕ) (k : Fin 2048) : EReal :=
  if h : 30 ≤ n ∧ n - 30 < 4096 then u (ix2 ⟨n - 30, h.2⟩ k) else 0

/-- What tap `j` contributes to the padded operand's gradient. -/
theorem du_tap (w : S32x2048.Idx → EReal) (dc : S4096x2048.Idx → EReal) (j b : ℕ) (h1) (h2) (n : Fin 4126) (k : Fin 2048) :
    pad S4126x2048 ![j, 0] ![b, 0] ![0, 0] (mulf (F := Ideal) (φ := .f32) (broadcastInDim S4096x2048 ![0, 1] bcast_S1x2048_S4096x2048_0_1 (extractStridedSlice S1x2048 ![j, 0] w h1)) dc) (constant (F := Ideal) S_ .f32 0x00000000#32) h2 h_S_ (ix2 n k)
      = tapRow w j k * moved dc j n.val k := by
  pointwise
  have hj : j < 32 := by have := h1.2 0; simp at this; omega
  unfold tapRow moved
  rw [dif_pos hj]
  split_ifs <;> simp

/-- Tap `j`'s gradient, in the tap array's row `j`. -/
theorem dw_tap (dc : S4096x2048.Idx → EReal) (up : S4126x2048.Idx → EReal) (j b : ℕ) (h0) (h1) (h2) (a : Fin 32) (k : Fin 2048) :
    pad S32x2048 ![j, 0] ![b, 0] ![0, 0] (shapeCast S1x2048 (Host.reduceAdd (F := Ideal) (mulf (F := Ideal) (φ := .f32) dc (extractStridedSlice S4096x2048 ![j, 0] up h0)) (constant (F := Ideal) S_ .f32 0x00000000#32) reducesTo_S4096x2048_S2048_d0 h_S_) h1) (constant (F := Ideal) S_ .f32 0x00000000#32) h2 h_S_ (ix2 a k)
      = if a.val = j then ∑ x : Fin 4096, dc (ix2 x k) * up (ix2 ⟨j + x.val, by have h : j + 4096 ≤ 4126 := h0.2 0; have := x.isLt; omega⟩ k) else 0 := by
  pointwise
  by_cases h : a.val = j
  · rw [if_pos h, dif_pos ⟨by omega, by omega⟩]
  · rw [if_neg h, dif_neg (by omega)]

theorem addf_at {s : Shape} (a b : s.Idx → EReal) (i : s.Idx) : addf (F := Ideal) (φ := .f32) a b i = a i + b i := rfl

variable (V0 : Valuation τ sig (Elt Ideal))

theorem v161_eq : res_main_v161 V0 = V0 (Proc.devRef .tc main_arg0) := by
  funext i
  idx_vars i
  pointwise [res_main_v161]

theorem v1_at (n : Fin 4126) (k : Fin 2048) : res_main_v1 V0 (ix2 n k) = below (V0 (Proc.devRef .tc main_arg1)) n.val k := by
  pointwise [res_main_v1]
  unfold below
  by_cases h : n.val < 30
  · rw [dif_pos h, dif_neg (by omega)]
  · rw [dif_neg h, dif_pos ⟨by omega, by omega⟩]

/-- The padded operand's gradient: the contributions of the taps from the last to the first. -/
theorem v438_at (n : Fin 4126) (k : Fin 2048) :
    res_main_v438 V0 (ix2 n k)
      = ∑ j ∈ Finset.range 31, tapRow (V0 (Proc.devRef .tc main_arg2)) (30 - j) k * moved (V0 (Proc.devRef .tc main_arg0)) (30 - j) n.val k := by
  simp only [Finset.sum_range_succ, Finset.sum_range_zero, Nat.reduceSub, zero_add, Nat.sub_zero, Nat.sub_self]
  simp only [res_main_v438, res_main_v321, res_main_v3, res_main_v9, res_main_v14, res_main_v19, res_main_v24, res_main_v29, res_main_v34, res_main_v39, res_main_v44, res_main_v49, res_main_v54, res_main_v59, res_main_v64, res_main_v69, res_main_v74, res_main_v79, res_main_v84, res_main_v89, res_main_v94, res_main_v99, res_main_v104, res_main_v109, res_main_v114, res_main_v119, res_main_v124, res_main_v129, res_main_v134, res_main_v139, res_main_v144, res_main_v149, res_main_v154, v161_eq, addf_at]
  iterate 30 refine congrArg₂ (fun x y : EReal => x + y) ?_ (du_tap _ _ _ _ _ _ n k)
  exact du_tap _ _ _ _ _ _ n k

/-- Tap `j`'s gradient. -/
def tapGrad (dc : S4096x2048.Idx → EReal) (u : S4096x2048.Idx → EReal) (j : ℕ) (k : Fin 2048) : EReal :=
  ∑ x : Fin 4096, dc (ix2 x k) * below u (j + x.val) k

theorem dw_tap' (dc : S4096x2048.Idx → EReal) (j b : ℕ) (h0) (h1) (h2) (a : Fin 32) (k : Fin 2048) :
    pad S32x2048 ![j, 0] ![b, 0] ![0, 0] (shapeCast S1x2048 (Host.reduceAdd (F := Ideal) (mulf (F := Ideal) (φ := .f32) dc (extractStridedSlice S4096x2048 ![j, 0] (res_main_v1 V0) h0)) (constant (F := Ideal) S_ .f32 0x00000000#32) reducesTo_S4096x2048_S2048_d0 h_S_) h1) (constant (F := Ideal) S_ .f32 0x00000000#32) h2 h_S_ (ix2 a k)
      = if a.val = j then tapGrad dc (V0 (Proc.devRef .tc main_arg1)) j k else 0 := by
  rw [dw_tap]
  exact if_congr Iff.rfl (Finset.sum_congr rfl fun x _ => congrArg _ (v1_at V0 _ k)) rfl

/-- The tap gradients down to tap 2: the rows from the last tap on. -/
theorem v422_at (a : Fin 32) (k : Fin 2048) :
    res_main_v422 V0 (ix2 a k)
      = ∑ j ∈ Finset.range 29, if a.val = 30 - j then tapGrad (V0 (Proc.devRef .tc main_arg0)) (V0 (Proc.devRef .tc main_arg1)) (30 - j) k else 0 := by
  simp only [Finset.sum_range_succ, Finset.sum_range_zero, Nat.reduceSub, zero_add, Nat.sub_zero, Nat.sub_self]
  simp only [res_main_v422, res_main_v296, res_main_v15, res_main_v20, res_main_v25, res_main_v30, res_main_v35, res_main_v40, res_main_v45, res_main_v50, res_main_v55, res_main_v60, res_main_v65, res_main_v70, res_main_v75, res_main_v80, res_main_v85, res_main_v90, res_main_v95, res_main_v100, res_main_v105, res_main_v110, res_main_v115, res_main_v120, res_main_v125, res_main_v130, res_main_v135, res_main_v140, res_main_v145, res_main_v150, res_main_v155, v161_eq, addf_at]
  iterate 28 refine congrArg₂ (fun x y : EReal => x + y) ?_ (dw_tap' V0 _ _ _ _ _ _ a k)
  exact dw_tap' V0 _ _ _ _ _ _ a k

/-- The tap gradients, the last two taps added. -/
theorem v440_at (hs1 hs0 hp1 hp0) (a : Fin 32) (k : Fin 2048) :
    addf (F := Ideal) (φ := .f32) (addf (F := Ideal) (φ := .f32) (res_main_v422 V0) (pad S32x2048 ![1, 0] ![30, 0] ![0, 0] (shapeCast S1x2048 (Host.reduceAdd (F := Ideal) (φ := .f32) (mulf (res_main_v161 V0) (res_main_v10 V0)) (constant S_ .f32 0x00000000#32) reducesTo_S4096x2048_S2048_d0 h_S_) hs1) (constant (F := Ideal) S_ .f32 0x00000000#32) hp1 h_S_)) (pad S32x2048 ![0, 0] ![31, 0] ![0, 0] (shapeCast S1x2048 (Host.reduceAdd (F := Ideal) (φ := .f32) (mulf (res_main_v161 V0) (res_main_v4 V0)) (constant S_ .f32 0x00000000#32) reducesTo_S4096x2048_S2048_d0 h_S_) hs0) (constant (F := Ideal) S_ .f32 0x00000000#32) hp0 h_S_) (ix2 a k)
      = ∑ j ∈ Finset.range 31, if a.val = 30 - j then tapGrad (V0 (Proc.devRef .tc main_arg0)) (V0 (Proc.devRef .tc main_arg1)) (30 - j) k else 0 := by
  rw [Finset.sum_range_succ, Finset.sum_range_succ, ← v422_at]
  simp only [res_main_v4, res_main_v10, v161_eq, addf_at]
  refine congrArg₂ (fun x y : EReal => x + y) ?_ (dw_tap' V0 _ _ _ _ _ _ a k)
  exact congrArg₂ (fun x y : EReal => x + y) rfl (dw_tap' V0 _ _ _ _ _ _ a k)

/-- The operand's gradient at row `i`. -/
theorem v442_at (h) (i : Fin 4096) (k : Fin 2048) :
    extractStridedSlice S4096x2048 ![30, 0] (res_main_v438 V0) h (ix2 i k)
      = ∑ j ∈ Finset.range 31, tapRow (V0 (Proc.devRef .tc main_arg2)) (30 - j) k * moved (V0 (Proc.devRef .tc main_arg0)) (30 - j) (30 + i.val) k := by
  pointwise
  exact v438_at V0 _ k

/-- The bias gradient: the cotangent's column sums. -/
theorem v163_at (dc : S4096x2048.Idx → EReal) (h) (k : Fin 2048) :
    shapeCast S1x2048 (Host.reduceAdd (F := Ideal) (φ := .f32) dc (constant S_ .f32 0x00000000#32) reducesTo_S4096x2048_S2048_d0 h_S_) h (ix2 0 k)
      = ∑ x : Fin 4096, dc (ix2 x k) := by
  pointwise

end Cert.ReferenceIdeal
-- ==== Proof.Conv.Tie.lean ====
module
public import proofs.«01_k».proof.Proof.Conv.Arrays
public import proofs.«01_k».proof.Proof.Conv.Reference
@[expose] public section
noncomputable section
namespace Cert.Conv
open Idealize.ShloMosaic Idealize.ShloMosaic.TcCoe Idealize.ShloMosaic.Tactic
open Idealize.SL Idealize.SL.Sem
open Cert.KernelIdeal (rowOr rowBack tap duAt dwBlock)
open Cert.ReferenceIdeal (tapRow moved below tapGrad)

/-- A sum over the taps from the last to the first is the sum over the taps. -/
theorem sum_taps (f : ℕ → EReal) : ∑ j ∈ Finset.range 31, f (30 - j) = ∑ j ∈ Finset.range 31, f j :=
  Finset.sum_range_reflect f 31

/-- The operand's gradient, as the kernel and as the reference write it. -/
theorem du_eq (w : Cert.KernelIdeal.S32x2048.Idx → EReal) (dc : Cert.KernelIdeal.S4096x2048.Idx → EReal) (i : Fin 4096) (k : Fin 2048) :
    duAt w dc i.val k = ∑ j ∈ Finset.range 31, tapRow w (30 - j) k * moved dc (30 - j) (30 + i.val) k := by
  rw [sum_taps fun j => tapRow w j k * moved dc j (30 + i.val) k]
  refine Finset.sum_congr rfl fun j hj => ?_
  have hj : j < 31 := Finset.mem_range.mp hj
  refine congrArg₂ (fun x y : EReal => x * y) rfl ?_
  unfold rowOr moved
  by_cases h : i.val + (30 - j) < 4096
  · rw [dif_pos h, dif_pos ⟨by omega, by omega⟩]
    exact congrArg (fun n => dc (ix2 n k)) (Fin.ext (by show i.val + (30 - j) = 30 + i.val - j; omega))
  · rw [dif_neg h, dif_neg (by omega)]

/-- A sum over 32 blocks of 128 rows is the sum over the 4096 rows. -/
theorem sum_rows (f : ℕ → EReal) : ∑ s ∈ Finset.range 32, ∑ r : Fin 128, f (128 * s + r.val) = ∑ x : Fin 4096, f x.val := by
  rw [Fin.sum_univ_eq_sum_range f 4096, show 4096 = 32 * 128 from rfl, Finset.sum_range_mul_split]
  refine Finset.sum_congr rfl fun s _ => ?_
  rw [Fin.sum_univ_eq_sum_range (fun r => f (128 * s + r)) 128]
  exact Finset.sum_congr rfl fun r _ => by rw [Nat.mul_comm]

theorem rowOr_val (X : Cert.KernelIdeal.S4096x2048.Idx → EReal) (x : Fin 4096) (k : Fin 2048) : rowOr X x.val k = X (ix2 x k) := by
  unfold rowOr
  rw [dif_pos x.isLt]

/-- The tap gradients, as the kernel and as the reference write them. -/
theorem dw_eq (dc u : Cert.KernelIdeal.S4096x2048.Idx → EReal) (a : Fin 32) (k : Fin 2048) :
    ∑ s ∈ Finset.range 32, dwBlock dc u s a.val k
      = ∑ j ∈ Finset.range 31, if a.val = 30 - j then tapGrad dc u (30 - j) k else 0 := by
  rw [sum_taps fun j => if a.val = j then tapGrad dc u j k else 0, Finset.sum_ite_eq]
  by_cases h : a.val < 31
  · rw [if_pos (Finset.mem_range.mpr h)]
    simp only [dwBlock, if_pos h]
    have e : ∀ s (r : Fin 128), 128 * s + (2 + a.val + r.val) = (128 * s + r.val) + (2 + a.val) := fun s r => by omega
    simp only [e]
    rw [sum_rows fun n => rowOr dc n k * rowBack u (n + (2 + a.val)) k]
    refine Finset.sum_congr rfl fun x _ => ?_
    rw [rowOr_val]
    refine congrArg₂ (fun x y : EReal => x * y) rfl ?_
    unfold rowBack below
    by_cases hx : 30 ≤ a.val + x.val
    · rw [dif_pos ⟨by omega, by omega⟩, dif_pos ⟨hx, by omega⟩]
      exact congrArg (fun n => u (ix2 n k)) (Fin.ext (by show x.val + (2 + a.val) - 32 = a.val + x.val - 30; omega))
    · rw [dif_neg (by omega), dif_neg (by omega)]
  · rw [if_neg (by rw [Finset.mem_range]; exact h)]
    exact Finset.sum_eq_zero fun s _ => by rw [dwBlock, if_neg h]

/-- The bias gradient, as the kernel and as the reference write it. -/
theorem db_eq (dc : Cert.KernelIdeal.S4096x2048.Idx → EReal) (k : Fin 2048) :
    ∑ s ∈ Finset.range 32, ∑ r : Fin 128, rowOr dc (128 * s + r.val) k = ∑ x : Fin 4096, dc (ix2 x k) := by
  rw [sum_rows fun n => rowOr dc n k]
  exact Finset.sum_congr rfl fun x _ => rowOr_val dc x k

end Cert.Conv
-- ==== Proof.Conv.Claims.lean ====
module
public import proofs.«01_k».proof.Defs
public import proofs.«01_k».proof.Proof.Conv.Tie
@[expose] public section
noncomputable section
namespace Cert.Conv
open Idealize.ShloMosaic Idealize.ShloMosaic.TcCoe Idealize.ShloMosaic.Tactic
open Idealize.SL Idealize.SL.Sem

/-- The plain gradient runs to its end, keeps its arguments, and has no semaphores. -/
theorem frame_ref : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The convolution's three gradients are those of the plain definition. -/
theorem algebraic : Cert.algebraic_KernelIdeal_ReferenceIdeal := by
  intro m g m' g' _ hagree
  refine ⟨_, _, _, (θ_run Cert.KernelIdeal.defs _ _).mono (fun r h => h) (Cert.KernelIdeal.Value.run_blocks (F := Ideal) m g),
    (θ_run Cert.ReferenceIdeal.defs _ _).mono (fun r h c => ⟨(h c).1.trans ?_, (h c).2.1.trans ?_, (h c).2.2.1.trans ?_, (h c).2.2.2⟩)
      (Cert.ReferenceIdeal.Value.run (F := Ideal) m' g')⟩
  · rw [Cert.KernelIdeal.final5]
    funext y
    obtain ⟨i, k, rfl⟩ : ∃ (i : Fin 4096) (k : Fin 2048), y = ix2 i k := ⟨y 0, y 1, eq_ix2 y⟩
    refine (Cert.ReferenceIdeal.v442_at _ _ i k).trans ((du_eq _ _ i k).symm.trans ?_)
    exact congrArg₂ (fun w dc => Cert.KernelIdeal.duAt w dc i.val k) (hagree c).2.2.1 (hagree c).1
  · rw [Cert.KernelIdeal.final6]
    funext y
    obtain ⟨i, k, rfl⟩ : ∃ (i : Fin 32) (k : Fin 2048), y = ix2 i k := ⟨y 0, y 1, eq_ix2 y⟩
    refine (Cert.ReferenceIdeal.v440_at _ _ _ _ _ i k).trans ((dw_eq _ _ i k).symm.trans ?_)
    exact congrArg₂ (fun dc u => ∑ s ∈ Finset.range 32, Cert.KernelIdeal.dwBlock dc u s i.val k) (hagree c).1 (hagree c).2.1
  · rw [Cert.KernelIdeal.final7]
    funext y
    obtain ⟨k, rfl⟩ : ∃ (k : Fin 2048), y = ix2 0 k := ⟨y 1, (eq_ix2 y).trans (congrArg (fun a : Fin 1 => ix2 a (y 1)) (Subsingleton.elim (α := Fin 1) _ _))⟩
    refine (Cert.ReferenceIdeal.v163_at _ _ k).trans ((db_eq _ k).symm.trans ?_)
    exact congrArg (fun dc => ∑ s ∈ Finset.range 32, ∑ r : Fin 128, Cert.KernelIdeal.rowOr dc (128 * s + r.val) k) (hagree c).1

end Cert.Conv
-- ==== Proof.Product.lean ====
module
public import Idealize.ShloMosaic.PureOps.Ideal

/-!
# A product summed block by block

A tiled product walks the inner dimension in `J` steps of `B` columns and keeps the running sum in an accumulator.
The walk numbers its points `t`; `t / J` is the block of the result and `t % J` the step.  These are the facts
about sums that every tiled product of this package shares.  They mention no program.
-/

@[expose] public section
noncomputable section

namespace Cert.Product

open Finset

/-- The entry of a matrix at two natural numbers, and zero outside it. -/
def entry {M K : ℕ} (X : Fin M → Fin K → EReal) (r k : ℕ) : EReal :=
  if h : r < M ∧ k < K then X ⟨r, h.1⟩ ⟨k, h.2⟩ else 0

theorem entry_of {M K : ℕ} (X : Fin M → Fin K → EReal) (r : Fin M) (k : Fin K) : entry X r.val k.val = X r k :=
  dif_pos ⟨r.isLt, k.isLt⟩

theorem entry_at {M K : ℕ} (X : Fin M → Fin K → EReal) {r k : ℕ} (hr : r < M) (hk : k < K) :
    entry X r k = X ⟨r, hr⟩ ⟨k, hk⟩ := dif_pos ⟨hr, hk⟩

/-- One more step of `B` columns. -/
theorem sum_step (B s : ℕ) (f : ℕ → EReal) :
    ∑ k ∈ range ((s + 1) * B), f k = ∑ k ∈ range (s * B), f k + ∑ q : Fin B, f (s * B + q.val) := by
  rw [Nat.succ_mul, sum_range_add, ← Fin.sum_univ_eq_sum_range (fun q => f (s * B + q))]

/-- An accumulator that starts a block of the result at `z` and adds one step's columns at every point holds, after the
step `t % J`, `z` and the columns of the steps so far. -/
theorem acc_upto {N J B : ℕ} (hJ : 0 < J) (acc : (t : ℕ) → t < N → EReal) (z : ℕ → EReal) (f : ℕ → ℕ → EReal)
    (start : ∀ t h, t % J = 0 → acc t h = z (t / J) + ∑ q : Fin B, f (t / J) (t % J * B + q.val))
    (next : ∀ t h, t % J ≠ 0 →
      acc t h = acc (t - 1) (Nat.lt_of_le_of_lt (Nat.sub_le _ _) h) + ∑ q : Fin B, f (t / J) (t % J * B + q.val)) :
    ∀ t h, acc t h = z (t / J) + ∑ k ∈ range ((t % J + 1) * B), f (t / J) k := by
  intro t
  induction t with
  | zero =>
    intro h
    rw [start 0 h (Nat.zero_mod _), sum_step, Nat.zero_mod, Nat.zero_mul, range_zero, sum_empty, zero_add]
  | succ t ih =>
    intro h
    by_cases h0 : (t + 1) % J = 0
    · rw [start _ h h0, sum_step, h0, Nat.zero_mul, range_zero, sum_empty, zero_add]
    · have hd : t / J = (t + 1) / J := by
        rw [Nat.succ_div, if_neg (fun hd => h0 (Nat.mod_eq_zero_of_dvd hd)), Nat.add_zero]
      have hm : t % J + 1 = (t + 1) % J := by
        have h1 := Nat.div_add_mod t J
        have h2 := Nat.div_add_mod (t + 1) J
        rw [hd] at h1
        omega
      rw [sum_step, ← add_assoc]
      refine (next _ h h0).trans (congrArg₂ (fun x y : EReal => x + y) ?_ rfl)
      show acc t _ = _
      rw [ih, hd, hm]

/-- After the last step the accumulator holds `z` and the whole inner sum. -/
theorem acc_last {N J B K : ℕ} (hJ : 0 < J) (hK : J * B = K) (acc : (t : ℕ) → t < N → EReal) (z : ℕ → EReal)
    (f : ℕ → ℕ → EReal)
    (start : ∀ t h, t % J = 0 → acc t h = z (t / J) + ∑ q : Fin B, f (t / J) (t % J * B + q.val))
    (next : ∀ t h, t % J ≠ 0 →
      acc t h = acc (t - 1) (Nat.lt_of_le_of_lt (Nat.sub_le _ _) h) + ∑ q : Fin B, f (t / J) (t % J * B + q.val))
    (t : ℕ) (h : t < N) (hl : t % J + 1 = J) : acc t h = z (t / J) + ∑ k : Fin K, f (t / J) k.val := by
  subst hK
  rw [acc_upto hJ acc z f start next, hl, ← Fin.sum_univ_eq_sum_range (fun k => f (t / J) k)]

/-- The term of inner column `k` at entry `(r, l)` of block `p` of a product of `X` with the transpose of `Y`.  The result
has `C` blocks of 1024 columns beside each other, and the blocks are numbered row by row. -/
def term {M N K : ℕ} (C : ℕ) (X : Fin M → Fin K → EReal) (Y : Fin N → Fin K → EReal) (r l p k : ℕ) : EReal :=
  entry X (p / C * 1024 + r) k * entry Y (p % C * 1024 + l) k

/-- The whole inner sum of a block's entry, by the entry's own row and column. -/
theorem sum_term {M N K C : ℕ} (X : Fin M → Fin K → EReal) (Y : Fin N → Fin K → EReal) (r l p : ℕ) (i : Fin M) (j : Fin N)
    (hi : i.val = p / C * 1024 + r) (hj : j.val = p % C * 1024 + l) :
    ∑ k : Fin K, term C X Y r l p k.val = ∑ k : Fin K, X i k * Y j k :=
  Finset.sum_congr rfl fun k _ => by rw [term, ← hi, ← hj, entry_of, entry_of]

/-- One step's columns, read from the two blocks the step sees. -/
theorem sum_blocks {M N K B C : ℕ} (X : Fin M → Fin K → EReal) (Y : Fin N → Fin K → EReal) (r l p s : ℕ)
    (x y : Fin B → EReal) (hx : ∀ q, x q = entry X (p / C * 1024 + r) (s * B + q.val))
    (hy : ∀ q, y q = entry Y (p % C * 1024 + l) (s * B + q.val)) :
    ∑ q : Fin B, x q * y q = ∑ q : Fin B, term C X Y r l p (s * B + q.val) :=
  Finset.sum_congr rfl fun q _ => by rw [hx, hy, term]

end Cert.Product
-- ==== Proof.GMlpW1.Points.lean ====
module
public import proofs.«01_k».proof.Proof.Product
public import proofs.«01_k».proof.Proof.Gen.Kernel2Ideal.Value
public import Idealize.ShloMosaic.PureOps.Ideal
public import Idealize.ShloMosaic.Lib.Pipeline.ValueKit
public import Idealize.ShloMosaic.Lib.Pipeline.ReadBack
public import Idealize.ShloMosaic.Lib.Pointwise

/-!
# The gradient of the first MLP weight, block by block

The call computes the transposed input times the cotangent, left as four slots of 4096 columns.  Point `t` works on block `t / 4` of the result, of which 16 lie side by side, and on the
inner columns of step `t % 4`.
-/

@[expose] public section
set_option maxRecDepth 16384
noncomputable section
namespace Cert.Kernel2Ideal
open Idealize.ShloMosaic Idealize.ShloMosaic.TcCoe Idealize.ShloMosaic.Tactic
open Idealize.SL Idealize.SL.Sem
variable (m : (ℓ : Loc nD τ sig) → Buf (Elt Ideal) ℓ)
open Gen Cert.Product

theorem idx0 : ∀ t : Fin cfg0.N, win0_0.index t 0 = t.val % 4 ∧ win0_0.index t 1 = t.val / 4 / 16 := by
  decide +kernel
theorem idx1 : ∀ t : Fin cfg0.N, win0_1.index t 0 = t.val % 4 ∧ win0_1.index t 1 = t.val / 4 % 16 := by
  decide +kernel
theorem idx2 : ∀ t : Fin cfg0.N, win0_2.index t 0 = t.val / 4 % 16 / 4 ∧ win0_2.index t 1 = t.val / 4 / 16 ∧ win0_2.index t 2 = t.val / 4 % 16 % 4 := by
  decide +kernel

/-- The left factor, its inner index second. -/
abbrev lhs (c : Dev nD) : Fin 4096 → Fin 4096 → EReal := fun r k => m ((c : Thread nD τ).loc main_arg0) (ix2 k r)
/-- The right factor, its inner index second. -/
abbrev rhs (c : Dev nD) : Fin 16384 → Fin 4096 → EReal := fun r k => m ((c : Thread nD τ).loc main_arg1) (ix2 k r)

theorem blk0 (c : Dev nD) (t : Fin cfg0.N) (r q : Fin 1024) :
    iblk m c 0 t (ix2 q r) = entry (lhs m c) (t.val / 4 / 16 * 1024 + r.val) (t.val % 4 * 1024 + q.val) := by
  have ht : t.val < 256 := t.isLt
  rw [entry_at _ (by omega) (by omega)]
  blk_ext [iblk, V, idx0 t]

theorem blk1 (c : Dev nD) (t : Fin cfg0.N) (r q : Fin 1024) :
    iblk m c 1 t (ix2 q r) = entry (rhs m c) (t.val / 4 % 16 * 1024 + r.val) (t.val % 4 * 1024 + q.val) := by
  have ht : t.val < 256 := t.isLt
  rw [entry_at _ (by omega) (by omega)]
  blk_ext [iblk, V, idx1 t]

theorem pay1 (r l : Fin 1024) : k0_pay1 (F := Ideal) (ix2 r l) = (0 : EReal) := by
  pointwise [k0_pay1]

theorem pay2 (a x : S1024x1024.Idx → EReal) (y : S1024x1024.Idx → EReal) (r l : Fin 1024) :
    k0_pay2 (F := Ideal) a x y (ix2 r l) = a (ix2 r l) + ∑ q : Fin 1024, x (ix2 q r) * y (ix2 q l) := by
  pointwise [k0_pay2]

theorem pay3 (a : S1024x1024.Idx → EReal) (r l : Fin 1024) : k0_pay3 (F := Ideal) a (ix3 0 r l) = a (ix2 r l) := by
  pointwise [k0_pay3]

/-- One step adds its columns to the accumulator. -/
theorem step (c : Dev nD) (t : Fin cfg0.N) (a : S1024x1024.Idx → EReal) (r l : Fin 1024) (x : EReal) (h : a (ix2 r l) = x) :
    k0_pay2 (F := Ideal) a (iblk m c 0 t) (iblk m c 1 t) (ix2 r l)
      = x + ∑ q : Fin 1024, term 16 (lhs m c) (rhs m c) r l (t.val / 4) (t.val % 4 * 1024 + q.val) := by
  rw [pay2, h]
  exact congrArg₂ (fun x y : EReal => x + y) rfl
    (sum_blocks _ _ _ _ _ _ (fun q => iblk m c 0 t (ix2 q r)) (fun q => iblk m c 1 t (ix2 q l)) (blk0 m c t r) (blk1 m c t l))

theorem accA (c : Dev nD) (t : Fin cfg0.N) (h : t.val % 4 = 0) (r l : Fin 1024) :
    (outsAt0 m c t.val t.isLt).2 (ix2 r l) = 0 + ∑ q : Fin 1024, term 16 (lhs m c) (rhs m c) r l (t.val / 4) (t.val % 4 * 1024 + q.val) := by
  rw [outsAt0_A m c t h (by omega)]
  frame_out
  exact step m c t _ r l _ (pay1 r l)

theorem accB (c : Dev nD) (t : Fin cfg0.N) (h : t.val % 4 ≠ 0) (r l : Fin 1024) :
    (outsAt0 m c t.val t.isLt).2 (ix2 r l)
      = (outsAt0 m c (t.val - 1) (Nat.lt_of_le_of_lt (Nat.sub_le _ _) t.isLt)).2 (ix2 r l)
        + ∑ q : Fin 1024, term 16 (lhs m c) (rhs m c) r l (t.val / 4) (t.val % 4 * 1024 + q.val) := by
  by_cases hl : t.val % 4 = 3
  · rw [outsAt0_C m c t h hl]
    frame_out
    exact step m c t _ r l _ (congrFun (Memref.IsWhole.read_unread _ _) _)
  · rw [outsAt0_B m c t h hl]
    frame_out
    exact step m c t _ r l _ (congrFun (Memref.IsWhole.read_unread _ _) _)

/-- The last step of a block writes the accumulator out. -/
theorem out_eq (c : Dev nD) (t : Fin cfg0.N) (hl : t.val % 4 = 3) (r l : Fin 1024) :
    (outsAt0 m c t.val t.isLt).1 (ix3 0 r l) = (outsAt0 m c t.val t.isLt).2 (ix2 r l) := by
  rw [outsAt0_C m c t (by omega) hl]
  frame_out
  exact pay3 _ r l

theorem out_last (c : Dev nD) (t : Fin cfg0.N) (hl : t.val % 4 = 3) (r l : Fin 1024) :
    (outsAt0 m c t.val t.isLt).1 (ix3 0 r l) = 0 + ∑ k : Fin 4096, term 16 (lhs m c) (rhs m c) r l (t.val / 4) k.val :=
  (out_eq m c t hl r l).trans
    (acc_last (J := 4) (B := 1024) (K := 4096) (by norm_num) (by norm_num) (fun n h => (outsAt0 m c n h).2 (ix2 r l))
      (fun _ => 0) (term 16 (lhs m c) (rhs m c) r l)
      (fun n h h0 => accA m c ⟨n, h⟩ h0 r l) (fun n h h0 => accB m c ⟨n, h⟩ h0 r l) t.val t.isLt (by omega))

theorem whole (c : Dev nD) (r l : Fin 1024) (p : ℕ) (i : Fin 4096) (j : Fin 16384) (hi : i.val = p / 16 * 1024 + r.val)
    (hj : j.val = p % 16 * 1024 + l.val) :
    0 + ∑ k : Fin 4096, term 16 (lhs m c) (rhs m c) r l p k.val = ∑ k : Fin 4096, lhs m c i k * rhs m c j k := by
  rw [sum_term _ _ _ _ _ i j hi hj, zero_add]

/-- The array the launch leaves: slot `a` holds columns `4096 a` to `4096 a + 4095` of the product. -/
theorem product (c : Dev nD) (a : Fin 4) (i : Fin 4096) (j : Fin 4096) :
    (dats m 0 c).arrAt 2 cfg0.N (ix3 a i j)
      = ∑ k : Fin 4096, lhs m c i k * rhs m c ⟨4096 * a.val + j.val, by omega⟩ k := by
  have e : (dats m 0 c).arrAt 2 cfg0.N
      = fun y => ∑ k : Fin 4096, lhs m c (y 1) k * rhs m c ⟨4096 * (y 0).val + (y 2).val, Nat.lt_of_lt_of_le (Nat.add_lt_add_left (y 2).isLt _) (Nat.mul_le_mul_left 4096 (y 0).isLt)⟩ k := by
    refine (dats m 0 c).arrAt_eq_of_covers 2 _ (by decide +kernel) fun t hf y => ?_
    have ht : t.val < 256 := t.isLt
    have hl := (flush0_2 t).mp hf
    obtain ⟨r, l, rfl⟩ : ∃ (r l : Fin 1024), y = ix3 (0 : Fin 1) r l :=
      ⟨y 1, y 2, (eq_ix3 y).trans (congrArg (fun a : Fin 1 => ix3 a (y 1) (y 2)) (Subsingleton.elim (α := Fin 1) _ _))⟩
    blk_simp
    rw [after0_2, out_last m c t hl]
    refine whole m c r l (t.val / 4) _ _ ?_ ?_
    · blk_ext [idx2 t]
    · refine (congrArg₂ (fun x y : ℕ => 4096 * x + y) (x' := t.val / 4 % 16 / 4 + (0 : Fin 1).val) (y' := t.val / 4 % 16 % 4 * 1024 + l.val) ?_ ?_).trans (by omega) <;> blk_ext [idx2 t]
  exact congrFun e _

end Cert.Kernel2Ideal
-- ==== Proof.GMlpW1.Claims.lean ====
module
public import proofs.«01_k».proof.Defs
public import proofs.«01_k».proof.Proof.GMlpW1.Points
public import proofs.«01_k».proof.Proof.Gen.Reference2Ideal.Run

/-!
# The gradient of the first MLP weight: the claims
-/

@[expose] public section
set_option maxRecDepth 16384
noncomputable section
namespace Cert.GMlpW1
open Idealize.ShloMosaic Idealize.ShloMosaic.TcCoe Idealize.ShloMosaic.Tactic
open Idealize.SL Idealize.SL.Sem

/-- The plain product runs to its end, keeps its arguments, and has no semaphores. -/
theorem frame_ref : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The tiled product is the plain one. -/
theorem algebraic : Cert.algebraic_Kernel2Ideal_Reference2Ideal := by
  intro m g m' g' _ hagree
  refine ⟨_, (θ_run Cert.Kernel2Ideal.defs _ _).mono (fun r h => h) (Cert.Kernel2Ideal.Value.run_blocks (F := Ideal) m g),
    (θ_run Cert.Reference2Ideal.defs _ _).mono (fun r h c => ⟨(h c).1.trans ?_, (h c).2⟩)
      (Cert.Reference2Ideal.Value.run (F := Ideal) m' g')⟩
  rw [(hagree c).1, (hagree c).2]
  funext y
  obtain ⟨a, i, j, rfl⟩ : ∃ (a : Fin 4) (i : Fin 4096) (j : Fin 4096), y = ix3 a i j := ⟨y 0, y 1, y 2, eq_ix3 y⟩
  refine Eq.trans ?_ (Cert.Kernel2Ideal.product m c a i j).symm
  refine Eq.trans (b := ∑ k : Fin 4096, Cert.Kernel2Ideal.rhs m c ⟨a.val * 4096 + j.val, by omega⟩ k * Cert.Kernel2Ideal.lhs m c i k) ?_
    (Finset.sum_congr rfl fun k _ => (mul_comm _ _).trans (by simp only [Nat.mul_comm a.val]))
  pointwise []

end Cert.GMlpW1
-- ==== Proof.DAct.Points.lean ====
module
public import proofs.«01_k».proof.Proof.Product
public import proofs.«01_k».proof.Proof.Gen.Kernel3Ideal.Value
public import Idealize.ShloMosaic.PureOps.Ideal
public import Idealize.ShloMosaic.Lib.Pipeline.ValueKit
public import Idealize.ShloMosaic.Lib.Pipeline.ReadBack
public import Idealize.ShloMosaic.Lib.Pointwise

/-!
# The gradient of the MLP's activation, block by block

The call computes the cotangent times the transposed second MLP weight.  Point `t` works on block `t / 4` of the result, of which 16 lie side by side, and on the
inner columns of step `t % 4`.
-/

@[expose] public section
set_option maxRecDepth 16384
noncomputable section
namespace Cert.Kernel3Ideal
open Idealize.ShloMosaic Idealize.ShloMosaic.TcCoe Idealize.ShloMosaic.Tactic
open Idealize.SL Idealize.SL.Sem
variable (m : (ℓ : Loc nD τ sig) → Buf (Elt Ideal) ℓ)
open Gen Cert.Product

theorem idx0 : ∀ t : Fin cfg0.N, win0_0.index t 0 = t.val / 4 / 16 ∧ win0_0.index t 1 = t.val % 4 := by
  decide +kernel
theorem idx1 : ∀ t : Fin cfg0.N, win0_1.index t 0 = t.val / 4 % 16 ∧ win0_1.index t 1 = t.val % 4 := by
  decide +kernel
theorem idx2 : ∀ t : Fin cfg0.N, win0_2.index t 0 = t.val / 4 / 16 ∧ win0_2.index t 1 = t.val / 4 % 16 := by
  decide +kernel

/-- The left factor, its inner index second. -/
abbrev lhs (c : Dev nD) : Fin 4096 → Fin 4096 → EReal := fun r k => m ((c : Thread nD τ).loc main_arg0) (ix2 r k)
/-- The right factor, its inner index second. -/
abbrev rhs (c : Dev nD) : Fin 16384 → Fin 4096 → EReal := fun r k => m ((c : Thread nD τ).loc main_arg1) (ix2 r k)

theorem blk0 (c : Dev nD) (t : Fin cfg0.N) (r q : Fin 1024) :
    iblk m c 0 t (ix2 r q) = entry (lhs m c) (t.val / 4 / 16 * 1024 + r.val) (t.val % 4 * 1024 + q.val) := by
  have ht : t.val < 256 := t.isLt
  rw [entry_at _ (by omega) (by omega)]
  blk_ext [iblk, V, idx0 t]

theorem blk1 (c : Dev nD) (t : Fin cfg0.N) (r q : Fin 1024) :
    iblk m c 1 t (ix2 r q) = entry (rhs m c) (t.val / 4 % 16 * 1024 + r.val) (t.val % 4 * 1024 + q.val) := by
  have ht : t.val < 256 := t.isLt
  rw [entry_at _ (by omega) (by omega)]
  blk_ext [iblk, V, idx1 t]

theorem pay1 (r l : Fin 1024) : k0_pay1 (F := Ideal) (ix2 r l) = (0 : EReal) := by
  pointwise [k0_pay1]

theorem pay2 (a x : S1024x1024.Idx → EReal) (y : S1024x1024.Idx → EReal) (r l : Fin 1024) :
    k0_pay2 (F := Ideal) a x y (ix2 r l) = a (ix2 r l) + ∑ q : Fin 1024, x (ix2 r q) * y (ix2 l q) := by
  pointwise [k0_pay2]

/-- One step adds its columns to the accumulator. -/
theorem step (c : Dev nD) (t : Fin cfg0.N) (a : S1024x1024.Idx → EReal) (r l : Fin 1024) (x : EReal) (h : a (ix2 r l) = x) :
    k0_pay2 (F := Ideal) a (iblk m c 0 t) (iblk m c 1 t) (ix2 r l)
      = x + ∑ q : Fin 1024, term 16 (lhs m c) (rhs m c) r l (t.val / 4) (t.val % 4 * 1024 + q.val) := by
  rw [pay2, h]
  exact congrArg₂ (fun x y : EReal => x + y) rfl
    (sum_blocks _ _ _ _ _ _ (fun q => iblk m c 0 t (ix2 r q)) (fun q => iblk m c 1 t (ix2 l q)) (blk0 m c t r) (blk1 m c t l))

theorem accA (c : Dev nD) (t : Fin cfg0.N) (h : t.val % 4 = 0) (r l : Fin 1024) :
    (outsAt0 m c t.val t.isLt).2 (ix2 r l) = 0 + ∑ q : Fin 1024, term 16 (lhs m c) (rhs m c) r l (t.val / 4) (t.val % 4 * 1024 + q.val) := by
  rw [outsAt0_A m c t h (by omega)]
  frame_out
  exact step m c t _ r l _ (pay1 r l)

theorem accB (c : Dev nD) (t : Fin cfg0.N) (h : t.val % 4 ≠ 0) (r l : Fin 1024) :
    (outsAt0 m c t.val t.isLt).2 (ix2 r l)
      = (outsAt0 m c (t.val - 1) (Nat.lt_of_le_of_lt (Nat.sub_le _ _) t.isLt)).2 (ix2 r l)
        + ∑ q : Fin 1024, term 16 (lhs m c) (rhs m c) r l (t.val / 4) (t.val % 4 * 1024 + q.val) := by
  by_cases hl : t.val % 4 = 3
  · rw [outsAt0_C m c t h hl]
    frame_out
    exact step m c t _ r l _ (congrFun (Memref.IsWhole.read_unread _ _) _)
  · rw [outsAt0_B m c t h hl]
    frame_out
    exact step m c t _ r l _ (congrFun (Memref.IsWhole.read_unread _ _) _)

/-- The last step of a block writes the accumulator out. -/
theorem out_eq (c : Dev nD) (t : Fin cfg0.N) (hl : t.val % 4 = 3) (r l : Fin 1024) :
    (outsAt0 m c t.val t.isLt).1 (ix2 r l) = (outsAt0 m c t.val t.isLt).2 (ix2 r l) := by
  rw [outsAt0_C m c t (by omega) hl]
  frame_out

theorem out_last (c : Dev nD) (t : Fin cfg0.N) (hl : t.val % 4 = 3) (r l : Fin 1024) :
    (outsAt0 m c t.val t.isLt).1 (ix2 r l) = 0 + ∑ k : Fin 4096, term 16 (lhs m c) (rhs m c) r l (t.val / 4) k.val :=
  (out_eq m c t hl r l).trans
    (acc_last (J := 4) (B := 1024) (K := 4096) (by norm_num) (by norm_num) (fun n h => (outsAt0 m c n h).2 (ix2 r l))
      (fun _ => 0) (term 16 (lhs m c) (rhs m c) r l)
      (fun n h h0 => accA m c ⟨n, h⟩ h0 r l) (fun n h h0 => accB m c ⟨n, h⟩ h0 r l) t.val t.isLt (by omega))

theorem whole (c : Dev nD) (r l : Fin 1024) (p : ℕ) (i : Fin 4096) (j : Fin 16384) (hi : i.val = p / 16 * 1024 + r.val)
    (hj : j.val = p % 16 * 1024 + l.val) :
    0 + ∑ k : Fin 4096, term 16 (lhs m c) (rhs m c) r l p k.val = ∑ k : Fin 4096, lhs m c i k * rhs m c j k := by
  rw [sum_term _ _ _ _ _ i j hi hj, zero_add]

/-- The array the launch leaves. -/
theorem product (c : Dev nD) (i : Fin 4096) (j : Fin 16384) :
    (dats m 0 c).arrAt 2 cfg0.N (ix2 i j) = ∑ k : Fin 4096, lhs m c i k * rhs m c j k := by
  have e : (dats m 0 c).arrAt 2 cfg0.N
      = fun y => ∑ k : Fin 4096, lhs m c (y 0) k * rhs m c (y 1) k := by
    refine (dats m 0 c).arrAt_eq_of_covers 2 _ (by decide +kernel) fun t hf y => ?_
    have hl := (flush0_2 t).mp hf
    obtain ⟨r, l, rfl⟩ : ∃ (r l : Fin 1024), y = ix2 r l := ⟨y 0, y 1, eq_ix2 y⟩
    blk_simp
    rw [after0_2, out_last m c t hl]
    refine whole m c r l (t.val / 4) _ _ ?_ ?_ <;> blk_ext [idx2 t]
  exact congrFun e _

end Cert.Kernel3Ideal
-- ==== Proof.DAct.Claims.lean ====
module
public import proofs.«01_k».proof.Defs
public import proofs.«01_k».proof.Proof.DAct.Points
public import proofs.«01_k».proof.Proof.Gen.Reference3Ideal.Run

/-!
# The gradient of the MLP's activation: the claims
-/

@[expose] public section
set_option maxRecDepth 16384
noncomputable section
namespace Cert.DAct
open Idealize.ShloMosaic Idealize.ShloMosaic.TcCoe Idealize.ShloMosaic.Tactic
open Idealize.SL Idealize.SL.Sem

/-- The plain product runs to its end, keeps its arguments, and has no semaphores. -/
theorem frame_ref : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The tiled product is the plain one. -/
theorem algebraic : Cert.algebraic_Kernel3Ideal_Reference3Ideal := by
  intro m g m' g' _ hagree
  refine ⟨_, (θ_run Cert.Kernel3Ideal.defs _ _).mono (fun r h => h) (Cert.Kernel3Ideal.Value.run_blocks (F := Ideal) m g),
    (θ_run Cert.Reference3Ideal.defs _ _).mono (fun r h c => ⟨(h c).1.trans ?_, (h c).2⟩)
      (Cert.Reference3Ideal.Value.run (F := Ideal) m' g')⟩
  rw [(hagree c).1, (hagree c).2]
  funext y
  obtain ⟨i, j, rfl⟩ : ∃ (i : Fin 4096) (j : Fin 16384), y = ix2 i j := ⟨y 0, y 1, eq_ix2 y⟩
  refine Eq.trans ?_ (Cert.Kernel3Ideal.product m c i j).symm
  pointwise []

end Cert.DAct
-- ==== Proof.DH2.Points.lean ====
module
public import proofs.«01_k».proof.Proof.Product
public import proofs.«01_k».proof.Proof.Gen.Kernel4Ideal.Value
public import Idealize.ShloMosaic.PureOps.Ideal
public import Idealize.ShloMosaic.Lib.Pipeline.ValueKit
public import Idealize.ShloMosaic.Lib.Pipeline.ReadBack
public import Idealize.ShloMosaic.Lib.Pointwise

/-!
# The gradient of the MLP's input, block by block

The call computes the cotangent times the transposed first MLP weight, added to a gradient that is already there; the weight comes as four slots of 4096 columns.  Point `t` works on block `t / 16` of the result, of which 4 lie side by side, and on the
inner columns of step `t % 16`.
-/

@[expose] public section
set_option maxRecDepth 16384
noncomputable section
namespace Cert.Kernel4Ideal
open Idealize.ShloMosaic Idealize.ShloMosaic.TcCoe Idealize.ShloMosaic.Tactic
open Idealize.SL Idealize.SL.Sem
variable (m : (ℓ : Loc nD τ sig) → Buf (Elt Ideal) ℓ)
open Gen Cert.Product

theorem idx0 : ∀ t : Fin cfg0.N, win0_0.index t 0 = t.val / 16 / 4 ∧ win0_0.index t 1 = t.val % 16 := by
  decide +kernel
theorem idx1 : ∀ t : Fin cfg0.N, win0_1.index t 0 = t.val % 16 / 4 ∧ win0_1.index t 1 = t.val / 16 % 4 ∧ win0_1.index t 2 = t.val % 16 % 4 := by
  decide +kernel
theorem idx2 : ∀ t : Fin cfg0.N, win0_2.index t 0 = t.val / 16 / 4 ∧ win0_2.index t 1 = t.val / 16 % 4 := by
  decide +kernel
theorem idx3 : ∀ t : Fin cfg0.N, win0_3.index t 0 = t.val / 16 / 4 ∧ win0_3.index t 1 = t.val / 16 % 4 := by
  decide +kernel

/-- The left factor, its inner index second. -/
abbrev lhs (c : Dev nD) : Fin 4096 → Fin 16384 → EReal := fun r k => m ((c : Thread nD τ).loc main_arg0) (ix2 r k)
/-- The right factor, its inner index second. -/
abbrev rhs (c : Dev nD) : Fin 4096 → Fin 16384 → EReal := fun r k => m ((c : Thread nD τ).loc main_arg1) (ix2 r k)
/-- The gradient the product is added to. -/
abbrev base (c : Dev nD) : Fin 4096 → Fin 4096 → EReal := fun r k => m ((c : Thread nD τ).loc main_arg2) (ix2 r k)

/-- The weight's columns as four slots. -/
abbrev cut (w : S4096x16384.Idx → EReal) : S4x4096x4096.Idx → EReal :=
  concatenate S4x4096x4096 0
      [⟨S1x4096x4096, broadcastInDim S1x4096x4096 ![1, 2] bcast_S4096x4096_S1x4096x4096_1_2 (extractStridedSlice S4096x4096 ![0, 0] w slices_S4096x16384_S4096x4096_0_0)⟩,
       ⟨S1x4096x4096, broadcastInDim S1x4096x4096 ![1, 2] bcast_S4096x4096_S1x4096x4096_1_2 (extractStridedSlice S4096x4096 ![0, 4096] w slices_S4096x16384_S4096x4096_0_4096)⟩,
       ⟨S1x4096x4096, broadcastInDim S1x4096x4096 ![1, 2] bcast_S4096x4096_S1x4096x4096_1_2 (extractStridedSlice S4096x4096 ![0, 8192] w slices_S4096x16384_S4096x4096_0_8192)⟩,
       ⟨S1x4096x4096, broadcastInDim S1x4096x4096 ![1, 2] bcast_S4096x4096_S1x4096x4096_1_2 (extractStridedSlice S4096x4096 ![0, 12288] w slices_S4096x16384_S4096x4096_0_12288)⟩]
      concatenates_S1x4096x4096_S1x4096x4096_S1x4096x4096_S1x4096x4096_S4x4096x4096_d0

/-- The four slots hold the weight's columns, 4096 to a slot. -/
theorem cut_at (w : S4096x16384.Idx → EReal) (a : Fin 4) (r : Fin 4096) (q : Fin 4096) :
    cut w (ix3 a r q) = w (ix2 r ⟨4096 * a.val + q.val, by omega⟩) := by
  pointwise [cut]
  split_ifs <;> exact congrArg (fun k => w (ix2 r k)) (Fin.ext (by dsimp only; omega))

theorem V_cut (c : Dev nD) : V m c main_v8 = cut (m ((c : Thread nD τ).loc main_arg1)) := by
  unfold_abbrev_sides
  after_results
  rfl

theorem V_base (c : Dev nD) : V m c main_v9 = m ((c : Thread nD τ).loc main_arg2) := by
  unfold_abbrev_sides
  after_results
  rfl

theorem blk0 (c : Dev nD) (t : Fin cfg0.N) (r q : Fin 1024) :
    iblk m c 0 t (ix2 r q) = entry (lhs m c) (t.val / 16 / 4 * 1024 + r.val) (t.val % 16 * 1024 + q.val) := by
  have ht : t.val < 256 := t.isLt
  rw [entry_at _ (by omega) (by omega)]
  blk_ext [iblk, V, idx0 t]

theorem blk1 (c : Dev nD) (t : Fin cfg0.N) (r q : Fin 1024) :
    iblk m c 1 t (ix3 0 r q) = entry (rhs m c) (t.val / 16 % 4 * 1024 + r.val) (t.val % 16 * 1024 + q.val) := by
  have ht : t.val < 256 := t.isLt
  rw [entry_at _ (by omega) (by omega)]
  have e : iblk m c 1 t (ix3 0 r q) = V m c main_v8 (ix3 (⟨t.val % 16 / 4, by omega⟩ : Fin 4)
      (⟨(t.val / 16 % 4) * 1024 + r.val, by omega⟩ : Fin 4096) (⟨(t.val % 16 % 4) * 1024 + q.val, by omega⟩ : Fin 4096)) := by
    blk_ext [iblk, idx1 t]
  rw [e, V_cut]
  refine (cut_at _ _ _ _).trans ?_
  exact congrArg (fun k => m ((c : Thread nD τ).loc main_arg1) (ix2 _ k)) (Fin.ext (by dsimp only; omega))

theorem blk2 (c : Dev nD) (t : Fin cfg0.N) (r q : Fin 1024) :
    iblk m c 2 t (ix2 r q) = entry (base m c) (t.val / 16 / 4 * 1024 + r.val) (t.val / 16 % 4 * 1024 + q.val) := by
  have ht : t.val < 256 := t.isLt
  rw [entry_at _ (by omega) (by omega)]
  have e : iblk m c 2 t (ix2 r q) = V m c main_v9 (ix2 (⟨t.val / 16 / 4 * 1024 + r.val, by omega⟩ : Fin 4096)
      (⟨t.val / 16 % 4 * 1024 + q.val, by omega⟩ : Fin 4096)) := by
    blk_ext [iblk, idx2 t]
  rw [e, V_base]

theorem pay1 (z : S1024x1024.Idx → EReal) (r l : Fin 1024) : k0_pay1 (F := Ideal) z (ix2 r l) = z (ix2 r l) := by
  pointwise [k0_pay1]

theorem pay2 (a x : S1024x1024.Idx → EReal) (y : S1x1024x1024.Idx → EReal) (r l : Fin 1024) :
    k0_pay2 (F := Ideal) a x y (ix2 r l) = a (ix2 r l) + ∑ q : Fin 1024, x (ix2 r q) * y (ix3 0 l q) := by
  pointwise [k0_pay2]

/-- One step adds its columns to the accumulator. -/
theorem step (c : Dev nD) (t : Fin cfg0.N) (a : S1024x1024.Idx → EReal) (r l : Fin 1024) (x : EReal) (h : a (ix2 r l) = x) :
    k0_pay2 (F := Ideal) a (iblk m c 0 t) (iblk m c 1 t) (ix2 r l)
      = x + ∑ q : Fin 1024, term 4 (lhs m c) (rhs m c) r l (t.val / 16) (t.val % 16 * 1024 + q.val) := by
  rw [pay2, h]
  exact congrArg₂ (fun x y : EReal => x + y) rfl
    (sum_blocks _ _ _ _ _ _ (fun q => iblk m c 0 t (ix2 r q)) (fun q => iblk m c 1 t (ix3 0 l q)) (blk0 m c t r) (blk1 m c t l))

theorem accA (c : Dev nD) (t : Fin cfg0.N) (h : t.val % 16 = 0) (r l : Fin 1024) :
    (outsAt0 m c t.val t.isLt).2 (ix2 r l) = entry (base m c) (t.val / 16 / 4 * 1024 + r.val) (t.val / 16 % 4 * 1024 + l.val) + ∑ q : Fin 1024, term 4 (lhs m c) (rhs m c) r l (t.val / 16) (t.val % 16 * 1024 + q.val) := by
  rw [outsAt0_A m c t h (by omega)]
  frame_out
  exact step m c t _ r l _ ((pay1 _ r l).trans (blk2 m c t r l))

theorem accB (c : Dev nD) (t : Fin cfg0.N) (h : t.val % 16 ≠ 0) (r l : Fin 1024) :
    (outsAt0 m c t.val t.isLt).2 (ix2 r l)
      = (outsAt0 m c (t.val - 1) (Nat.lt_of_le_of_lt (Nat.sub_le _ _) t.isLt)).2 (ix2 r l)
        + ∑ q : Fin 1024, term 4 (lhs m c) (rhs m c) r l (t.val / 16) (t.val % 16 * 1024 + q.val) := by
  by_cases hl : t.val % 16 = 15
  · rw [outsAt0_C m c t h hl]
    frame_out
    exact step m c t _ r l _ (congrFun (Memref.IsWhole.read_unread _ _) _)
  · rw [outsAt0_B m c t h hl]
    frame_out
    exact step m c t _ r l _ (congrFun (Memref.IsWhole.read_unread _ _) _)

/-- The last step of a block writes the accumulator out. -/
theorem out_eq (c : Dev nD) (t : Fin cfg0.N) (hl : t.val % 16 = 15) (r l : Fin 1024) :
    (outsAt0 m c t.val t.isLt).1 (ix2 r l) = (outsAt0 m c t.val t.isLt).2 (ix2 r l) := by
  rw [outsAt0_C m c t (by omega) hl]
  frame_out

theorem out_last (c : Dev nD) (t : Fin cfg0.N) (hl : t.val % 16 = 15) (r l : Fin 1024) :
    (outsAt0 m c t.val t.isLt).1 (ix2 r l) = entry (base m c) (t.val / 16 / 4 * 1024 + r.val) (t.val / 16 % 4 * 1024 + l.val) + ∑ k : Fin 16384, term 4 (lhs m c) (rhs m c) r l (t.val / 16) k.val :=
  (out_eq m c t hl r l).trans
    (acc_last (J := 16) (B := 1024) (K := 16384) (by norm_num) (by norm_num) (fun n h => (outsAt0 m c n h).2 (ix2 r l))
      (fun p => entry (base m c) (p / 4 * 1024 + r.val) (p % 4 * 1024 + l.val)) (term 4 (lhs m c) (rhs m c) r l)
      (fun n h h0 => accA m c ⟨n, h⟩ h0 r l) (fun n h h0 => accB m c ⟨n, h⟩ h0 r l) t.val t.isLt (by omega))

theorem whole (c : Dev nD) (r l : Fin 1024) (p : ℕ) (i : Fin 4096) (j : Fin 4096) (hi : i.val = p / 4 * 1024 + r.val)
    (hj : j.val = p % 4 * 1024 + l.val) :
    entry (base m c) (p / 4 * 1024 + r.val) (p % 4 * 1024 + l.val) + ∑ k : Fin 16384, term 4 (lhs m c) (rhs m c) r l p k.val
      = base m c i j + ∑ k : Fin 16384, lhs m c i k * rhs m c j k := by
  rw [sum_term _ _ _ _ _ i j hi hj, ← hi, ← hj, entry_of]

/-- The array the launch leaves. -/
theorem product (c : Dev nD) (i : Fin 4096) (j : Fin 4096) :
    (dats m 0 c).arrAt 3 cfg0.N (ix2 i j) = base m c i j + ∑ k : Fin 16384, lhs m c i k * rhs m c j k := by
  have e : (dats m 0 c).arrAt 3 cfg0.N
      = fun y => base m c (y 0) (y 1) + ∑ k : Fin 16384, lhs m c (y 0) k * rhs m c (y 1) k := by
    refine (dats m 0 c).arrAt_eq_of_covers 3 _ (by decide +kernel) fun t hf y => ?_
    have hl := (flush0_3 t).mp hf
    obtain ⟨r, l, rfl⟩ : ∃ (r l : Fin 1024), y = ix2 r l := ⟨y 0, y 1, eq_ix2 y⟩
    blk_simp
    rw [after0_3, out_last m c t hl]
    refine whole m c r l (t.val / 16) _ _ ?_ ?_ <;> blk_ext [idx3 t]
  exact congrFun e _

end Cert.Kernel4Ideal
-- ==== Proof.DH2.Claims.lean ====
module
public import proofs.«01_k».proof.Defs
public import proofs.«01_k».proof.Proof.DH2.Points
public import proofs.«01_k».proof.Proof.Gen.Reference4Ideal.Run

/-!
# The gradient of the MLP's input: the claims
-/

@[expose] public section
set_option maxRecDepth 16384
noncomputable section
namespace Cert.DH2
open Idealize.ShloMosaic Idealize.ShloMosaic.TcCoe Idealize.ShloMosaic.Tactic
open Idealize.SL Idealize.SL.Sem

/-- The plain product runs to its end, keeps its arguments, and has no semaphores. -/
theorem frame_ref : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The tiled product is the plain one. -/
theorem algebraic : Cert.algebraic_Kernel4Ideal_Reference4Ideal := by
  intro m g m' g' _ hagree
  refine ⟨_, (θ_run Cert.Kernel4Ideal.defs _ _).mono (fun r h => h) (Cert.Kernel4Ideal.Value.run_blocks (F := Ideal) m g),
    (θ_run Cert.Reference4Ideal.defs _ _).mono (fun r h c => ⟨(h c).1.trans ?_, (h c).2⟩)
      (Cert.Reference4Ideal.Value.run (F := Ideal) m' g')⟩
  rw [(hagree c).1, (hagree c).2.1, (hagree c).2.2]
  funext y
  obtain ⟨i, j, rfl⟩ : ∃ (i : Fin 4096) (j : Fin 4096), y = ix2 i j := ⟨y 0, y 1, eq_ix2 y⟩
  refine Eq.trans ?_ (Cert.Kernel4Ideal.product m c i j).symm
  pointwise []

end Cert.DH2
-- ==== Proof.GMlpW2.Points.lean ====
module
public import proofs.«01_k».proof.Proof.Product
public import proofs.«01_k».proof.Proof.Gen.Kernel5Ideal.Value
public import Idealize.ShloMosaic.PureOps.Ideal
public import Idealize.ShloMosaic.Lib.Pipeline.ValueKit
public import Idealize.ShloMosaic.Lib.Pipeline.ReadBack
public import Idealize.ShloMosaic.Lib.Pointwise

/-!
# The gradient of the second MLP weight, block by block

The call computes the transposed activation times the cotangent.  Point `t` works on block `t / 4` of the result, of which 4 lie side by side, and on the
inner columns of step `t % 4`.
-/

@[expose] public section
set_option maxRecDepth 16384
noncomputable section
namespace Cert.Kernel5Ideal
open Idealize.ShloMosaic Idealize.ShloMosaic.TcCoe Idealize.ShloMosaic.Tactic
open Idealize.SL Idealize.SL.Sem
variable (m : (ℓ : Loc nD τ sig) → Buf (Elt Ideal) ℓ)
open Gen Cert.Product

theorem idx0 : ∀ t : Fin cfg0.N, win0_0.index t 0 = t.val % 4 ∧ win0_0.index t 1 = t.val / 4 / 4 := by
  decide +kernel
theorem idx1 : ∀ t : Fin cfg0.N, win0_1.index t 0 = t.val % 4 ∧ win0_1.index t 1 = t.val / 4 % 4 := by
  decide +kernel
theorem idx2 : ∀ t : Fin cfg0.N, win0_2.index t 0 = t.val / 4 / 4 ∧ win0_2.index t 1 = t.val / 4 % 4 := by
  decide +kernel

/-- The left factor, its inner index second. -/
abbrev lhs (c : Dev nD) : Fin 16384 → Fin 4096 → EReal := fun r k => m ((c : Thread nD τ).loc main_arg0) (ix2 k r)
/-- The right factor, its inner index second. -/
abbrev rhs (c : Dev nD) : Fin 4096 → Fin 4096 → EReal := fun r k => m ((c : Thread nD τ).loc main_arg1) (ix2 k r)

theorem blk0 (c : Dev nD) (t : Fin cfg0.N) (r q : Fin 1024) :
    iblk m c 0 t (ix2 q r) = entry (lhs m c) (t.val / 4 / 4 * 1024 + r.val) (t.val % 4 * 1024 + q.val) := by
  have ht : t.val < 256 := t.isLt
  rw [entry_at _ (by omega) (by omega)]
  blk_ext [iblk, V, idx0 t]

theorem blk1 (c : Dev nD) (t : Fin cfg0.N) (r q : Fin 1024) :
    iblk m c 1 t (ix2 q r) = entry (rhs m c) (t.val / 4 % 4 * 1024 + r.val) (t.val % 4 * 1024 + q.val) := by
  have ht : t.val < 256 := t.isLt
  rw [entry_at _ (by omega) (by omega)]
  blk_ext [iblk, V, idx1 t]

theorem pay1 (r l : Fin 1024) : k0_pay1 (F := Ideal) (ix2 r l) = (0 : EReal) := by
  pointwise [k0_pay1]

theorem pay2 (a x : S1024x1024.Idx → EReal) (y : S1024x1024.Idx → EReal) (r l : Fin 1024) :
    k0_pay2 (F := Ideal) a x y (ix2 r l) = a (ix2 r l) + ∑ q : Fin 1024, x (ix2 q r) * y (ix2 q l) := by
  pointwise [k0_pay2]

theorem pay3 (a : S1024x1024.Idx → EReal) (r l : Fin 1024) : k0_pay3 (F := Ideal) a (ix2 r l) = a (ix2 r l) := by
  pointwise [k0_pay3]

/-- One step adds its columns to the accumulator. -/
theorem step (c : Dev nD) (t : Fin cfg0.N) (a : S1024x1024.Idx → EReal) (r l : Fin 1024) (x : EReal) (h : a (ix2 r l) = x) :
    k0_pay2 (F := Ideal) a (iblk m c 0 t) (iblk m c 1 t) (ix2 r l)
      = x + ∑ q : Fin 1024, term 4 (lhs m c) (rhs m c) r l (t.val / 4) (t.val % 4 * 1024 + q.val) := by
  rw [pay2, h]
  exact congrArg₂ (fun x y : EReal => x + y) rfl
    (sum_blocks _ _ _ _ _ _ (fun q => iblk m c 0 t (ix2 q r)) (fun q => iblk m c 1 t (ix2 q l)) (blk0 m c t r) (blk1 m c t l))

theorem accA (c : Dev nD) (t : Fin cfg0.N) (h : t.val % 4 = 0) (r l : Fin 1024) :
    (outsAt0 m c t.val t.isLt).2 (ix2 r l) = 0 + ∑ q : Fin 1024, term 4 (lhs m c) (rhs m c) r l (t.val / 4) (t.val % 4 * 1024 + q.val) := by
  rw [outsAt0_A m c t h (by omega)]
  frame_out
  exact step m c t _ r l _ (pay1 r l)

theorem accB (c : Dev nD) (t : Fin cfg0.N) (h : t.val % 4 ≠ 0) (r l : Fin 1024) :
    (outsAt0 m c t.val t.isLt).2 (ix2 r l)
      = (outsAt0 m c (t.val - 1) (Nat.lt_of_le_of_lt (Nat.sub_le _ _) t.isLt)).2 (ix2 r l)
        + ∑ q : Fin 1024, term 4 (lhs m c) (rhs m c) r l (t.val / 4) (t.val % 4 * 1024 + q.val) := by
  by_cases hl : t.val % 4 = 3
  · rw [outsAt0_C m c t h hl]
    frame_out
    exact step m c t _ r l _ (congrFun (Memref.IsWhole.read_unread _ _) _)
  · rw [outsAt0_B m c t h hl]
    frame_out
    exact step m c t _ r l _ (congrFun (Memref.IsWhole.read_unread _ _) _)

/-- The last step of a block writes the accumulator out. -/
theorem out_eq (c : Dev nD) (t : Fin cfg0.N) (hl : t.val % 4 = 3) (r l : Fin 1024) :
    (outsAt0 m c t.val t.isLt).1 (ix2 r l) = (outsAt0 m c t.val t.isLt).2 (ix2 r l) := by
  rw [outsAt0_C m c t (by omega) hl]
  frame_out
  exact pay3 _ r l

theorem out_last (c : Dev nD) (t : Fin cfg0.N) (hl : t.val % 4 = 3) (r l : Fin 1024) :
    (outsAt0 m c t.val t.isLt).1 (ix2 r l) = 0 + ∑ k : Fin 4096, term 4 (lhs m c) (rhs m c) r l (t.val / 4) k.val :=
  (out_eq m c t hl r l).trans
    (acc_last (J := 4) (B := 1024) (K := 4096) (by norm_num) (by norm_num) (fun n h => (outsAt0 m c n h).2 (ix2 r l))
      (fun _ => 0) (term 4 (lhs m c) (rhs m c) r l)
      (fun n h h0 => accA m c ⟨n, h⟩ h0 r l) (fun n h h0 => accB m c ⟨n, h⟩ h0 r l) t.val t.isLt (by omega))

theorem whole (c : Dev nD) (r l : Fin 1024) (p : ℕ) (i : Fin 16384) (j : Fin 4096) (hi : i.val = p / 4 * 1024 + r.val)
    (hj : j.val = p % 4 * 1024 + l.val) :
    0 + ∑ k : Fin 4096, term 4 (lhs m c) (rhs m c) r l p k.val = ∑ k : Fin 4096, lhs m c i k * rhs m c j k := by
  rw [sum_term _ _ _ _ _ i j hi hj, zero_add]

/-- The array the launch leaves. -/
theorem product (c : Dev nD) (i : Fin 16384) (j : Fin 4096) :
    (dats m 0 c).arrAt 2 cfg0.N (ix2 i j) = ∑ k : Fin 4096, lhs m c i k * rhs m c j k := by
  have e : (dats m 0 c).arrAt 2 cfg0.N
      = fun y => ∑ k : Fin 4096, lhs m c (y 0) k * rhs m c (y 1) k := by
    refine (dats m 0 c).arrAt_eq_of_covers 2 _ (by decide +kernel) fun t hf y => ?_
    have hl := (flush0_2 t).mp hf
    obtain ⟨r, l, rfl⟩ : ∃ (r l : Fin 1024), y = ix2 r l := ⟨y 0, y 1, eq_ix2 y⟩
    blk_simp
    rw [after0_2, out_last m c t hl]
    refine whole m c r l (t.val / 4) _ _ ?_ ?_ <;> blk_ext [idx2 t]
  exact congrFun e _

end Cert.Kernel5Ideal
-- ==== Proof.GMlpW2.Claims.lean ====
module
public import proofs.«01_k».proof.Defs
public import proofs.«01_k».proof.Proof.GMlpW2.Points
public import proofs.«01_k».proof.Proof.Gen.Reference5Ideal.Run

/-!
# The gradient of the second MLP weight: the claims
-/

@[expose] public section
set_option maxRecDepth 16384
noncomputable section
namespace Cert.GMlpW2
open Idealize.ShloMosaic Idealize.ShloMosaic.TcCoe Idealize.ShloMosaic.Tactic
open Idealize.SL Idealize.SL.Sem

/-- The plain product runs to its end, keeps its arguments, and has no semaphores. -/
theorem frame_ref : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The tiled product is the plain one. -/
theorem algebraic : Cert.algebraic_Kernel5Ideal_Reference5Ideal := by
  intro m g m' g' _ hagree
  refine ⟨_, (θ_run Cert.Kernel5Ideal.defs _ _).mono (fun r h => h) (Cert.Kernel5Ideal.Value.run_blocks (F := Ideal) m g),
    (θ_run Cert.Reference5Ideal.defs _ _).mono (fun r h c => ⟨(h c).1.trans ?_, (h c).2⟩)
      (Cert.Reference5Ideal.Value.run (F := Ideal) m' g')⟩
  rw [(hagree c).1, (hagree c).2]
  funext y
  obtain ⟨i, j, rfl⟩ : ∃ (i : Fin 16384) (j : Fin 4096), y = ix2 i j := ⟨y 0, y 1, eq_ix2 y⟩
  refine Eq.trans ?_ (Cert.Kernel5Ideal.product m c i j).symm
  refine Eq.trans (b := ∑ k : Fin 4096, Cert.Kernel5Ideal.rhs m c j k * Cert.Kernel5Ideal.lhs m c i k) ?_
    (Finset.sum_congr rfl fun k _ => mul_comm _ _)
  pointwise []

end Cert.GMlpW2
-- ==== Proof.U1.Points.lean ====
module
public import proofs.«01_k».proof.Proof.Product
public import proofs.«01_k».proof.Proof.Gen.Kernel6Ideal.Value
public import Idealize.ShloMosaic.PureOps.Ideal
public import Idealize.ShloMosaic.Lib.Pipeline.ValueKit
public import Idealize.ShloMosaic.Lib.Pipeline.ReadBack
public import Idealize.ShloMosaic.Lib.Pointwise

/-!
# The MLP's hidden layer, block by block

The call computes the input times the first MLP weight, which comes as four slots of 4096 columns.  Point `t` works on block `t / 4` of the result, of which 16 lie side by side, and on the
inner columns of step `t % 4`.
-/

@[expose] public section
set_option maxRecDepth 16384
noncomputable section
namespace Cert.Kernel6Ideal
open Idealize.ShloMosaic Idealize.ShloMosaic.TcCoe Idealize.ShloMosaic.Tactic
open Idealize.SL Idealize.SL.Sem
variable (m : (ℓ : Loc nD τ sig) → Buf (Elt Ideal) ℓ)
open Gen Cert.Product

theorem idx0 : ∀ t : Fin cfg0.N, win0_0.index t 0 = t.val / 4 / 16 ∧ win0_0.index t 1 = t.val % 4 := by
  decide +kernel
theorem idx1 : ∀ t : Fin cfg0.N, win0_1.index t 0 = t.val / 4 % 16 / 4 ∧ win0_1.index t 1 = t.val % 4 ∧ win0_1.index t 2 = t.val / 4 % 16 % 4 := by
  decide +kernel
theorem idx2 : ∀ t : Fin cfg0.N, win0_2.index t 0 = t.val / 4 / 16 ∧ win0_2.index t 1 = t.val / 4 % 16 := by
  decide +kernel

/-- The left factor, its inner index second. -/
abbrev lhs (c : Dev nD) : Fin 4096 → Fin 4096 → EReal := fun r k => m ((c : Thread nD τ).loc main_arg0) (ix2 r k)
/-- The right factor, its inner index second. -/
abbrev rhs (c : Dev nD) : Fin 16384 → Fin 4096 → EReal := fun r k => m ((c : Thread nD τ).loc main_arg1) (ix2 k r)

/-- The weight's columns as four slots. -/
abbrev cut (w : S4096x16384.Idx → EReal) : S4x4096x4096.Idx → EReal :=
  concatenate S4x4096x4096 0
      [⟨S1x4096x4096, broadcastInDim S1x4096x4096 ![1, 2] bcast_S4096x4096_S1x4096x4096_1_2 (extractStridedSlice S4096x4096 ![0, 0] w slices_S4096x16384_S4096x4096_0_0)⟩,
       ⟨S1x4096x4096, broadcastInDim S1x4096x4096 ![1, 2] bcast_S4096x4096_S1x4096x4096_1_2 (extractStridedSlice S4096x4096 ![0, 4096] w slices_S4096x16384_S4096x4096_0_4096)⟩,
       ⟨S1x4096x4096, broadcastInDim S1x4096x4096 ![1, 2] bcast_S4096x4096_S1x4096x4096_1_2 (extractStridedSlice S4096x4096 ![0, 8192] w slices_S4096x16384_S4096x4096_0_8192)⟩,
       ⟨S1x4096x4096, broadcastInDim S1x4096x4096 ![1, 2] bcast_S4096x4096_S1x4096x4096_1_2 (extractStridedSlice S4096x4096 ![0, 12288] w slices_S4096x16384_S4096x4096_0_12288)⟩]
      concatenates_S1x4096x4096_S1x4096x4096_S1x4096x4096_S1x4096x4096_S4x4096x4096_d0

/-- The four slots hold the weight's columns, 4096 to a slot. -/
theorem cut_at (w : S4096x16384.Idx → EReal) (a : Fin 4) (r : Fin 4096) (q : Fin 4096) :
    cut w (ix3 a r q) = w (ix2 r ⟨4096 * a.val + q.val, by omega⟩) := by
  pointwise [cut]
  split_ifs <;> exact congrArg (fun k => w (ix2 r k)) (Fin.ext (by dsimp only; omega))

theorem V_cut (c : Dev nD) : V m c main_v8 = cut (m ((c : Thread nD τ).loc main_arg1)) := by
  unfold_abbrev_sides
  after_results
  rfl

theorem blk0 (c : Dev nD) (t : Fin cfg0.N) (r q : Fin 1024) :
    iblk m c 0 t (ix2 r q) = entry (lhs m c) (t.val / 4 / 16 * 1024 + r.val) (t.val % 4 * 1024 + q.val) := by
  have ht : t.val < 256 := t.isLt
  rw [entry_at _ (by omega) (by omega)]
  blk_ext [iblk, V, idx0 t]

theorem blk1 (c : Dev nD) (t : Fin cfg0.N) (r q : Fin 1024) :
    iblk m c 1 t (ix3 0 q r) = entry (rhs m c) (t.val / 4 % 16 * 1024 + r.val) (t.val % 4 * 1024 + q.val) := by
  have ht : t.val < 256 := t.isLt
  rw [entry_at _ (by omega) (by omega)]
  have e : iblk m c 1 t (ix3 0 q r) = V m c main_v8 (ix3 (⟨t.val / 4 % 16 / 4, by omega⟩ : Fin 4)
      (⟨(t.val % 4) * 1024 + q.val, by omega⟩ : Fin 4096) (⟨(t.val / 4 % 16 % 4) * 1024 + r.val, by omega⟩ : Fin 4096)) := by
    blk_ext [iblk, idx1 t]
  rw [e, V_cut]
  refine (cut_at _ _ _ _).trans ?_
  exact congrArg (fun k => m ((c : Thread nD τ).loc main_arg1) (ix2 _ k)) (Fin.ext (by dsimp only; omega))

theorem pay1 (r l : Fin 1024) : k0_pay1 (F := Ideal) (ix2 r l) = (0 : EReal) := by
  pointwise [k0_pay1]

theorem pay2 (a x : S1024x1024.Idx → EReal) (y : S1x1024x1024.Idx → EReal) (r l : Fin 1024) :
    k0_pay2 (F := Ideal) a x y (ix2 r l) = a (ix2 r l) + ∑ q : Fin 1024, x (ix2 r q) * y (ix3 0 q l) := by
  pointwise [k0_pay2]

/-- One step adds its columns to the accumulator. -/
theorem step (c : Dev nD) (t : Fin cfg0.N) (a : S1024x1024.Idx → EReal) (r l : Fin 1024) (x : EReal) (h : a (ix2 r l) = x) :
    k0_pay2 (F := Ideal) a (iblk m c 0 t) (iblk m c 1 t) (ix2 r l)
      = x + ∑ q : Fin 1024, term 16 (lhs m c) (rhs m c) r l (t.val / 4) (t.val % 4 * 1024 + q.val) := by
  rw [pay2, h]
  exact congrArg₂ (fun x y : EReal => x + y) rfl
    (sum_blocks _ _ _ _ _ _ (fun q => iblk m c 0 t (ix2 r q)) (fun q => iblk m c 1 t (ix3 0 q l)) (blk0 m c t r) (blk1 m c t l))

theorem accA (c : Dev nD) (t : Fin cfg0.N) (h : t.val % 4 = 0) (r l : Fin 1024) :
    (outsAt0 m c t.val t.isLt).2 (ix2 r l) = 0 + ∑ q : Fin 1024, term 16 (lhs m c) (rhs m c) r l (t.val / 4) (t.val % 4 * 1024 + q.val) := by
  rw [outsAt0_A m c t h (by omega)]
  frame_out
  exact step m c t _ r l _ (pay1 r l)

theorem accB (c : Dev nD) (t : Fin cfg0.N) (h : t.val % 4 ≠ 0) (r l : Fin 1024) :
    (outsAt0 m c t.val t.isLt).2 (ix2 r l)
      = (outsAt0 m c (t.val - 1) (Nat.lt_of_le_of_lt (Nat.sub_le _ _) t.isLt)).2 (ix2 r l)
        + ∑ q : Fin 1024, term 16 (lhs m c) (rhs m c) r l (t.val / 4) (t.val % 4 * 1024 + q.val) := by
  by_cases hl : t.val % 4 = 3
  · rw [outsAt0_C m c t h hl]
    frame_out
    exact step m c t _ r l _ (congrFun (Memref.IsWhole.read_unread _ _) _)
  · rw [outsAt0_B m c t h hl]
    frame_out
    exact step m c t _ r l _ (congrFun (Memref.IsWhole.read_unread _ _) _)

/-- The last step of a block writes the accumulator out. -/
theorem out_eq (c : Dev nD) (t : Fin cfg0.N) (hl : t.val % 4 = 3) (r l : Fin 1024) :
    (outsAt0 m c t.val t.isLt).1 (ix2 r l) = (outsAt0 m c t.val t.isLt).2 (ix2 r l) := by
  rw [outsAt0_C m c t (by omega) hl]
  frame_out

theorem out_last (c : Dev nD) (t : Fin cfg0.N) (hl : t.val % 4 = 3) (r l : Fin 1024) :
    (outsAt0 m c t.val t.isLt).1 (ix2 r l) = 0 + ∑ k : Fin 4096, term 16 (lhs m c) (rhs m c) r l (t.val / 4) k.val :=
  (out_eq m c t hl r l).trans
    (acc_last (J := 4) (B := 1024) (K := 4096) (by norm_num) (by norm_num) (fun n h => (outsAt0 m c n h).2 (ix2 r l))
      (fun _ => 0) (term 16 (lhs m c) (rhs m c) r l)
      (fun n h h0 => accA m c ⟨n, h⟩ h0 r l) (fun n h h0 => accB m c ⟨n, h⟩ h0 r l) t.val t.isLt (by omega))

theorem whole (c : Dev nD) (r l : Fin 1024) (p : ℕ) (i : Fin 4096) (j : Fin 16384) (hi : i.val = p / 16 * 1024 + r.val)
    (hj : j.val = p % 16 * 1024 + l.val) :
    0 + ∑ k : Fin 4096, term 16 (lhs m c) (rhs m c) r l p k.val = ∑ k : Fin 4096, lhs m c i k * rhs m c j k := by
  rw [sum_term _ _ _ _ _ i j hi hj, zero_add]

/-- The array the launch leaves. -/
theorem product (c : Dev nD) (i : Fin 4096) (j : Fin 16384) :
    (dats m 0 c).arrAt 2 cfg0.N (ix2 i j) = ∑ k : Fin 4096, lhs m c i k * rhs m c j k := by
  have e : (dats m 0 c).arrAt 2 cfg0.N
      = fun y => ∑ k : Fin 4096, lhs m c (y 0) k * rhs m c (y 1) k := by
    refine (dats m 0 c).arrAt_eq_of_covers 2 _ (by decide +kernel) fun t hf y => ?_
    have hl := (flush0_2 t).mp hf
    obtain ⟨r, l, rfl⟩ : ∃ (r l : Fin 1024), y = ix2 r l := ⟨y 0, y 1, eq_ix2 y⟩
    blk_simp
    rw [after0_2, out_last m c t hl]
    refine whole m c r l (t.val / 4) _ _ ?_ ?_ <;> blk_ext [idx2 t]
  exact congrFun e _

end Cert.Kernel6Ideal
-- ==== Proof.U1.Claims.lean ====
module
public import proofs.«01_k».proof.Defs
public import proofs.«01_k».proof.Proof.U1.Points
public import proofs.«01_k».proof.Proof.Gen.Reference6Ideal.Run

/-!
# The MLP's hidden layer: the claims
-/

@[expose] public section
set_option maxRecDepth 16384
noncomputable section
namespace Cert.U1
open Idealize.ShloMosaic Idealize.ShloMosaic.TcCoe Idealize.ShloMosaic.Tactic
open Idealize.SL Idealize.SL.Sem

/-- The plain product runs to its end, keeps its arguments, and has no semaphores. -/
theorem frame_ref : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The tiled product is the plain one. -/
theorem algebraic : Cert.algebraic_Kernel6Ideal_Reference6Ideal := by
  intro m g m' g' _ hagree
  refine ⟨_, (θ_run Cert.Kernel6Ideal.defs _ _).mono (fun r h => h) (Cert.Kernel6Ideal.Value.run_blocks (F := Ideal) m g),
    (θ_run Cert.Reference6Ideal.defs _ _).mono (fun r h c => ⟨(h c).1.trans ?_, (h c).2⟩)
      (Cert.Reference6Ideal.Value.run (F := Ideal) m' g')⟩
  rw [(hagree c).1, (hagree c).2]
  funext y
  obtain ⟨i, j, rfl⟩ : ∃ (i : Fin 4096) (j : Fin 16384), y = ix2 i j := ⟨y 0, y 1, eq_ix2 y⟩
  refine Eq.trans ?_ (Cert.Kernel6Ideal.product m c i j).symm
  pointwise []

end Cert.U1
-- ==== Proof.FF.Points.lean ====
module
public import proofs.«01_k».proof.Proof.Product
public import proofs.«01_k».proof.Proof.Gen.Kernel7Ideal.Value
public import Idealize.ShloMosaic.PureOps.Ideal
public import Idealize.ShloMosaic.Lib.Pipeline.ValueKit
public import Idealize.ShloMosaic.Lib.Pipeline.ReadBack
public import Idealize.ShloMosaic.Lib.Pointwise

/-!
# The MLP's result, block by block

The call computes the activation times the second MLP weight.  Point `t` works on block `t / 16` of the result, of which 4 lie side by side, and on the
inner columns of step `t % 16`.
-/

@[expose] public section
set_option maxRecDepth 16384
noncomputable section
namespace Cert.Kernel7Ideal
open Idealize.ShloMosaic Idealize.ShloMosaic.TcCoe Idealize.ShloMosaic.Tactic
open Idealize.SL Idealize.SL.Sem
variable (m : (ℓ : Loc nD τ sig) → Buf (Elt Ideal) ℓ)
open Gen Cert.Product

theorem idx0 : ∀ t : Fin cfg0.N, win0_0.index t 0 = t.val / 16 / 4 ∧ win0_0.index t 1 = t.val % 16 := by
  decide +kernel
theorem idx1 : ∀ t : Fin cfg0.N, win0_1.index t 0 = t.val % 16 ∧ win0_1.index t 1 = t.val / 16 % 4 := by
  decide +kernel
theorem idx2 : ∀ t : Fin cfg0.N, win0_2.index t 0 = t.val / 16 / 4 ∧ win0_2.index t 1 = t.val / 16 % 4 := by
  decide +kernel

/-- The left factor, its inner index second. -/
abbrev lhs (c : Dev nD) : Fin 4096 → Fin 16384 → EReal := fun r k => m ((c : Thread nD τ).loc main_arg0) (ix2 r k)
/-- The right factor, its inner index second. -/
abbrev rhs (c : Dev nD) : Fin 4096 → Fin 16384 → EReal := fun r k => m ((c : Thread nD τ).loc main_arg1) (ix2 k r)

theorem blk0 (c : Dev nD) (t : Fin cfg0.N) (r q : Fin 1024) :
    iblk m c 0 t (ix2 r q) = entry (lhs m c) (t.val / 16 / 4 * 1024 + r.val) (t.val % 16 * 1024 + q.val) := by
  have ht : t.val < 256 := t.isLt
  rw [entry_at _ (by omega) (by omega)]
  blk_ext [iblk, V, idx0 t]

theorem blk1 (c : Dev nD) (t : Fin cfg0.N) (r q : Fin 1024) :
    iblk m c 1 t (ix2 q r) = entry (rhs m c) (t.val / 16 % 4 * 1024 + r.val) (t.val % 16 * 1024 + q.val) := by
  have ht : t.val < 256 := t.isLt
  rw [entry_at _ (by omega) (by omega)]
  blk_ext [iblk, V, idx1 t]

theorem pay1 (r l : Fin 1024) : k0_pay1 (F := Ideal) (ix2 r l) = (0 : EReal) := by
  pointwise [k0_pay1]

theorem pay2 (a x : S1024x1024.Idx → EReal) (y : S1024x1024.Idx → EReal) (r l : Fin 1024) :
    k0_pay2 (F := Ideal) a x y (ix2 r l) = a (ix2 r l) + ∑ q : Fin 1024, x (ix2 r q) * y (ix2 q l) := by
  pointwise [k0_pay2]

/-- One step adds its columns to the accumulator. -/
theorem step (c : Dev nD) (t : Fin cfg0.N) (a : S1024x1024.Idx → EReal) (r l : Fin 1024) (x : EReal) (h : a (ix2 r l) = x) :
    k0_pay2 (F := Ideal) a (iblk m c 0 t) (iblk m c 1 t) (ix2 r l)
      = x + ∑ q : Fin 1024, term 4 (lhs m c) (rhs m c) r l (t.val / 16) (t.val % 16 * 1024 + q.val) := by
  rw [pay2, h]
  exact congrArg₂ (fun x y : EReal => x + y) rfl
    (sum_blocks _ _ _ _ _ _ (fun q => iblk m c 0 t (ix2 r q)) (fun q => iblk m c 1 t (ix2 q l)) (blk0 m c t r) (blk1 m c t l))

theorem accA (c : Dev nD) (t : Fin cfg0.N) (h : t.val % 16 = 0) (r l : Fin 1024) :
    (outsAt0 m c t.val t.isLt).2 (ix2 r l) = 0 + ∑ q : Fin 1024, term 4 (lhs m c) (rhs m c) r l (t.val / 16) (t.val % 16 * 1024 + q.val) := by
  rw [outsAt0_A m c t h (by omega)]
  frame_out
  exact step m c t _ r l _ (pay1 r l)

theorem accB (c : Dev nD) (t : Fin cfg0.N) (h : t.val % 16 ≠ 0) (r l : Fin 1024) :
    (outsAt0 m c t.val t.isLt).2 (ix2 r l)
      = (outsAt0 m c (t.val - 1) (Nat.lt_of_le_of_lt (Nat.sub_le _ _) t.isLt)).2 (ix2 r l)
        + ∑ q : Fin 1024, term 4 (lhs m c) (rhs m c) r l (t.val / 16) (t.val % 16 * 1024 + q.val) := by
  by_cases hl : t.val % 16 = 15
  · rw [outsAt0_C m c t h hl]
    frame_out
    exact step m c t _ r l _ (congrFun (Memref.IsWhole.read_unread _ _) _)
  · rw [outsAt0_B m c t h hl]
    frame_out
    exact step m c t _ r l _ (congrFun (Memref.IsWhole.read_unread _ _) _)

/-- The last step of a block writes the accumulator out. -/
theorem out_eq (c : Dev nD) (t : Fin cfg0.N) (hl : t.val % 16 = 15) (r l : Fin 1024) :
    (outsAt0 m c t.val t.isLt).1 (ix2 r l) = (outsAt0 m c t.val t.isLt).2 (ix2 r l) := by
  rw [outsAt0_C m c t (by omega) hl]
  frame_out

theorem out_last (c : Dev nD) (t : Fin cfg0.N) (hl : t.val % 16 = 15) (r l : Fin 1024) :
    (outsAt0 m c t.val t.isLt).1 (ix2 r l) = 0 + ∑ k : Fin 16384, term 4 (lhs m c) (rhs m c) r l (t.val / 16) k.val :=
  (out_eq m c t hl r l).trans
    (acc_last (J := 16) (B := 1024) (K := 16384) (by norm_num) (by norm_num) (fun n h => (outsAt0 m c n h).2 (ix2 r l))
      (fun _ => 0) (term 4 (lhs m c) (rhs m c) r l)
      (fun n h h0 => accA m c ⟨n, h⟩ h0 r l) (fun n h h0 => accB m c ⟨n, h⟩ h0 r l) t.val t.isLt (by omega))

theorem whole (c : Dev nD) (r l : Fin 1024) (p : ℕ) (i : Fin 4096) (j : Fin 4096) (hi : i.val = p / 4 * 1024 + r.val)
    (hj : j.val = p % 4 * 1024 + l.val) :
    0 + ∑ k : Fin 16384, term 4 (lhs m c) (rhs m c) r l p k.val = ∑ k : Fin 16384, lhs m c i k * rhs m c j k := by
  rw [sum_term _ _ _ _ _ i j hi hj, zero_add]

/-- The array the launch leaves. -/
theorem product (c : Dev nD) (i : Fin 4096) (j : Fin 4096) :
    (dats m 0 c).arrAt 2 cfg0.N (ix2 i j) = ∑ k : Fin 16384, lhs m c i k * rhs m c j k := by
  have e : (dats m 0 c).arrAt 2 cfg0.N
      = fun y => ∑ k : Fin 16384, lhs m c (y 0) k * rhs m c (y 1) k := by
    refine (dats m 0 c).arrAt_eq_of_covers 2 _ (by decide +kernel) fun t hf y => ?_
    have hl := (flush0_2 t).mp hf
    obtain ⟨r, l, rfl⟩ : ∃ (r l : Fin 1024), y = ix2 r l := ⟨y 0, y 1, eq_ix2 y⟩
    blk_simp
    rw [after0_2, out_last m c t hl]
    refine whole m c r l (t.val / 16) _ _ ?_ ?_ <;> blk_ext [idx2 t]
  exact congrFun e _

end Cert.Kernel7Ideal
-- ==== Proof.FF.Claims.lean ====
module
public import proofs.«01_k».proof.Defs
public import proofs.«01_k».proof.Proof.FF.Points
public import proofs.«01_k».proof.Proof.Gen.Reference7Ideal.Run

/-!
# The MLP's result: the claims
-/

@[expose] public section
set_option maxRecDepth 16384
noncomputable section
namespace Cert.FF
open Idealize.ShloMosaic Idealize.ShloMosaic.TcCoe Idealize.ShloMosaic.Tactic
open Idealize.SL Idealize.SL.Sem

/-- The plain product runs to its end, keeps its arguments, and has no semaphores. -/
theorem frame_ref : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The tiled product is the plain one. -/
theorem algebraic : Cert.algebraic_Kernel7Ideal_Reference7Ideal := by
  intro m g m' g' _ hagree
  refine ⟨_, (θ_run Cert.Kernel7Ideal.defs _ _).mono (fun r h => h) (Cert.Kernel7Ideal.Value.run_blocks (F := Ideal) m g),
    (θ_run Cert.Reference7Ideal.defs _ _).mono (fun r h c => ⟨(h c).1.trans ?_, (h c).2⟩)
      (Cert.Reference7Ideal.Value.run (F := Ideal) m' g')⟩
  rw [(hagree c).1, (hagree c).2]
  funext y
  obtain ⟨i, j, rfl⟩ : ∃ (i : Fin 4096) (j : Fin 4096), y = ix2 i j := ⟨y 0, y 1, eq_ix2 y⟩
  refine Eq.trans ?_ (Cert.Kernel7Ideal.product m c i j).symm
  pointwise []

end Cert.FF
-- ==== Proof.GWq.Points.lean ====
module
public import proofs.«01_k».proof.Proof.Product
public import proofs.«01_k».proof.Proof.Gen.Kernel8Ideal.Value
public import Idealize.ShloMosaic.PureOps.Ideal
public import Idealize.ShloMosaic.Lib.Pipeline.ValueKit
public import Idealize.ShloMosaic.Lib.Pipeline.ReadBack
public import Idealize.ShloMosaic.Lib.Pointwise

/-!
# The gradient of a square weight, block by block

The call computes the transposed rows times the cotangent.  Point `t` works on block `t / 4` of the result, of which 4 lie side by side, and on the
inner columns of step `t % 4`.
-/

@[expose] public section
set_option maxRecDepth 16384
noncomputable section
namespace Cert.Kernel8Ideal
open Idealize.ShloMosaic Idealize.ShloMosaic.TcCoe Idealize.ShloMosaic.Tactic
open Idealize.SL Idealize.SL.Sem
variable (m : (ℓ : Loc nD τ sig) → Buf (Elt Ideal) ℓ)
open Gen Cert.Product

theorem idx0 : ∀ t : Fin cfg0.N, win0_0.index t 0 = t.val % 4 ∧ win0_0.index t 1 = t.val / 4 / 4 := by
  decide +kernel
theorem idx1 : ∀ t : Fin cfg0.N, win0_1.index t 0 = t.val % 4 ∧ win0_1.index t 1 = t.val / 4 % 4 := by
  decide +kernel
theorem idx2 : ∀ t : Fin cfg0.N, win0_2.index t 0 = t.val / 4 / 4 ∧ win0_2.index t 1 = t.val / 4 % 4 := by
  decide +kernel

/-- The left factor, its inner index second. -/
abbrev lhs (c : Dev nD) : Fin 4096 → Fin 4096 → EReal := fun r k => m ((c : Thread nD τ).loc main_arg0) (ix2 k r)
/-- The right factor, its inner index second. -/
abbrev rhs (c : Dev nD) : Fin 4096 → Fin 4096 → EReal := fun r k => m ((c : Thread nD τ).loc main_arg1) (ix2 k r)

theorem blk0 (c : Dev nD) (t : Fin cfg0.N) (r q : Fin 1024) :
    iblk m c 0 t (ix2 q r) = entry (lhs m c) (t.val / 4 / 4 * 1024 + r.val) (t.val % 4 * 1024 + q.val) := by
  have ht : t.val < 64 := t.isLt
  rw [entry_at _ (by omega) (by omega)]
  blk_ext [iblk, V, idx0 t]

theorem blk1 (c : Dev nD) (t : Fin cfg0.N) (r q : Fin 1024) :
    iblk m c 1 t (ix2 q r) = entry (rhs m c) (t.val / 4 % 4 * 1024 + r.val) (t.val % 4 * 1024 + q.val) := by
  have ht : t.val < 64 := t.isLt
  rw [entry_at _ (by omega) (by omega)]
  blk_ext [iblk, V, idx1 t]

theorem pay1 (r l : Fin 1024) : k0_pay1 (F := Ideal) (ix2 r l) = (0 : EReal) := by
  pointwise [k0_pay1]

theorem pay2 (a x : S1024x1024.Idx → EReal) (y : S1024x1024.Idx → EReal) (r l : Fin 1024) :
    k0_pay2 (F := Ideal) a x y (ix2 r l) = a (ix2 r l) + ∑ q : Fin 1024, x (ix2 q r) * y (ix2 q l) := by
  pointwise [k0_pay2]

theorem pay3 (a : S1024x1024.Idx → EReal) (r l : Fin 1024) : k0_pay3 (F := Ideal) a (ix2 r l) = a (ix2 r l) := by
  pointwise [k0_pay3]

/-- One step adds its columns to the accumulator. -/
theorem step (c : Dev nD) (t : Fin cfg0.N) (a : S1024x1024.Idx → EReal) (r l : Fin 1024) (x : EReal) (h : a (ix2 r l) = x) :
    k0_pay2 (F := Ideal) a (iblk m c 0 t) (iblk m c 1 t) (ix2 r l)
      = x + ∑ q : Fin 1024, term 4 (lhs m c) (rhs m c) r l (t.val / 4) (t.val % 4 * 1024 + q.val) := by
  rw [pay2, h]
  exact congrArg₂ (fun x y : EReal => x + y) rfl
    (sum_blocks _ _ _ _ _ _ (fun q => iblk m c 0 t (ix2 q r)) (fun q => iblk m c 1 t (ix2 q l)) (blk0 m c t r) (blk1 m c t l))

theorem accA (c : Dev nD) (t : Fin cfg0.N) (h : t.val % 4 = 0) (r l : Fin 1024) :
    (outsAt0 m c t.val t.isLt).2 (ix2 r l) = 0 + ∑ q : Fin 1024, term 4 (lhs m c) (rhs m c) r l (t.val / 4) (t.val % 4 * 1024 + q.val) := by
  rw [outsAt0_A m c t h (by omega)]
  frame_out
  exact step m c t _ r l _ (pay1 r l)

theorem accB (c : Dev nD) (t : Fin cfg0.N) (h : t.val % 4 ≠ 0) (r l : Fin 1024) :
    (outsAt0 m c t.val t.isLt).2 (ix2 r l)
      = (outsAt0 m c (t.val - 1) (Nat.lt_of_le_of_lt (Nat.sub_le _ _) t.isLt)).2 (ix2 r l)
        + ∑ q : Fin 1024, term 4 (lhs m c) (rhs m c) r l (t.val / 4) (t.val % 4 * 1024 + q.val) := by
  by_cases hl : t.val % 4 = 3
  · rw [outsAt0_C m c t h hl]
    frame_out
    exact step m c t _ r l _ (congrFun (Memref.IsWhole.read_unread _ _) _)
  · rw [outsAt0_B m c t h hl]
    frame_out
    exact step m c t _ r l _ (congrFun (Memref.IsWhole.read_unread _ _) _)

/-- The last step of a block writes the accumulator out. -/
theorem out_eq (c : Dev nD) (t : Fin cfg0.N) (hl : t.val % 4 = 3) (r l : Fin 1024) :
    (outsAt0 m c t.val t.isLt).1 (ix2 r l) = (outsAt0 m c t.val t.isLt).2 (ix2 r l) := by
  rw [outsAt0_C m c t (by omega) hl]
  frame_out
  exact pay3 _ r l

theorem out_last (c : Dev nD) (t : Fin cfg0.N) (hl : t.val % 4 = 3) (r l : Fin 1024) :
    (outsAt0 m c t.val t.isLt).1 (ix2 r l) = 0 + ∑ k : Fin 4096, term 4 (lhs m c) (rhs m c) r l (t.val / 4) k.val :=
  (out_eq m c t hl r l).trans
    (acc_last (J := 4) (B := 1024) (K := 4096) (by norm_num) (by norm_num) (fun n h => (outsAt0 m c n h).2 (ix2 r l))
      (fun _ => 0) (term 4 (lhs m c) (rhs m c) r l)
      (fun n h h0 => accA m c ⟨n, h⟩ h0 r l) (fun n h h0 => accB m c ⟨n, h⟩ h0 r l) t.val t.isLt (by omega))

theorem whole (c : Dev nD) (r l : Fin 1024) (p : ℕ) (i : Fin 4096) (j : Fin 4096) (hi : i.val = p / 4 * 1024 + r.val)
    (hj : j.val = p % 4 * 1024 + l.val) :
    0 + ∑ k : Fin 4096, term 4 (lhs m c) (rhs m c) r l p k.val = ∑ k : Fin 4096, lhs m c i k * rhs m c j k := by
  rw [sum_term _ _ _ _ _ i j hi hj, zero_add]

/-- The array the launch leaves. -/
theorem product (c : Dev nD) (i : Fin 4096) (j : Fin 4096) :
    (dats m 0 c).arrAt 2 cfg0.N (ix2 i j) = ∑ k : Fin 4096, lhs m c i k * rhs m c j k := by
  have e : (dats m 0 c).arrAt 2 cfg0.N
      = fun y => ∑ k : Fin 4096, lhs m c (y 0) k * rhs m c (y 1) k := by
    refine (dats m 0 c).arrAt_eq_of_covers 2 _ (by decide +kernel) fun t hf y => ?_
    have hl := (flush0_2 t).mp hf
    obtain ⟨r, l, rfl⟩ : ∃ (r l : Fin 1024), y = ix2 r l := ⟨y 0, y 1, eq_ix2 y⟩
    blk_simp
    rw [after0_2, out_last m c t hl]
    refine whole m c r l (t.val / 4) _ _ ?_ ?_ <;> blk_ext [idx2 t]
  exact congrFun e _

end Cert.Kernel8Ideal
-- ==== Proof.GWq.Claims.lean ====
module
public import proofs.«01_k».proof.Defs
public import proofs.«01_k».proof.Proof.GWq.Points
public import proofs.«01_k».proof.Proof.Gen.Reference8Ideal.Run

/-!
# The gradient of a square weight: the claims
-/

@[expose] public section
set_option maxRecDepth 16384
noncomputable section
namespace Cert.GWq
open Idealize.ShloMosaic Idealize.ShloMosaic.TcCoe Idealize.ShloMosaic.Tactic
open Idealize.SL Idealize.SL.Sem

/-- The plain product runs to its end, keeps its arguments, and has no semaphores. -/
theorem frame_ref : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The tiled product is the plain one. -/
theorem algebraic : Cert.algebraic_Kernel8Ideal_Reference8Ideal := by
  intro m g m' g' _ hagree
  refine ⟨_, (θ_run Cert.Kernel8Ideal.defs _ _).mono (fun r h => h) (Cert.Kernel8Ideal.Value.run_blocks (F := Ideal) m g),
    (θ_run Cert.Reference8Ideal.defs _ _).mono (fun r h c => ⟨(h c).1.trans ?_, (h c).2⟩)
      (Cert.Reference8Ideal.Value.run (F := Ideal) m' g')⟩
  rw [(hagree c).1, (hagree c).2]
  funext y
  obtain ⟨i, j, rfl⟩ : ∃ (i : Fin 4096) (j : Fin 4096), y = ix2 i j := ⟨y 0, y 1, eq_ix2 y⟩
  refine Eq.trans ?_ (Cert.Kernel8Ideal.product m c i j).symm
  refine Eq.trans (b := ∑ k : Fin 4096, Cert.Kernel8Ideal.rhs m c j k * Cert.Kernel8Ideal.lhs m c i k) ?_
    (Finset.sum_congr rfl fun k _ => mul_comm _ _)
  pointwise []

end Cert.GWq
-- ==== Proof.DAo.Points.lean ====
module
public import proofs.«01_k».proof.Proof.Product
public import proofs.«01_k».proof.Proof.Gen.Kernel9Ideal.Value
public import Idealize.ShloMosaic.PureOps.Ideal
public import Idealize.ShloMosaic.Lib.Pipeline.ValueKit
public import Idealize.ShloMosaic.Lib.Pipeline.ReadBack
public import Idealize.ShloMosaic.Lib.Pointwise

/-!
# The gradient of the rows a square weight is applied to, block by block

The call computes the cotangent times the transposed weight.  Point `t` works on block `t / 4` of the result, of which 4 lie side by side, and on the
inner columns of step `t % 4`.
-/

@[expose] public section
set_option maxRecDepth 16384
noncomputable section
namespace Cert.Kernel9Ideal
open Idealize.ShloMosaic Idealize.ShloMosaic.TcCoe Idealize.ShloMosaic.Tactic
open Idealize.SL Idealize.SL.Sem
variable (m : (ℓ : Loc nD τ sig) → Buf (Elt Ideal) ℓ)
open Gen Cert.Product

theorem idx0 : ∀ t : Fin cfg0.N, win0_0.index t 0 = t.val / 4 / 4 ∧ win0_0.index t 1 = t.val % 4 := by
  decide +kernel
theorem idx1 : ∀ t : Fin cfg0.N, win0_1.index t 0 = t.val / 4 % 4 ∧ win0_1.index t 1 = t.val % 4 := by
  decide +kernel
theorem idx2 : ∀ t : Fin cfg0.N, win0_2.index t 0 = t.val / 4 / 4 ∧ win0_2.index t 1 = t.val / 4 % 4 := by
  decide +kernel

/-- The left factor, its inner index second. -/
abbrev lhs (c : Dev nD) : Fin 4096 → Fin 4096 → EReal := fun r k => m ((c : Thread nD τ).loc main_arg0) (ix2 r k)
/-- The right factor, its inner index second. -/
abbrev rhs (c : Dev nD) : Fin 4096 → Fin 4096 → EReal := fun r k => m ((c : Thread nD τ).loc main_arg1) (ix2 r k)

theorem blk0 (c : Dev nD) (t : Fin cfg0.N) (r q : Fin 1024) :
    iblk m c 0 t (ix2 r q) = entry (lhs m c) (t.val / 4 / 4 * 1024 + r.val) (t.val % 4 * 1024 + q.val) := by
  have ht : t.val < 64 := t.isLt
  rw [entry_at _ (by omega) (by omega)]
  blk_ext [iblk, V, idx0 t]

theorem blk1 (c : Dev nD) (t : Fin cfg0.N) (r q : Fin 1024) :
    iblk m c 1 t (ix2 r q) = entry (rhs m c) (t.val / 4 % 4 * 1024 + r.val) (t.val % 4 * 1024 + q.val) := by
  have ht : t.val < 64 := t.isLt
  rw [entry_at _ (by omega) (by omega)]
  blk_ext [iblk, V, idx1 t]

theorem pay1 (r l : Fin 1024) : k0_pay1 (F := Ideal) (ix2 r l) = (0 : EReal) := by
  pointwise [k0_pay1]

theorem pay2 (a x : S1024x1024.Idx → EReal) (y : S1024x1024.Idx → EReal) (r l : Fin 1024) :
    k0_pay2 (F := Ideal) a x y (ix2 r l) = a (ix2 r l) + ∑ q : Fin 1024, x (ix2 r q) * y (ix2 l q) := by
  pointwise [k0_pay2]

/-- One step adds its columns to the accumulator. -/
theorem step (c : Dev nD) (t : Fin cfg0.N) (a : S1024x1024.Idx → EReal) (r l : Fin 1024) (x : EReal) (h : a (ix2 r l) = x) :
    k0_pay2 (F := Ideal) a (iblk m c 0 t) (iblk m c 1 t) (ix2 r l)
      = x + ∑ q : Fin 1024, term 4 (lhs m c) (rhs m c) r l (t.val / 4) (t.val % 4 * 1024 + q.val) := by
  rw [pay2, h]
  exact congrArg₂ (fun x y : EReal => x + y) rfl
    (sum_blocks _ _ _ _ _ _ (fun q => iblk m c 0 t (ix2 r q)) (fun q => iblk m c 1 t (ix2 l q)) (blk0 m c t r) (blk1 m c t l))

theorem accA (c : Dev nD) (t : Fin cfg0.N) (h : t.val % 4 = 0) (r l : Fin 1024) :
    (outsAt0 m c t.val t.isLt).2 (ix2 r l) = 0 + ∑ q : Fin 1024, term 4 (lhs m c) (rhs m c) r l (t.val / 4) (t.val % 4 * 1024 + q.val) := by
  rw [outsAt0_A m c t h (by omega)]
  frame_out
  exact step m c t _ r l _ (pay1 r l)

theorem accB (c : Dev nD) (t : Fin cfg0.N) (h : t.val % 4 ≠ 0) (r l : Fin 1024) :
    (outsAt0 m c t.val t.isLt).2 (ix2 r l)
      = (outsAt0 m c (t.val - 1) (Nat.lt_of_le_of_lt (Nat.sub_le _ _) t.isLt)).2 (ix2 r l)
        + ∑ q : Fin 1024, term 4 (lhs m c) (rhs m c) r l (t.val / 4) (t.val % 4 * 1024 + q.val) := by
  by_cases hl : t.val % 4 = 3
  · rw [outsAt0_C m c t h hl]
    frame_out
    exact step m c t _ r l _ (congrFun (Memref.IsWhole.read_unread _ _) _)
  · rw [outsAt0_B m c t h hl]
    frame_out
    exact step m c t _ r l _ (congrFun (Memref.IsWhole.read_unread _ _) _)

/-- The last step of a block writes the accumulator out. -/
theorem out_eq (c : Dev nD) (t : Fin cfg0.N) (hl : t.val % 4 = 3) (r l : Fin 1024) :
    (outsAt0 m c t.val t.isLt).1 (ix2 r l) = (outsAt0 m c t.val t.isLt).2 (ix2 r l) := by
  rw [outsAt0_C m c t (by omega) hl]
  frame_out

theorem out_last (c : Dev nD) (t : Fin cfg0.N) (hl : t.val % 4 = 3) (r l : Fin 1024) :
    (outsAt0 m c t.val t.isLt).1 (ix2 r l) = 0 + ∑ k : Fin 4096, term 4 (lhs m c) (rhs m c) r l (t.val / 4) k.val :=
  (out_eq m c t hl r l).trans
    (acc_last (J := 4) (B := 1024) (K := 4096) (by norm_num) (by norm_num) (fun n h => (outsAt0 m c n h).2 (ix2 r l))
      (fun _ => 0) (term 4 (lhs m c) (rhs m c) r l)
      (fun n h h0 => accA m c ⟨n, h⟩ h0 r l) (fun n h h0 => accB m c ⟨n, h⟩ h0 r l) t.val t.isLt (by omega))

theorem whole (c : Dev nD) (r l : Fin 1024) (p : ℕ) (i : Fin 4096) (j : Fin 4096) (hi : i.val = p / 4 * 1024 + r.val)
    (hj : j.val = p % 4 * 1024 + l.val) :
    0 + ∑ k : Fin 4096, term 4 (lhs m c) (rhs m c) r l p k.val = ∑ k : Fin 4096, lhs m c i k * rhs m c j k := by
  rw [sum_term _ _ _ _ _ i j hi hj, zero_add]

/-- The array the launch leaves. -/
theorem product (c : Dev nD) (i : Fin 4096) (j : Fin 4096) :
    (dats m 0 c).arrAt 2 cfg0.N (ix2 i j) = ∑ k : Fin 4096, lhs m c i k * rhs m c j k := by
  have e : (dats m 0 c).arrAt 2 cfg0.N
      = fun y => ∑ k : Fin 4096, lhs m c (y 0) k * rhs m c (y 1) k := by
    refine (dats m 0 c).arrAt_eq_of_covers 2 _ (by decide +kernel) fun t hf y => ?_
    have hl := (flush0_2 t).mp hf
    obtain ⟨r, l, rfl⟩ : ∃ (r l : Fin 1024), y = ix2 r l := ⟨y 0, y 1, eq_ix2 y⟩
    blk_simp
    rw [after0_2, out_last m c t hl]
    refine whole m c r l (t.val / 4) _ _ ?_ ?_ <;> blk_ext [idx2 t]
  exact congrFun e _

end Cert.Kernel9Ideal
-- ==== Proof.DAo.Claims.lean ====
module
public import proofs.«01_k».proof.Defs
public import proofs.«01_k».proof.Proof.DAo.Points
public import proofs.«01_k».proof.Proof.Gen.Reference9Ideal.Run

/-!
# The gradient of the rows a square weight is applied to: the claims
-/

@[expose] public section
set_option maxRecDepth 16384
noncomputable section
namespace Cert.DAo
open Idealize.ShloMosaic Idealize.ShloMosaic.TcCoe Idealize.ShloMosaic.Tactic
open Idealize.SL Idealize.SL.Sem

/-- The plain product runs to its end, keeps its arguments, and has no semaphores. -/
theorem frame_ref : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The tiled product is the plain one. -/
theorem algebraic : Cert.algebraic_Kernel9Ideal_Reference9Ideal := by
  intro m g m' g' _ hagree
  refine ⟨_, (θ_run Cert.Kernel9Ideal.defs _ _).mono (fun r h => h) (Cert.Kernel9Ideal.Value.run_blocks (F := Ideal) m g),
    (θ_run Cert.Reference9Ideal.defs _ _).mono (fun r h c => ⟨(h c).1.trans ?_, (h c).2⟩)
      (Cert.Reference9Ideal.Value.run (F := Ideal) m' g')⟩
  rw [(hagree c).1, (hagree c).2]
  funext y
  obtain ⟨i, j, rfl⟩ : ∃ (i : Fin 4096) (j : Fin 4096), y = ix2 i j := ⟨y 0, y 1, eq_ix2 y⟩
  refine Eq.trans ?_ (Cert.Kernel9Ideal.product m c i j).symm
  pointwise []

end Cert.DAo
-- ==== Proof.DH1.Points.lean ====
module
public import proofs.«01_k».proof.Proof.Product
public import proofs.«01_k».proof.Proof.Gen.Kernel10Ideal.Value
public import Idealize.ShloMosaic.PureOps.Ideal
public import Idealize.ShloMosaic.Lib.Pipeline.ValueKit
public import Idealize.ShloMosaic.Lib.Pipeline.ReadBack
public import Idealize.ShloMosaic.Lib.Pointwise

/-!
# The gradient of the rows a square weight is applied to, added up, block by block

The call computes the cotangent times the transposed weight, added to a gradient that is already there.  Point `t` works on block `t / 4` of the result, of which 4 lie side by side, and on the
inner columns of step `t % 4`.
-/

@[expose] public section
set_option maxRecDepth 16384
noncomputable section
namespace Cert.Kernel10Ideal
open Idealize.ShloMosaic Idealize.ShloMosaic.TcCoe Idealize.ShloMosaic.Tactic
open Idealize.SL Idealize.SL.Sem
variable (m : (ℓ : Loc nD τ sig) → Buf (Elt Ideal) ℓ)
open Gen Cert.Product

theorem idx0 : ∀ t : Fin cfg0.N, win0_0.index t 0 = t.val / 4 / 4 ∧ win0_0.index t 1 = t.val % 4 := by
  decide +kernel
theorem idx1 : ∀ t : Fin cfg0.N, win0_1.index t 0 = t.val / 4 % 4 ∧ win0_1.index t 1 = t.val % 4 := by
  decide +kernel
theorem idx2 : ∀ t : Fin cfg0.N, win0_2.index t 0 = t.val / 4 / 4 ∧ win0_2.index t 1 = t.val / 4 % 4 := by
  decide +kernel
theorem idx3 : ∀ t : Fin cfg0.N, win0_3.index t 0 = t.val / 4 / 4 ∧ win0_3.index t 1 = t.val / 4 % 4 := by
  decide +kernel

/-- The left factor, its inner index second. -/
abbrev lhs (c : Dev nD) : Fin 4096 → Fin 4096 → EReal := fun r k => m ((c : Thread nD τ).loc main_arg0) (ix2 r k)
/-- The right factor, its inner index second. -/
abbrev rhs (c : Dev nD) : Fin 4096 → Fin 4096 → EReal := fun r k => m ((c : Thread nD τ).loc main_arg1) (ix2 r k)
/-- The gradient the product is added to. -/
abbrev base (c : Dev nD) : Fin 4096 → Fin 4096 → EReal := fun r k => m ((c : Thread nD τ).loc main_arg2) (ix2 r k)

theorem V_base (c : Dev nD) : V m c main_v0 = m ((c : Thread nD τ).loc main_arg2) := by
  unfold_abbrev_sides
  after_results
  rfl

theorem blk0 (c : Dev nD) (t : Fin cfg0.N) (r q : Fin 1024) :
    iblk m c 0 t (ix2 r q) = entry (lhs m c) (t.val / 4 / 4 * 1024 + r.val) (t.val % 4 * 1024 + q.val) := by
  have ht : t.val < 64 := t.isLt
  rw [entry_at _ (by omega) (by omega)]
  blk_ext [iblk, V, idx0 t]

theorem blk1 (c : Dev nD) (t : Fin cfg0.N) (r q : Fin 1024) :
    iblk m c 1 t (ix2 r q) = entry (rhs m c) (t.val / 4 % 4 * 1024 + r.val) (t.val % 4 * 1024 + q.val) := by
  have ht : t.val < 64 := t.isLt
  rw [entry_at _ (by omega) (by omega)]
  blk_ext [iblk, V, idx1 t]

theorem blk2 (c : Dev nD) (t : Fin cfg0.N) (r q : Fin 1024) :
    iblk m c 2 t (ix2 r q) = entry (base m c) (t.val / 4 / 4 * 1024 + r.val) (t.val / 4 % 4 * 1024 + q.val) := by
  have ht : t.val < 64 := t.isLt
  rw [entry_at _ (by omega) (by omega)]
  have e : iblk m c 2 t (ix2 r q) = V m c main_v0 (ix2 (⟨t.val / 4 / 4 * 1024 + r.val, by omega⟩ : Fin 4096)
      (⟨t.val / 4 % 4 * 1024 + q.val, by omega⟩ : Fin 4096)) := by
    blk_ext [iblk, idx2 t]
  rw [e, V_base]

theorem pay1 (z : S1024x1024.Idx → EReal) (r l : Fin 1024) : k0_pay1 (F := Ideal) z (ix2 r l) = z (ix2 r l) := by
  pointwise [k0_pay1]

theorem pay2 (a x : S1024x1024.Idx → EReal) (y : S1024x1024.Idx → EReal) (r l : Fin 1024) :
    k0_pay2 (F := Ideal) a x y (ix2 r l) = a (ix2 r l) + ∑ q : Fin 1024, x (ix2 r q) * y (ix2 l q) := by
  pointwise [k0_pay2]

/-- One step adds its columns to the accumulator. -/
theorem step (c : Dev nD) (t : Fin cfg0.N) (a : S1024x1024.Idx → EReal) (r l : Fin 1024) (x : EReal) (h : a (ix2 r l) = x) :
    k0_pay2 (F := Ideal) a (iblk m c 0 t) (iblk m c 1 t) (ix2 r l)
      = x + ∑ q : Fin 1024, term 4 (lhs m c) (rhs m c) r l (t.val / 4) (t.val % 4 * 1024 + q.val) := by
  rw [pay2, h]
  exact congrArg₂ (fun x y : EReal => x + y) rfl
    (sum_blocks _ _ _ _ _ _ (fun q => iblk m c 0 t (ix2 r q)) (fun q => iblk m c 1 t (ix2 l q)) (blk0 m c t r) (blk1 m c t l))

theorem accA (c : Dev nD) (t : Fin cfg0.N) (h : t.val % 4 = 0) (r l : Fin 1024) :
    (outsAt0 m c t.val t.isLt).2 (ix2 r l) = entry (base m c) (t.val / 4 / 4 * 1024 + r.val) (t.val / 4 % 4 * 1024 + l.val) + ∑ q : Fin 1024, term 4 (lhs m c) (rhs m c) r l (t.val / 4) (t.val % 4 * 1024 + q.val) := by
  rw [outsAt0_A m c t h (by omega)]
  frame_out
  exact step m c t _ r l _ ((pay1 _ r l).trans (blk2 m c t r l))

theorem accB (c : Dev nD) (t : Fin cfg0.N) (h : t.val % 4 ≠ 0) (r l : Fin 1024) :
    (outsAt0 m c t.val t.isLt).2 (ix2 r l)
      = (outsAt0 m c (t.val - 1) (Nat.lt_of_le_of_lt (Nat.sub_le _ _) t.isLt)).2 (ix2 r l)
        + ∑ q : Fin 1024, term 4 (lhs m c) (rhs m c) r l (t.val / 4) (t.val % 4 * 1024 + q.val) := by
  by_cases hl : t.val % 4 = 3
  · rw [outsAt0_C m c t h hl]
    frame_out
    exact step m c t _ r l _ (congrFun (Memref.IsWhole.read_unread _ _) _)
  · rw [outsAt0_B m c t h hl]
    frame_out
    exact step m c t _ r l _ (congrFun (Memref.IsWhole.read_unread _ _) _)

/-- The last step of a block writes the accumulator out. -/
theorem out_eq (c : Dev nD) (t : Fin cfg0.N) (hl : t.val % 4 = 3) (r l : Fin 1024) :
    (outsAt0 m c t.val t.isLt).1 (ix2 r l) = (outsAt0 m c t.val t.isLt).2 (ix2 r l) := by
  rw [outsAt0_C m c t (by omega) hl]
  frame_out

theorem out_last (c : Dev nD) (t : Fin cfg0.N) (hl : t.val % 4 = 3) (r l : Fin 1024) :
    (outsAt0 m c t.val t.isLt).1 (ix2 r l) = entry (base m c) (t.val / 4 / 4 * 1024 + r.val) (t.val / 4 % 4 * 1024 + l.val) + ∑ k : Fin 4096, term 4 (lhs m c) (rhs m c) r l (t.val / 4) k.val :=
  (out_eq m c t hl r l).trans
    (acc_last (J := 4) (B := 1024) (K := 4096) (by norm_num) (by norm_num) (fun n h => (outsAt0 m c n h).2 (ix2 r l))
      (fun p => entry (base m c) (p / 4 * 1024 + r.val) (p % 4 * 1024 + l.val)) (term 4 (lhs m c) (rhs m c) r l)
      (fun n h h0 => accA m c ⟨n, h⟩ h0 r l) (fun n h h0 => accB m c ⟨n, h⟩ h0 r l) t.val t.isLt (by omega))

theorem whole (c : Dev nD) (r l : Fin 1024) (p : ℕ) (i : Fin 4096) (j : Fin 4096) (hi : i.val = p / 4 * 1024 + r.val)
    (hj : j.val = p % 4 * 1024 + l.val) :
    entry (base m c) (p / 4 * 1024 + r.val) (p % 4 * 1024 + l.val) + ∑ k : Fin 4096, term 4 (lhs m c) (rhs m c) r l p k.val
      = base m c i j + ∑ k : Fin 4096, lhs m c i k * rhs m c j k := by
  rw [sum_term _ _ _ _ _ i j hi hj, ← hi, ← hj, entry_of]

/-- The array the launch leaves. -/
theorem product (c : Dev nD) (i : Fin 4096) (j : Fin 4096) :
    (dats m 0 c).arrAt 3 cfg0.N (ix2 i j) = base m c i j + ∑ k : Fin 4096, lhs m c i k * rhs m c j k := by
  have e : (dats m 0 c).arrAt 3 cfg0.N
      = fun y => base m c (y 0) (y 1) + ∑ k : Fin 4096, lhs m c (y 0) k * rhs m c (y 1) k := by
    refine (dats m 0 c).arrAt_eq_of_covers 3 _ (by decide +kernel) fun t hf y => ?_
    have hl := (flush0_3 t).mp hf
    obtain ⟨r, l, rfl⟩ : ∃ (r l : Fin 1024), y = ix2 r l := ⟨y 0, y 1, eq_ix2 y⟩
    blk_simp
    rw [after0_3, out_last m c t hl]
    refine whole m c r l (t.val / 4) _ _ ?_ ?_ <;> blk_ext [idx3 t]
  exact congrFun e _

end Cert.Kernel10Ideal
-- ==== Proof.DH1.Claims.lean ====
module
public import proofs.«01_k».proof.Defs
public import proofs.«01_k».proof.Proof.DH1.Points
public import proofs.«01_k».proof.Proof.Gen.Reference10Ideal.Run

/-!
# The gradient of the rows a square weight is applied to, added up: the claims
-/

@[expose] public section
set_option maxRecDepth 16384
noncomputable section
namespace Cert.DH1
open Idealize.ShloMosaic Idealize.ShloMosaic.TcCoe Idealize.ShloMosaic.Tactic
open Idealize.SL Idealize.SL.Sem

/-- The plain product runs to its end, keeps its arguments, and has no semaphores. -/
theorem frame_ref : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- The tiled product is the plain one. -/
theorem algebraic : Cert.algebraic_Kernel10Ideal_Reference10Ideal := by
  intro m g m' g' _ hagree
  refine ⟨_, (θ_run Cert.Kernel10Ideal.defs _ _).mono (fun r h => h) (Cert.Kernel10Ideal.Value.run_blocks (F := Ideal) m g),
    (θ_run Cert.Reference10Ideal.defs _ _).mono (fun r h c => ⟨(h c).1.trans ?_, (h c).2⟩)
      (Cert.Reference10Ideal.Value.run (F := Ideal) m' g')⟩
  rw [(hagree c).1, (hagree c).2.1, (hagree c).2.2]
  funext y
  obtain ⟨i, j, rfl⟩ : ∃ (i : Fin 4096) (j : Fin 4096), y = ix2 i j := ⟨y 0, y 1, eq_ix2 y⟩
  refine Eq.trans ?_ (Cert.Kernel10Ideal.product m c i j).symm
  pointwise []

end Cert.DH1
-- ==== Proof.Q.Points.lean ====
module
public import proofs.«01_k».proof.Proof.Product
public import proofs.«01_k».proof.Proof.Gen.Kernel11Ideal.Value
public import Idealize.ShloMosaic.PureOps.Ideal
public import Idealize.ShloMosaic.Lib.Pipeline.ValueKit
public import Idealize.ShloMosaic.Lib.Pipeline.ReadBack
public import Idealize.ShloMosaic.Lib.Pointwise

/-!
# The product with a square weight, block by block

The call computes the rows times the weight.  Point `t` works on block `t / 4` of the result, of which 4 lie side by side, and on the
inner columns of step `t % 4`.
-/

@[expose] public section
set_option maxRecDepth 16384
noncomputable section
namespace Cert.Kernel11Ideal
open Idealize.ShloMosaic Idealize.ShloMosaic.TcCoe Idealize.ShloMosaic.Tactic
open Idealize.SL Idealize.SL.Sem
variable (m : (ℓ : Loc nD τ sig) → Buf (Elt Ideal) ℓ)
open Gen Cert.Product

theorem idx0 : ∀ t : Fin cfg0.N, win0_0.index t 0 = t.val / 4 / 4 ∧ win0_0.index t 1 = t.val % 4 := by
  decide +kernel
theorem idx1 : ∀ t : Fin cfg0.N, win0_1.index t 0 = t.val % 4 ∧ win0_1.index t 1 = t.val / 4 % 4 := by
  decide +kernel
theorem idx2 : ∀ t : Fin cfg0.N, win0_2.index t 0 = t.val / 4 / 4 ∧ win0_2.index t 1 = t.val / 4 % 4 := by
  decide +kernel

/-- The left factor, its inner index second. -/
abbrev lhs (c : Dev nD) : Fin 4096 → Fin 4096 → EReal := fun r k => m ((c : Thread nD τ).loc main_arg0) (ix2 r k)
/-- The right factor, its inner index second. -/
abbrev rhs (c : Dev nD) : Fin 4096 → Fin 4096 → EReal := fun r k => m ((c : Thread nD τ).loc main_arg1) (ix2 k r)

theorem blk0 (c : Dev nD) (t : Fin cfg0.N) (r q : Fin 1024) :
    iblk m c 0 t (ix2 r q) = entry (lhs m c) (t.val / 4 / 4 * 1024 + r.val) (t.val % 4 * 1024 + q.val) := by
  have ht : t.val < 64 := t.isLt
  rw [entry_at _ (by omega) (by omega)]
  blk_ext [iblk, V, idx0 t]

theorem blk1 (c : Dev nD) (t : Fin cfg0.N) (r q : Fin 1024) :
    iblk m c 1 t (ix2 q r) = entry (rhs m c) (t.val / 4 % 4 * 1024 + r.val) (t.val % 4 * 1024 + q.val) := by
  have ht : t.val < 64 := t.isLt
  rw [entry_at _ (by omega) (by omega)]
  blk_ext [iblk, V, idx1 t]

theorem pay1 (r l : Fin 1024) : k0_pay1 (F := Ideal) (ix2 r l) = (0 : EReal) := by
  pointwise [k0_pay1]

theorem pay2 (a x : S1024x1024.Idx → EReal) (y : S1024x1024.Idx → EReal) (r l : Fin 1024) :
    k0_pay2 (F := Ideal) a x y (ix2 r l) = a (ix2 r l) + ∑ q : Fin 1024, x (ix2 r q) * y (ix2 q l) := by
  pointwise [k0_pay2]

/-- One step adds its columns to the accumulator. -/
theorem step (c : Dev nD) (t : Fin cfg0.N) (a : S1024x1024.Idx → EReal) (r l : Fin 1024) (x : EReal) (h : a (ix2 r l) = x) :
    k0_pay2 (F := Ideal) a (iblk m c 0 t) (iblk m c 1 t) (ix2 r l)
      = x + ∑ q : Fin 1024, term 4 (lhs m c) (rhs m c) r l (t.val / 4) (t.val % 4 * 1024 + q.val) := by
  rw [pay2, h]
  exact congrArg₂ (fun x y : EReal => x + y) rfl
    (sum_blocks _ _ _ _ _ _ (fun q => iblk m c 0 t (ix2 r q)) (fun q => iblk m c 1 t (ix2 q l)) (blk0 m c t r) (blk1 m c t l))

theorem accA (c : Dev nD) (t : Fin cfg0.N) (h : t.val % 4 = 0) (r l : Fin 1024) :
    (outsAt0 m c t.val t.isLt).2 (ix2 r l) = 0 + ∑ q : Fin 1024, term 4 (lhs m c) (rhs m c) r l (t.val / 4) (t.val % 4 * 1024 + q.val) := by
  rw [outsAt0_A m c t h (by omega)]
  frame_out
  exact step m c t _ r l _ (pay1 r l)

theorem accB (c : Dev nD) (t : Fin cfg0.N) (h : t.val % 4 ≠ 0) (r l : Fin 1024) :
    (outsAt0 m c t.val t.isLt).2 (ix2 r l)
      = (outsAt0 m c (t.val - 1) (Nat.lt_of_le_of_lt (Nat.sub_le _ _) t.isLt)).2 (ix2 r l)
        + ∑ q : Fin 1024, term 4 (lhs m c) (rhs m c) r l (t.val / 4) (t.val % 4 * 1024 + q.val) := by
  by_cases hl : t.val % 4 = 3
  · rw [outsAt0_C m c t h hl]
    frame_out
    exact step m c t _ r l _ (congrFun (Memref.IsWhole.read_unread _ _) _)
  · rw [outsAt0_B m c t h hl]
    frame_out
    exact step m c t _ r l _ (congrFun (Memref.IsWhole.read_unread _ _) _)

/-- The last step of a block writes the accumulator out. -/
theorem out_eq (c : Dev nD) (t : Fin cfg0.N) (hl : t.val % 4 = 3) (r l : Fin 1024) :
    (outsAt0 m c t.val t.isLt).1 (ix2 r l) = (outsAt0 m c t.val t.isLt).2 (ix2 r l) := by
  rw [outsAt0_C m c t (by omega) hl]
  frame_out

theorem out_last (c : Dev nD) (t : Fin cfg0.N) (hl : t.val % 4 = 3) (r l : Fin 1024) :
    (outsAt0 m c t.val t.isLt).1 (ix2 r l) = 0 + ∑ k : Fin 4096, term 4 (lhs m c) (rhs m c) r l (t.val / 4) k.val :=
  (out_eq m c t hl r l).trans
    (acc_last (J := 4) (B := 1024) (K := 4096) (by norm_num) (by norm_num) (fun n h => (outsAt0 m c n h).2 (ix2 r l))
      (fun _ => 0) (term 4 (lhs m c) (rhs m c) r l)
      (fun n h h0 => accA m c ⟨n, h⟩ h0 r l) (fun n h h0 => accB m c ⟨n, h⟩ h0 r l) t.val t.isLt (by omega))

theorem whole (c : Dev nD) (r l : Fin 1024) (p : ℕ) (i : Fin 4096) (j : Fin 4096) (hi : i.val = p / 4 * 1024 + r.val)
    (hj : j.val = p % 4 * 1024 + l.val) :
    0 + ∑ k : Fin 4096, term 4 (lhs m c) (rhs m c) r l p k.val = ∑ k : Fin 4096, lhs m c i k * rhs m c j k := by
  rw [sum_term _ _ _ _ _ i j hi hj, zero_add]

/-- The array the launch leaves. -/
theorem product (c : Dev nD) (i : Fin 4096) (j : Fin 4096) :
    (dats m 0 c).arrAt 2 cfg0.N (ix2 i j) = ∑ k : Fin 4096, lhs m c i k * rhs m c j k := by
  have e : (dats m 0 c).arrAt 2 cfg0.N
      = fun y => ∑ k : Fin 4096, lhs m c (y 0) k * rhs m c (y 1) k := by
    refine (dats m 0 c).arrAt_eq_of_covers 2 _ (by decide +kernel) fun t hf y => ?_
    have hl := (flush0_2 t).mp hf
    obtain ⟨r, l, rfl⟩ : ∃ (r l : Fin 1024), y = ix2 r l := ⟨y 0, y 1, eq_ix2 y⟩
    blk_simp
    rw [after0_2, out_last m c t hl]
    refine whole m c r l (t.val / 4) _ _ ?_ ?_ <;> blk_ext [idx2 t]
  exact congrFun e _

end Cert.Kernel11Ideal
-- ==== Proof.Q.Claims.lean ====
module
public import proofs.«01_k».proof.Defs
public import proofs.«01_k».proof.Proof.Q.Points
public import proofs.«01_k».proof.Proof.Gen.Reference11Ideal.Run

/-!
# The product with a square weight: the claims
-/

@[expose] public section
set_option maxRecDepth 16384
noncomputable section
namespace Cert.Q
open Idealize.ShloMosaic Idealize.ShloMosaic.TcCoe Idealize.ShloMosaic.Tactic
open Idealize.SL Idealize.SL.Sem

/-- The plain product runs to its end, keeps its arguments, and has no semaphores. -/
theorem frame_ref : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The tiled product is the plain one. -/
theorem algebraic : Cert.algebraic_Kernel11Ideal_Reference11Ideal := by
  intro m g m' g' _ hagree
  refine ⟨_, (θ_run Cert.Kernel11Ideal.defs _ _).mono (fun r h => h) (Cert.Kernel11Ideal.Value.run_blocks (F := Ideal) m g),
    (θ_run Cert.Reference11Ideal.defs _ _).mono (fun r h c => ⟨(h c).1.trans ?_, (h c).2⟩)
      (Cert.Reference11Ideal.Value.run (F := Ideal) m' g')⟩
  rw [(hagree c).1, (hagree c).2]
  funext y
  obtain ⟨i, j, rfl⟩ : ∃ (i : Fin 4096) (j : Fin 4096), y = ix2 i j := ⟨y 0, y 1, eq_ix2 y⟩
  refine Eq.trans ?_ (Cert.Kernel11Ideal.product m c i j).symm
  pointwise []

end Cert.Q
-- ==== Proof.GWCa.Points.lean ====
module
public import proofs.«01_k».proof.Proof.Product
public import proofs.«01_k».proof.Proof.Gen.Kernel12Ideal.Value
public import Idealize.ShloMosaic.PureOps.Ideal
public import Idealize.ShloMosaic.Lib.Pipeline.ValueKit
public import Idealize.ShloMosaic.Lib.Pipeline.ReadBack
public import Idealize.ShloMosaic.Lib.Pointwise

/-!
# The gradient of one cut of the input weight, block by block

The call computes the transposed rows times the cotangent of 2048 columns.  Point `t` works on block `t / 4` of the result, of which 2 lie side by side, and on the
inner columns of step `t % 4`.
-/

@[expose] public section
set_option maxRecDepth 16384
noncomputable section
namespace Cert.Kernel12Ideal
open Idealize.ShloMosaic Idealize.ShloMosaic.TcCoe Idealize.ShloMosaic.Tactic
open Idealize.SL Idealize.SL.Sem
variable (m : (ℓ : Loc nD τ sig) → Buf (Elt Ideal) ℓ)
open Gen Cert.Product

theorem idx0 : ∀ t : Fin cfg0.N, win0_0.index t 0 = t.val % 4 ∧ win0_0.index t 1 = t.val / 4 / 2 := by
  decide +kernel
theorem idx1 : ∀ t : Fin cfg0.N, win0_1.index t 0 = t.val % 4 ∧ win0_1.index t 1 = t.val / 4 % 2 := by
  decide +kernel
theorem idx2 : ∀ t : Fin cfg0.N, win0_2.index t 0 = t.val / 4 / 2 ∧ win0_2.index t 1 = t.val / 4 % 2 := by
  decide +kernel

/-- The left factor, its inner index second. -/
abbrev lhs (c : Dev nD) : Fin 4096 → Fin 4096 → EReal := fun r k => m ((c : Thread nD τ).loc main_arg0) (ix2 k r)
/-- The right factor, its inner index second. -/
abbrev rhs (c : Dev nD) : Fin 2048 → Fin 4096 → EReal := fun r k => m ((c : Thread nD τ).loc main_arg1) (ix2 k r)

theorem blk0 (c : Dev nD) (t : Fin cfg0.N) (r q : Fin 1024) :
    iblk m c 0 t (ix2 q r) = entry (lhs m c) (t.val / 4 / 2 * 1024 + r.val) (t.val % 4 * 1024 + q.val) := by
  have ht : t.val < 32 := t.isLt
  rw [entry_at _ (by omega) (by omega)]
  blk_ext [iblk, V, idx0 t]

theorem blk1 (c : Dev nD) (t : Fin cfg0.N) (r q : Fin 1024) :
    iblk m c 1 t (ix2 q r) = entry (rhs m c) (t.val / 4 % 2 * 1024 + r.val) (t.val % 4 * 1024 + q.val) := by
  have ht : t.val < 32 := t.isLt
  rw [entry_at _ (by omega) (by omega)]
  blk_ext [iblk, V, idx1 t]

theorem pay1 (r l : Fin 1024) : k0_pay1 (F := Ideal) (ix2 r l) = (0 : EReal) := by
  pointwise [k0_pay1]

theorem pay2 (a x : S1024x1024.Idx → EReal) (y : S1024x1024.Idx → EReal) (r l : Fin 1024) :
    k0_pay2 (F := Ideal) a x y (ix2 r l) = a (ix2 r l) + ∑ q : Fin 1024, x (ix2 q r) * y (ix2 q l) := by
  pointwise [k0_pay2]

theorem pay3 (a : S1024x1024.Idx → EReal) (r l : Fin 1024) : k0_pay3 (F := Ideal) a (ix2 r l) = a (ix2 r l) := by
  pointwise [k0_pay3]

/-- One step adds its columns to the accumulator. -/
theorem step (c : Dev nD) (t : Fin cfg0.N) (a : S1024x1024.Idx → EReal) (r l : Fin 1024) (x : EReal) (h : a (ix2 r l) = x) :
    k0_pay2 (F := Ideal) a (iblk m c 0 t) (iblk m c 1 t) (ix2 r l)
      = x + ∑ q : Fin 1024, term 2 (lhs m c) (rhs m c) r l (t.val / 4) (t.val % 4 * 1024 + q.val) := by
  rw [pay2, h]
  exact congrArg₂ (fun x y : EReal => x + y) rfl
    (sum_blocks _ _ _ _ _ _ (fun q => iblk m c 0 t (ix2 q r)) (fun q => iblk m c 1 t (ix2 q l)) (blk0 m c t r) (blk1 m c t l))

theorem accA (c : Dev nD) (t : Fin cfg0.N) (h : t.val % 4 = 0) (r l : Fin 1024) :
    (outsAt0 m c t.val t.isLt).2 (ix2 r l) = 0 + ∑ q : Fin 1024, term 2 (lhs m c) (rhs m c) r l (t.val / 4) (t.val % 4 * 1024 + q.val) := by
  rw [outsAt0_A m c t h (by omega)]
  frame_out
  exact step m c t _ r l _ (pay1 r l)

theorem accB (c : Dev nD) (t : Fin cfg0.N) (h : t.val % 4 ≠ 0) (r l : Fin 1024) :
    (outsAt0 m c t.val t.isLt).2 (ix2 r l)
      = (outsAt0 m c (t.val - 1) (Nat.lt_of_le_of_lt (Nat.sub_le _ _) t.isLt)).2 (ix2 r l)
        + ∑ q : Fin 1024, term 2 (lhs m c) (rhs m c) r l (t.val / 4) (t.val % 4 * 1024 + q.val) := by
  by_cases hl : t.val % 4 = 3
  · rw [outsAt0_C m c t h hl]
    frame_out
    exact step m c t _ r l _ (congrFun (Memref.IsWhole.read_unread _ _) _)
  · rw [outsAt0_B m c t h hl]
    frame_out
    exact step m c t _ r l _ (congrFun (Memref.IsWhole.read_unread _ _) _)

/-- The last step of a block writes the accumulator out. -/
theorem out_eq (c : Dev nD) (t : Fin cfg0.N) (hl : t.val % 4 = 3) (r l : Fin 1024) :
    (outsAt0 m c t.val t.isLt).1 (ix2 r l) = (outsAt0 m c t.val t.isLt).2 (ix2 r l) := by
  rw [outsAt0_C m c t (by omega) hl]
  frame_out
  exact pay3 _ r l

theorem out_last (c : Dev nD) (t : Fin cfg0.N) (hl : t.val % 4 = 3) (r l : Fin 1024) :
    (outsAt0 m c t.val t.isLt).1 (ix2 r l) = 0 + ∑ k : Fin 4096, term 2 (lhs m c) (rhs m c) r l (t.val / 4) k.val :=
  (out_eq m c t hl r l).trans
    (acc_last (J := 4) (B := 1024) (K := 4096) (by norm_num) (by norm_num) (fun n h => (outsAt0 m c n h).2 (ix2 r l))
      (fun _ => 0) (term 2 (lhs m c) (rhs m c) r l)
      (fun n h h0 => accA m c ⟨n, h⟩ h0 r l) (fun n h h0 => accB m c ⟨n, h⟩ h0 r l) t.val t.isLt (by omega))

theorem whole (c : Dev nD) (r l : Fin 1024) (p : ℕ) (i : Fin 4096) (j : Fin 2048) (hi : i.val = p / 2 * 1024 + r.val)
    (hj : j.val = p % 2 * 1024 + l.val) :
    0 + ∑ k : Fin 4096, term 2 (lhs m c) (rhs m c) r l p k.val = ∑ k : Fin 4096, lhs m c i k * rhs m c j k := by
  rw [sum_term _ _ _ _ _ i j hi hj, zero_add]

/-- The array the launch leaves. -/
theorem product (c : Dev nD) (i : Fin 4096) (j : Fin 2048) :
    (dats m 0 c).arrAt 2 cfg0.N (ix2 i j) = ∑ k : Fin 4096, lhs m c i k * rhs m c j k := by
  have e : (dats m 0 c).arrAt 2 cfg0.N
      = fun y => ∑ k : Fin 4096, lhs m c (y 0) k * rhs m c (y 1) k := by
    refine (dats m 0 c).arrAt_eq_of_covers 2 _ (by decide +kernel) fun t hf y => ?_
    have hl := (flush0_2 t).mp hf
    obtain ⟨r, l, rfl⟩ : ∃ (r l : Fin 1024), y = ix2 r l := ⟨y 0, y 1, eq_ix2 y⟩
    blk_simp
    rw [after0_2, out_last m c t hl]
    refine whole m c r l (t.val / 4) _ _ ?_ ?_ <;> blk_ext [idx2 t]
  exact congrFun e _

end Cert.Kernel12Ideal
-- ==== Proof.GWCa.Claims.lean ====
module
public import proofs.«01_k».proof.Defs
public import proofs.«01_k».proof.Proof.GWCa.Points
public import proofs.«01_k».proof.Proof.Gen.Reference12Ideal.Run

/-!
# The gradient of one cut of the input weight: the claims
-/

@[expose] public section
set_option maxRecDepth 16384
noncomputable section
namespace Cert.GWCa
open Idealize.ShloMosaic Idealize.ShloMosaic.TcCoe Idealize.ShloMosaic.Tactic
open Idealize.SL Idealize.SL.Sem

/-- The plain product runs to its end, keeps its arguments, and has no semaphores. -/
theorem frame_ref : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- The tiled product is the plain one. -/
theorem algebraic : Cert.algebraic_Kernel12Ideal_Reference12Ideal := by
  intro m g m' g' _ hagree
  refine ⟨_, (θ_run Cert.Kernel12Ideal.defs _ _).mono (fun r h => h) (Cert.Kernel12Ideal.Value.run_blocks (F := Ideal) m g),
    (θ_run Cert.Reference12Ideal.defs _ _).mono (fun r h c => ⟨(h c).1.trans ?_, (h c).2⟩)
      (Cert.Reference12Ideal.Value.run (F := Ideal) m' g')⟩
  rw [(hagree c).1, (hagree c).2]
  funext y
  obtain ⟨i, j, rfl⟩ : ∃ (i : Fin 4096) (j : Fin 2048), y = ix2 i j := ⟨y 0, y 1, eq_ix2 y⟩
  refine Eq.trans ?_ (Cert.Kernel12Ideal.product m c i j).symm
  refine Eq.trans (b := ∑ k : Fin 4096, Cert.Kernel12Ideal.rhs m c j k * Cert.Kernel12Ideal.lhs m c i k) ?_
    (Finset.sum_congr rfl fun k _ => mul_comm _ _)
  pointwise []

end Cert.GWCa
-- ==== Proof.DXCa.Points.lean ====
module
public import proofs.«01_k».proof.Proof.Product
public import proofs.«01_k».proof.Proof.Gen.Kernel13Ideal.Value
public import Idealize.ShloMosaic.PureOps.Ideal
public import Idealize.ShloMosaic.Lib.Pipeline.ValueKit
public import Idealize.ShloMosaic.Lib.Pipeline.ReadBack
public import Idealize.ShloMosaic.Lib.Pointwise

/-!
# The gradient of the layer's rows through one cut of the input weight, block by block

The call computes the cotangent of 2048 columns times the transposed cut, added to a gradient that is already there.  Point `t` works on block `t / 2` of the result, of which 4 lie side by side, and on the
inner columns of step `t % 2`.
-/

@[expose] public section
set_option maxRecDepth 16384
noncomputable section
namespace Cert.Kernel13Ideal
open Idealize.ShloMosaic Idealize.ShloMosaic.TcCoe Idealize.ShloMosaic.Tactic
open Idealize.SL Idealize.SL.Sem
variable (m : (ℓ : Loc nD τ sig) → Buf (Elt Ideal) ℓ)
open Gen Cert.Product

theorem idx0 : ∀ t : Fin cfg0.N, win0_0.index t 0 = t.val / 2 / 4 ∧ win0_0.index t 1 = t.val % 2 := by
  decide +kernel
theorem idx1 : ∀ t : Fin cfg0.N, win0_1.index t 0 = t.val / 2 % 4 ∧ win0_1.index t 1 = t.val % 2 := by
  decide +kernel
theorem idx2 : ∀ t : Fin cfg0.N, win0_2.index t 0 = t.val / 2 / 4 ∧ win0_2.index t 1 = t.val / 2 % 4 := by
  decide +kernel
theorem idx3 : ∀ t : Fin cfg0.N, win0_3.index t 0 = t.val / 2 / 4 ∧ win0_3.index t 1 = t.val / 2 % 4 := by
  decide +kernel

/-- The left factor, its inner index second. -/
abbrev lhs (c : Dev nD) : Fin 4096 → Fin 2048 → EReal := fun r k => m ((c : Thread nD τ).loc main_arg0) (ix2 r k)
/-- The right factor, its inner index second. -/
abbrev rhs (c : Dev nD) : Fin 4096 → Fin 2048 → EReal := fun r k => m ((c : Thread nD τ).loc main_arg1) (ix2 r k)
/-- The gradient the product is added to. -/
abbrev base (c : Dev nD) : Fin 4096 → Fin 4096 → EReal := fun r k => m ((c : Thread nD τ).loc main_arg2) (ix2 r k)

theorem V_base (c : Dev nD) : V m c main_v0 = m ((c : Thread nD τ).loc main_arg2) := by
  unfold_abbrev_sides
  after_results
  rfl

theorem blk0 (c : Dev nD) (t : Fin cfg0.N) (r q : Fin 1024) :
    iblk m c 0 t (ix2 r q) = entry (lhs m c) (t.val / 2 / 4 * 1024 + r.val) (t.val % 2 * 1024 + q.val) := by
  have ht : t.val < 32 := t.isLt
  rw [entry_at _ (by omega) (by omega)]
  blk_ext [iblk, V, idx0 t]

theorem blk1 (c : Dev nD) (t : Fin cfg0.N) (r q : Fin 1024) :
    iblk m c 1 t (ix2 r q) = entry (rhs m c) (t.val / 2 % 4 * 1024 + r.val) (t.val % 2 * 1024 + q.val) := by
  have ht : t.val < 32 := t.isLt
  rw [entry_at _ (by omega) (by omega)]
  blk_ext [iblk, V, idx1 t]

theorem blk2 (c : Dev nD) (t : Fin cfg0.N) (r q : Fin 1024) :
    iblk m c 2 t (ix2 r q) = entry (base m c) (t.val / 2 / 4 * 1024 + r.val) (t.val / 2 % 4 * 1024 + q.val) := by
  have ht : t.val < 32 := t.isLt
  rw [entry_at _ (by omega) (by omega)]
  have e : iblk m c 2 t (ix2 r q) = V m c main_v0 (ix2 (⟨t.val / 2 / 4 * 1024 + r.val, by omega⟩ : Fin 4096)
      (⟨t.val / 2 % 4 * 1024 + q.val, by omega⟩ : Fin 4096)) := by
    blk_ext [iblk, idx2 t]
  rw [e, V_base]

theorem pay1 (z : S1024x1024.Idx → EReal) (r l : Fin 1024) : k0_pay1 (F := Ideal) z (ix2 r l) = z (ix2 r l) := by
  pointwise [k0_pay1]

theorem pay2 (a x : S1024x1024.Idx → EReal) (y : S1024x1024.Idx → EReal) (r l : Fin 1024) :
    k0_pay2 (F := Ideal) a x y (ix2 r l) = a (ix2 r l) + ∑ q : Fin 1024, x (ix2 r q) * y (ix2 l q) := by
  pointwise [k0_pay2]

/-- One step adds its columns to the accumulator. -/
theorem step (c : Dev nD) (t : Fin cfg0.N) (a : S1024x1024.Idx → EReal) (r l : Fin 1024) (x : EReal) (h : a (ix2 r l) = x) :
    k0_pay2 (F := Ideal) a (iblk m c 0 t) (iblk m c 1 t) (ix2 r l)
      = x + ∑ q : Fin 1024, term 4 (lhs m c) (rhs m c) r l (t.val / 2) (t.val % 2 * 1024 + q.val) := by
  rw [pay2, h]
  exact congrArg₂ (fun x y : EReal => x + y) rfl
    (sum_blocks _ _ _ _ _ _ (fun q => iblk m c 0 t (ix2 r q)) (fun q => iblk m c 1 t (ix2 l q)) (blk0 m c t r) (blk1 m c t l))

theorem accA (c : Dev nD) (t : Fin cfg0.N) (h : t.val % 2 = 0) (r l : Fin 1024) :
    (outsAt0 m c t.val t.isLt).2 (ix2 r l) = entry (base m c) (t.val / 2 / 4 * 1024 + r.val) (t.val / 2 % 4 * 1024 + l.val) + ∑ q : Fin 1024, term 4 (lhs m c) (rhs m c) r l (t.val / 2) (t.val % 2 * 1024 + q.val) := by
  rw [outsAt0_A m c t h (by omega)]
  frame_out
  exact step m c t _ r l _ ((pay1 _ r l).trans (blk2 m c t r l))

theorem accB (c : Dev nD) (t : Fin cfg0.N) (h : t.val % 2 ≠ 0) (r l : Fin 1024) :
    (outsAt0 m c t.val t.isLt).2 (ix2 r l)
      = (outsAt0 m c (t.val - 1) (Nat.lt_of_le_of_lt (Nat.sub_le _ _) t.isLt)).2 (ix2 r l)
        + ∑ q : Fin 1024, term 4 (lhs m c) (rhs m c) r l (t.val / 2) (t.val % 2 * 1024 + q.val) := by
  rw [outsAt0_B m c t h (by omega)]
  frame_out
  exact step m c t _ r l _ (congrFun (Memref.IsWhole.read_unread _ _) _)

/-- The last step of a block writes the accumulator out. -/
theorem out_eq (c : Dev nD) (t : Fin cfg0.N) (hl : t.val % 2 = 1) (r l : Fin 1024) :
    (outsAt0 m c t.val t.isLt).1 (ix2 r l) = (outsAt0 m c t.val t.isLt).2 (ix2 r l) := by
  rw [outsAt0_B m c t (by omega) hl]
  frame_out

theorem out_last (c : Dev nD) (t : Fin cfg0.N) (hl : t.val % 2 = 1) (r l : Fin 1024) :
    (outsAt0 m c t.val t.isLt).1 (ix2 r l) = entry (base m c) (t.val / 2 / 4 * 1024 + r.val) (t.val / 2 % 4 * 1024 + l.val) + ∑ k : Fin 2048, term 4 (lhs m c) (rhs m c) r l (t.val / 2) k.val :=
  (out_eq m c t hl r l).trans
    (acc_last (J := 2) (B := 1024) (K := 2048) (by norm_num) (by norm_num) (fun n h => (outsAt0 m c n h).2 (ix2 r l))
      (fun p => entry (base m c) (p / 4 * 1024 + r.val) (p % 4 * 1024 + l.val)) (term 4 (lhs m c) (rhs m c) r l)
      (fun n h h0 => accA m c ⟨n, h⟩ h0 r l) (fun n h h0 => accB m c ⟨n, h⟩ h0 r l) t.val t.isLt (by omega))

theorem whole (c : Dev nD) (r l : Fin 1024) (p : ℕ) (i : Fin 4096) (j : Fin 4096) (hi : i.val = p / 4 * 1024 + r.val)
    (hj : j.val = p % 4 * 1024 + l.val) :
    entry (base m c) (p / 4 * 1024 + r.val) (p % 4 * 1024 + l.val) + ∑ k : Fin 2048, term 4 (lhs m c) (rhs m c) r l p k.val
      = base m c i j + ∑ k : Fin 2048, lhs m c i k * rhs m c j k := by
  rw [sum_term _ _ _ _ _ i j hi hj, ← hi, ← hj, entry_of]

/-- The array the launch leaves. -/
theorem product (c : Dev nD) (i : Fin 4096) (j : Fin 4096) :
    (dats m 0 c).arrAt 3 cfg0.N (ix2 i j) = base m c i j + ∑ k : Fin 2048, lhs m c i k * rhs m c j k := by
  have e : (dats m 0 c).arrAt 3 cfg0.N
      = fun y => base m c (y 0) (y 1) + ∑ k : Fin 2048, lhs m c (y 0) k * rhs m c (y 1) k := by
    refine (dats m 0 c).arrAt_eq_of_covers 3 _ (by decide +kernel) fun t hf y => ?_
    have hl := (flush0_3 t).mp hf
    obtain ⟨r, l, rfl⟩ : ∃ (r l : Fin 1024), y = ix2 r l := ⟨y 0, y 1, eq_ix2 y⟩
    blk_simp
    rw [after0_3, out_last m c t hl]
    refine whole m c r l (t.val / 2) _ _ ?_ ?_ <;> blk_ext [idx3 t]
  exact congrFun e _

end Cert.Kernel13Ideal
-- ==== Proof.DXCa.Claims.lean ====
module
public import proofs.«01_k».proof.Defs
public import proofs.«01_k».proof.Proof.DXCa.Points
public import proofs.«01_k».proof.Proof.Gen.Reference13Ideal.Run

/-!
# The gradient of the layer's rows through one cut of the input weight: the claims
-/

@[expose] public section
set_option maxRecDepth 16384
noncomputable section
namespace Cert.DXCa
open Idealize.ShloMosaic Idealize.ShloMosaic.TcCoe Idealize.ShloMosaic.Tactic
open Idealize.SL Idealize.SL.Sem

/-- The plain product runs to its end, keeps its arguments, and has no semaphores. -/
theorem frame_ref : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- The tiled product is the plain one. -/
theorem algebraic : Cert.algebraic_Kernel13Ideal_Reference13Ideal := by
  intro m g m' g' _ hagree
  refine ⟨_, (θ_run Cert.Kernel13Ideal.defs _ _).mono (fun r h => h) (Cert.Kernel13Ideal.Value.run_blocks (F := Ideal) m g),
    (θ_run Cert.Reference13Ideal.defs _ _).mono (fun r h c => ⟨(h c).1.trans ?_, (h c).2⟩)
      (Cert.Reference13Ideal.Value.run (F := Ideal) m' g')⟩
  rw [(hagree c).1, (hagree c).2.1, (hagree c).2.2]
  funext y
  obtain ⟨i, j, rfl⟩ : ∃ (i : Fin 4096) (j : Fin 4096), y = ix2 i j := ⟨y 0, y 1, eq_ix2 y⟩
  refine Eq.trans ?_ (Cert.Kernel13Ideal.product m c i j).symm
  pointwise []

end Cert.DXCa
-- ==== Proof.ZCa.Points.lean ====
module
public import proofs.«01_k».proof.Proof.Product
public import proofs.«01_k».proof.Proof.Gen.Kernel14Ideal.Value
public import Idealize.ShloMosaic.PureOps.Ideal
public import Idealize.ShloMosaic.Lib.Pipeline.ValueKit
public import Idealize.ShloMosaic.Lib.Pipeline.ReadBack
public import Idealize.ShloMosaic.Lib.Pointwise

/-!
# The product with one cut of the input weight, block by block

The call computes the rows times 2048 columns of the input weight.  Point `t` works on block `t / 4` of the result, of which 2 lie side by side, and on the
inner columns of step `t % 4`.
-/

@[expose] public section
set_option maxRecDepth 16384
noncomputable section
namespace Cert.Kernel14Ideal
open Idealize.ShloMosaic Idealize.ShloMosaic.TcCoe Idealize.ShloMosaic.Tactic
open Idealize.SL Idealize.SL.Sem
variable (m : (ℓ : Loc nD τ sig) → Buf (Elt Ideal) ℓ)
open Gen Cert.Product

theorem idx0 : ∀ t : Fin cfg0.N, win0_0.index t 0 = t.val / 4 / 2 ∧ win0_0.index t 1 = t.val % 4 := by
  decide +kernel
theorem idx1 : ∀ t : Fin cfg0.N, win0_1.index t 0 = t.val % 4 ∧ win0_1.index t 1 = t.val / 4 % 2 := by
  decide +kernel
theorem idx2 : ∀ t : Fin cfg0.N, win0_2.index t 0 = t.val / 4 / 2 ∧ win0_2.index t 1 = t.val / 4 % 2 := by
  decide +kernel

/-- The left factor, its inner index second. -/
abbrev lhs (c : Dev nD) : Fin 4096 → Fin 4096 → EReal := fun r k => m ((c : Thread nD τ).loc main_arg0) (ix2 r k)
/-- The right factor, its inner index second. -/
abbrev rhs (c : Dev nD) : Fin 2048 → Fin 4096 → EReal := fun r k => m ((c : Thread nD τ).loc main_arg1) (ix2 k r)

theorem blk0 (c : Dev nD) (t : Fin cfg0.N) (r q : Fin 1024) :
    iblk m c 0 t (ix2 r q) = entry (lhs m c) (t.val / 4 / 2 * 1024 + r.val) (t.val % 4 * 1024 + q.val) := by
  have ht : t.val < 32 := t.isLt
  rw [entry_at _ (by omega) (by omega)]
  blk_ext [iblk, V, idx0 t]

theorem blk1 (c : Dev nD) (t : Fin cfg0.N) (r q : Fin 1024) :
    iblk m c 1 t (ix2 q r) = entry (rhs m c) (t.val / 4 % 2 * 1024 + r.val) (t.val % 4 * 1024 + q.val) := by
  have ht : t.val < 32 := t.isLt
  rw [entry_at _ (by omega) (by omega)]
  blk_ext [iblk, V, idx1 t]

theorem pay1 (r l : Fin 1024) : k0_pay1 (F := Ideal) (ix2 r l) = (0 : EReal) := by
  pointwise [k0_pay1]

theorem pay2 (a x : S1024x1024.Idx → EReal) (y : S1024x1024.Idx → EReal) (r l : Fin 1024) :
    k0_pay2 (F := Ideal) a x y (ix2 r l) = a (ix2 r l) + ∑ q : Fin 1024, x (ix2 r q) * y (ix2 q l) := by
  pointwise [k0_pay2]

/-- One step adds its columns to the accumulator. -/
theorem step (c : Dev nD) (t : Fin cfg0.N) (a : S1024x1024.Idx → EReal) (r l : Fin 1024) (x : EReal) (h : a (ix2 r l) = x) :
    k0_pay2 (F := Ideal) a (iblk m c 0 t) (iblk m c 1 t) (ix2 r l)
      = x + ∑ q : Fin 1024, term 2 (lhs m c) (rhs m c) r l (t.val / 4) (t.val % 4 * 1024 + q.val) := by
  rw [pay2, h]
  exact congrArg₂ (fun x y : EReal => x + y) rfl
    (sum_blocks _ _ _ _ _ _ (fun q => iblk m c 0 t (ix2 r q)) (fun q => iblk m c 1 t (ix2 q l)) (blk0 m c t r) (blk1 m c t l))

theorem accA (c : Dev nD) (t : Fin cfg0.N) (h : t.val % 4 = 0) (r l : Fin 1024) :
    (outsAt0 m c t.val t.isLt).2 (ix2 r l) = 0 + ∑ q : Fin 1024, term 2 (lhs m c) (rhs m c) r l (t.val / 4) (t.val % 4 * 1024 + q.val) := by
  rw [outsAt0_A m c t h (by omega)]
  frame_out
  exact step m c t _ r l _ (pay1 r l)

theorem accB (c : Dev nD) (t : Fin cfg0.N) (h : t.val % 4 ≠ 0) (r l : Fin 1024) :
    (outsAt0 m c t.val t.isLt).2 (ix2 r l)
      = (outsAt0 m c (t.val - 1) (Nat.lt_of_le_of_lt (Nat.sub_le _ _) t.isLt)).2 (ix2 r l)
        + ∑ q : Fin 1024, term 2 (lhs m c) (rhs m c) r l (t.val / 4) (t.val % 4 * 1024 + q.val) := by
  by_cases hl : t.val % 4 = 3
  · rw [outsAt0_C m c t h hl]
    frame_out
    exact step m c t _ r l _ (congrFun (Memref.IsWhole.read_unread _ _) _)
  · rw [outsAt0_B m c t h hl]
    frame_out
    exact step m c t _ r l _ (congrFun (Memref.IsWhole.read_unread _ _) _)

/-- The last step of a block writes the accumulator out. -/
theorem out_eq (c : Dev nD) (t : Fin cfg0.N) (hl : t.val % 4 = 3) (r l : Fin 1024) :
    (outsAt0 m c t.val t.isLt).1 (ix2 r l) = (outsAt0 m c t.val t.isLt).2 (ix2 r l) := by
  rw [outsAt0_C m c t (by omega) hl]
  frame_out

theorem out_last (c : Dev nD) (t : Fin cfg0.N) (hl : t.val % 4 = 3) (r l : Fin 1024) :
    (outsAt0 m c t.val t.isLt).1 (ix2 r l) = 0 + ∑ k : Fin 4096, term 2 (lhs m c) (rhs m c) r l (t.val / 4) k.val :=
  (out_eq m c t hl r l).trans
    (acc_last (J := 4) (B := 1024) (K := 4096) (by norm_num) (by norm_num) (fun n h => (outsAt0 m c n h).2 (ix2 r l))
      (fun _ => 0) (term 2 (lhs m c) (rhs m c) r l)
      (fun n h h0 => accA m c ⟨n, h⟩ h0 r l) (fun n h h0 => accB m c ⟨n, h⟩ h0 r l) t.val t.isLt (by omega))

theorem whole (c : Dev nD) (r l : Fin 1024) (p : ℕ) (i : Fin 4096) (j : Fin 2048) (hi : i.val = p / 2 * 1024 + r.val)
    (hj : j.val = p % 2 * 1024 + l.val) :
    0 + ∑ k : Fin 4096, term 2 (lhs m c) (rhs m c) r l p k.val = ∑ k : Fin 4096, lhs m c i k * rhs m c j k := by
  rw [sum_term _ _ _ _ _ i j hi hj, zero_add]

/-- The array the launch leaves. -/
theorem product (c : Dev nD) (i : Fin 4096) (j : Fin 2048) :
    (dats m 0 c).arrAt 2 cfg0.N (ix2 i j) = ∑ k : Fin 4096, lhs m c i k * rhs m c j k := by
  have e : (dats m 0 c).arrAt 2 cfg0.N
      = fun y => ∑ k : Fin 4096, lhs m c (y 0) k * rhs m c (y 1) k := by
    refine (dats m 0 c).arrAt_eq_of_covers 2 _ (by decide +kernel) fun t hf y => ?_
    have hl := (flush0_2 t).mp hf
    obtain ⟨r, l, rfl⟩ : ∃ (r l : Fin 1024), y = ix2 r l := ⟨y 0, y 1, eq_ix2 y⟩
    blk_simp
    rw [after0_2, out_last m c t hl]
    refine whole m c r l (t.val / 4) _ _ ?_ ?_ <;> blk_ext [idx2 t]
  exact congrFun e _

end Cert.Kernel14Ideal
-- ==== Proof.ZCa.Claims.lean ====
module
public import proofs.«01_k».proof.Defs
public import proofs.«01_k».proof.Proof.ZCa.Points
public import proofs.«01_k».proof.Proof.Gen.Reference14Ideal.Run

/-!
# The product with one cut of the input weight: the claims
-/

@[expose] public section
set_option maxRecDepth 16384
noncomputable section
namespace Cert.ZCa
open Idealize.ShloMosaic Idealize.ShloMosaic.TcCoe Idealize.ShloMosaic.Tactic
open Idealize.SL Idealize.SL.Sem

/-- The plain product runs to its end, keeps its arguments, and has no semaphores. -/
theorem frame_ref : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

/-- The tiled product is the plain one. -/
theorem algebraic : Cert.algebraic_Kernel14Ideal_Reference14Ideal := by
  intro m g m' g' _ hagree
  refine ⟨_, (θ_run Cert.Kernel14Ideal.defs _ _).mono (fun r h => h) (Cert.Kernel14Ideal.Value.run_blocks (F := Ideal) m g),
    (θ_run Cert.Reference14Ideal.defs _ _).mono (fun r h c => ⟨(h c).1.trans ?_, (h c).2⟩)
      (Cert.Reference14Ideal.Value.run (F := Ideal) m' g')⟩
  rw [(hagree c).1, (hagree c).2]
  funext y
  obtain ⟨i, j, rfl⟩ : ∃ (i : Fin 4096) (j : Fin 2048), y = ix2 i j := ⟨y 0, y 1, eq_ix2 y⟩
  refine Eq.trans ?_ (Cert.Kernel14Ideal.product m c i j).symm
  pointwise []

end Cert.ZCa
-- ==== Proof.GProjR.Points.lean ====
module
public import proofs.«01_k».proof.Proof.Product
public import proofs.«01_k».proof.Proof.Gen.Kernel15Ideal.Value
public import Idealize.ShloMosaic.PureOps.Ideal
public import Idealize.ShloMosaic.Lib.Pipeline.ValueKit
public import Idealize.ShloMosaic.Lib.Pipeline.ReadBack
public import Idealize.ShloMosaic.Lib.Pointwise

/-!
# The gradient of a mixer's projection, block by block

The call computes the transposed mixer's result times the cotangent, left as four slots of 1024 columns.  Point `t` works on block `t / 4` of the result, of which 4 lie side by side, and on the
inner columns of step `t % 4`.
-/

@[expose] public section
set_option maxRecDepth 16384
noncomputable section
namespace Cert.Kernel15Ideal
open Idealize.ShloMosaic Idealize.ShloMosaic.TcCoe Idealize.ShloMosaic.Tactic
open Idealize.SL Idealize.SL.Sem
variable (m : (ℓ : Loc nD τ sig) → Buf (Elt Ideal) ℓ)
open Gen Cert.Product

theorem idx0 : ∀ t : Fin cfg0.N, win0_0.index t 0 = t.val % 4 ∧ win0_0.index t 1 = t.val / 4 / 4 := by
  decide +kernel
theorem idx1 : ∀ t : Fin cfg0.N, win0_1.index t 0 = t.val % 4 ∧ win0_1.index t 1 = t.val / 4 % 4 := by
  decide +kernel
theorem idx2 : ∀ t : Fin cfg0.N, win0_2.index t 0 = t.val / 4 % 4 / 1 ∧ win0_2.index t 1 = t.val / 4 / 4 ∧ win0_2.index t 2 = t.val / 4 % 4 % 1 := by
  decide +kernel

/-- The left factor, its inner index second. -/
abbrev lhs (c : Dev nD) : Fin 2048 → Fin 4096 → EReal := fun r k => m ((c : Thread nD τ).loc main_arg0) (ix2 k r)
/-- The right factor, its inner index second. -/
abbrev rhs (c : Dev nD) : Fin 4096 → Fin 4096 → EReal := fun r k => m ((c : Thread nD τ).loc main_arg1) (ix2 k r)

theorem blk0 (c : Dev nD) (t : Fin cfg0.N) (r q : Fin 1024) :
    iblk m c 0 t (ix2 q r) = entry (lhs m c) (t.val / 4 / 4 * 1024 + r.val) (t.val % 4 * 1024 + q.val) := by
  have ht : t.val < 32 := t.isLt
  rw [entry_at _ (by omega) (by omega)]
  blk_ext [iblk, V, idx0 t]

theorem blk1 (c : Dev nD) (t : Fin cfg0.N) (r q : Fin 1024) :
    iblk m c 1 t (ix2 q r) = entry (rhs m c) (t.val / 4 % 4 * 1024 + r.val) (t.val % 4 * 1024 + q.val) := by
  have ht : t.val < 32 := t.isLt
  rw [entry_at _ (by omega) (by omega)]
  blk_ext [iblk, V, idx1 t]

theorem pay1 (r l : Fin 1024) : k0_pay1 (F := Ideal) (ix2 r l) = (0 : EReal) := by
  pointwise [k0_pay1]

theorem pay2 (a x : S1024x1024.Idx → EReal) (y : S1024x1024.Idx → EReal) (r l : Fin 1024) :
    k0_pay2 (F := Ideal) a x y (ix2 r l) = a (ix2 r l) + ∑ q : Fin 1024, x (ix2 q r) * y (ix2 q l) := by
  pointwise [k0_pay2]

theorem pay3 (a : S1024x1024.Idx → EReal) (r l : Fin 1024) : k0_pay3 (F := Ideal) a (ix3 0 r l) = a (ix2 r l) := by
  pointwise [k0_pay3]

/-- One step adds its columns to the accumulator. -/
theorem step (c : Dev nD) (t : Fin cfg0.N) (a : S1024x1024.Idx → EReal) (r l : Fin 1024) (x : EReal) (h : a (ix2 r l) = x) :
    k0_pay2 (F := Ideal) a (iblk m c 0 t) (iblk m c 1 t) (ix2 r l)
      = x + ∑ q : Fin 1024, term 4 (lhs m c) (rhs m c) r l (t.val / 4) (t.val % 4 * 1024 + q.val) := by
  rw [pay2, h]
  exact congrArg₂ (fun x y : EReal => x + y) rfl
    (sum_blocks _ _ _ _ _ _ (fun q => iblk m c 0 t (ix2 q r)) (fun q => iblk m c 1 t (ix2 q l)) (blk0 m c t r) (blk1 m c t l))

theorem accA (c : Dev nD) (t : Fin cfg0.N) (h : t.val % 4 = 0) (r l : Fin 1024) :
    (outsAt0 m c t.val t.isLt).2 (ix2 r l) = 0 + ∑ q : Fin 1024, term 4 (lhs m c) (rhs m c) r l (t.val / 4) (t.val % 4 * 1024 + q.val) := by
  rw [outsAt0_A m c t h (by omega)]
  frame_out
  exact step m c t _ r l _ (pay1 r l)

theorem accB (c : Dev nD) (t : Fin cfg0.N) (h : t.val % 4 ≠ 0) (r l : Fin 1024) :
    (outsAt0 m c t.val t.isLt).2 (ix2 r l)
      = (outsAt0 m c (t.val - 1) (Nat.lt_of_le_of_lt (Nat.sub_le _ _) t.isLt)).2 (ix2 r l)
        + ∑ q : Fin 1024, term 4 (lhs m c) (rhs m c) r l (t.val / 4) (t.val % 4 * 1024 + q.val) := by
  by_cases hl : t.val % 4 = 3
  · rw [outsAt0_C m c t h hl]
    frame_out
    exact step m c t _ r l _ (congrFun (Memref.IsWhole.read_unread _ _) _)
  · rw [outsAt0_B m c t h hl]
    frame_out
    exact step m c t _ r l _ (congrFun (Memref.IsWhole.read_unread _ _) _)

/-- The last step of a block writes the accumulator out. -/
theorem out_eq (c : Dev nD) (t : Fin cfg0.N) (hl : t.val % 4 = 3) (r l : Fin 1024) :
    (outsAt0 m c t.val t.isLt).1 (ix3 0 r l) = (outsAt0 m c t.val t.isLt).2 (ix2 r l) := by
  rw [outsAt0_C m c t (by omega) hl]
  frame_out
  exact pay3 _ r l

theorem out_last (c : Dev nD) (t : Fin cfg0.N) (hl : t.val % 4 = 3) (r l : Fin 1024) :
    (outsAt0 m c t.val t.isLt).1 (ix3 0 r l) = 0 + ∑ k : Fin 4096, term 4 (lhs m c) (rhs m c) r l (t.val / 4) k.val :=
  (out_eq m c t hl r l).trans
    (acc_last (J := 4) (B := 1024) (K := 4096) (by norm_num) (by norm_num) (fun n h => (outsAt0 m c n h).2 (ix2 r l))
      (fun _ => 0) (term 4 (lhs m c) (rhs m c) r l)
      (fun n h h0 => accA m c ⟨n, h⟩ h0 r l) (fun n h h0 => accB m c ⟨n, h⟩ h0 r l) t.val t.isLt (by omega))

theorem whole (c : Dev nD) (r l : Fin 1024) (p : ℕ) (i : Fin 2048) (j : Fin 4096) (hi : i.val = p / 4 * 1024 + r.val)
    (hj : j.val = p % 4 * 1024 + l.val) :
    0 + ∑ k : Fin 4096, term 4 (lhs m c) (rhs m c) r l p k.val = ∑ k : Fin 4096, lhs m c i k * rhs m c j k := by
  rw [sum_term _ _ _ _ _ i j hi hj, zero_add]

/-- The array the launch leaves: slot `a` holds columns `1024 a` to `1024 a + 1023` of the product. -/
theorem product (c : Dev nD) (a : Fin 4) (i : Fin 2048) (j : Fin 1024) :
    (dats m 0 c).arrAt 2 cfg0.N (ix3 a i j)
      = ∑ k : Fin 4096, lhs m c i k * rhs m c ⟨1024 * a.val + j.val, by omega⟩ k := by
  have e : (dats m 0 c).arrAt 2 cfg0.N
      = fun y => ∑ k : Fin 4096, lhs m c (y 1) k * rhs m c ⟨1024 * (y 0).val + (y 2).val, Nat.lt_of_lt_of_le (Nat.add_lt_add_left (y 2).isLt _) (Nat.mul_le_mul_left 1024 (y 0).isLt)⟩ k := by
    refine (dats m 0 c).arrAt_eq_of_covers 2 _ (by decide +kernel) fun t hf y => ?_
    have ht : t.val < 32 := t.isLt
    have hl := (flush0_2 t).mp hf
    obtain ⟨r, l, rfl⟩ : ∃ (r l : Fin 1024), y = ix3 (0 : Fin 1) r l :=
      ⟨y 1, y 2, (eq_ix3 y).trans (congrArg (fun a : Fin 1 => ix3 a (y 1) (y 2)) (Subsingleton.elim (α := Fin 1) _ _))⟩
    blk_simp
    rw [after0_2, out_last m c t hl]
    refine whole m c r l (t.val / 4) _ _ ?_ ?_
    · blk_ext [idx2 t]
    · refine (congrArg₂ (fun x y : ℕ => 1024 * x + y) (x' := t.val / 4 % 4 / 1 + (0 : Fin 1).val) (y' := t.val / 4 % 4 % 1 * 1024 + l.val) ?_ ?_).trans (by omega) <;> blk_ext [idx2 t]
  exact congrFun e _

end Cert.Kernel15Ideal
-- ==== Proof.GProjR.Claims.lean ====
module
public import proofs.«01_k».proof.Defs
public import proofs.«01_k».proof.Proof.GProjR.Points
public import proofs.«01_k».proof.Proof.Gen.Reference15Ideal.Run

/-!
# The gradient of a mixer's projection: the claims
-/

@[expose] public section
set_option maxRecDepth 16384
noncomputable section
namespace Cert.GProjR
open Idealize.ShloMosaic Idealize.ShloMosaic.TcCoe Idealize.ShloMosaic.Tactic
open Idealize.SL Idealize.SL.Sem

/-- The plain product runs to its end, keeps its arguments, and has no semaphores. -/
theorem frame_ref : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

/-- The tiled product is the plain one. -/
theorem algebraic : Cert.algebraic_Kernel15Ideal_Reference15Ideal := by
  intro m g m' g' _ hagree
  refine ⟨_, (θ_run Cert.Kernel15Ideal.defs _ _).mono (fun r h => h) (Cert.Kernel15Ideal.Value.run_blocks (F := Ideal) m g),
    (θ_run Cert.Reference15Ideal.defs _ _).mono (fun r h c => ⟨(h c).1.trans ?_, (h c).2⟩)
      (Cert.Reference15Ideal.Value.run (F := Ideal) m' g')⟩
  rw [(hagree c).1, (hagree c).2]
  funext y
  obtain ⟨a, i, j, rfl⟩ : ∃ (a : Fin 4) (i : Fin 2048) (j : Fin 1024), y = ix3 a i j := ⟨y 0, y 1, y 2, eq_ix3 y⟩
  refine Eq.trans ?_ (Cert.Kernel15Ideal.product m c a i j).symm
  refine Eq.trans (b := ∑ k : Fin 4096, Cert.Kernel15Ideal.rhs m c ⟨a.val * 1024 + j.val, by omega⟩ k * Cert.Kernel15Ideal.lhs m c i k) ?_
    (Finset.sum_congr rfl fun k _ => (mul_comm _ _).trans (by simp only [Nat.mul_comm a.val]))
  pointwise []

end Cert.GProjR
-- ==== Proof.DOR.Points.lean ====
module
public import proofs.«01_k».proof.Proof.Product
public import proofs.«01_k».proof.Proof.Gen.Kernel16Ideal.Value
public import Idealize.ShloMosaic.PureOps.Ideal
public import Idealize.ShloMosaic.Lib.Pipeline.ValueKit
public import Idealize.ShloMosaic.Lib.Pipeline.ReadBack
public import Idealize.ShloMosaic.Lib.Pointwise

/-!
# The gradient of a mixer's result, block by block

The call computes the cotangent times the transposed projection, which comes as four slots of 1024 columns.  Point `t` works on block `t / 4` of the result, of which 2 lie side by side, and on the
inner columns of step `t % 4`.
-/

@[expose] public section
set_option maxRecDepth 16384
noncomputable section
namespace Cert.Kernel16Ideal
open Idealize.ShloMosaic Idealize.ShloMosaic.TcCoe Idealize.ShloMosaic.Tactic
open Idealize.SL Idealize.SL.Sem
variable (m : (ℓ : Loc nD τ sig) → Buf (Elt Ideal) ℓ)
open Gen Cert.Product

theorem idx0 : ∀ t : Fin cfg0.N, win0_0.index t 0 = t.val / 4 / 2 ∧ win0_0.index t 1 = t.val % 4 := by
  decide +kernel
theorem idx1 : ∀ t : Fin cfg0.N, win0_1.index t 0 = t.val % 4 / 1 ∧ win0_1.index t 1 = t.val / 4 % 2 ∧ win0_1.index t 2 = t.val % 4 % 1 := by
  decide +kernel
theorem idx2 : ∀ t : Fin cfg0.N, win0_2.index t 0 = t.val / 4 / 2 ∧ win0_2.index t 1 = t.val / 4 % 2 := by
  decide +kernel

/-- The left factor, its inner index second. -/
abbrev lhs (c : Dev nD) : Fin 4096 → Fin 4096 → EReal := fun r k => m ((c : Thread nD τ).loc main_arg0) (ix2 r k)
/-- The right factor, its inner index second. -/
abbrev rhs (c : Dev nD) : Fin 2048 → Fin 4096 → EReal := fun r k => m ((c : Thread nD τ).loc main_arg1) (ix2 r k)

/-- The weight's columns as four slots. -/
abbrev cut (w : S2048x4096.Idx → EReal) : S4x2048x1024.Idx → EReal :=
  concatenate S4x2048x1024 0
      [⟨S1x2048x1024, broadcastInDim S1x2048x1024 ![1, 2] bcast_S2048x1024_S1x2048x1024_1_2 (extractStridedSlice S2048x1024 ![0, 0] w slices_S2048x4096_S2048x1024_0_0)⟩,
       ⟨S1x2048x1024, broadcastInDim S1x2048x1024 ![1, 2] bcast_S2048x1024_S1x2048x1024_1_2 (extractStridedSlice S2048x1024 ![0, 1024] w slices_S2048x4096_S2048x1024_0_1024)⟩,
       ⟨S1x2048x1024, broadcastInDim S1x2048x1024 ![1, 2] bcast_S2048x1024_S1x2048x1024_1_2 (extractStridedSlice S2048x1024 ![0, 2048] w slices_S2048x4096_S2048x1024_0_2048)⟩,
       ⟨S1x2048x1024, broadcastInDim S1x2048x1024 ![1, 2] bcast_S2048x1024_S1x2048x1024_1_2 (extractStridedSlice S2048x1024 ![0, 3072] w slices_S2048x4096_S2048x1024_0_3072)⟩]
      concatenates_S1x2048x1024_S1x2048x1024_S1x2048x1024_S1x2048x1024_S4x2048x1024_d0

/-- The four slots hold the weight's columns, 1024 to a slot. -/
theorem cut_at (w : S2048x4096.Idx → EReal) (a : Fin 4) (r : Fin 2048) (q : Fin 1024) :
    cut w (ix3 a r q) = w (ix2 r ⟨1024 * a.val + q.val, by omega⟩) := by
  pointwise [cut]
  split_ifs <;> exact congrArg (fun k => w (ix2 r k)) (Fin.ext (by dsimp only; omega))

theorem V_cut (c : Dev nD) : V m c main_v8 = cut (m ((c : Thread nD τ).loc main_arg1)) := by
  unfold_abbrev_sides
  after_results
  rfl

theorem blk0 (c : Dev nD) (t : Fin cfg0.N) (r q : Fin 1024) :
    iblk m c 0 t (ix2 r q) = entry (lhs m c) (t.val / 4 / 2 * 1024 + r.val) (t.val % 4 * 1024 + q.val) := by
  have ht : t.val < 32 := t.isLt
  rw [entry_at _ (by omega) (by omega)]
  blk_ext [iblk, V, idx0 t]

theorem blk1 (c : Dev nD) (t : Fin cfg0.N) (r q : Fin 1024) :
    iblk m c 1 t (ix3 0 r q) = entry (rhs m c) (t.val / 4 % 2 * 1024 + r.val) (t.val % 4 * 1024 + q.val) := by
  have ht : t.val < 32 := t.isLt
  rw [entry_at _ (by omega) (by omega)]
  have e : iblk m c 1 t (ix3 0 r q) = V m c main_v8 (ix3 (⟨t.val % 4 / 1, by omega⟩ : Fin 4)
      (⟨(t.val / 4 % 2) * 1024 + r.val, by omega⟩ : Fin 2048) (⟨(t.val % 4 % 1) * 1024 + q.val, by omega⟩ : Fin 1024)) := by
    blk_ext [iblk, idx1 t]
  rw [e, V_cut]
  refine (cut_at _ _ _ _).trans ?_
  exact congrArg (fun k => m ((c : Thread nD τ).loc main_arg1) (ix2 _ k)) (Fin.ext (by dsimp only; omega))

theorem pay1 (r l : Fin 1024) : k0_pay1 (F := Ideal) (ix2 r l) = (0 : EReal) := by
  pointwise [k0_pay1]

theorem pay2 (a x : S1024x1024.Idx → EReal) (y : S1x1024x1024.Idx → EReal) (r l : Fin 1024) :
    k0_pay2 (F := Ideal) a x y (ix2 r l) = a (ix2 r l) + ∑ q : Fin 1024, x (ix2 r q) * y (ix3 0 l q) := by
  pointwise [k0_pay2]

/-- One step adds its columns to the accumulator. -/
theorem step (c : Dev nD) (t : Fin cfg0.N) (a : S1024x1024.Idx → EReal) (r l : Fin 1024) (x : EReal) (h : a (ix2 r l) = x) :
    k0_pay2 (F := Ideal) a (iblk m c 0 t) (iblk m c 1 t) (ix2 r l)
      = x + ∑ q : Fin 1024, term 2 (lhs m c) (rhs m c) r l (t.val / 4) (t.val % 4 * 1024 + q.val) := by
  rw [pay2, h]
  exact congrArg₂ (fun x y : EReal => x + y) rfl
    (sum_blocks _ _ _ _ _ _ (fun q => iblk m c 0 t (ix2 r q)) (fun q => iblk m c 1 t (ix3 0 l q)) (blk0 m c t r) (blk1 m c t l))

theorem accA (c : Dev nD) (t : Fin cfg0.N) (h : t.val % 4 = 0) (r l : Fin 1024) :
    (outsAt0 m c t.val t.isLt).2 (ix2 r l) = 0 + ∑ q : Fin 1024, term 2 (lhs m c) (rhs m c) r l (t.val / 4) (t.val % 4 * 1024 + q.val) := by
  rw [outsAt0_A m c t h (by omega)]
  frame_out
  exact step m c t _ r l _ (pay1 r l)

theorem accB (c : Dev nD) (t : Fin cfg0.N) (h : t.val % 4 ≠ 0) (r l : Fin 1024) :
    (outsAt0 m c t.val t.isLt).2 (ix2 r l)
      = (outsAt0 m c (t.val - 1) (Nat.lt_of_le_of_lt (Nat.sub_le _ _) t.isLt)).2 (ix2 r l)
        + ∑ q : Fin 1024, term 2 (lhs m c) (rhs m c) r l (t.val / 4) (t.val % 4 * 1024 + q.val) := by
  by_cases hl : t.val % 4 = 3
  · rw [outsAt0_C m c t h hl]
    frame_out
    exact step m c t _ r l _ (congrFun (Memref.IsWhole.read_unread _ _) _)
  · rw [outsAt0_B m c t h hl]
    frame_out
    exact step m c t _ r l _ (congrFun (Memref.IsWhole.read_unread _ _) _)

/-- The last step of a block writes the accumulator out. -/
theorem out_eq (c : Dev nD) (t : Fin cfg0.N) (hl : t.val % 4 = 3) (r l : Fin 1024) :
    (outsAt0 m c t.val t.isLt).1 (ix2 r l) = (outsAt0 m c t.val t.isLt).2 (ix2 r l) := by
  rw [outsAt0_C m c t (by omega) hl]
  frame_out

theorem out_last (c : Dev nD) (t : Fin cfg0.N) (hl : t.val % 4 = 3) (r l : Fin 1024) :
    (outsAt0 m c t.val t.isLt).1 (ix2 r l) = 0 + ∑ k : Fin 4096, term 2 (lhs m c) (rhs m c) r l (t.val / 4) k.val :=
  (out_eq m c t hl r l).trans
    (acc_last (J := 4) (B := 1024) (K := 4096) (by norm_num) (by norm_num) (fun n h => (outsAt0 m c n h).2 (ix2 r l))
      (fun _ => 0) (term 2 (lhs m c) (rhs m c) r l)
      (fun n h h0 => accA m c ⟨n, h⟩ h0 r l) (fun n h h0 => accB m c ⟨n, h⟩ h0 r l) t.val t.isLt (by omega))

theorem whole (c : Dev nD) (r l : Fin 1024) (p : ℕ) (i : Fin 4096) (j : Fin 2048) (hi : i.val = p / 2 * 1024 + r.val)
    (hj : j.val = p % 2 * 1024 + l.val) :
    0 + ∑ k : Fin 4096, term 2 (lhs m c) (rhs m c) r l p k.val = ∑ k : Fin 4096, lhs m c i k * rhs m c j k := by
  rw [sum_term _ _ _ _ _ i j hi hj, zero_add]

/-- The array the launch leaves. -/
theorem product (c : Dev nD) (i : Fin 4096) (j : Fin 2048) :
    (dats m 0 c).arrAt 2 cfg0.N (ix2 i j) = ∑ k : Fin 4096, lhs m c i k * rhs m c j k := by
  have e : (dats m 0 c).arrAt 2 cfg0.N
      = fun y => ∑ k : Fin 4096, lhs m c (y 0) k * rhs m c (y 1) k := by
    refine (dats m 0 c).arrAt_eq_of_covers 2 _ (by decide +kernel) fun t hf y => ?_
    have hl := (flush0_2 t).mp hf
    obtain ⟨r, l, rfl⟩ : ∃ (r l : Fin 1024), y = ix2 r l := ⟨y 0, y 1, eq_ix2 y⟩
    blk_simp
    rw [after0_2, out_last m c t hl]
    refine whole m c r l (t.val / 4) _ _ ?_ ?_ <;> blk_ext [idx2 t]
  exact congrFun e _

end Cert.Kernel16Ideal
-- ==== Proof.DOR.Claims.lean ====
module
public import proofs.«01_k».proof.Defs
public import proofs.«01_k».proof.Proof.DOR.Points
public import proofs.«01_k».proof.Proof.Gen.Reference16Ideal.Run

/-!
# The gradient of a mixer's result: the claims
-/

@[expose] public section
set_option maxRecDepth 16384
noncomputable section
namespace Cert.DOR
open Idealize.ShloMosaic Idealize.ShloMosaic.TcCoe Idealize.ShloMosaic.Tactic
open Idealize.SL Idealize.SL.Sem

/-- The plain product runs to its end, keeps its arguments, and has no semaphores. -/
theorem frame_ref : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

/-- The tiled product is the plain one. -/
theorem algebraic : Cert.algebraic_Kernel16Ideal_Reference16Ideal := by
  intro m g m' g' _ hagree
  refine ⟨_, (θ_run Cert.Kernel16Ideal.defs _ _).mono (fun r h => h) (Cert.Kernel16Ideal.Value.run_blocks (F := Ideal) m g),
    (θ_run Cert.Reference16Ideal.defs _ _).mono (fun r h c => ⟨(h c).1.trans ?_, (h c).2⟩)
      (Cert.Reference16Ideal.Value.run (F := Ideal) m' g')⟩
  rw [(hagree c).1, (hagree c).2]
  funext y
  obtain ⟨i, j, rfl⟩ : ∃ (i : Fin 4096) (j : Fin 2048), y = ix2 i j := ⟨y 0, y 1, eq_ix2 y⟩
  refine Eq.trans ?_ (Cert.Kernel16Ideal.product m c i j).symm
  pointwise []

end Cert.DOR
-- ==== Proof.ProjR.Points.lean ====
module
public import proofs.«01_k».proof.Proof.Product
public import proofs.«01_k».proof.Proof.Gen.Kernel17Ideal.Value
public import Idealize.ShloMosaic.PureOps.Ideal
public import Idealize.ShloMosaic.Lib.Pipeline.ValueKit
public import Idealize.ShloMosaic.Lib.Pipeline.ReadBack
public import Idealize.ShloMosaic.Lib.Pointwise

/-!
# The projection of a mixer's result, block by block

The call computes the 2048 columns of the mixer times the projection, which comes as four slots of 1024 columns.  Point `t` works on block `t / 2` of the result, of which 4 lie side by side, and on the
inner columns of step `t % 2`.
-/

@[expose] public section
set_option maxRecDepth 16384
noncomputable section
namespace Cert.Kernel17Ideal
open Idealize.ShloMosaic Idealize.ShloMosaic.TcCoe Idealize.ShloMosaic.Tactic
open Idealize.SL Idealize.SL.Sem
variable (m : (ℓ : Loc nD τ sig) → Buf (Elt Ideal) ℓ)
open Gen Cert.Product

theorem idx0 : ∀ t : Fin cfg0.N, win0_0.index t 0 = t.val / 2 / 4 ∧ win0_0.index t 1 = t.val % 2 := by
  decide +kernel
theorem idx1 : ∀ t : Fin cfg0.N, win0_1.index t 0 = t.val / 2 % 4 / 1 ∧ win0_1.index t 1 = t.val % 2 ∧ win0_1.index t 2 = t.val / 2 % 4 % 1 := by
  decide +kernel
theorem idx2 : ∀ t : Fin cfg0.N, win0_2.index t 0 = t.val / 2 / 4 ∧ win0_2.index t 1 = t.val / 2 % 4 := by
  decide +kernel

/-- The left factor, its inner index second. -/
abbrev lhs (c : Dev nD) : Fin 4096 → Fin 2048 → EReal := fun r k => m ((c : Thread nD τ).loc main_arg0) (ix2 r k)
/-- The right factor, its inner index second. -/
abbrev rhs (c : Dev nD) : Fin 4096 → Fin 2048 → EReal := fun r k => m ((c : Thread nD τ).loc main_arg1) (ix2 k r)

/-- The weight's columns as four slots. -/
abbrev cut (w : S2048x4096.Idx → EReal) : S4x2048x1024.Idx → EReal :=
  concatenate S4x2048x1024 0
      [⟨S1x2048x1024, broadcastInDim S1x2048x1024 ![1, 2] bcast_S2048x1024_S1x2048x1024_1_2 (extractStridedSlice S2048x1024 ![0, 0] w slices_S2048x4096_S2048x1024_0_0)⟩,
       ⟨S1x2048x1024, broadcastInDim S1x2048x1024 ![1, 2] bcast_S2048x1024_S1x2048x1024_1_2 (extractStridedSlice S2048x1024 ![0, 1024] w slices_S2048x4096_S2048x1024_0_1024)⟩,
       ⟨S1x2048x1024, broadcastInDim S1x2048x1024 ![1, 2] bcast_S2048x1024_S1x2048x1024_1_2 (extractStridedSlice S2048x1024 ![0, 2048] w slices_S2048x4096_S2048x1024_0_2048)⟩,
       ⟨S1x2048x1024, broadcastInDim S1x2048x1024 ![1, 2] bcast_S2048x1024_S1x2048x1024_1_2 (extractStridedSlice S2048x1024 ![0, 3072] w slices_S2048x4096_S2048x1024_0_3072)⟩]
      concatenates_S1x2048x1024_S1x2048x1024_S1x2048x1024_S1x2048x1024_S4x2048x1024_d0

/-- The four slots hold the weight's columns, 1024 to a slot. -/
theorem cut_at (w : S2048x4096.Idx → EReal) (a : Fin 4) (r : Fin 2048) (q : Fin 1024) :
    cut w (ix3 a r q) = w (ix2 r ⟨1024 * a.val + q.val, by omega⟩) := by
  pointwise [cut]
  split_ifs <;> exact congrArg (fun k => w (ix2 r k)) (Fin.ext (by dsimp only; omega))

theorem V_cut (c : Dev nD) : V m c main_v8 = cut (m ((c : Thread nD τ).loc main_arg1)) := by
  unfold_abbrev_sides
  after_results
  rfl

theorem blk0 (c : Dev nD) (t : Fin cfg0.N) (r q : Fin 1024) :
    iblk m c 0 t (ix2 r q) = entry (lhs m c) (t.val / 2 / 4 * 1024 + r.val) (t.val % 2 * 1024 + q.val) := by
  have ht : t.val < 32 := t.isLt
  rw [entry_at _ (by omega) (by omega)]
  blk_ext [iblk, V, idx0 t]

theorem blk1 (c : Dev nD) (t : Fin cfg0.N) (r q : Fin 1024) :
    iblk m c 1 t (ix3 0 q r) = entry (rhs m c) (t.val / 2 % 4 * 1024 + r.val) (t.val % 2 * 1024 + q.val) := by
  have ht : t.val < 32 := t.isLt
  rw [entry_at _ (by omega) (by omega)]
  have e : iblk m c 1 t (ix3 0 q r) = V m c main_v8 (ix3 (⟨t.val / 2 % 4 / 1, by omega⟩ : Fin 4)
      (⟨(t.val % 2) * 1024 + q.val, by omega⟩ : Fin 2048) (⟨(t.val / 2 % 4 % 1) * 1024 + r.val, by omega⟩ : Fin 1024)) := by
    blk_ext [iblk, idx1 t]
  rw [e, V_cut]
  refine (cut_at _ _ _ _).trans ?_
  exact congrArg (fun k => m ((c : Thread nD τ).loc main_arg1) (ix2 _ k)) (Fin.ext (by dsimp only; omega))

theorem pay1 (r l : Fin 1024) : k0_pay1 (F := Ideal) (ix2 r l) = (0 : EReal) := by
  pointwise [k0_pay1]

theorem pay2 (a x : S1024x1024.Idx → EReal) (y : S1x1024x1024.Idx → EReal) (r l : Fin 1024) :
    k0_pay2 (F := Ideal) a x y (ix2 r l) = a (ix2 r l) + ∑ q : Fin 1024, x (ix2 r q) * y (ix3 0 q l) := by
  pointwise [k0_pay2]

/-- One step adds its columns to the accumulator. -/
theorem step (c : Dev nD) (t : Fin cfg0.N) (a : S1024x1024.Idx → EReal) (r l : Fin 1024) (x : EReal) (h : a (ix2 r l) = x) :
    k0_pay2 (F := Ideal) a (iblk m c 0 t) (iblk m c 1 t) (ix2 r l)
      = x + ∑ q : Fin 1024, term 4 (lhs m c) (rhs m c) r l (t.val / 2) (t.val % 2 * 1024 + q.val) := by
  rw [pay2, h]
  exact congrArg₂ (fun x y : EReal => x + y) rfl
    (sum_blocks _ _ _ _ _ _ (fun q => iblk m c 0 t (ix2 r q)) (fun q => iblk m c 1 t (ix3 0 q l)) (blk0 m c t r) (blk1 m c t l))

theorem accA (c : Dev nD) (t : Fin cfg0.N) (h : t.val % 2 = 0) (r l : Fin 1024) :
    (outsAt0 m c t.val t.isLt).2 (ix2 r l) = 0 + ∑ q : Fin 1024, term 4 (lhs m c) (rhs m c) r l (t.val / 2) (t.val % 2 * 1024 + q.val) := by
  rw [outsAt0_A m c t h (by omega)]
  frame_out
  exact step m c t _ r l _ (pay1 r l)

theorem accB (c : Dev nD) (t : Fin cfg0.N) (h : t.val % 2 ≠ 0) (r l : Fin 1024) :
    (outsAt0 m c t.val t.isLt).2 (ix2 r l)
      = (outsAt0 m c (t.val - 1) (Nat.lt_of_le_of_lt (Nat.sub_le _ _) t.isLt)).2 (ix2 r l)
        + ∑ q : Fin 1024, term 4 (lhs m c) (rhs m c) r l (t.val / 2) (t.val % 2 * 1024 + q.val) := by
  rw [outsAt0_B m c t h (by omega)]
  frame_out
  exact step m c t _ r l _ (congrFun (Memref.IsWhole.read_unread _ _) _)

/-- The last step of a block writes the accumulator out. -/
theorem out_eq (c : Dev nD) (t : Fin cfg0.N) (hl : t.val % 2 = 1) (r l : Fin 1024) :
    (outsAt0 m c t.val t.isLt).1 (ix2 r l) = (outsAt0 m c t.val t.isLt).2 (ix2 r l) := by
  rw [outsAt0_B m c t (by omega) hl]
  frame_out

theorem out_last (c : Dev nD) (t : Fin cfg0.N) (hl : t.val % 2 = 1) (r l : Fin 1024) :
    (outsAt0 m c t.val t.isLt).1 (ix2 r l) = 0 + ∑ k : Fin 2048, term 4 (lhs m c) (rhs m c) r l (t.val / 2) k.val :=
  (out_eq m c t hl r l).trans
    (acc_last (J := 2) (B := 1024) (K := 2048) (by norm_num) (by norm_num) (fun n h => (outsAt0 m c n h).2 (ix2 r l))
      (fun _ => 0) (term 4 (lhs m c) (rhs m c) r l)
      (fun n h h0 => accA m c ⟨n, h⟩ h0 r l) (fun n h h0 => accB m c ⟨n, h⟩ h0 r l) t.val t.isLt (by omega))

theorem whole (c : Dev nD) (r l : Fin 1024) (p : ℕ) (i : Fin 4096) (j : Fin 4096) (hi : i.val = p / 4 * 1024 + r.val)
    (hj : j.val = p % 4 * 1024 + l.val) :
    0 + ∑ k : Fin 2048, term 4 (lhs m c) (rhs m c) r l p k.val = ∑ k : Fin 2048, lhs m c i k * rhs m c j k := by
  rw [sum_term _ _ _ _ _ i j hi hj, zero_add]

/-- The array the launch leaves. -/
theorem product (c : Dev nD) (i : Fin 4096) (j : Fin 4096) :
    (dats m 0 c).arrAt 2 cfg0.N (ix2 i j) = ∑ k : Fin 2048, lhs m c i k * rhs m c j k := by
  have e : (dats m 0 c).arrAt 2 cfg0.N
      = fun y => ∑ k : Fin 2048, lhs m c (y 0) k * rhs m c (y 1) k := by
    refine (dats m 0 c).arrAt_eq_of_covers 2 _ (by decide +kernel) fun t hf y => ?_
    have hl := (flush0_2 t).mp hf
    obtain ⟨r, l, rfl⟩ : ∃ (r l : Fin 1024), y = ix2 r l := ⟨y 0, y 1, eq_ix2 y⟩
    blk_simp
    rw [after0_2, out_last m c t hl]
    refine whole m c r l (t.val / 2) _ _ ?_ ?_ <;> blk_ext [idx2 t]
  exact congrFun e _

end Cert.Kernel17Ideal
-- ==== Proof.ProjR.Claims.lean ====
module
public import proofs.«01_k».proof.Defs
public import proofs.«01_k».proof.Proof.ProjR.Points
public import proofs.«01_k».proof.Proof.Gen.Reference17Ideal.Run

/-!
# The projection of a mixer's result: the claims
-/

@[expose] public section
set_option maxRecDepth 16384
noncomputable section
namespace Cert.ProjR
open Idealize.ShloMosaic Idealize.ShloMosaic.TcCoe Idealize.ShloMosaic.Tactic
open Idealize.SL Idealize.SL.Sem

/-- The plain product runs to its end, keeps its arguments, and has no semaphores. -/
theorem frame_ref : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

/-- The tiled product is the plain one. -/
theorem algebraic : Cert.algebraic_Kernel17Ideal_Reference17Ideal := by
  intro m g m' g' _ hagree
  refine ⟨_, (θ_run Cert.Kernel17Ideal.defs _ _).mono (fun r h => h) (Cert.Kernel17Ideal.Value.run_blocks (F := Ideal) m g),
    (θ_run Cert.Reference17Ideal.defs _ _).mono (fun r h c => ⟨(h c).1.trans ?_, (h c).2⟩)
      (Cert.Reference17Ideal.Value.run (F := Ideal) m' g')⟩
  rw [(hagree c).1, (hagree c).2]
  funext y
  obtain ⟨i, j, rfl⟩ : ∃ (i : Fin 4096) (j : Fin 4096), y = ix2 i j := ⟨y 0, y 1, eq_ix2 y⟩
  refine Eq.trans ?_ (Cert.Kernel17Ideal.product m c i j).symm
  pointwise []

end Cert.ProjR
-- ==== Proof.AdamWIn.Claims.lean ====
module
public import proofs.«01_k».proof.Defs
public import proofs.«01_k».proof.Proof.Gen.Kernel18Ideal.Value
public import proofs.«01_k».proof.Proof.Gen.Reference18Ideal.Run
public import Idealize.ShloMosaic.Lib.Pointwise

/-!
# The AdamW update of the input weight's columns

Each entry of the three results depends on the same entry of the weight, its gradient and its two moments alone, and the
kernel and the definition do the same arithmetic there.
-/

@[expose] public section
set_option maxRecDepth 16384
noncomputable section
namespace Cert.AdamWIn
open Idealize.ShloMosaic Idealize.ShloMosaic.TcCoe Idealize.ShloMosaic.Tactic
open Idealize.SL Idealize.SL.Sem

/-- The definition runs to its end, keeps its arguments, and has no semaphores. -/
theorem frame_ref : Cert.quiescent_Reference18Ideal := fun m ρ _ =>
  (θ_run Cert.Reference18Ideal.defs _ _).mono (fun r h => ⟨fun c => (h c).2.2.2, sem_eq_zero_of_no_sems (by decide) r.2⟩)
    (Cert.Reference18Ideal.Value.run (F := Ideal) m ρ)

/-- The step and the two new moments are those of the definition. -/
theorem algebraic : Cert.algebraic_Kernel18Ideal_Reference18Ideal := by
  intro m g m' g' _ hagree
  refine ⟨_, _, _, (θ_run Cert.Kernel18Ideal.defs _ _).mono (fun r h => h) (Cert.Kernel18Ideal.Value.run (F := Ideal) m g),
    (θ_run Cert.Reference18Ideal.defs _ _).mono (fun r h c => ⟨(h c).1.trans ?_, (h c).2.1.trans ?_, (h c).2.2.1.trans ?_, (h c).2.2.2⟩)
      (Cert.Reference18Ideal.Value.run (F := Ideal) m' g')⟩
  all_goals
    simp only [(hagree c).1, (hagree c).2.1, (hagree c).2.2.1, (hagree c).2.2.2]
    funext y
    obtain ⟨i, j, rfl⟩ : ∃ (i : Fin 4096) (j : Fin 4720), y = ix2 i j := ⟨y 0, y 1, eq_ix2 y⟩
    pointwise [Cert.Kernel18Ideal.Value.G4, Cert.Kernel18Ideal.Value.G5, Cert.Kernel18Ideal.Value.G6]

end Cert.AdamWIn
-- ==== Proof.AdamUp.Claims.lean ====
module
public import proofs.«01_k».proof.Defs
public import proofs.«01_k».proof.Proof.Gen.Kernel19Ideal.Value
public import proofs.«01_k».proof.Proof.Gen.Reference19Ideal.Run
public import Idealize.ShloMosaic.Lib.Pointwise

/-!
# The AdamW update of the decay's up-projection and of the in-context learning rate's

Each entry of the three results depends on the same entry of the weight, its gradient and its two moments alone, and the
kernel and the definition do the same arithmetic there.
-/

@[expose] public section
set_option maxRecDepth 16384
noncomputable section
namespace Cert.AdamUp
open Idealize.ShloMosaic Idealize.ShloMosaic.TcCoe Idealize.ShloMosaic.Tactic
open Idealize.SL Idealize.SL.Sem

/-- The definition runs to its end, keeps its arguments, and has no semaphores. -/
theorem frame_ref : Cert.quiescent_Reference19Ideal := fun m ρ _ =>
  (θ_run Cert.Reference19Ideal.defs _ _).mono (fun r h => ⟨fun c => (h c).2.2.2, sem_eq_zero_of_no_sems (by decide) r.2⟩)
    (Cert.Reference19Ideal.Value.run (F := Ideal) m ρ)

/-- The step and the two new moments are those of the definition. -/
theorem algebraic : Cert.algebraic_Kernel19Ideal_Reference19Ideal := by
  intro m g m' g' _ hagree
  refine ⟨_, _, _, (θ_run Cert.Kernel19Ideal.defs _ _).mono (fun r h => h) (Cert.Kernel19Ideal.Value.run (F := Ideal) m g),
    (θ_run Cert.Reference19Ideal.defs _ _).mono (fun r h c => ⟨(h c).1.trans ?_, (h c).2.1.trans ?_, (h c).2.2.1.trans ?_, (h c).2.2.2⟩)
      (Cert.Reference19Ideal.Value.run (F := Ideal) m' g')⟩
  all_goals
    simp only [(hagree c).1, (hagree c).2.1, (hagree c).2.2.1, (hagree c).2.2.2]
    funext y
    obtain ⟨i, j, rfl⟩ : ∃ (i : Fin 96) (j : Fin 512), y = ix2 i j := ⟨y 0, y 1, eq_ix2 y⟩
    pointwise [Cert.Kernel19Ideal.Value.G4, Cert.Kernel19Ideal.Value.G5, Cert.Kernel19Ideal.Value.G6]

end Cert.AdamUp
-- ==== Proof.AdamGate.Claims.lean ====
module
public import proofs.«01_k».proof.Defs
public import proofs.«01_k».proof.Proof.Gen.Kernel20Ideal.Value
public import proofs.«01_k».proof.Proof.Gen.Reference20Ideal.Run
public import Idealize.ShloMosaic.Lib.Pointwise

/-!
# The AdamW update of the output gate's up-projection

Each entry of the three results depends on the same entry of the weight, its gradient and its two moments alone, and the
kernel and the definition do the same arithmetic there.
-/

@[expose] public section
set_option maxRecDepth 16384
noncomputable section
namespace Cert.AdamGate
open Idealize.ShloMosaic Idealize.ShloMosaic.TcCoe Idealize.ShloMosaic.Tactic
open Idealize.SL Idealize.SL.Sem

/-- The definition runs to its end, keeps its arguments, and has no semaphores. -/
theorem frame_ref : Cert.quiescent_Reference20Ideal := fun m ρ _ =>
  (θ_run Cert.Reference20Ideal.defs _ _).mono (fun r h => ⟨fun c => (h c).2.2.2, sem_eq_zero_of_no_sems (by decide) r.2⟩)
    (Cert.Reference20Ideal.Value.run (F := Ideal) m ρ)

/-- The step and the two new moments are those of the definition. -/
theorem algebraic : Cert.algebraic_Kernel20Ideal_Reference20Ideal := by
  intro m g m' g' _ hagree
  refine ⟨_, _, _, (θ_run Cert.Kernel20Ideal.defs _ _).mono (fun r h => h) (Cert.Kernel20Ideal.Value.run (F := Ideal) m g),
    (θ_run Cert.Reference20Ideal.defs _ _).mono (fun r h c => ⟨(h c).1.trans ?_, (h c).2.1.trans ?_, (h c).2.2.1.trans ?_, (h c).2.2.2⟩)
      (Cert.Reference20Ideal.Value.run (F := Ideal) m' g')⟩
  all_goals
    simp only [(hagree c).1, (hagree c).2.1, (hagree c).2.2.1, (hagree c).2.2.2]
    funext y
    obtain ⟨i, j, rfl⟩ : ∃ (i : Fin 256) (j : Fin 512), y = ix2 i j := ⟨y 0, y 1, eq_ix2 y⟩
    pointwise [Cert.Kernel20Ideal.Value.G4, Cert.Kernel20Ideal.Value.G5, Cert.Kernel20Ideal.Value.G6]

end Cert.AdamGate
-- ==== Proof.AdamConv.Claims.lean ====
module
public import proofs.«01_k».proof.Defs
public import proofs.«01_k».proof.Proof.Gen.Kernel21Ideal.Value
public import proofs.«01_k».proof.Proof.Gen.Reference21Ideal.Run
public import Idealize.ShloMosaic.Lib.Pointwise

/-!
# The AdamW update of the convolution's taps

Each entry of the three results depends on the same entry of the weight, its gradient and its two moments alone, and the
kernel and the definition do the same arithmetic there.
-/

@[expose] public section
set_option maxRecDepth 16384
noncomputable section
namespace Cert.AdamConv
open Idealize.ShloMosaic Idealize.ShloMosaic.TcCoe Idealize.ShloMosaic.Tactic
open Idealize.SL Idealize.SL.Sem

/-- The definition runs to its end, keeps its arguments, and has no semaphores. -/
theorem frame_ref : Cert.quiescent_Reference21Ideal := fun m ρ _ =>
  (θ_run Cert.Reference21Ideal.defs _ _).mono (fun r h => ⟨fun c => (h c).2.2.2, sem_eq_zero_of_no_sems (by decide) r.2⟩)
    (Cert.Reference21Ideal.Value.run (F := Ideal) m ρ)

/-- The step and the two new moments are those of the definition. -/
theorem algebraic : Cert.algebraic_Kernel21Ideal_Reference21Ideal := by
  intro m g m' g' _ hagree
  refine ⟨_, _, _, (θ_run Cert.Kernel21Ideal.defs _ _).mono (fun r h => h) (Cert.Kernel21Ideal.Value.run (F := Ideal) m g),
    (θ_run Cert.Reference21Ideal.defs _ _).mono (fun r h c => ⟨(h c).1.trans ?_, (h c).2.1.trans ?_, (h c).2.2.1.trans ?_, (h c).2.2.2⟩)
      (Cert.Reference21Ideal.Value.run (F := Ideal) m' g')⟩
  all_goals
    simp only [(hagree c).1, (hagree c).2.1, (hagree c).2.2.1, (hagree c).2.2.2]
    funext y
    obtain ⟨i, j, rfl⟩ : ∃ (i : Fin 31) (j : Fin 512), y = ix2 i j := ⟨y 0, y 1, eq_ix2 y⟩
    pointwise [Cert.Kernel21Ideal.Value.G4, Cert.Kernel21Ideal.Value.G5, Cert.Kernel21Ideal.Value.G6]

end Cert.AdamConv
-- ==== Proof.AdamProj.Claims.lean ====
module
public import proofs.«01_k».proof.Defs
public import proofs.«01_k».proof.Proof.Gen.Kernel22Ideal.Value
public import proofs.«01_k».proof.Proof.Gen.Reference22Ideal.Run
public import Idealize.ShloMosaic.Lib.Pointwise

/-!
# The AdamW update of a mixer's projection

Each entry of the three results depends on the same entry of the weight, its gradient and its two moments alone, and the
kernel and the definition do the same arithmetic there.
-/

@[expose] public section
set_option maxRecDepth 16384
noncomputable section
namespace Cert.AdamProj
open Idealize.ShloMosaic Idealize.ShloMosaic.TcCoe Idealize.ShloMosaic.Tactic
open Idealize.SL Idealize.SL.Sem

/-- The definition runs to its end, keeps its arguments, and has no semaphores. -/
theorem frame_ref : Cert.quiescent_Reference22Ideal := fun m ρ _ =>
  (θ_run Cert.Reference22Ideal.defs _ _).mono (fun r h => ⟨fun c => (h c).2.2.2, sem_eq_zero_of_no_sems (by decide) r.2⟩)
    (Cert.Reference22Ideal.Value.run (F := Ideal) m ρ)

/-- The step and the two new moments are those of the definition. -/
theorem algebraic : Cert.algebraic_Kernel22Ideal_Reference22Ideal := by
  intro m g m' g' _ hagree
  refine ⟨_, _, _, (θ_run Cert.Kernel22Ideal.defs _ _).mono (fun r h => h) (Cert.Kernel22Ideal.Value.run (F := Ideal) m g),
    (θ_run Cert.Reference22Ideal.defs _ _).mono (fun r h c => ⟨(h c).1.trans ?_, (h c).2.1.trans ?_, (h c).2.2.1.trans ?_, (h c).2.2.2⟩)
      (Cert.Reference22Ideal.Value.run (F := Ideal) m' g')⟩
  all_goals
    simp only [(hagree c).1, (hagree c).2.1, (hagree c).2.2.1, (hagree c).2.2.2]
    funext y
    obtain ⟨i, j, rfl⟩ : ∃ (i : Fin 2048) (j : Fin 1024), y = ix2 i j := ⟨y 0, y 1, eq_ix2 y⟩
    pointwise [Cert.Kernel22Ideal.Value.G4, Cert.Kernel22Ideal.Value.G5, Cert.Kernel22Ideal.Value.G6]

end Cert.AdamProj
-- ==== Proof.AdamSquare.Claims.lean ====
module
public import proofs.«01_k».proof.Defs
public import proofs.«01_k».proof.Proof.Gen.Kernel23Ideal.Value
public import proofs.«01_k».proof.Proof.Gen.Reference23Ideal.Run
public import Idealize.ShloMosaic.Lib.Pointwise

/-!
# The AdamW update of a square weight's rows

Each entry of the three results depends on the same entry of the weight, its gradient and its two moments alone, and the
kernel and the definition do the same arithmetic there.
-/

@[expose] public section
set_option maxRecDepth 16384
noncomputable section
namespace Cert.AdamSquare
open Idealize.ShloMosaic Idealize.ShloMosaic.TcCoe Idealize.ShloMosaic.Tactic
open Idealize.SL Idealize.SL.Sem

/-- The definition runs to its end, keeps its arguments, and has no semaphores. -/
theorem frame_ref : Cert.quiescent_Reference23Ideal := fun m ρ _ =>
  (θ_run Cert.Reference23Ideal.defs _ _).mono (fun r h => ⟨fun c => (h c).2.2.2, sem_eq_zero_of_no_sems (by decide) r.2⟩)
    (Cert.Reference23Ideal.Value.run (F := Ideal) m ρ)

/-- The step and the two new moments are those of the definition. -/
theorem algebraic : Cert.algebraic_Kernel23Ideal_Reference23Ideal := by
  intro m g m' g' _ hagree
  refine ⟨_, _, _, (θ_run Cert.Kernel23Ideal.defs _ _).mono (fun r h => h) (Cert.Kernel23Ideal.Value.run (F := Ideal) m g),
    (θ_run Cert.Reference23Ideal.defs _ _).mono (fun r h c => ⟨(h c).1.trans ?_, (h c).2.1.trans ?_, (h c).2.2.1.trans ?_, (h c).2.2.2⟩)
      (Cert.Reference23Ideal.Value.run (F := Ideal) m' g')⟩
  all_goals
    simp only [(hagree c).1, (hagree c).2.1, (hagree c).2.2.1, (hagree c).2.2.2]
    funext y
    obtain ⟨i, j, rfl⟩ : ∃ (i : Fin 1024) (j : Fin 4096), y = ix2 i j := ⟨y 0, y 1, eq_ix2 y⟩
    pointwise [Cert.Kernel23Ideal.Value.G4, Cert.Kernel23Ideal.Value.G5, Cert.Kernel23Ideal.Value.G6]

end Cert.AdamSquare
-- ==== Proof.AdamMlp.Claims.lean ====
module
public import proofs.«01_k».proof.Defs
public import proofs.«01_k».proof.Proof.Gen.Kernel24Ideal.Value
public import proofs.«01_k».proof.Proof.Gen.Reference24Ideal.Run
public import Idealize.ShloMosaic.Lib.Pointwise

/-!
# The AdamW update of an MLP weight's shard

Each entry of the three results depends on the same entry of the weight, its gradient and its two moments alone, and the
kernel and the definition do the same arithmetic there.
-/

@[expose] public section
set_option maxRecDepth 16384
noncomputable section
namespace Cert.AdamMlp
open Idealize.ShloMosaic Idealize.ShloMosaic.TcCoe Idealize.ShloMosaic.Tactic
open Idealize.SL Idealize.SL.Sem

/-- The definition runs to its end, keeps its arguments, and has no semaphores. -/
theorem frame_ref : Cert.quiescent_Reference24Ideal := fun m ρ _ =>
  (θ_run Cert.Reference24Ideal.defs _ _).mono (fun r h => ⟨fun c => (h c).2.2.2, sem_eq_zero_of_no_sems (by decide) r.2⟩)
    (Cert.Reference24Ideal.Value.run (F := Ideal) m ρ)

/-- The step and the two new moments are those of the definition. -/
theorem algebraic : Cert.algebraic_Kernel24Ideal_Reference24Ideal := by
  intro m g m' g' _ hagree
  refine ⟨_, _, _, (θ_run Cert.Kernel24Ideal.defs _ _).mono (fun r h => h) (Cert.Kernel24Ideal.Value.run (F := Ideal) m g),
    (θ_run Cert.Reference24Ideal.defs _ _).mono (fun r h c => ⟨(h c).1.trans ?_, (h c).2.1.trans ?_, (h c).2.2.1.trans ?_, (h c).2.2.2⟩)
      (Cert.Reference24Ideal.Value.run (F := Ideal) m' g')⟩
  all_goals
    simp only [(hagree c).1, (hagree c).2.1, (hagree c).2.2.1, (hagree c).2.2.2]
    funext y
    obtain ⟨i, j, rfl⟩ : ∃ (i : Fin 4096) (j : Fin 4096), y = ix2 i j := ⟨y 0, y 1, eq_ix2 y⟩
    pointwise [Cert.Kernel24Ideal.Value.G4, Cert.Kernel24Ideal.Value.G5, Cert.Kernel24Ideal.Value.G6]

end Cert.AdamMlp
-- ==== Proof.AdamSmall.Claims.lean ====
module
public import proofs.«01_k».proof.Defs
public import proofs.«01_k».proof.Proof.Gen.Kernel25Ideal.Value
public import proofs.«01_k».proof.Proof.Gen.Reference25Ideal.Run
public import Idealize.ShloMosaic.Lib.Pointwise

/-!
# The AdamW update of the small weights, packed into one array

Each entry of the three results depends on the same entry of the weight, its gradient and its two moments alone, and the
kernel and the definition do the same arithmetic there.
-/

@[expose] public section
set_option maxRecDepth 16384
noncomputable section
namespace Cert.AdamSmall
open Idealize.ShloMosaic Idealize.ShloMosaic.TcCoe Idealize.ShloMosaic.Tactic
open Idealize.SL Idealize.SL.Sem

/-- The definition runs to its end, keeps its arguments, and has no semaphores. -/
theorem frame_ref : Cert.quiescent_Reference25Ideal := fun m ρ _ =>
  (θ_run Cert.Reference25Ideal.defs _ _).mono (fun r h => ⟨fun c => (h c).2.2.2, sem_eq_zero_of_no_sems (by decide) r.2⟩)
    (Cert.Reference25Ideal.Value.run (F := Ideal) m ρ)

/-- The step and the two new moments are those of the definition. -/
theorem algebraic : Cert.algebraic_Kernel25Ideal_Reference25Ideal := by
  intro m g m' g' _ hagree
  refine ⟨_, _, _, (θ_run Cert.Kernel25Ideal.defs _ _).mono (fun r h => h) (Cert.Kernel25Ideal.Value.run (F := Ideal) m g),
    (θ_run Cert.Reference25Ideal.defs _ _).mono (fun r h c => ⟨(h c).1.trans ?_, (h c).2.1.trans ?_, (h c).2.2.1.trans ?_, (h c).2.2.2⟩)
      (Cert.Reference25Ideal.Value.run (F := Ideal) m' g')⟩
  all_goals
    simp only [(hagree c).1, (hagree c).2.1, (hagree c).2.2.1, (hagree c).2.2.2]
    funext y
    obtain ⟨i, j, rfl⟩ : ∃ (i : Fin 472) (j : Fin 128), y = ix2 i j := ⟨y 0, y 1, eq_ix2 y⟩
    pointwise [Cert.Kernel25Ideal.Value.G4, Cert.Kernel25Ideal.Value.G5, Cert.Kernel25Ideal.Value.G6]

end Cert.AdamSmall
-- ==== Proof.Relu.Claims.lean ====
module
public import proofs.«01_k».proof.Defs
public import proofs.«01_k».proof.Proof.Gen.Kernel26Ideal.Value
public import proofs.«01_k».proof.Proof.Gen.Reference26Ideal.Run
public import Idealize.ShloMosaic.Lib.Pointwise
@[expose] public section
set_option maxRecDepth 16384
noncomputable section
namespace Cert.Relu
open Idealize.ShloMosaic Idealize.ShloMosaic.TcCoe Idealize.ShloMosaic.Tactic
open Idealize.SL Idealize.SL.Sem

/-- The definition runs to its end, keeps its arguments, and has no semaphores. -/
theorem frame_ref : Cert.quiescent_Reference26Ideal := fun m ρ _ =>
  (θ_run Cert.Reference26Ideal.defs _ _).mono (fun r h => ⟨fun c => (h c).2, sem_eq_zero_of_no_sems (by decide) r.2⟩)
    (Cert.Reference26Ideal.Value.run (F := Ideal) m ρ)

/-- Two ways to write the derivative of a squared rectifier agree: zero of the product at zero, and zero below. -/
theorem cut (u c : EReal) (k h : EReal) :
    (if 0 < u then c * (k * max u 0) else 0) = c * (k * max u 0) * (if 0 < u then 1 else if u = 0 then h else 0) := by
  by_cases hu : 0 < u
  · rw [if_pos hu, if_pos hu, mul_one]
  · rw [if_neg hu, if_neg hu, max_eq_right (not_lt.mp hu), mul_zero, mul_zero, zero_mul]

/-- The cotangent times twice the rectified row, where the row is positive. -/
theorem algebraic : Cert.algebraic_Kernel26Ideal_Reference26Ideal := by
  intro m g m' g' _ hagree
  refine ⟨_, (θ_run Cert.Kernel26Ideal.defs _ _).mono (fun r h => h) (Cert.Kernel26Ideal.Value.run (F := Ideal) m g),
    (θ_run Cert.Reference26Ideal.defs _ _).mono (fun r h c => ⟨(h c).1.trans ?_, (h c).2⟩)
      (Cert.Reference26Ideal.Value.run (F := Ideal) m' g')⟩
  simp only [(hagree c).1, (hagree c).2]
  funext y
  obtain ⟨i, j, rfl⟩ : ∃ (i : Fin 4096) (j : Fin 16384), y = ix2 i j := ⟨y 0, y 1, eq_ix2 y⟩
  pointwise [Cert.Kernel26Ideal.Value.G2]
  exact cut _ _ _ _

end Cert.Relu
-- ==== Proof.Sigmoid.lean ====
module
public import Idealize.ShloMosaic.Lib.IdealHost
@[expose] public section
noncomputable section
namespace Cert.Sigmoid
open Idealize.ShloMosaic

/-- The quotient of one by a positive real. -/
theorem one_div_coe {r : ℝ} (h : 0 < r) : Ideal.div 1 (r : EReal) = ((1 / r : ℝ) : EReal) := by
  have hr : (r : EReal) ≠ 0 := fun e => absurd (EReal.coe_eq_zero.mp e) h.ne'
  unfold Ideal.div
  rw [if_neg hr, one_mul, ← EReal.coe_inv, one_div]

/-- With `σ = 1 / (1 + e⁻ᶻ)`, the derivative `e⁻ᶻ / (1 + e⁻ᶻ)²` is `σ (1 - σ)`, at the infinities too. -/
theorem slope (z : EReal) :
    Ideal.div 1 ((1 + Ideal.exp (-z)) * (1 + Ideal.exp (-z))) * Ideal.exp (-z) =
      Ideal.div 1 (1 + Ideal.exp (-z)) * (1 - Ideal.div 1 (1 + Ideal.exp (-z))) := by
  have htop : Ideal.div 1 (⊤ : EReal) = 0 := by
    unfold Ideal.div
    rw [if_neg EReal.top_ne_zero, EReal.inv_top, mul_zero]
  have hone : Ideal.div 1 (1 : EReal) = 1 := by
    have h := one_div_coe one_pos
    rwa [div_one, EReal.coe_one] at h
  induction z with
  | bot =>
    have e : Ideal.exp (-⊥) = ⊤ := by rw [EReal.neg_bot]; rfl
    have s : (1 : EReal) + ⊤ = ⊤ := by rw [← EReal.coe_one]; exact EReal.coe_add_top 1
    rw [e, s, EReal.top_mul_top, htop, zero_mul, zero_mul]
  | top =>
    have e : Ideal.exp (-⊤) = 0 := by rw [EReal.neg_top]; rfl
    have s : (1 : EReal) - 1 = 0 := by rw [← EReal.coe_one, ← EReal.coe_sub, sub_self, EReal.coe_zero]
    rw [e, add_zero, mul_one, hone, s, mul_zero]
  | coe x =>
    have e : Ideal.exp (-(x : EReal)) = ((Real.exp (-x) : ℝ) : EReal) := by rw [← EReal.coe_neg]; rfl
    have hp : 0 < 1 + Real.exp (-x) := by positivity
    rw [e, ← EReal.coe_one, ← EReal.coe_add, ← EReal.coe_mul, EReal.coe_one, one_div_coe (mul_pos hp hp), one_div_coe hp,
      ← EReal.coe_one, ← EReal.coe_sub, ← EReal.coe_mul, ← EReal.coe_mul]
    congr 1
    field_simp
    ring

/-- A product with the sigmoid's derivative, in the order of a quotient by the square of `1 + e⁻ᶻ`, its sign turned twice. -/
theorem turned (w z : EReal) :
    0 - (0 - w * Ideal.div 1 ((1 + Ideal.exp (0 - z)) * (1 + Ideal.exp (0 - z)))) * Ideal.exp (0 - z) =
      w * (Ideal.div 1 (1 + Ideal.exp (-z)) * (1 - Ideal.div 1 (1 + Ideal.exp (-z)))) := by
  rw [zero_sub, zero_sub, zero_sub, EReal.neg_mul, neg_neg, mul_assoc, slope]

end Cert.Sigmoid
-- ==== Proof.Glu.Claims.lean ====
module
public import proofs.«01_k».proof.Defs
public import proofs.«01_k».proof.Proof.Gen.Kernel27Ideal.Value
public import proofs.«01_k».proof.Proof.Gen.Reference27Ideal.Run
public import Idealize.ShloMosaic.Lib.Pointwise
public import proofs.«01_k».proof.Proof.Sigmoid
@[expose] public section
set_option maxRecDepth 16384
noncomputable section
namespace Cert.Glu
open Idealize.ShloMosaic Idealize.ShloMosaic.TcCoe Idealize.ShloMosaic.Tactic
open Idealize.SL Idealize.SL.Sem

/-- The definition runs to its end, keeps its arguments, and has no semaphores. -/
theorem frame_ref : Cert.quiescent_Reference27Ideal := fun m ρ _ =>
  (θ_run Cert.Reference27Ideal.defs _ _).mono (fun r h => ⟨fun c => (h c).2.2, sem_eq_zero_of_no_sems (by decide) r.2⟩)
    (Cert.Reference27Ideal.Value.run (F := Ideal) m ρ)

/-- The value's gradient is the cotangent at the gate's sigmoid, and the gate's is the product at the sigmoid's slope. -/
theorem algebraic : Cert.algebraic_Kernel27Ideal_Reference27Ideal := by
  intro m g m' g' _ hagree
  refine ⟨_, _, (θ_run Cert.Kernel27Ideal.defs _ _).mono (fun r h => h) (Cert.Kernel27Ideal.Value.run (F := Ideal) m g),
    (θ_run Cert.Reference27Ideal.defs _ _).mono (fun r h c => ⟨(h c).1.trans ?_, (h c).2.1.trans ?_, (h c).2.2⟩)
      (Cert.Reference27Ideal.Value.run (F := Ideal) m' g')⟩
  all_goals
    simp only [(hagree c).1, (hagree c).2.1, (hagree c).2.2]
    funext y
    obtain ⟨i, j, rfl⟩ : ∃ (i : Fin 4096) (j : Fin 2048), y = ix2 i j := ⟨y 0, y 1, eq_ix2 y⟩
    pointwise [Cert.Kernel27Ideal.Value.G3, Cert.Kernel27Ideal.Value.G4]
  · rw [zero_sub]
  · exact (Sigmoid.turned _ _).symm

end Cert.Glu
-- ==== Proof.Merge.Points.lean ====
module
public import proofs.«01_k».proof.Proof.Gen.Kernel28Ideal.Value
public import Idealize.ShloMosaic.PureOps.Ideal
public import Idealize.ShloMosaic.Lib.Pipeline.ValueKit
public import Idealize.ShloMosaic.Lib.Pipeline.ReadBack
public import Idealize.ShloMosaic.Lib.Pointwise

/-!
# The gradients of the merge gates, block by block

Point `t` works on rows `128 t` and on of every array.
-/

@[expose] public section
set_option maxRecDepth 16384
noncomputable section
namespace Cert.Kernel28Ideal
open Idealize.ShloMosaic Idealize.ShloMosaic.TcCoe Idealize.ShloMosaic.Tactic
open Idealize.SL Idealize.SL.Sem
variable (m : (ℓ : Loc nD τ sig) → Buf (Elt Ideal) ℓ)
open Gen

theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = t.val ∧ win0_3.index t 1 = 0 := by decide +kernel
theorem idx4 : ∀ t : Fin cfg0.N, win0_4.index t 0 = t.val ∧ win0_4.index t 1 = 0 := by decide +kernel
theorem idx5 : ∀ t : Fin cfg0.N, win0_5.index t 0 = t.val ∧ win0_5.index t 1 = 0 := by decide +kernel
theorem idx6 : ∀ t : Fin cfg0.N, win0_6.index t 0 = t.val ∧ win0_6.index t 1 = 0 := by decide +kernel
theorem idx7 : ∀ t : Fin cfg0.N, win0_7.index t 0 = t.val ∧ win0_7.index t 1 = 0 := by decide +kernel
theorem idx8 : ∀ t : Fin cfg0.N, win0_8.index t 0 = t.val ∧ win0_8.index t 1 = 0 := by decide +kernel

/-- The gradient of a gate's logit: the product of its path's row and the cotangent, at the sigmoid's slope. -/
abbrev gate (z p ct : S4096x4096.Idx → EReal) : S4096x4096.Idx → EReal := fun y =>
  0 - (0 - ct y * p y * Ideal.div 1 ((1 + Ideal.exp (0 - z y)) * (1 + Ideal.exp (0 - z y)))) * Ideal.exp (0 - z y)

/-- The gradient of a path's row: the cotangent at the gate's sigmoid. -/
abbrev path (z ct : S4096x4096.Idx → EReal) : S4096x4096.Idx → EReal := fun y =>
  Ideal.div 1 (1 + Ideal.exp (0 - z y)) * ct y

theorem gate0 (c : Dev nD) : (dats m 0 c).arrAt 5 cfg0.N =
    gate (m ((c : Thread nD τ).loc main_arg0)) (m ((c : Thread nD τ).loc main_arg2)) (m ((c : Thread nD τ).loc main_arg4)) := by
  refine (dats m 0 c).arrAt_eq_of_covers 5 _ (by decide +kernel) fun t hf y => ?_
  obtain ⟨r, l, rfl⟩ : ∃ (r : Fin 128) (l : Fin 4096), y = ix2 r l := ⟨y 0, y 1, eq_ix2 y⟩
  blk_simp
  rw [after0_5]
  frame_out
  pointwise [k0_pay1, k0_pay5, k0_pay6, k0_pay7, k0_pay10, gate]
  blk_point [iblk, V, idx0 t, idx2 t, idx4 t, idx5 t]

theorem gate1 (c : Dev nD) : (dats m 0 c).arrAt 6 cfg0.N =
    gate (m ((c : Thread nD τ).loc main_arg1)) (m ((c : Thread nD τ).loc main_arg3)) (m ((c : Thread nD τ).loc main_arg4)) := by
  refine (dats m 0 c).arrAt_eq_of_covers 6 _ (by decide +kernel) fun t hf y => ?_
  obtain ⟨r, l, rfl⟩ : ∃ (r : Fin 128) (l : Fin 4096), y = ix2 r l := ⟨y 0, y 1, eq_ix2 y⟩
  blk_simp
  rw [after0_6]
  frame_out
  pointwise [k0_pay2, k0_pay8, k0_pay9, k0_pay11, k0_pay13, gate]
  blk_point [iblk, V, idx1 t, idx3 t, idx4 t, idx6 t]

theorem path0 (c : Dev nD) : (dats m 0 c).arrAt 7 cfg0.N =
    path (m ((c : Thread nD τ).loc main_arg0)) (m ((c : Thread nD τ).loc main_arg4)) := by
  refine (dats m 0 c).arrAt_eq_of_covers 7 _ (by decide +kernel) fun t hf y => ?_
  obtain ⟨r, l, rfl⟩ : ∃ (r : Fin 128) (l : Fin 4096), y = ix2 r l := ⟨y 0, y 1, eq_ix2 y⟩
  blk_simp
  rw [after0_7]
  frame_out
  pointwise [k0_pay3, k0_pay5, k0_pay6, k0_pay10, k0_pay14, path]
  blk_point [iblk, V, idx0 t, idx4 t, idx7 t]

theorem path1 (c : Dev nD) : (dats m 0 c).arrAt 8 cfg0.N =
    path (m ((c : Thread nD τ).loc main_arg1)) (m ((c : Thread nD τ).loc main_arg4)) := by
  refine (dats m 0 c).arrAt_eq_of_covers 8 _ (by decide +kernel) fun t hf y => ?_
  obtain ⟨r, l, rfl⟩ : ∃ (r : Fin 128) (l : Fin 4096), y = ix2 r l := ⟨y 0, y 1, eq_ix2 y⟩
  blk_simp
  rw [after0_8]
  frame_out
  pointwise [k0_pay4, k0_pay8, k0_pay9, k0_pay11, k0_pay12, path]
  blk_point [iblk, V, idx1 t, idx4 t, idx8 t]

end Cert.Kernel28Ideal
-- ==== Proof.Merge.Claims.lean ====
module
public import proofs.«01_k».proof.Defs
public import proofs.«01_k».proof.Proof.Merge.Points
public import proofs.«01_k».proof.Proof.Sigmoid
public import proofs.«01_k».proof.Proof.Gen.Reference28Ideal.Run

/-!
# The gradients of the merge gates: the claims
-/

@[expose] public section
set_option maxRecDepth 16384
noncomputable section
namespace Cert.Merge
open Idealize.ShloMosaic Idealize.ShloMosaic.TcCoe Idealize.ShloMosaic.Tactic
open Idealize.SL Idealize.SL.Sem

/-- The definition runs to its end, keeps its arguments, and has no semaphores. -/
theorem frame_ref : Cert.quiescent_Reference28Ideal := fun m ρ _ =>
  (θ_run Cert.Reference28Ideal.defs _ _).mono (fun r h => ⟨fun c => (h c).2.2.2.2, sem_eq_zero_of_no_sems (by decide) r.2⟩)
    (Cert.Reference28Ideal.Value.run (F := Ideal) m ρ)

/-- The gates' and the paths' gradients are the definition's. -/
theorem algebraic : Cert.algebraic_Kernel28Ideal_Reference28Ideal := by
  intro m g m' g' _ hagree
  refine ⟨_, _, _, _, (θ_run Cert.Kernel28Ideal.defs _ _).mono (fun r h => h) (Cert.Kernel28Ideal.Value.run_blocks (F := Ideal) m g),
    (θ_run Cert.Reference28Ideal.defs _ _).mono
      (fun r h c => ⟨(h c).1.trans ?_, (h c).2.1.trans ?_, (h c).2.2.1.trans ?_, (h c).2.2.2.1.trans ?_, (h c).2.2.2.2⟩)
      (Cert.Reference28Ideal.Value.run (F := Ideal) m' g')⟩
  all_goals
    simp only [(hagree c).1, (hagree c).2.1, (hagree c).2.2.1, (hagree c).2.2.2.1, (hagree c).2.2.2.2,
      Cert.Kernel28Ideal.gate0, Cert.Kernel28Ideal.gate1, Cert.Kernel28Ideal.path0, Cert.Kernel28Ideal.path1]
    funext y
    obtain ⟨i, j, rfl⟩ : ∃ (i : Fin 4096) (j : Fin 4096), y = ix2 i j := ⟨y 0, y 1, eq_ix2 y⟩
    pointwise [Cert.Kernel28Ideal.gate, Cert.Kernel28Ideal.path]
  · exact (Sigmoid.turned _ _).symm
  · exact (Sigmoid.turned _ _).symm
  · rw [zero_sub, mul_comm]
  · rw [zero_sub, mul_comm]

end Cert.Merge
-- ==== Proof.Norm.lean ====
module
public import Idealize.ShloMosaic.Lib.IdealHost
public import Idealize.ShloMosaic.Lib.Pointwise
public import Idealize.ShloMosaic.Lib.Pipeline.ValueKit

/-!
# A row's layer norm, and sums over blocks of rows

The gradient of a layer norm with respect to its row, at a row `x` and the cotangent `w` of the normalised row, and facts about
accumulators that add one block of rows at every point.  They mention no program.
-/

@[expose] public section
noncomputable section
namespace Cert.Norm
open Idealize.ShloMosaic Finset

variable {n : ℕ} (d e half two : EReal)

/-- The row less its mean over `d` entries. -/
def centre (x : Fin n → EReal) (j : Fin n) : EReal := x j - Ideal.div (∑ k, x k) d
/-- The row's variance plus `e`. -/
def spread (x : Fin n → EReal) : EReal := Ideal.div (∑ k, centre d x k * centre d x k) d + e
/-- The normalised row. -/
def scaled (x : Fin n → EReal) (j : Fin n) : EReal := centre d x j * Ideal.rsqrt (spread d e x)
/-- The cotangent of the sum of squares. -/
def ctSquare (x w : Fin n → EReal) : EReal :=
  Ideal.div ((∑ k, centre d x k * w k) * (half * Ideal.div (Ideal.rsqrt (spread d e x)) (spread d e x))) d
/-- The cotangent of the centred row, the square differentiated as `2 x`. -/
def ctCentre (x w : Fin n → EReal) (j : Fin n) : EReal :=
  w j * Ideal.rsqrt (spread d e x) + ctSquare d e half x w * (two * centre d x j)
/-- The cotangent of the row: the centred row's, less its mean. -/
def grad (x w : Fin n → EReal) (j : Fin n) : EReal :=
  ctCentre d e half two x w j + Ideal.div (∑ k, -ctCentre d e half two x w k) d

theorem ofBits_two : Ideal.ofBits .f32 1073741824#32 = ((2 : ℝ) : EReal) := by
  simp [Ideal.ofBits, Ideal.ieee, -EReal.coe_mul]; norm_num

/-- Twice an extended real is its sum with itself, at the infinities too. -/
theorem two_mul_eq (y : EReal) : ((2 : ℝ) : EReal) * y = y + y := by
  induction y with
  | bot => rw [EReal.coe_mul_bot_of_pos two_pos]; rfl
  | top => rw [EReal.coe_mul_top_of_pos two_pos]; rfl
  | coe r => rw [← EReal.coe_mul, ← EReal.coe_add, two_mul]

/-- The square differentiated as a product, `x s + s x`, is the square differentiated as `2 x`. -/
theorem both_sides (a s x : EReal) : a + x * s + s * x = a + s * (Ideal.ofBits .f32 1073741824#32 * x) := by
  rw [ofBits_two, mul_left_comm, two_mul_eq, mul_comm x s, add_assoc]

/-- A sum over one index of something that does not mention it. -/
theorem sum_one (a : EReal) : ∑ _x : Fin 1, a = a := Fin.sum_univ_one _

/-- A row of an array of `M` rows at a natural number, and zero outside. -/
def row {M : ℕ} (X : (⟨2, ![M, n]⟩ : Shape).Idx → EReal) (i : ℕ) : Fin n → EReal :=
  fun k => if h : i < M then X (ix2 ⟨i, h⟩ k) else 0

theorem row_at {M : ℕ} (X : (⟨2, ![M, n]⟩ : Shape).Idx → EReal) {i : ℕ} (h : i < M) (k : Fin n) : row X i k = X (ix2 ⟨i, h⟩ k) :=
  dif_pos h

theorem row_of {M : ℕ} (X : (⟨2, ![M, n]⟩ : Shape).Idx → EReal) (i : Fin M) : row X i.val = fun k => X (ix2 i k) :=
  funext fun k => row_at X i.isLt k

/-- An accumulator that starts with block 0 and adds a block at every point holds the sum of the blocks so far. -/
theorem upto {N : ℕ} (acc : (t : ℕ) → t < N → EReal) (f : ℕ → EReal) (start : ∀ h, acc 0 h = f 0)
    (next : ∀ t (h : t + 1 < N), acc (t + 1) h = acc t (Nat.lt_of_succ_lt h) + f (t + 1)) :
    ∀ t h, acc t h = ∑ s ∈ range (t + 1), f s := by
  intro t
  induction t with
  | zero => intro h; rw [sum_range_one]; exact start h
  | succ t ih => intro h; rw [sum_range_succ, ← ih (Nat.lt_of_succ_lt h)]; exact next t h

/-- A sum over `N` blocks of `B` rows is the sum over all rows. -/
theorem sum_rows (N B M : ℕ) (h : M = N * B) (f : ℕ → EReal) :
    ∑ s ∈ range N, ∑ r : Fin B, f (s * B + r.val) = ∑ i : Fin M, f i.val := by
  rw [Fin.sum_univ_eq_sum_range f M, h, Finset.sum_range_mul_split]
  refine Finset.sum_congr rfl fun s _ => ?_
  rw [Fin.sum_univ_eq_sum_range (fun r => f (s * B + r)) B]

end Cert.Norm
-- ==== Proof.Ln.Points.lean ====
module
public import proofs.«01_k».proof.Proof.Norm
public import proofs.«01_k».proof.Proof.Gen.Kernel29Ideal.Value
public import Idealize.ShloMosaic.PureOps.Ideal
public import Idealize.ShloMosaic.Lib.Pipeline.ValueKit
public import Idealize.ShloMosaic.Lib.Pipeline.ReadBack
public import Idealize.ShloMosaic.Lib.Pointwise

/-!
# The gradients of a residual sum's layer norm, block by block

Point `t` works on rows `128 t` and on; the gradients of the scale and the shift are summed over the points.
-/

@[expose] public section
set_option maxRecDepth 16384
noncomputable section
namespace Cert.Kernel29Ideal
open Idealize.ShloMosaic Idealize.ShloMosaic.TcCoe Idealize.ShloMosaic.Tactic
open Idealize.SL Idealize.SL.Sem
variable (m : (ℓ : Loc nD τ sig) → Buf (Elt Ideal) ℓ)
open Gen Cert.Norm

/-- The factor of the residual, the row's length, the variance's small term, minus a half, and two. -/
abbrev ka : EReal := Ideal.ofBits FTy.f32 1066940400#32
abbrev kd : EReal := Ideal.ofBits FTy.f32 1166016512#32
abbrev ke : EReal := Ideal.ofBits FTy.f32 925353388#32
abbrev kh : EReal := Ideal.ofBits FTy.f32 3204448256#32
abbrev k2 : EReal := Ideal.ofBits FTy.f32 1073741824#32

/-- The row that is normalised. -/
abbrev sumRow (h y : Fin 4096 → EReal) : Fin 4096 → EReal := fun k => ka * h k + y k
/-- The cotangent of the normalised row. -/
abbrev ctRow (ct g : Fin 4096 → EReal) : Fin 4096 → EReal := fun k => ct k * g k

section Pay
variable (h y ct : S128x4096.Idx → EReal) (g : S1x4096.Idx → EReal) (r : Fin 128)

theorem pay1 (j : Fin 4096) : k0_pay1 (F := Ideal) h y (ix2 r j) = centre kd (sumRow (fun k => h (ix2 r k)) (fun k => y (ix2 r k))) j := by
  pointwise [k0_pay1, centre]

theorem pay2 : k0_pay2 (F := Ideal) h y (ix2 r 0) = spread kd ke (sumRow (fun k => h (ix2 r k)) (fun k => y (ix2 r k))) := by
  pointwise [k0_pay2, spread]
  simp only [pay1]

theorem pay3 : k0_pay3 (F := Ideal) h y (ix2 r 0) = Ideal.rsqrt (spread kd ke (sumRow (fun k => h (ix2 r k)) (fun k => y (ix2 r k)))) := by
  pointwise [k0_pay3]
  rw [pay2]

theorem pay9 : k0_pay9 (F := Ideal) h y ct g (ix2 r 0) =
    (∑ k, centre kd (sumRow (fun k => h (ix2 r k)) (fun k => y (ix2 r k))) k * ctRow (fun k => ct (ix2 r k)) (fun k => g (ix2 0 k)) k)
      * (kh * Ideal.div (Ideal.rsqrt (spread kd ke (sumRow (fun k => h (ix2 r k)) (fun k => y (ix2 r k)))))
          (spread kd ke (sumRow (fun k => h (ix2 r k)) (fun k => y (ix2 r k))))) := by
  pointwise [k0_pay9]
  simp only [pay1, pay2, pay3]
  pointwise [k0_pay7, k0_pay4]

/-- One entry of the row's cotangent. -/
theorem pay10 (j : Fin 4096) :
    k0_pay10 (F := Ideal) (k0_pay1 h y) (k0_pay8 h y ct g) (k0_pay9 h y ct g) kd (ix2 r j) =
      grad kd ke kh k2 (sumRow (fun k => h (ix2 r k)) (fun k => y (ix2 r k))) (ctRow (fun k => ct (ix2 r k)) (fun k => g (ix2 0 k))) j := by
  have e8 : ∀ k, k0_pay8 (F := Ideal) h y ct g (ix2 r k) = ctRow (fun k => ct (ix2 r k)) (fun k => g (ix2 0 k)) k
      * Ideal.rsqrt (spread kd ke (sumRow (fun k => h (ix2 r k)) (fun k => y (ix2 r k)))) := fun k => by
    pointwise [k0_pay8, k0_pay7, k0_pay4]
    rw [pay3]
  pointwise [k0_pay10]
  simp only [Fin.sum_univ_one, pay1, pay9, e8]
  simp only [grad, ctCentre, ctSquare, both_sides, zero_sub]

/-- One block's part of the scale's gradient. -/
theorem pay6 (j : Fin 4096) : k0_pay6 (F := Ideal) h y ct (ix2 0 j) =
    ∑ r, scaled kd ke (sumRow (fun k => h (ix2 r k)) (fun k => y (ix2 r k))) j * ct (ix2 r j) := by
  pointwise [k0_pay6]
  simp only [pay1, pay3, scaled]
  pointwise [k0_pay4]

/-- One block's part of the shift's gradient. -/
theorem pay5 (j : Fin 4096) : k0_pay5 (F := Ideal) ct (ix2 0 j) = ∑ r, ct (ix2 r j) := by
  pointwise [k0_pay5]
end Pay

end Cert.Kernel29Ideal
-- ==== Proof.Ln.Arrays.lean ====
module
public import proofs.«01_k».proof.Proof.Ln.Points

/-!
# The gradients of a residual sum's layer norm: the arrays
-/

@[expose] public section
set_option maxRecDepth 16384
noncomputable section
namespace Cert.Kernel29Ideal
open Idealize.ShloMosaic Idealize.ShloMosaic.TcCoe Idealize.ShloMosaic.Tactic
open Idealize.SL Idealize.SL.Sem
variable (m : (ℓ : Loc nD τ sig) → Buf (Elt Ideal) ℓ)
open Gen Cert.Norm

theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = 0 ∧ win0_3.index t 1 = 0 := by decide +kernel
theorem idx5 : ∀ t : Fin cfg0.N, win0_5.index t 0 = t.val ∧ win0_5.index t 1 = 0 := by decide +kernel
theorem idx6 : ∀ t : Fin cfg0.N, win0_6.index t 0 = t.val ∧ win0_6.index t 1 = 0 := by decide +kernel

/-- The row to normalise, and the cotangent of the normalised row, at row `i`. -/
abbrev rowX (c : Dev nD) (i : ℕ) : Fin 4096 → EReal :=
  sumRow (row (n := 4096) (M := 4096) (m ((c : Thread nD τ).loc main_arg0)) i) (row (n := 4096) (M := 4096) (m ((c : Thread nD τ).loc main_arg1)) i)
abbrev rowC (c : Dev nD) (i : ℕ) : Fin 4096 → EReal := row (n := 4096) (M := 4096) (m ((c : Thread nD τ).loc main_arg4)) i
abbrev rowW (c : Dev nD) (i : ℕ) : Fin 4096 → EReal :=
  ctRow (rowC m c i) (fun k => m ((c : Thread nD τ).loc main_arg2) (ix2 0 k))

theorem blk0 (c : Dev nD) (t : Fin cfg0.N) (r : Fin 128) :
    (fun k => iblk m c 0 t (ix2 r k)) = row (n := 4096) (M := 4096) (m ((c : Thread nD τ).loc main_arg0)) (t.val * 128 + r.val) := by
  have ht : t.val < 32 := t.isLt
  funext k
  rw [row_at _ (by omega)]
  blk_ext [iblk, V, idx0 t]

theorem blk1 (c : Dev nD) (t : Fin cfg0.N) (r : Fin 128) :
    (fun k => iblk m c 1 t (ix2 r k)) = row (n := 4096) (M := 4096) (m ((c : Thread nD τ).loc main_arg1)) (t.val * 128 + r.val) := by
  have ht : t.val < 32 := t.isLt
  funext k
  rw [row_at _ (by omega)]
  blk_ext [iblk, V, idx1 t]

theorem blk2 (c : Dev nD) (t : Fin cfg0.N) (r : Fin 128) (k : Fin 4096) : iblk m c 2 t (ix2 r k) = rowC m c (t.val * 128 + r.val) k := by
  have ht : t.val < 32 := t.isLt
  refine Eq.trans ?_ (row_at _ (by omega) k).symm
  blk_ext [iblk, V, idx2 t]

theorem blk3 (c : Dev nD) (t : Fin cfg0.N) :
    (fun k => iblk m c 3 t (ix2 0 k)) = fun k => m ((c : Thread nD τ).loc main_arg2) (ix2 0 k) := by
  funext k
  blk_ext [iblk, V, idx3 t]

/-- One entry of the row's cotangent, at a point. -/
theorem entry (c : Dev nD) (t : Fin cfg0.N) (r : Fin 128) (j : Fin 4096) :
    k0_pay10 (F := Ideal) (k0_pay1 (iblk m c 0 t) (iblk m c 1 t)) (k0_pay8 (iblk m c 0 t) (iblk m c 1 t) (iblk m c 2 t) (iblk m c 3 t))
      (k0_pay9 (iblk m c 0 t) (iblk m c 1 t) (iblk m c 2 t) (iblk m c 3 t)) kd (ix2 r j)
      = grad kd ke kh k2 (rowX m c (t.val * 128 + r.val)) (rowW m c (t.val * 128 + r.val)) j := by
  rw [pay10, blk0, blk1, blk3]
  simp only [blk2]

/-- The first two results: the row's cotangent, times the residual's factor and as it is. -/
theorem final5 (c : Dev nD) : (dats m 0 c).arrAt 5 cfg0.N =
    fun i : S4096x4096.Idx => ka * grad kd ke kh k2 (rowX m c (i 0).val) (rowW m c (i 0).val) (i 1) := by
  refine (dats m 0 c).arrAt_eq_of_covers 5 _ (by decide +kernel) fun t hf y => ?_
  obtain ⟨r, l, rfl⟩ : ∃ (r : Fin 128) (l : Fin 4096), y = ix2 r l := ⟨y 0, y 1, eq_ix2 y⟩
  blk_simp
  rw [after0_5]
  have e : (outsAt0 m c t.val t.isLt).1 (ix2 r l) = ka * grad kd ke kh k2 (rowX m c (t.val * 128 + r.val)) (rowW m c (t.val * 128 + r.val)) l := by
    by_cases h : t.val = 0
    · rw [outsAt0_A m c t (by omega) (by omega) (by omega) (by omega)]
      frame_out
      pointwise [k0_pay11]
      rw [entry]
    · have ht : t.val < 32 := t.isLt
      rw [outsAt0_B m c t (by omega) (by omega) (by omega) (by omega)]
      frame_out
      pointwise [k0_pay11]
      rw [entry]
  rw [e]
  refine congrArg₂ (fun (i : ℕ) (l : Fin 4096) => ka * grad kd ke kh k2 (rowX m c i) (rowW m c i) l) ?_ (Fin.ext ?_) <;> blk_simp [idx5 t] <;> omega

theorem final6 (c : Dev nD) : (dats m 0 c).arrAt 6 cfg0.N =
    fun i : S4096x4096.Idx => grad kd ke kh k2 (rowX m c (i 0).val) (rowW m c (i 0).val) (i 1) := by
  refine (dats m 0 c).arrAt_eq_of_covers 6 _ (by decide +kernel) fun t hf y => ?_
  obtain ⟨r, l, rfl⟩ : ∃ (r : Fin 128) (l : Fin 4096), y = ix2 r l := ⟨y 0, y 1, eq_ix2 y⟩
  blk_simp
  rw [after0_6]
  have e : (outsAt0 m c t.val t.isLt).2.1 (ix2 r l) = grad kd ke kh k2 (rowX m c (t.val * 128 + r.val)) (rowW m c (t.val * 128 + r.val)) l := by
    by_cases h : t.val = 0
    · rw [outsAt0_A m c t (by omega) (by omega) (by omega) (by omega)]
      frame_out
      pointwise [k0_pay12]
      rw [entry]
    · have ht : t.val < 32 := t.isLt
      rw [outsAt0_B m c t (by omega) (by omega) (by omega) (by omega)]
      frame_out
      pointwise [k0_pay12]
      rw [entry]
  rw [e]
  refine congrArg₂ (fun (i : ℕ) (l : Fin 4096) => grad kd ke kh k2 (rowX m c i) (rowW m c i) l) ?_ (Fin.ext ?_) <;> blk_simp [idx6 t] <;> omega

/-- One row's part of the scale's gradient. -/
abbrev dgAt (c : Dev nD) (j : Fin 4096) (i : ℕ) : EReal := scaled kd ke (rowX m c i) j * rowC m c i j

theorem part (c : Dev nD) (t : Fin cfg0.N) (j : Fin 4096) :
    k0_pay6 (F := Ideal) (iblk m c 0 t) (iblk m c 1 t) (iblk m c 2 t) (ix2 0 j) = ∑ r : Fin 128, dgAt m c j (t.val * 128 + r.val) := by
  rw [pay6]
  simp only [blk2, blk0, blk1]

/-- The scale's gradient after point `t`. -/
theorem dg_upto (c : Dev nD) (j : Fin 4096) : ∀ (t : ℕ) (h : t < cfg0.N),
    (outsAt0 m c t h).2.2.1 (ix2 0 j) = ∑ s ∈ Finset.range (t + 1), ∑ r : Fin 128, dgAt m c j (s * 128 + r.val) := by
  refine upto (fun t h => (outsAt0 m c t h).2.2.1 (ix2 0 j)) _ (fun h => ?_) fun t h => ?_
  · show (outsAt0 m c (⟨0, h⟩ : Fin cfg0.N).val _).2.2.1 (ix2 0 j) = _
    rw [outsAt0_A m c ⟨0, h⟩ (by simp) (by simp) (by simp) (by simp)]
    frame_out
    exact part m c ⟨0, h⟩ j
  · show (outsAt0 m c (⟨t + 1, h⟩ : Fin cfg0.N).val _).2.2.1 (ix2 0 j) = _
    have ht : t + 1 < 32 := h
    rw [outsAt0_B m c ⟨t + 1, h⟩ (by dsimp only; omega) (by simp) (by dsimp only; omega) (by simp)]
    frame_out
    pointwise [k0_pay13]
    exact congrArg₂ (fun x y : EReal => x + y) rfl (part m c ⟨t + 1, h⟩ j)

/-- The shift's gradient after point `t`. -/
theorem db_upto (c : Dev nD) (j : Fin 4096) : ∀ (t : ℕ) (h : t < cfg0.N),
    (outsAt0 m c t h).2.2.2 (ix2 0 j) = ∑ s ∈ Finset.range (t + 1), ∑ r : Fin 128, rowC m c (s * 128 + r.val) j := by
  refine upto (fun t h => (outsAt0 m c t h).2.2.2 (ix2 0 j)) _ (fun h => ?_) fun t h => ?_
  · show (outsAt0 m c (⟨0, h⟩ : Fin cfg0.N).val _).2.2.2 (ix2 0 j) = _
    rw [outsAt0_A m c ⟨0, h⟩ (by simp) (by simp) (by simp) (by simp)]
    frame_out
    rw [pay5]
    simp only [blk2]
  · show (outsAt0 m c (⟨t + 1, h⟩ : Fin cfg0.N).val _).2.2.2 (ix2 0 j) = _
    have ht : t + 1 < 32 := h
    rw [outsAt0_B m c ⟨t + 1, h⟩ (by dsimp only; omega) (by simp) (by dsimp only; omega) (by simp)]
    frame_out
    pointwise [k0_pay14]
    refine congrArg₂ (fun x y : EReal => x + y) rfl ?_
    rw [pay5]
    simp only [blk2]

/-- The last point is the one that writes the two summed results back. -/
theorem last_point : ∃ t : Fin cfg0.N, t.val = 31 ∧ (cfg0.win 7).WholeAt t ∧ (cfg0.win 8).WholeAt t :=
  ⟨⟨31, by decide⟩, rfl, by decide +kernel, by decide +kernel⟩

/-- The third result: the scale's gradient, summed over all rows. -/
theorem final7 (c : Dev nD) : (dats m 0 c).arrAt 7 cfg0.N = fun i : S1x4096.Idx => ∑ x : Fin 4096, dgAt m c (i 1) x.val := by
  obtain ⟨t, ht, h7, -⟩ := last_point
  refine (dats m 0 c).arrAt_eq_of_after_last 7 t h7 _ fun j => ?_
  blk_simp
  rw [after0_7]
  obtain ⟨k, rfl⟩ : ∃ (k : Fin 4096), j = ix2 0 k := ⟨j 1, (eq_ix2 j).trans (congrArg (fun a : Fin 1 => ix2 a (j 1)) (Subsingleton.elim (α := Fin 1) _ _))⟩
  refine (dg_upto m c k t.val t.isLt).trans ?_
  rw [ht]
  exact sum_rows 32 128 4096 rfl (dgAt m c k)

/-- The fourth result: the shift's gradient, summed over all rows. -/
theorem final8 (c : Dev nD) : (dats m 0 c).arrAt 8 cfg0.N = fun i : S1x4096.Idx => ∑ x : Fin 4096, rowC m c x.val (i 1) := by
  obtain ⟨t, ht, -, h8⟩ := last_point
  refine (dats m 0 c).arrAt_eq_of_after_last 8 t h8 _ fun j => ?_
  blk_simp
  rw [after0_8]
  obtain ⟨k, rfl⟩ : ∃ (k : Fin 4096), j = ix2 0 k := ⟨j 1, (eq_ix2 j).trans (congrArg (fun a : Fin 1 => ix2 a (j 1)) (Subsingleton.elim (α := Fin 1) _ _))⟩
  refine (db_upto m c k t.val t.isLt).trans ?_
  rw [ht]
  exact sum_rows 32 128 4096 rfl (fun i => rowC m c i k)

end Cert.Kernel29Ideal
-- ==== Proof.Ln.Claims.lean ====
module
public import proofs.«01_k».proof.Defs
public import proofs.«01_k».proof.Proof.Ln.Arrays
public import proofs.«01_k».proof.Proof.Gen.Reference29Ideal.Run

/-!
# The gradients of a residual sum's layer norm: the claims
-/

@[expose] public section
set_option maxRecDepth 16384
noncomputable section
namespace Cert.Ln
open Idealize.ShloMosaic Idealize.ShloMosaic.TcCoe Idealize.ShloMosaic.Tactic
open Idealize.SL Idealize.SL.Sem
open Cert.Norm

/-- The definition runs to its end, keeps its arguments, and has no semaphores. -/
theorem frame_ref : Cert.quiescent_Reference29Ideal := fun m ρ _ =>
  (θ_run Cert.Reference29Ideal.defs _ _).mono (fun r h => ⟨fun c => (h c).2.2.2.2, sem_eq_zero_of_no_sems (by decide) r.2⟩)
    (Cert.Reference29Ideal.Value.run (F := Ideal) m ρ)

/-- The four gradients are the definition's. -/
theorem algebraic : Cert.algebraic_Kernel29Ideal_Reference29Ideal := by
  intro m g m' g' _ hagree
  refine ⟨_, _, _, _, (θ_run Cert.Kernel29Ideal.defs _ _).mono (fun r h => h) (Cert.Kernel29Ideal.Value.run_blocks (F := Ideal) m g),
    (θ_run Cert.Reference29Ideal.defs _ _).mono
      (fun r h c => ⟨(h c).1.trans ?_, (h c).2.1.trans ?_, (h c).2.2.1.trans ?_, (h c).2.2.2.1.trans ?_, (h c).2.2.2.2⟩)
      (Cert.Reference29Ideal.Value.run (F := Ideal) m' g')⟩
  · rw [Cert.Kernel29Ideal.final5]
    funext y
    obtain ⟨i, j, rfl⟩ : ∃ (i : Fin 4096) (j : Fin 4096), y = ix2 i j := ⟨y 0, y 1, eq_ix2 y⟩
    pointwise [Cert.Reference29Ideal.Value.res_main_v57]
    simp only [(hagree c).1, (hagree c).2.1, (hagree c).2.2.1, (hagree c).2.2.2.1, (hagree c).2.2.2.2, Fin.sum_univ_one,
      Cert.Kernel29Ideal.rowX, Cert.Kernel29Ideal.rowW, grad, ctCentre, ctSquare, spread, centre, row_of]
  · rw [Cert.Kernel29Ideal.final6]
    funext y
    obtain ⟨i, j, rfl⟩ : ∃ (i : Fin 4096) (j : Fin 4096), y = ix2 i j := ⟨y 0, y 1, eq_ix2 y⟩
    pointwise [Cert.Reference29Ideal.Value.res_main_v58]
    simp only [(hagree c).1, (hagree c).2.1, (hagree c).2.2.1, (hagree c).2.2.2.1, (hagree c).2.2.2.2, Fin.sum_univ_one,
      Cert.Kernel29Ideal.rowX, Cert.Kernel29Ideal.rowW, grad, ctCentre, ctSquare, spread, centre, row_of]
  · rw [Cert.Kernel29Ideal.final7]
    funext y
    obtain ⟨j, rfl⟩ : ∃ (j : Fin 4096), y = ix2 0 j := ⟨y 1, (eq_ix2 y).trans (congrArg (fun a : Fin 1 => ix2 a (y 1)) (Subsingleton.elim (α := Fin 1) _ _))⟩
    pointwise []
    simp only [(hagree c).1, (hagree c).2.1, (hagree c).2.2.1, (hagree c).2.2.2.1, (hagree c).2.2.2.2, Cert.Kernel29Ideal.dgAt, Cert.Kernel29Ideal.rowX, scaled, spread, centre, row_of]
  · rw [Cert.Kernel29Ideal.final8]
    funext y
    obtain ⟨j, rfl⟩ : ∃ (j : Fin 4096), y = ix2 0 j := ⟨y 1, (eq_ix2 y).trans (congrArg (fun a : Fin 1 => ix2 a (y 1)) (Subsingleton.elim (α := Fin 1) _ _))⟩
    pointwise []
    simp only [(hagree c).2.2.2.2, Cert.Kernel29Ideal.rowC, row_of]

end Cert.Ln
-- ==== Proof.Softmax.lean ====
module
public import Idealize.ShloMosaic.Lib.IdealHost
@[expose] public section
noncomputable section
namespace Cert.Softmax
open Idealize.ShloMosaic

/-!
# One row of a softmax, and the gradient through it

`s` is the row of scores, `w` the gradient that arrives at the row's weights, `b` what the maximum starts from.
-/

/-- A finite sum of reals. -/
theorem coe_sum {n : ℕ} (f : Fin n → ℝ) : ((∑ j, f j : ℝ) : EReal) = ∑ j, (f j : EReal) :=
  map_sum (⟨⟨Real.toEReal, EReal.coe_zero⟩, EReal.coe_add⟩ : ℝ →+ EReal) f Finset.univ

variable {n : ℕ} (b : EReal) (s w : Fin n → EReal)

/-- The row's maximum. -/
def top : EReal := Finset.fold max b s Finset.univ
/-- The exponential of a score less the maximum, and the sum of them. -/
def wt (j : Fin n) : EReal := Ideal.exp (s j - top b s)
def mass : EReal := ∑ j, wt b s j
/-- What the quotient by the sum takes away from every score's gradient. -/
def pull : EReal := ∑ j, w j * Ideal.div 1 (mass b s * mass b s) * wt b s j
/-- The gradient at a score, the maximum held fixed. -/
def slope (j : Fin n) : EReal := (Ideal.div (w j) (mass b s) + (0 - pull b s w)) * wt b s j
/-- One where the score is the maximum, zero elsewhere. -/
def hit (j : Fin n) : EReal :=
  FloatOps.sitofp (F := Ideal) FTy.f32 (BitVec.setWidth 32 (BitVec.ofBool (decide (s j = top b s))))
/-- The gradient at a score, with the maximum's own gradient shared out over the places that attain it. -/
def full (j : Fin n) : EReal :=
  slope b s w j + Ideal.div (∑ x, (0 - slope b s w x)) (∑ x, hit b s x) * hit b s j

theorem max_top : max b (top b s) = top b s := max_eq_right (Finset.le_fold_max b |>.mpr (Or.inl le_rfl))

theorem le_top (j : Fin n) : s j ≤ top b s := Finset.le_fold_max (s j) |>.mpr (Or.inr ⟨j, Finset.mem_univ j, le_rfl⟩)

/-- An exponential of the row is a real number, not negative, at the infinities too. -/
theorem wt_real (j : Fin n) : ∃ x : ℝ, 0 ≤ x ∧ wt b s j = (x : EReal) := by
  have hle := le_top b s j
  unfold wt
  generalize top b s = M at hle
  generalize s j = y at hle
  induction M with
  | bot =>
    obtain rfl := le_bot_iff.mp hle
    exact ⟨0, le_rfl, by simp⟩
  | top => exact ⟨0, le_rfl, by simp⟩
  | coe M =>
    induction y with
    | bot => exact ⟨0, le_rfl, by simp⟩
    | top => exact absurd hle (by simp)
    | coe y => exact ⟨Real.exp (y - M), (Real.exp_pos _).le, by rw [← EReal.coe_sub, Ideal.exp_coe]⟩

/-- The gradients at the scores add up to zero. -/
theorem slope_sum (hw : ∀ j, ∃ x : ℝ, w j = (x : EReal)) : ∑ x, (0 - slope b s w x) = 0 := by
  choose e he hE using wt_real b s
  choose d hd using hw
  have hm : mass b s = ((∑ j, e j : ℝ) : EReal) := by
    rw [mass, coe_sum]
    exact Finset.sum_congr rfl fun j _ => hE j
  rcases (Finset.sum_nonneg fun j _ => he j).eq_or_lt with h0 | hpos
  · have hz : ∀ j, e j = 0 := fun j => (Finset.sum_eq_zero_iff_of_nonneg fun j _ => he j).mp h0.symm j (Finset.mem_univ j)
    refine Finset.sum_eq_zero fun j _ => ?_
    rw [slope, hE, hz, EReal.coe_zero, mul_zero, sub_zero]
  · set L : ℝ := ∑ j, e j with hL
    have hp : pull b s w = ((∑ j, d j * (1 / (L * L)) * e j : ℝ) : EReal) := by
      rw [pull, coe_sum]
      refine Finset.sum_congr rfl fun j _ => ?_
      rw [hm, hE, hd, ← EReal.coe_mul, Ideal.div_coe (mul_pos hpos hpos).ne', one_mul, ← EReal.coe_mul, ← EReal.coe_mul]
    have hs : ∀ j, 0 - slope b s w j = ((-((d j * (1 / L) + -∑ k, d k * (1 / (L * L)) * e k) * e j) : ℝ) : EReal) := fun j => by
      rw [zero_sub, slope, hm, hp, hE, hd, Ideal.div_coe hpos.ne', zero_sub, ← EReal.coe_mul, ← EReal.coe_neg, ← EReal.coe_add, ← EReal.coe_mul,
        ← EReal.coe_neg]
    simp only [hs]
    rw [← coe_sum, ← EReal.coe_zero]
    congr 1
    have h1 : ∑ k, d k * (1 / (L * L)) * e k = (∑ k, d k * e k) / (L * L) := by
      rw [Finset.sum_div]
      exact Finset.sum_congr rfl fun k _ => by ring
    have h2 : ∀ j, -((d j * (1 / L) + -∑ k, d k * (1 / (L * L)) * e k) * e j) = -(d j * e j) / L + (∑ k, d k * e k) / (L * L) * e j := fun j => by
      rw [h1]
      ring
    simp only [h2]
    rw [Finset.sum_add_distrib, ← Finset.sum_div, Finset.sum_neg_distrib, ← Finset.mul_sum, ← hL]
    field_simp
    ring

theorem hit_nonneg (j : Fin n) : 0 ≤ hit b s j := by
  unfold hit
  by_cases h : s j = top b s
  · rw [decide_eq_true h]
    exact EReal.coe_nonneg.mpr (by simp)
  · rw [decide_eq_false h]
    exact EReal.coe_nonneg.mpr (by simp)

/-- The maximum's own gradient is zero: it leaves the gradient at a score as it was. -/
theorem full_eq (hw : ∀ j, ∃ x : ℝ, w j = (x : EReal)) (j : Fin n) : full b s w j = slope b s w j := by
  rw [full, slope_sum b s w hw]
  unfold Ideal.div
  split_ifs with h0 h1
  · exact absurd h1 (lt_irrefl _)
  · have hz := (Finset.sum_eq_zero_iff_of_nonneg fun x _ => hit_nonneg b s x).mp h0 j (Finset.mem_univ j)
    rw [hz, mul_zero, add_zero]
  · rw [zero_mul, zero_mul, add_zero]

end Cert.Softmax
-- ==== Proof.Attn.Head.lean ====
module
public import proofs.«01_k».proof.Proof.Softmax

/-!
# One row of the memory attention, head by head

`q` and `g` are one row of the queries and of the cotangent, `k` and `v` the rows of the memory's keys and values; head `h`
is the 1024 columns from `1024 h` on.
-/

@[expose] public section
noncomputable section
namespace Cert.Attention
open Idealize.ShloMosaic Cert.Softmax

/-- What the maximum starts from, and the factor of the scores. -/
abbrev kb : EReal := Ideal.ofBits FTy.f32 4286578688#32
abbrev ks : EReal := Ideal.ofBits FTy.f32 1023410176#32

/-- A head's column, and the head that a column is in. -/
abbrev col (h : Fin 4) (x : Fin 1024) : Fin 4096 := ⟨h.val * 1024 + x.val, by omega⟩
abbrev headOf (l : Fin 4096) : Fin 4 := ⟨l.val / 1024, by omega⟩

variable (q g : Fin 4096 → EReal) (k v : Fin 256 → Fin 4096 → EReal) (h : Fin 4)

/-- The scores of a head, and the gradient that arrives at its weights. -/
def score (j : Fin 256) : EReal := (∑ x, q (col h x) * k j (col h x)) * ks
def arrive (j : Fin 256) : EReal := ∑ x, g (col h x) * v j (col h x)
/-- The weights of a head. -/
def weight (j : Fin 256) : EReal := Ideal.div (wt kb (score q k h) j) (mass kb (score q k h))
/-- The gradient at the product of a query and a key, with the maximum's own gradient and without. -/
def cell (j : Fin 256) : EReal := full kb (score q k h) (arrive g v h) j * ks
def plain (j : Fin 256) : EReal := slope kb (score q k h) (arrive g v h) j * ks

/-- Finite sums of products of reals are real. -/
theorem arrive_real (hg : ∀ x, ∃ y : ℝ, g x = (y : EReal)) (hv : ∀ j x, ∃ y : ℝ, v j x = (y : EReal)) (j : Fin 256) :
    ∃ y : ℝ, arrive g v h j = (y : EReal) := by
  choose d hd using hg
  choose e he using hv
  refine ⟨∑ x, d (col h x) * e j (col h x), ?_⟩
  rw [coe_sum, arrive]
  exact Finset.sum_congr rfl fun x _ => by rw [hd, he, EReal.coe_mul]

theorem cell_eq (hg : ∀ x, ∃ y : ℝ, g x = (y : EReal)) (hv : ∀ j x, ∃ y : ℝ, v j x = (y : EReal)) (j : Fin 256) :
    cell q g k v h j = plain q g k v h j := by
  rw [cell, plain, full_eq _ _ _ (arrive_real g v h hg hv)]

theorem headOf_eq {l : Fin 4096} (n : ℕ) (hn : n < 4) (e : l.val / 1024 = n) : headOf l = ⟨n, hn⟩ := Fin.ext e

/-- A column is in one of the four heads. -/
theorem four (l : Fin 4096) : (l.val < 1024 ∧ headOf l = 0) ∨ (1024 ≤ l.val ∧ l.val < 2048 ∧ headOf l = 1) ∨
    (2048 ≤ l.val ∧ l.val < 3072 ∧ headOf l = 2) ∨ (3072 ≤ l.val ∧ headOf l = 3) := by
  rcases lt_or_ge l.val 1024 with h | h
  · exact Or.inl ⟨h, headOf_eq 0 (by omega) (by omega)⟩
  rcases lt_or_ge l.val 2048 with h2 | h2
  · exact Or.inr (Or.inl ⟨h, h2, headOf_eq 1 (by omega) (by omega)⟩)
  rcases lt_or_ge l.val 3072 with h3 | h3
  · exact Or.inr (Or.inr (Or.inl ⟨h2, h3, headOf_eq 2 (by omega) (by omega)⟩))
  · exact Or.inr (Or.inr (Or.inr ⟨h3, headOf_eq 3 (by omega) (by omega)⟩))

/-- A column found again from its place in its head. -/
theorem back (n : ℕ) (l : Fin 4096) (h : n ≤ l.val) (p : n + (l.val - n) < 4096) : (⟨n + (l.val - n), p⟩ : Fin 4096) = l :=
  Fin.ext (by dsimp only; omega)

end Cert.Attention
-- ==== Proof.Attn.Points.lean ====
module
public import proofs.«01_k».proof.Proof.Attn.Head
public import proofs.«01_k».proof.Proof.Norm
public import proofs.«01_k».proof.Proof.Gen.Kernel30Ideal.Value
public import Idealize.ShloMosaic.PureOps.Ideal
public import Idealize.ShloMosaic.Lib.Pipeline.ValueKit
public import Idealize.ShloMosaic.Lib.Pipeline.ReadBack
public import Idealize.ShloMosaic.Lib.Pointwise

/-!
# The memory attention's gradients, block by block

Point `t` works on rows `128 t` and on of the queries, against all 256 rows of the memory. The four heads are unrolled.
-/

@[expose] public section
set_option maxRecDepth 16384
noncomputable section
namespace Cert.Kernel30Ideal
open Idealize.ShloMosaic Idealize.ShloMosaic.TcCoe Idealize.ShloMosaic.Tactic
open Idealize.SL Idealize.SL.Sem
open Gen Cert.Norm Cert.Softmax Cert.Attention

variable (q ct : S128x4096.Idx → EReal) (k v : S256x4096.Idx → EReal) (r : Fin 128)

/-- A row of the block's queries or cotangent, and the memory's rows. -/
abbrev line (a : S128x4096.Idx → EReal) (r : Fin 128) : Fin 4096 → EReal := fun x => a (ix2 r x)
abbrev lines (a : S256x4096.Idx → EReal) : Fin 256 → Fin 4096 → EReal := fun j x => a (ix2 j x)

theorem score0 (j : Fin 256) : k0_pay5 (F := Ideal) q k (ix2 r j) = score (line q r) (lines k) 0 j := by
  pointwise [k0_pay5, k0_pay3, k0_pay4]
  simp only [score, col, Fin.val_zero, Nat.zero_mul, Nat.zero_add]
theorem score1 (j : Fin 256) : k0_pay16 (F := Ideal) q k (ix2 r j) = score (line q r) (lines k) 1 j := by
  pointwise [k0_pay16, k0_pay14, k0_pay15]
  rfl
theorem score2 (j : Fin 256) : k0_pay28 (F := Ideal) q k (ix2 r j) = score (line q r) (lines k) 2 j := by
  pointwise [k0_pay28, k0_pay26, k0_pay27]
  rfl
theorem score3 (j : Fin 256) :
    k0_pay39 (F := Ideal) (k0_pay37 q) (k0_pay38 k) (constant S128x256 FTy.f32 0#32) (ix2 r j) = score (line q r) (lines k) 3 j := by
  pointwise [k0_pay39, k0_pay37, k0_pay38]
  rfl

theorem arrive0 (j : Fin 256) : k0_pay69 (F := Ideal) (k0_pay13 v) (k0_pay45 ct) (ix2 r j) = arrive (line ct r) (lines v) 0 j := by
  pointwise [k0_pay69, k0_pay13, k0_pay45]
  simp only [arrive, col, Fin.val_zero, Nat.zero_mul, Nat.zero_add]
theorem arrive1 (j : Fin 256) : k0_pay63 (F := Ideal) (k0_pay25 v) (k0_pay46 ct) (ix2 r j) = arrive (line ct r) (lines v) 1 j := by
  pointwise [k0_pay63, k0_pay25, k0_pay46]
  rfl
theorem arrive2 (j : Fin 256) : k0_pay56 (F := Ideal) (k0_pay36 v) (k0_pay47 ct) (ix2 r j) = arrive (line ct r) (lines v) 2 j := by
  pointwise [k0_pay56, k0_pay36, k0_pay47]
  rfl
theorem arrive3 (j : Fin 256) : k0_pay49 (F := Ideal) ct v (ix2 r j) = arrive (line ct r) (lines v) 3 j := by
  pointwise [k0_pay49, k0_pay48]
  rfl

theorem cell0 (j : Fin 256) :
    k0_pay72 (F := Ideal) (k0_pay7 q k) (k0_pay8 q k) (k0_pay9 q k) (k0_pay10 q k) (k0_pay11 q k) (k0_pay69 (k0_pay13 v) (k0_pay45 ct)) (ix2 r j)
      = cell (line q r) (line ct r) (lines k) (lines v) 0 j := by
  pointwise [k0_pay72, k0_pay7, k0_pay8, k0_pay9, k0_pay10, k0_pay11, k0_pay6]
  simp only [score0, arrive0, Fin.sum_univ_one]
  rfl
theorem cell1 (j : Fin 256) :
    k0_pay66 (F := Ideal) (k0_pay19 (k0_pay16 q k) (k0_pay18 q k)) (k0_pay20 (k0_pay16 q k) (k0_pay18 q k))
      (k0_pay21 (k0_pay16 q k) (k0_pay17 q k)) (k0_pay22 (k0_pay16 q k) (k0_pay17 q k)) (k0_pay63 (k0_pay25 v) (k0_pay46 ct))
      (k0_pay65 (k0_pay21 (k0_pay16 q k) (k0_pay17 q k)) (k0_pay23 (k0_pay16 q k) (k0_pay17 q k)) (k0_pay25 v) (k0_pay46 ct)) (ix2 r j)
      = cell (line q r) (line ct r) (lines k) (lines v) 1 j := by
  pointwise [k0_pay66, k0_pay19, k0_pay20, k0_pay21, k0_pay22, k0_pay65, k0_pay23, k0_pay18, k0_pay17]
  simp only [score1, arrive1, Fin.sum_univ_one]
  rfl
theorem cell2 (j : Fin 256) :
    k0_pay60 (F := Ideal) (k0_pay30 q k) (k0_pay31 q k) (k0_pay32 q k) (k0_pay58 (k0_pay33 q k) (k0_pay36 v) (k0_pay47 ct))
      (k0_pay59 (k0_pay32 q k) (k0_pay34 q k) (k0_pay36 v) (k0_pay47 ct)) (ix2 r j)
      = cell (line q r) (line ct r) (lines k) (lines v) 2 j := by
  pointwise [k0_pay60, k0_pay30, k0_pay31, k0_pay32, k0_pay58, k0_pay59, k0_pay33, k0_pay34, k0_pay29]
  simp only [score2, arrive2, Fin.sum_univ_one]
  rfl
theorem cell3 (j : Fin 256) :
    k0_pay53 (F := Ideal) (k0_pay41 (k0_pay37 q) (k0_pay38 k) (constant S128x256 FTy.f32 0#32))
      (k0_pay42 (k0_pay37 q) (k0_pay38 k) (constant S128x256 FTy.f32 0#32)) (k0_pay43 (k0_pay37 q) (k0_pay38 k) (constant S128x256 FTy.f32 0#32))
      (k0_pay51 ct v (k0_pay37 q) (k0_pay38 k) (constant S128x256 FTy.f32 0#32))
      (k0_pay52 ct v (k0_pay37 q) (k0_pay38 k) (constant S128x256 FTy.f32 0#32)) (ix2 r j)
      = cell (line q r) (line ct r) (lines k) (lines v) 3 j := by
  pointwise [k0_pay53, k0_pay41, k0_pay42, k0_pay43, k0_pay51, k0_pay52, k0_pay44, k0_pay40]
  simp only [score3, arrive3, Fin.sum_univ_one]
  rfl

theorem weight0 (j : Fin 256) : k0_pay12 (F := Ideal) q k (ix2 r j) = weight (line q r) (lines k) 0 j := by
  pointwise [k0_pay12, k0_pay9, k0_pay10, k0_pay6]
  simp only [score0]
  rfl
theorem weight1 (j : Fin 256) : k0_pay24 (F := Ideal) (k0_pay16 q k) (k0_pay17 q k) (ix2 r j) = weight (line q r) (lines k) 1 j := by
  pointwise [k0_pay24, k0_pay21, k0_pay22, k0_pay17]
  simp only [score1]
  rfl
theorem weight2 (j : Fin 256) : k0_pay35 (F := Ideal) q k (ix2 r j) = weight (line q r) (lines k) 2 j := by
  pointwise [k0_pay35, k0_pay32, k0_pay33, k0_pay29]
  simp only [score2]
  rfl
theorem weight3 (j : Fin 256) :
    Ideal.div (k0_pay43 (F := Ideal) (k0_pay37 q) (k0_pay38 k) (constant S128x256 FTy.f32 0#32) (ix2 r j))
      (k0_pay44 (F := Ideal) (k0_pay37 q) (k0_pay38 k) (constant S128x256 FTy.f32 0#32) (ix2 r 0)) = weight (line q r) (lines k) 3 j := by
  pointwise [k0_pay43, k0_pay44, k0_pay40]
  simp only [score3]
  rfl

end Cert.Kernel30Ideal
-- ==== Proof.Attn.Sums.lean ====
module
public import proofs.«01_k».proof.Proof.Attn.Points

/-!
# The memory attention's gradients: one block's results

Every head's part is written into its own 1024 columns of a wider array of zeros, and the four arrays are added.
-/

@[expose] public section
set_option maxRecDepth 16384
noncomputable section
namespace Cert.Kernel30Ideal
open Idealize.ShloMosaic Idealize.ShloMosaic.TcCoe Idealize.ShloMosaic.Tactic
open Idealize.SL Idealize.SL.Sem
open Gen Cert.Norm Cert.Softmax Cert.Attention

variable (q ct : S128x4096.Idx → EReal) (k v : S256x4096.Idx → EReal)

/-- The gradient of the block's queries. -/
theorem dq (r : Fin 128) (l : Fin 4096) :
    k0_pay74 (F := Ideal) (k0_pay4 k) (k0_pay7 q k) (k0_pay8 q k) (k0_pay9 q k) (k0_pay10 q k) (k0_pay11 q k)
      (k0_pay68 (k0_pay15 k) (k0_pay19 (k0_pay16 q k) (k0_pay18 q k)) (k0_pay20 (k0_pay16 q k) (k0_pay18 q k))
        (k0_pay21 (k0_pay16 q k) (k0_pay17 q k)) (k0_pay22 (k0_pay16 q k) (k0_pay17 q k))
        (k0_pay62 (k0_pay27 k) (k0_pay30 q k) (k0_pay31 q k) (k0_pay32 q k)
          (k0_pay55 (k0_pay38 k) (k0_pay41 (k0_pay37 q) (k0_pay38 k) (constant S128x256 FTy.f32 0#32))
            (k0_pay42 (k0_pay37 q) (k0_pay38 k) (constant S128x256 FTy.f32 0#32)) (k0_pay43 (k0_pay37 q) (k0_pay38 k) (constant S128x256 FTy.f32 0#32))
            (k0_pay51 ct v (k0_pay37 q) (k0_pay38 k) (constant S128x256 FTy.f32 0#32))
            (k0_pay52 ct v (k0_pay37 q) (k0_pay38 k) (constant S128x256 FTy.f32 0#32)))
          (k0_pay58 (k0_pay33 q k) (k0_pay36 v) (k0_pay47 ct)) (k0_pay59 (k0_pay32 q k) (k0_pay34 q k) (k0_pay36 v) (k0_pay47 ct)))
        (k0_pay63 (k0_pay25 v) (k0_pay46 ct))
        (k0_pay65 (k0_pay21 (k0_pay16 q k) (k0_pay17 q k)) (k0_pay23 (k0_pay16 q k) (k0_pay17 q k)) (k0_pay25 v) (k0_pay46 ct)))
      (k0_pay69 (k0_pay13 v) (k0_pay45 ct)) (ix2 r l)
      = ∑ j, cell (line q r) (line ct r) (lines k) (lines v) (headOf l) j * k (ix2 j l) := by
  pointwise [k0_pay74, k0_pay68, k0_pay62, k0_pay55]
  simp only [cell0, cell1, cell2, cell3]
  rcases four l with ⟨h, e⟩ | ⟨h, h', e⟩ | ⟨h, h', e⟩ | ⟨h, e⟩
  · rw [e, dif_pos (by omega), dif_pos (by omega), dif_pos (by omega), dif_pos (by omega), dif_pos (by omega), dif_pos (by omega)]
    pointwise [k0_pay4]
  · rw [e, dif_pos (by omega), dif_pos (by omega), dif_pos (by omega), dif_pos (by omega), dif_neg (by omega), dif_neg (by omega)]
    pointwise [k0_pay15]
    simp only [back _ l h]
  · rw [e, dif_pos (by omega), dif_pos (by omega), dif_neg (by omega), dif_neg (by omega), dif_neg (by omega)]
    pointwise [k0_pay27]
    simp only [back _ l h]
  · rw [e, dif_neg (by omega), dif_neg (by omega), dif_neg (by omega), dif_neg (by omega)]
    pointwise [k0_pay38]
    simp only [back _ l h]

/-- The block's part of the keys' gradient. -/
theorem dk (a : Fin 256) (l : Fin 4096) :
    k0_pay73 (F := Ideal) (k0_pay3 q) (k0_pay7 q k) (k0_pay8 q k) (k0_pay9 q k) (k0_pay10 q k) (k0_pay11 q k)
      (k0_pay67 (k0_pay14 q) (k0_pay19 (k0_pay16 q k) (k0_pay18 q k)) (k0_pay20 (k0_pay16 q k) (k0_pay18 q k))
        (k0_pay21 (k0_pay16 q k) (k0_pay17 q k)) (k0_pay22 (k0_pay16 q k) (k0_pay17 q k))
        (k0_pay61 (k0_pay26 q) (k0_pay30 q k) (k0_pay31 q k) (k0_pay32 q k)
          (k0_pay54 (k0_pay37 q) (k0_pay41 (k0_pay37 q) (k0_pay38 k) (constant S128x256 FTy.f32 0#32))
            (k0_pay42 (k0_pay37 q) (k0_pay38 k) (constant S128x256 FTy.f32 0#32)) (k0_pay43 (k0_pay37 q) (k0_pay38 k) (constant S128x256 FTy.f32 0#32))
            (k0_pay51 ct v (k0_pay37 q) (k0_pay38 k) (constant S128x256 FTy.f32 0#32))
            (k0_pay52 ct v (k0_pay37 q) (k0_pay38 k) (constant S128x256 FTy.f32 0#32)))
          (k0_pay58 (k0_pay33 q k) (k0_pay36 v) (k0_pay47 ct)) (k0_pay59 (k0_pay32 q k) (k0_pay34 q k) (k0_pay36 v) (k0_pay47 ct)))
        (k0_pay63 (k0_pay25 v) (k0_pay46 ct))
        (k0_pay65 (k0_pay21 (k0_pay16 q k) (k0_pay17 q k)) (k0_pay23 (k0_pay16 q k) (k0_pay17 q k)) (k0_pay25 v) (k0_pay46 ct)))
      (k0_pay69 (k0_pay13 v) (k0_pay45 ct)) (ix2 a l)
      = ∑ r, cell (line q r) (line ct r) (lines k) (lines v) (headOf l) a * q (ix2 r l) := by
  pointwise [k0_pay73, k0_pay67, k0_pay61, k0_pay54]
  simp only [cell0, cell1, cell2, cell3]
  rcases four l with ⟨h, e⟩ | ⟨h, h', e⟩ | ⟨h, h', e⟩ | ⟨h, e⟩
  · rw [e, dif_pos (by omega), dif_pos (by omega), dif_pos (by omega), dif_pos (by omega), dif_pos (by omega), dif_pos (by omega)]
    pointwise [k0_pay3]
  · rw [e, dif_pos (by omega), dif_pos (by omega), dif_pos (by omega), dif_pos (by omega), dif_neg (by omega), dif_neg (by omega)]
    pointwise [k0_pay14]
    simp only [back _ l h]
  · rw [e, dif_pos (by omega), dif_pos (by omega), dif_neg (by omega), dif_neg (by omega), dif_neg (by omega)]
    pointwise [k0_pay26]
    simp only [back _ l h]
  · rw [e, dif_neg (by omega), dif_neg (by omega), dif_neg (by omega), dif_neg (by omega)]
    pointwise [k0_pay37]
    simp only [back _ l h]

/-- The block's part of the values' gradient. -/
theorem dv (a : Fin 256) (l : Fin 4096) :
    k0_pay71 (F := Ideal)
      (k0_pay64 (k0_pay24 (k0_pay16 q k) (k0_pay17 q k)) (k0_pay46 ct)
        (k0_pay57 (k0_pay35 q k) (k0_pay47 ct) (k0_pay50 ct (k0_pay37 q) (k0_pay38 k) (constant S128x256 FTy.f32 0#32))))
      (k0_pay70 (k0_pay12 q k) (k0_pay45 ct)) (ix2 a l)
      = ∑ r, ct (ix2 r l) * weight (line q r) (lines k) (headOf l) a := by
  pointwise [k0_pay71, k0_pay64, k0_pay57, k0_pay50, k0_pay70]
  simp only [weight0, weight1, weight2, weight3]
  rcases four l with ⟨h, e⟩ | ⟨h, h', e⟩ | ⟨h, h', e⟩ | ⟨h, e⟩
  · rw [e, dif_pos (by omega), dif_pos (by omega), dif_pos (by omega), dif_pos (by omega), dif_pos (by omega), dif_pos (by omega)]
    pointwise [k0_pay45]
  · rw [e, dif_pos (by omega), dif_pos (by omega), dif_pos (by omega), dif_pos (by omega), dif_neg (by omega), dif_neg (by omega)]
    pointwise [k0_pay46]
    simp only [back _ l h]
  · rw [e, dif_pos (by omega), dif_pos (by omega), dif_neg (by omega), dif_neg (by omega), dif_neg (by omega)]
    pointwise [k0_pay47]
    simp only [back _ l h]
  · rw [e, dif_neg (by omega), dif_neg (by omega), dif_neg (by omega), dif_neg (by omega)]
    pointwise [k0_pay48]
    simp only [back _ l h]

end Cert.Kernel30Ideal
-- ==== Proof.Attn.Arrays.lean ====
module
public import proofs.«01_k».proof.Proof.Attn.Sums

/-!
# The memory attention's gradients: the arrays
-/

@[expose] public section
set_option maxRecDepth 16384
noncomputable section
namespace Cert.Kernel30Ideal
open Idealize.ShloMosaic Idealize.ShloMosaic.TcCoe Idealize.ShloMosaic.Tactic
open Idealize.SL Idealize.SL.Sem
variable (m : (ℓ : Loc nD τ sig) → Buf (Elt Ideal) ℓ)
open Gen Cert.Norm Cert.Softmax Cert.Attention

theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = 0 ∧ win0_3.index t 1 = 0 := by decide +kernel
theorem idx4 : ∀ t : Fin cfg0.N, win0_4.index t 0 = t.val ∧ win0_4.index t 1 = 0 := by decide +kernel

/-- Row `i` of the queries and of the cotangent; the keys and the values. -/
abbrev rowQ (c : Dev nD) (i : ℕ) : Fin 4096 → EReal := row (n := 4096) (M := 4096) (m ((c : Thread nD τ).loc main_arg0)) i
abbrev rowG (c : Dev nD) (i : ℕ) : Fin 4096 → EReal := row (n := 4096) (M := 4096) (m ((c : Thread nD τ).loc main_arg3)) i
abbrev keys (c : Dev nD) : Fin 256 → Fin 4096 → EReal := lines (m ((c : Thread nD τ).loc main_arg1))
abbrev vals (c : Dev nD) : Fin 256 → Fin 4096 → EReal := lines (m ((c : Thread nD τ).loc main_arg2))

theorem blk0 (c : Dev nD) (t : Fin cfg0.N) (r : Fin 128) : line (iblk m c 0 t) r = rowQ m c (t.val * 128 + r.val) := by
  have ht : t.val < 32 := t.isLt
  funext k
  refine Eq.trans ?_ (row_at _ (by omega) k).symm
  show iblk m c 0 t (ix2 r k) = _
  blk_ext [iblk, V, idx0 t]

theorem blk1 (c : Dev nD) (t : Fin cfg0.N) (r : Fin 128) : line (iblk m c 1 t) r = rowG m c (t.val * 128 + r.val) := by
  have ht : t.val < 32 := t.isLt
  funext k
  refine Eq.trans ?_ (row_at _ (by omega) k).symm
  show iblk m c 1 t (ix2 r k) = _
  blk_ext [iblk, V, idx1 t]

theorem blk2 (c : Dev nD) (t : Fin cfg0.N) : lines (iblk m c 2 t) = keys m c := by
  funext j x
  show iblk m c 2 t (ix2 j x) = m ((c : Thread nD τ).loc main_arg1) (ix2 j x)
  blk_ext [iblk, V, idx2 t]

theorem blk3 (c : Dev nD) (t : Fin cfg0.N) : lines (iblk m c 3 t) = vals m c := by
  funext j x
  show iblk m c 3 t (ix2 j x) = m ((c : Thread nD τ).loc main_arg2) (ix2 j x)
  blk_ext [iblk, V, idx3 t]

/-- One row's gradient of its query, and its parts of the keys' and the values' gradients. -/
abbrev dqAt (c : Dev nD) (i : ℕ) (l : Fin 4096) : EReal :=
  ∑ j, cell (rowQ m c i) (rowG m c i) (keys m c) (vals m c) (headOf l) j * keys m c j l
abbrev dkAt (c : Dev nD) (a : Fin 256) (l : Fin 4096) (i : ℕ) : EReal :=
  cell (rowQ m c i) (rowG m c i) (keys m c) (vals m c) (headOf l) a * rowQ m c i l
abbrev dvAt (c : Dev nD) (a : Fin 256) (l : Fin 4096) (i : ℕ) : EReal :=
  rowG m c i l * weight (rowQ m c i) (keys m c) (headOf l) a

theorem dq_blk (c : Dev nD) (t : Fin cfg0.N) (r : Fin 128) (l : Fin 4096) :
    ∑ j, cell (line (iblk m c 0 t) r) (line (iblk m c 1 t) r) (lines (iblk m c 2 t)) (lines (iblk m c 3 t)) (headOf l) j * lines (iblk m c 2 t) j l
      = dqAt m c (t.val * 128 + r.val) l := by
  rw [blk0, blk1, blk2, blk3]

theorem dk_blk (c : Dev nD) (t : Fin cfg0.N) (a : Fin 256) (l : Fin 4096) :
    ∑ r, cell (line (iblk m c 0 t) r) (line (iblk m c 1 t) r) (lines (iblk m c 2 t)) (lines (iblk m c 3 t)) (headOf l) a * line (iblk m c 0 t) r l
      = ∑ r : Fin 128, dkAt m c a l (t.val * 128 + r.val) :=
  Finset.sum_congr rfl fun r _ => by rw [blk0, blk1, blk2, blk3]

theorem dv_blk (c : Dev nD) (t : Fin cfg0.N) (a : Fin 256) (l : Fin 4096) :
    ∑ r, line (iblk m c 1 t) r l * weight (line (iblk m c 0 t) r) (lines (iblk m c 2 t)) (headOf l) a
      = ∑ r : Fin 128, dvAt m c a l (t.val * 128 + r.val) :=
  Finset.sum_congr rfl fun r _ => by rw [blk0, blk1, blk2]

/-- The queries' gradient. -/
theorem final4 (c : Dev nD) : (dats m 0 c).arrAt 4 cfg0.N = fun i : S4096x4096.Idx => dqAt m c (i 0).val (i 1) := by
  refine (dats m 0 c).arrAt_eq_of_covers 4 _ (by decide +kernel) fun t hf y => ?_
  obtain ⟨r, l, rfl⟩ : ∃ (r : Fin 128) (l : Fin 4096), y = ix2 r l := ⟨y 0, y 1, eq_ix2 y⟩
  blk_simp
  rw [after0_4]
  have e : (outsAt0 m c t.val t.isLt).1 (ix2 r l) = dqAt m c (t.val * 128 + r.val) l := by
    by_cases h : t.val = 0
    · rw [outsAt0_A m c t (by omega) (by omega) (by omega) (by omega)]
      frame_out
      exact (dq _ _ _ _ r l).trans (dq_blk m c t r l)
    · have ht : t.val < 32 := t.isLt
      rw [outsAt0_B m c t (by omega) (by omega) (by omega) (by omega)]
      frame_out
      exact (dq _ _ _ _ r l).trans (dq_blk m c t r l)
  rw [e]
  refine congrArg₂ (fun (i : ℕ) (l : Fin 4096) => dqAt m c i l) ?_ (Fin.ext ?_) <;> blk_simp [idx4 t] <;> omega

/-- The keys' gradient after point `t`. -/
theorem dk_upto (c : Dev nD) (a : Fin 256) (l : Fin 4096) : ∀ (t : ℕ) (h : t < cfg0.N),
    (outsAt0 m c t h).2.1 (ix2 a l) = ∑ s ∈ Finset.range (t + 1), ∑ r : Fin 128, dkAt m c a l (s * 128 + r.val) := by
  refine upto (fun t h => (outsAt0 m c t h).2.1 (ix2 a l)) _ (fun h => ?_) fun t h => ?_
  · show (outsAt0 m c (⟨0, h⟩ : Fin cfg0.N).val _).2.1 (ix2 a l) = _
    rw [outsAt0_A m c ⟨0, h⟩ (by simp) (by simp) (by simp) (by simp)]
    frame_out
    exact (dk _ _ _ _ a l).trans (dk_blk m c ⟨0, h⟩ a l)
  · show (outsAt0 m c (⟨t + 1, h⟩ : Fin cfg0.N).val _).2.1 (ix2 a l) = _
    have ht : t + 1 < 32 := h
    rw [outsAt0_B m c ⟨t + 1, h⟩ (by dsimp only; omega) (by simp) (by dsimp only; omega) (by simp)]
    frame_out
    pointwise [k0_pay1]
    exact congrArg₂ (fun x y : EReal => x + y) rfl ((dk _ _ _ _ a l).trans (dk_blk m c ⟨t + 1, h⟩ a l))

/-- The values' gradient after point `t`. -/
theorem dv_upto (c : Dev nD) (a : Fin 256) (l : Fin 4096) : ∀ (t : ℕ) (h : t < cfg0.N),
    (outsAt0 m c t h).2.2 (ix2 a l) = ∑ s ∈ Finset.range (t + 1), ∑ r : Fin 128, dvAt m c a l (s * 128 + r.val) := by
  refine upto (fun t h => (outsAt0 m c t h).2.2 (ix2 a l)) _ (fun h => ?_) fun t h => ?_
  · show (outsAt0 m c (⟨0, h⟩ : Fin cfg0.N).val _).2.2 (ix2 a l) = _
    rw [outsAt0_A m c ⟨0, h⟩ (by simp) (by simp) (by simp) (by simp)]
    frame_out
    exact (dv _ _ _ a l).trans (dv_blk m c ⟨0, h⟩ a l)
  · show (outsAt0 m c (⟨t + 1, h⟩ : Fin cfg0.N).val _).2.2 (ix2 a l) = _
    have ht : t + 1 < 32 := h
    rw [outsAt0_B m c ⟨t + 1, h⟩ (by dsimp only; omega) (by simp) (by dsimp only; omega) (by simp)]
    frame_out
    pointwise [k0_pay2]
    exact congrArg₂ (fun x y : EReal => x + y) rfl ((dv _ _ _ a l).trans (dv_blk m c ⟨t + 1, h⟩ a l))

/-- The last point is the one that writes the two summed results back. -/
theorem last_point : ∃ t : Fin cfg0.N, t.val = 31 ∧ (cfg0.win 5).WholeAt t ∧ (cfg0.win 6).WholeAt t :=
  ⟨⟨31, by decide⟩, rfl, by decide +kernel, by decide +kernel⟩

/-- The keys' gradient, summed over all rows of the queries. -/
theorem final5 (c : Dev nD) : (dats m 0 c).arrAt 5 cfg0.N = fun i : S256x4096.Idx => ∑ x : Fin 4096, dkAt m c (i 0) (i 1) x.val := by
  obtain ⟨t, ht, h5, -⟩ := last_point
  refine (dats m 0 c).arrAt_eq_of_after_last 5 t h5 _ fun j => ?_
  blk_simp
  rw [after0_5]
  obtain ⟨a, l, rfl⟩ : ∃ (a : Fin 256) (l : Fin 4096), j = ix2 a l := ⟨j 0, j 1, eq_ix2 j⟩
  refine (dk_upto m c a l t.val t.isLt).trans ?_
  rw [ht]
  exact sum_rows 32 128 4096 rfl (dkAt m c a l)

/-- The values' gradient, summed over all rows of the queries. -/
theorem final6 (c : Dev nD) : (dats m 0 c).arrAt 6 cfg0.N = fun i : S256x4096.Idx => ∑ x : Fin 4096, dvAt m c (i 0) (i 1) x.val := by
  obtain ⟨t, ht, -, h6⟩ := last_point
  refine (dats m 0 c).arrAt_eq_of_after_last 6 t h6 _ fun j => ?_
  blk_simp
  rw [after0_6]
  obtain ⟨a, l, rfl⟩ : ∃ (a : Fin 256) (l : Fin 4096), j = ix2 a l := ⟨j 0, j 1, eq_ix2 j⟩
  refine (dv_upto m c a l t.val t.isLt).trans ?_
  rw [ht]
  exact sum_rows 32 128 4096 rfl (dvAt m c a l)

end Cert.Kernel30Ideal
-- ==== Proof.Attn.Stages.lean ====
module
public import proofs.«01_k».proof.Proof.Attn.Head
public import proofs.«01_k».proof.Proof.Gen.Reference30Ideal.Run
public import Idealize.ShloMosaic.PureOps.Ideal
public import Idealize.ShloMosaic.Lib.Pointwise

/-!
# The definition's gradients, stage by stage

Scores, their exponentials, the sums, the weights, and the gradient at the scores, each over heads, rows and the memory.
-/

@[expose] public section
set_option maxRecDepth 16384
noncomputable section
namespace Cert.Reference30Ideal
open Idealize.ShloMosaic Idealize.ShloMosaic.TcCoe Idealize.ShloMosaic.Tactic Idealize.ShloMosaic.StableHlo
open Idealize.SL Idealize.SL.Sem
open Gen Cert.Softmax Cert.Attention

variable (q g : FVec Ideal S4096x4096 .f32) (k v : FVec Ideal S256x4096 .f32)

def scores : FVec Ideal S4x4096x256 .f32 :=
  mulf (Host.dotGeneral dot_S4096x4x1024_S256x4x1024_S4x4096x256_2_2_0_0_1_1 none (shapeCast _ q shapeCasts_S4096x4096_S4096x4x1024)
    (shapeCast _ k shapeCasts_S256x4096_S256x4x1024)) (broadcastInDim S4x4096x256 ![] bcast_S_S4x4096x256 (constant S_ .f32 0x3D000000#32))
def tops : FVec Ideal S4x4096 .f32 :=
  Host.reduce FloatOps.maximumf (scores q k) (constant S_ .f32 0xFF800000#32) reducesTo_S4x4096x256_S4x4096_d2 h_S_
def bounded : FVec Ideal S4x4096 .f32 :=
  maximumf (broadcastInDim S4x4096 ![] bcast_S_S4x4096 (constant S_ .f32 0xFF800000#32)) (tops q k)
def spread : FVec Ideal S4x4096x256 .f32 :=
  broadcastInDim S4x4096x256 ![0, 1, 2] bcast_S4x4096x1_S4x4096x256_0_1_2 (broadcastInDim S4x4096x1 ![0, 1] bcast_S4x4096_S4x4096x1_0_1 (bounded q k))
def exps : FVec Ideal S4x4096x256 .f32 := Host.exp (subf (scores q k) (spread q k))
def sums : FVec Ideal S4x4096x1 .f32 :=
  broadcastInDim S4x4096x1 ![0, 1] bcast_S4x4096_S4x4096x1_0_1
    (Host.reduceAdd (exps q k) (constant S_ .f32 0x00000000#32) reducesTo_S4x4096x256_S4x4096_d2 h_S_)
def weights : FVec Ideal S4x4096x256 .f32 :=
  Host.divf (exps q k) (broadcastInDim S4x4096x256 ![0, 1, 2] bcast_S4x4096x1_S4x4096x256_0_1_2 (sums q k))
def turned : FVec Ideal S4x1024x4096 .f32 :=
  transpose S4x1024x4096 [1, 2, 0] (shapeCast _ g shapeCasts_S4096x4096_S4096x4x1024) transposes_S4096x4x1024_S4x1024x4096_1_2_0
def arrives : FVec Ideal S4x4096x256 .f32 :=
  Host.dotGeneral dot_S4x1024x4096_S256x4x1024_S4x4096x256_1_2_2_0_0_1 none (turned g) (shapeCast _ v shapeCasts_S256x4096_S256x4x1024)
def pulls : FVec Ideal S4x4096x1 .f32 :=
  Host.negf (shapeCast _ (Host.reduceAdd (mulf (mulf (arrives g v) (broadcastInDim S4x4096x256 ![0, 1, 2] bcast_S4x4096x1_S4x4096x256_0_1_2
      (Host.divf (broadcastInDim S4x4096x1 ![] bcast_S_S4x4096x1 (constant S_ .f32 0x3F800000#32)) (mulf (sums q k) (sums q k))))) (exps q k))
    (constant S_ .f32 0x00000000#32) reducesTo_S4x4096x256_S4x4096_d2 h_S_) shapeCasts_S4x4096_S4x4096x1)
def cells : FVec Ideal S4x4096x256 .f32 :=
  mulf (mulf (addf (Host.divf (arrives g v) (broadcastInDim S4x4096x256 ![0, 1, 2] bcast_S4x4096x1_S4x4096x256_0_1_2 (sums q k)))
      (broadcastInDim S4x4096x256 ![0, 1] bcast_S4x4096_S4x4096x256_0_1
        (Host.reduceAdd (pulls q g k v) (constant S_ .f32 0x00000000#32) reducesTo_S4x4096x1_S4x4096_d2 h_S_))) (exps q k))
    (broadcastInDim S4x4096x256 ![] bcast_S_S4x4096x256 (constant S_ .f32 0x3D000000#32))

/-- A row of the queries or of the cotangent, and the memory's rows. -/
abbrev line (a : FVec Ideal S4096x4096 .f32) (i : Fin 4096) : Fin 4096 → EReal := fun x => a (ix2 i x)
abbrev lines (a : FVec Ideal S256x4096 .f32) : Fin 256 → Fin 4096 → EReal := fun j x => a (ix2 j x)

theorem scores_at (h : Fin 4) (i : Fin 4096) (j : Fin 256) : scores q k (ix3 h i j) = score (line q i) (lines k) h j := by
  pointwise [scores, score]
theorem tops_at (h : Fin 4) (i : Fin 4096) : tops q k (ix2 h i) = top kb (score (line q i) (lines k) h) := by
  pointwise [tops]
  simp only [scores_at]
  rfl
theorem max_at (x : FVec Ideal S4x4096 .f32) (h : Fin 4) (i : Fin 4096) :
    maximumf (broadcastInDim S4x4096 ![] bcast_S_S4x4096 (constant S_ .f32 0xFF800000#32)) x (ix2 h i) = max kb (x (ix2 h i)) := by
  pointwise []
theorem bounded_at (h : Fin 4) (i : Fin 4096) : bounded q k (ix2 h i) = top kb (score (line q i) (lines k) h) := by
  rw [bounded, max_at, tops_at, max_top]
theorem spread_at (h : Fin 4) (i : Fin 4096) (j : Fin 256) : spread q k (ix3 h i j) = top kb (score (line q i) (lines k) h) := by
  pointwise [spread]
  rw [bounded_at]
theorem exps_at (h : Fin 4) (i : Fin 4096) (j : Fin 256) : exps q k (ix3 h i j) = wt kb (score (line q i) (lines k) h) j := by
  pointwise [exps]
  rw [scores_at, spread_at]
  rfl
theorem sums_at (h : Fin 4) (i : Fin 4096) : sums q k (ix3 h i 0) = mass kb (score (line q i) (lines k) h) := by
  pointwise [sums]
  simp only [exps_at]
  rfl
theorem weights_at (h : Fin 4) (i : Fin 4096) (j : Fin 256) : weights q k (ix3 h i j) = weight (line q i) (lines k) h j := by
  pointwise [weights]
  rw [exps_at, sums_at]
  rfl
theorem arrives_at (h : Fin 4) (i : Fin 4096) (j : Fin 256) : arrives g v (ix3 h i j) = arrive (line g i) (lines v) h j := by
  pointwise [arrives, turned, arrive]
theorem pulls_at (h : Fin 4) (i : Fin 4096) :
    pulls q g k v (ix3 h i 0) = 0 - pull kb (score (line q i) (lines k) h) (arrive (line g i) (lines v) h) := by
  pointwise [pulls]
  simp only [arrives_at, sums_at, exps_at, zero_sub]
  rfl
theorem cells_at (h : Fin 4) (i : Fin 4096) (j : Fin 256) :
    cells q g k v (ix3 h i j) = plain (line q i) (line g i) (lines k) (lines v) h j := by
  pointwise [cells]
  simp only [arrives_at, sums_at, exps_at, pulls_at, Fin.sum_univ_one]
  rfl

section Results
variable (m : (ℓ : Loc nD τ sig) → Buf (Elt Ideal) ℓ) (c : Dev nD)
/-- The arguments. -/
abbrev argQ : FVec Ideal S4096x4096 .f32 := m ((c.tc : Thread nD τ).loc main_arg0)
abbrev argK : FVec Ideal S256x4096 .f32 := m ((c.tc : Thread nD τ).loc main_arg1)
abbrev argV : FVec Ideal S256x4096 .f32 := m ((c.tc : Thread nD τ).loc main_arg2)
abbrev argG : FVec Ideal S4096x4096 .f32 := m ((c.tc : Thread nD τ).loc main_arg3)

theorem out0 : Value.res_main_v63 m c = truncf .bf16 (shapeCast _ (transpose S4096x4x1024 [1, 0, 2]
    (Host.dotGeneral dot_S4x4096x256_S256x4x1024_S4x4096x1024_2_0_1_2_0_1 none (cells (argQ m c) (argG m c) (argK m c) (argV m c))
      (shapeCast _ (argK m c) shapeCasts_S256x4096_S256x4x1024)) transposes_S4x4096x1024_S4096x4x1024_1_0_2) shapeCasts_S4096x4x1024_S4096x4096) bitsLt_bf16_f32 :=
  rfl
theorem out1 : Value.res_main_v61 m c = shapeCast _ (transpose S256x4x1024 [1, 0, 2]
    (Host.dotGeneral dot_S4x4096x256_S4096x4x1024_S4x256x1024_1_0_2_2_0_1 none (cells (argQ m c) (argG m c) (argK m c) (argV m c))
      (shapeCast _ (argQ m c) shapeCasts_S4096x4096_S4096x4x1024)) transposes_S4x256x1024_S256x4x1024_1_0_2) shapeCasts_S256x4x1024_S256x4096 :=
  rfl

/-- The queries' gradient, and the keys'. -/
theorem out0_at (i l : Fin 4096) : Value.res_main_v63 m c (ix2 i l) =
    ∑ j, plain (line (argQ m c) i) (line (argG m c) i) (lines (argK m c)) (lines (argV m c)) (headOf l) j * argK m c (ix2 j l) := by
  rw [out0]
  pointwise []
  simp only [cells_at]
theorem out1_at (a : Fin 256) (l : Fin 4096) : Value.res_main_v61 m c (ix2 a l) =
    ∑ i, plain (line (argQ m c) i) (line (argG m c) i) (lines (argK m c)) (lines (argV m c)) (headOf l) a * argQ m c (ix2 i l) := by
  rw [out1]
  pointwise []
  simp only [cells_at]
/-- The values' gradient. -/
theorem out2_at (a : Fin 256) (l : Fin 4096) :
    shapeCast S256x4096 (transpose S256x4x1024 [2, 0, 1] (Host.dotGeneral dot_S4x1024x4096_S4x4096x256_S4x1024x256_2_1_1_2_0_0 none (turned g) (weights q k))
      transposes_S4x1024x256_S256x4x1024_2_0_1) shapeCasts_S256x4x1024_S256x4096 (ix2 a l) =
      ∑ i, g (ix2 i l) * weight (line q i) (lines k) (headOf l) a := by
  pointwise [turned]
  simp only [weights_at]
end Results

end Cert.Reference30Ideal
-- ==== Proof.Attn.Finite.lean ====
module
public import proofs.«01_k».proof.Pre_finite
public import Idealize.ShloMosaic.Lib.ReduceAll
public import Idealize.ShloMosaic.Lib.Decide
public import Idealize.ShloMosaic.PureOps.Ideal
public import Idealize.ShloMosaic.Lib.Pointwise

/-!
# Where the values and the cotangent are finite

The precondition's function tells of every entry of the values and of the cotangent that its size is below infinity; such an
entry is a real number.
-/

@[expose] public section
noncomputable section
namespace Cert.Attention
open Idealize.ShloMosaic Idealize.ShloMosaic.Tactic
open Cert.Pre_finite

/-- The shapes of the function's operations fit. -/
theorem shapes : Cert.Pre_finite.Facts :=
  ⟨by decide, by decide, by decide, by decide, by decide⟩

/-- The single-precision pattern of infinity. -/
theorem inf_eq : Ideal.ofBits FTy.f32 0x7F800000#32 = ⊤ := by
  simp [Ideal.ofBits, Ideal.ieee]

/-- What is smaller in size than infinity is real. -/
theorem real_of_abs (x : EReal) (h : max x (-x) < ⊤) : ∃ y : ℝ, x = (y : EReal) := by
  induction x with
  | bot => simp at h
  | coe y => exact ⟨y, rfl⟩
  | top => simp at h

theorem real_of_cmp (x : EReal) (h : Ideal.cmp .olt (max x (-x)) (Ideal.ofBits FTy.f32 0x7F800000#32) = 1#1) :
    ∃ y : ℝ, x = (y : EReal) := by
  refine real_of_abs x ?_
  rw [inf_eq] at h
  by_contra hn
  simp [Ideal.cmp, hn] at h

attribute [local instance] shapes
open Cert.Pre_finite.Facts

/-- If the function is one, every value and every entry of the cotangent is real. -/
theorem reals (q g : FVec Ideal S4096x4096 .f32) (k v : FVec Ideal S256x4096 .f32) (h : fn (F := Ideal) q k v g = fun _ => 1#1) :
    (∀ i j, ∃ y : ℝ, g (ix2 i j) = (y : EReal)) ∧ ∀ i j, ∃ y : ℝ, v (ix2 i j) = (y : EReal) := by
  obtain ⟨hv, hg⟩ := IntOp.andi_eq_one.1 (congrFun h fun a => a.elim0)
  have : Subsingleton S_.Idx := ⟨fun _ _ => funext fun a => a.elim0⟩
  exact ⟨fun i j => real_of_cmp _ (Host.reduce_andi_all _ _ _ _ _ hg (ix2 i j)),
    fun i j => real_of_cmp _ (Host.reduce_andi_all _ _ _ _ _ hv (ix2 i j))⟩

end Cert.Attention
-- ==== Proof.Attn.Claims.lean ====
module
public import proofs.«01_k».proof.Defs
public import proofs.«01_k».proof.Proof.Attn.Arrays
public import proofs.«01_k».proof.Proof.Attn.Stages
public import proofs.«01_k».proof.Proof.Attn.Finite

/-!
# The memory attention's gradients: the claims
-/

@[expose] public section
set_option maxRecDepth 16384
noncomputable section
namespace Cert.Attn
open Idealize.ShloMosaic Idealize.ShloMosaic.TcCoe Idealize.ShloMosaic.Tactic
open Idealize.SL Idealize.SL.Sem
open Cert.Norm Cert.Attention

/-- The definition runs to its end, keeps its arguments, and has no semaphores. -/
theorem frame_ref : Cert.quiescent_Reference30Ideal := fun m ρ _ =>
  (θ_run Cert.Reference30Ideal.defs _ _).mono (fun r h => ⟨fun c => (h c).2.2.2, sem_eq_zero_of_no_sems (by decide) r.2⟩)
    (Cert.Reference30Ideal.Value.run (F := Ideal) m ρ)

attribute [local instance] shapes

/-- Where the values and the cotangent are finite, the three gradients are the definition's. -/
theorem algebraic : Cert.algebraic_Kernel30Ideal_Reference30Ideal_pre_finite := by
  intro m g m' g' hpre hagree
  have real := fun c => reals _ _ _ _ (hpre c)
  have cells (c) (i : Fin 4096) (h : Fin 4) (j : Fin 256) :
      cell (Cert.Kernel30Ideal.rowQ m c i.val) (Cert.Kernel30Ideal.rowG m c i.val) (Cert.Kernel30Ideal.keys m c) (Cert.Kernel30Ideal.vals m c) h j =
        plain (Cert.Kernel30Ideal.rowQ m c i.val) (Cert.Kernel30Ideal.rowG m c i.val) (Cert.Kernel30Ideal.keys m c) (Cert.Kernel30Ideal.vals m c) h j :=
    cell_eq _ _ _ _ _ (fun x => by rw [Cert.Kernel30Ideal.rowG, row_of]; exact (real c).1 i x) (fun j x => (real c).2 j x) j
  refine ⟨_, _, _, (θ_run Cert.Kernel30Ideal.defs _ _).mono (fun r h => h) (Cert.Kernel30Ideal.Value.run_blocks (F := Ideal) m g),
    (θ_run Cert.Reference30Ideal.defs _ _).mono
      (fun r h c => ⟨(h c).1.trans ?_, (h c).2.1.trans ?_, (h c).2.2.1.trans ?_, (h c).2.2.2⟩)
      (Cert.Reference30Ideal.Value.run (F := Ideal) m' g')⟩
  · rw [Cert.Kernel30Ideal.final4]
    funext y
    obtain ⟨i, l, rfl⟩ : ∃ (i : Fin 4096) (l : Fin 4096), y = ix2 i l := ⟨y 0, y 1, eq_ix2 y⟩
    refine (Cert.Reference30Ideal.out0_at m' c i l).trans ?_
    refine congrArg (fun f : Fin 256 → EReal => ∑ j, f j) (funext fun j => congrArg₂ (fun a b : EReal => a * b) ?_ (congrFun (hagree c).2.1 (ix2 j l)))
    refine Eq.trans ?_ (cells c i (headOf l) j).symm
    simp only [Cert.Reference30Ideal.argQ, Cert.Reference30Ideal.argK, Cert.Reference30Ideal.argV, Cert.Reference30Ideal.argG,
      (hagree c).1, (hagree c).2.1, (hagree c).2.2.1, (hagree c).2.2.2, Cert.Kernel30Ideal.rowQ, Cert.Kernel30Ideal.rowG, row_of]
  · rw [Cert.Kernel30Ideal.final5]
    funext y
    obtain ⟨a, l, rfl⟩ : ∃ (a : Fin 256) (l : Fin 4096), y = ix2 a l := ⟨y 0, y 1, eq_ix2 y⟩
    refine (Cert.Reference30Ideal.out1_at m' c a l).trans ?_
    refine congrArg (fun f : Fin 4096 → EReal => ∑ i, f i) (funext fun i => congrArg₂ (fun a b : EReal => a * b) ?_
      ((congrFun (hagree c).1 (ix2 i l)).trans (congrFun (row_of _ i) l).symm))
    refine Eq.trans ?_ (cells c i (headOf l) a).symm
    simp only [Cert.Reference30Ideal.argQ, Cert.Reference30Ideal.argK, Cert.Reference30Ideal.argV, Cert.Reference30Ideal.argG,
      (hagree c).1, (hagree c).2.1, (hagree c).2.2.1, (hagree c).2.2.2, Cert.Kernel30Ideal.rowQ, Cert.Kernel30Ideal.rowG, row_of]
  · rw [Cert.Kernel30Ideal.final6]
    funext y
    obtain ⟨a, l, rfl⟩ : ∃ (a : Fin 256) (l : Fin 4096), y = ix2 a l := ⟨y 0, y 1, eq_ix2 y⟩
    refine (Cert.Reference30Ideal.out2_at (Cert.Reference30Ideal.argQ m' c) (Cert.Reference30Ideal.argG m' c) (Cert.Reference30Ideal.argK m' c) a l).trans ?_
    refine Finset.sum_congr rfl fun i _ => congrArg₂ (fun a b : EReal => a * b)
      ((congrFun (hagree c).2.2.2 (ix2 i l)).trans (congrFun (row_of _ i) l).symm) ?_
    simp only [Cert.Reference30Ideal.argQ, Cert.Reference30Ideal.argK, (hagree c).1, (hagree c).2.1, Cert.Kernel30Ideal.rowQ, row_of]
    rfl

end Cert.Attn
-- ==== Proof.AttnF.Points.lean ====
module
public import proofs.«01_k».proof.Proof.Attn.Head
public import proofs.«01_k».proof.Proof.Gen.Kernel31Ideal.Value
public import Idealize.ShloMosaic.PureOps.Ideal
public import Idealize.ShloMosaic.Lib.Pipeline.ValueKit
public import Idealize.ShloMosaic.Lib.Pipeline.ReadBack
public import Idealize.ShloMosaic.Lib.Pointwise

/-!
# The memory attention, block by block

Point `t` works on rows `128 t` and on of the queries, against all 256 rows of the memory. The four heads are unrolled.
-/

@[expose] public section
set_option maxRecDepth 16384
noncomputable section
namespace Cert.Kernel31Ideal
open Idealize.ShloMosaic Idealize.ShloMosaic.TcCoe Idealize.ShloMosaic.Tactic
open Idealize.SL Idealize.SL.Sem
open Gen Cert.Softmax Cert.Attention

variable (q : S128x4096.Idx → EReal) (k v : S256x4096.Idx → EReal) (r : Fin 128)

/-- A row of the block's queries, and the memory's rows. -/
abbrev line (a : S128x4096.Idx → EReal) (r : Fin 128) : Fin 4096 → EReal := fun x => a (ix2 r x)
abbrev lines (a : S256x4096.Idx → EReal) : Fin 256 → Fin 4096 → EReal := fun j x => a (ix2 j x)
/-- A head's part of a row of the result. -/
abbrev mixed (h : Fin 4) (l : Fin 4096) : EReal := ∑ j, weight (line q r) (lines k) h j * lines v j l

theorem head0 (x : Fin 1024) : k0_pay2 (F := Ideal) q k v (ix2 r x) = mixed q k v r 0 (col 0 x) := by
  pointwise [k0_pay2]
  simp only [mixed, weight, score, col, Fin.val_zero, Nat.zero_mul, Nat.zero_add]
  rfl
theorem head1 (x : Fin 1024) : k0_pay3 (F := Ideal) q k v (ix2 r x) = mixed q k v r 1 (col 1 x) := by
  pointwise [k0_pay3]
  rfl

/-- Four arrays side by side, as a row of the result. -/
abbrev joined (a b c d : FVec Ideal S128x1024 .f32) : FVec Ideal S128x4096 .bf16 :=
  truncf .bf16 (concatenate S128x4096 1 [⟨S128x1024, a⟩, ⟨S128x1024, b⟩, ⟨S128x1024, c⟩, ⟨S128x1024, d⟩]
    concatenates_S128x1024_S128x1024_S128x1024_S128x1024_S128x4096_d1) bitsLt_bf16_f32

theorem joined_at (a b c d : FVec Ideal S128x1024 .f32) (f : Fin 4 → Fin 4096 → EReal)
    (ha : ∀ x, a (ix2 r x) = f 0 (col 0 x)) (hb : ∀ x, b (ix2 r x) = f 1 (col 1 x))
    (hc : ∀ x, c (ix2 r x) = f 2 (col 2 x)) (hd : ∀ x, d (ix2 r x) = f 3 (col 3 x)) (l : Fin 4096) :
    joined a b c d (ix2 r l) = f (headOf l) l := by
  pointwise [joined]
  rcases four l with ⟨h, e⟩ | ⟨h, h', e⟩ | ⟨h, h', e⟩ | ⟨h, e⟩
  · rw [e, dif_pos h]
    exact (ha _).trans (congrArg (f 0) (Fin.ext (by show 0 * 1024 + l.val = l.val; omega)))
  · rw [e, dif_neg (by omega), dif_pos (by omega)]
    exact (hb _).trans (congrArg (f 1) (Fin.ext (by show 1 * 1024 + (l.val - 1024) = l.val; omega)))
  · rw [e, dif_neg (by omega), dif_neg (by omega), dif_pos (by omega)]
    exact (hc _).trans (congrArg (f 2) (Fin.ext (by show 2 * 1024 + (l.val - 1024 - 1024) = l.val; omega)))
  · rw [e, dif_neg (by omega), dif_neg (by omega), dif_neg (by omega)]
    exact (hd _).trans (congrArg (f 3) (Fin.ext (by show 3 * 1024 + (l.val - 1024 - 1024 - 1024) = l.val; omega)))

/-- The last two heads are computed where the four are joined. -/
theorem parts (a b : FVec Ideal S128x1024 .f32) : ∃ c d : FVec Ideal S128x1024 .f32,
    k0_pay1 (F := Ideal) q k v a b = joined a b c d ∧ (∀ x, c (ix2 r x) = mixed q k v r 2 (col 2 x)) ∧
      ∀ x, d (ix2 r x) = mixed q k v r 3 (col 3 x) := by
  refine ⟨_, _, rfl, fun x => ?_, fun x => ?_⟩
  · pointwise []
    rfl
  · pointwise []
    rfl

/-- What a point writes. -/
theorem out_at (l : Fin 4096) :
    k0_pay1 (F := Ideal) q k v (k0_pay2 q k v) (k0_pay3 q k v) (ix2 r l) = mixed q k v r (headOf l) l := by
  obtain ⟨c, d, e, hc, hd⟩ := parts q k v r (k0_pay2 q k v) (k0_pay3 q k v)
  rw [e]
  exact joined_at r _ _ c d (mixed q k v r) (head0 q k v r) (head1 q k v r) hc hd l

end Cert.Kernel31Ideal
-- ==== Proof.AttnF.Arrays.lean ====
module
public import proofs.«01_k».proof.Proof.AttnF.Points

/-!
# The memory attention: the array
-/

@[expose] public section
set_option maxRecDepth 16384
noncomputable section
namespace Cert.Kernel31Ideal
open Idealize.ShloMosaic Idealize.ShloMosaic.TcCoe Idealize.ShloMosaic.Tactic
open Idealize.SL Idealize.SL.Sem
variable (m : (ℓ : Loc nD τ sig) → Buf (Elt Ideal) ℓ)
open Gen Cert.Softmax Cert.Attention

theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = t.val ∧ win0_3.index t 1 = 0 := by decide +kernel

/-- Row `i` of the queries; the keys and the values. -/
abbrev rowQ (c : Dev nD) (i : Fin 4096) : Fin 4096 → EReal := fun x => m ((c : Thread nD τ).loc main_arg0) (ix2 i x)
abbrev keys (c : Dev nD) : Fin 256 → Fin 4096 → EReal := lines (m ((c : Thread nD τ).loc main_arg1))
abbrev vals (c : Dev nD) : Fin 256 → Fin 4096 → EReal := lines (m ((c : Thread nD τ).loc main_arg2))

theorem blk0 (c : Dev nD) (t : Fin cfg0.N) (r : Fin 128) (i : Fin 4096) (hi : i.val = t.val * 128 + r.val) :
    line (iblk m c 0 t) r = rowQ m c i := by
  obtain ⟨i, _⟩ := i
  obtain rfl : i = t.val * 128 + r.val := hi
  funext x
  show iblk m c 0 t (ix2 r x) = m ((c : Thread nD τ).loc main_arg0) (ix2 _ x)
  blk_ext [iblk, V, idx0 t]

theorem blk1 (c : Dev nD) (t : Fin cfg0.N) : lines (iblk m c 1 t) = keys m c := by
  funext j x
  show iblk m c 1 t (ix2 j x) = m ((c : Thread nD τ).loc main_arg1) (ix2 j x)
  blk_ext [iblk, V, idx1 t]

theorem blk2 (c : Dev nD) (t : Fin cfg0.N) : lines (iblk m c 2 t) = vals m c := by
  funext j x
  show iblk m c 2 t (ix2 j x) = m ((c : Thread nD τ).loc main_arg2) (ix2 j x)
  blk_ext [iblk, V, idx2 t]

/-- One entry of the attention. -/
abbrev attnAt (c : Dev nD) (i l : Fin 4096) : EReal := ∑ j, weight (rowQ m c i) (keys m c) (headOf l) j * vals m c j l

theorem mixed_blk (c : Dev nD) (t : Fin cfg0.N) (r : Fin 128) (l i l' : Fin 4096) (hi : i.val = t.val * 128 + r.val) (hl : l'.val = l.val) :
    mixed (iblk m c 0 t) (iblk m c 1 t) (iblk m c 2 t) r (headOf l) l = attnAt m c i l' := by
  obtain rfl : l' = l := Fin.ext hl
  rw [mixed, blk0 m c t r i hi, blk1, blk2]

/-- The array the launch leaves. -/
theorem final3 (c : Dev nD) : (dats m 0 c).arrAt 3 cfg0.N = fun i : S4096x4096.Idx => attnAt m c (i 0) (i 1) := by
  refine (dats m 0 c).arrAt_eq_of_covers 3 _ (by decide +kernel) fun t hf y => ?_
  obtain ⟨r, l, rfl⟩ : ∃ (r : Fin 128) (l : Fin 4096), y = ix2 r l := ⟨y 0, y 1, eq_ix2 y⟩
  blk_simp
  rw [after0_3]
  have e : out0_3 (iblk m c 0 t) (iblk m c 1 t) (iblk m c 2 t) (ix2 r l) = mixed (iblk m c 0 t) (iblk m c 1 t) (iblk m c 2 t) r (headOf l) l := by
    frame_out
    exact out_at _ _ _ r l
  rw [e]
  refine mixed_blk m c t r l _ _ ?_ ?_ <;> blk_simp [idx3 t] <;> omega

end Cert.Kernel31Ideal
-- ==== Proof.AttnF.Claims.lean ====
module
public import proofs.«01_k».proof.Defs
public import proofs.«01_k».proof.Proof.AttnF.Arrays
public import proofs.«01_k».proof.Proof.Attn.Stages
public import proofs.«01_k».proof.Proof.Gen.Reference31Ideal.Run

/-!
# The memory attention: the claims

The definition's weights are those of its gradient's stages.
-/

@[expose] public section
set_option maxRecDepth 16384
noncomputable section
namespace Cert.AttnF
open Idealize.ShloMosaic Idealize.ShloMosaic.TcCoe Idealize.ShloMosaic.Tactic
open Idealize.SL Idealize.SL.Sem
open Cert.Attention Cert.Reference31Ideal Cert.Reference31Ideal.Gen

/-- The definition runs to its end, keeps its arguments, and has no semaphores. -/
theorem frame_ref : Cert.quiescent_Reference31Ideal := fun m ρ _ =>
  (θ_run Cert.Reference31Ideal.defs _ _).mono (fun r h => ⟨fun c => (h c).2, sem_eq_zero_of_no_sems (by decide) r.2⟩)
    (Cert.Reference31Ideal.Value.run (F := Ideal) m ρ)

/-- The definition's last product, with the weights. -/
def attended (q : FVec Ideal S4096x4096 .f32) (k v : FVec Ideal S256x4096 .f32) : FVec Ideal S4096x4096 .bf16 :=
  truncf .bf16 (shapeCast _ (transpose S4096x4x1024 [2, 0, 1]
    (Host.dotGeneral dot_S256x4x1024_S4x4096x256_S4x1024x4096_0_2_2_1_1_0 none (shapeCast _ v shapeCasts_S256x4096_S256x4x1024)
      (Cert.Reference30Ideal.weights q k)) transposes_S4x1024x4096_S4096x4x1024_2_0_1) shapeCasts_S4096x4x1024_S4096x4096) bitsLt_bf16_f32

theorem attended_at (q : FVec Ideal S4096x4096 .f32) (k v : FVec Ideal S256x4096 .f32) (i l : Fin 4096) :
    attended q k v (ix2 i l) =
      ∑ j, weight (Cert.Reference30Ideal.line q i) (Cert.Reference30Ideal.lines k) (headOf l) j * Cert.Reference30Ideal.lines v j l := by
  refine Eq.trans (b := ∑ j, Cert.Reference30Ideal.lines v j l * Cert.Reference30Ideal.weights q k (ix3 (headOf l) i j)) ?_
    (congrArg (fun f : Fin 256 → EReal => ∑ j, f j) (funext fun j => by rw [Cert.Reference30Ideal.weights_at]; exact mul_comm _ _))
  pointwise [attended]

/-- The attention is the definition's. -/
theorem algebraic : Cert.algebraic_Kernel31Ideal_Reference31Ideal := by
  intro m g m' g' _ hagree
  refine ⟨_, (θ_run Cert.Kernel31Ideal.defs _ _).mono (fun r h => h) (Cert.Kernel31Ideal.Value.run_blocks (F := Ideal) m g),
    (θ_run Cert.Reference31Ideal.defs _ _).mono (fun r h c => ⟨(h c).1.trans ?_, (h c).2⟩)
      (Cert.Reference31Ideal.Value.run (F := Ideal) m' g')⟩
  rw [Cert.Kernel31Ideal.final3]
  refine Eq.trans (b := attended (m' ((c : Thread nD τ).loc main_arg0)) (m' ((c : Thread nD τ).loc main_arg1)) (m' ((c : Thread nD τ).loc main_arg2))) rfl ?_
  funext y
  obtain ⟨i, l, rfl⟩ : ∃ (i : Fin 4096) (l : Fin 4096), y = ix2 i l := ⟨y 0, y 1, eq_ix2 y⟩
  rw [(hagree c).1, (hagree c).2.1, (hagree c).2.2]
  exact attended_at _ _ _ i l

end Cert.AttnF
-- ==== Proof.KMem.Points.lean ====
module
public import proofs.«01_k».proof.Proof.Product
public import proofs.«01_k».proof.Proof.Gen.Kernel32Ideal.Value
public import Idealize.ShloMosaic.PureOps.Ideal
public import Idealize.ShloMosaic.Lib.Pipeline.ValueKit
public import Idealize.ShloMosaic.Lib.Pipeline.ReadBack
public import Idealize.ShloMosaic.Lib.Pointwise

/-!
# The memory's keys or values, block by block

The call computes the memory's 256 rows times the weight.  Point `t` works on block `t / 4` of the result, of which 4 lie side by side, and on the
inner columns of step `t % 4`.
-/

@[expose] public section
set_option maxRecDepth 16384
noncomputable section
namespace Cert.Kernel32Ideal
open Idealize.ShloMosaic Idealize.ShloMosaic.TcCoe Idealize.ShloMosaic.Tactic
open Idealize.SL Idealize.SL.Sem
variable (m : (ℓ : Loc nD τ sig) → Buf (Elt Ideal) ℓ)
open Gen Cert.Product

theorem idx0 : ∀ t : Fin cfg0.N, win0_0.index t 0 = t.val / 4 / 4 ∧ win0_0.index t 1 = t.val % 4 := by
  decide +kernel
theorem idx1 : ∀ t : Fin cfg0.N, win0_1.index t 0 = t.val % 4 ∧ win0_1.index t 1 = t.val / 4 % 4 := by
  decide +kernel
theorem idx2 : ∀ t : Fin cfg0.N, win0_2.index t 0 = t.val / 4 / 4 ∧ win0_2.index t 1 = t.val / 4 % 4 := by
  decide +kernel

/-- The left factor, its inner index second. -/
abbrev lhs (c : Dev nD) : Fin 256 → Fin 4096 → EReal := fun r k => m ((c : Thread nD τ).loc main_arg0) (ix2 r k)
/-- The right factor, its inner index second. -/
abbrev rhs (c : Dev nD) : Fin 4096 → Fin 4096 → EReal := fun r k => m ((c : Thread nD τ).loc main_arg1) (ix2 k r)

theorem blk0 (c : Dev nD) (t : Fin cfg0.N) (r : Fin 256) (q : Fin 1024) :
    iblk m c 0 t (ix2 r q) = entry (lhs m c) (t.val / 4 / 4 * 1024 + r.val) (t.val % 4 * 1024 + q.val) := by
  have ht : t.val < 16 := t.isLt
  rw [entry_at _ (by omega) (by omega)]
  blk_ext [iblk, V, idx0 t]

theorem blk1 (c : Dev nD) (t : Fin cfg0.N) (r q : Fin 1024) :
    iblk m c 1 t (ix2 q r) = entry (rhs m c) (t.val / 4 % 4 * 1024 + r.val) (t.val % 4 * 1024 + q.val) := by
  have ht : t.val < 16 := t.isLt
  rw [entry_at _ (by omega) (by omega)]
  blk_ext [iblk, V, idx1 t]

theorem pay1 (r : Fin 256) (l : Fin 1024) : k0_pay1 (F := Ideal) (ix2 r l) = (0 : EReal) := by
  pointwise [k0_pay1]

theorem pay2 (a x : S256x1024.Idx → EReal) (y : S1024x1024.Idx → EReal) (r : Fin 256) (l : Fin 1024) :
    k0_pay2 (F := Ideal) a x y (ix2 r l) = a (ix2 r l) + ∑ q : Fin 1024, x (ix2 r q) * y (ix2 q l) := by
  pointwise [k0_pay2]

/-- One step adds its columns to the accumulator. -/
theorem step (c : Dev nD) (t : Fin cfg0.N) (a : S256x1024.Idx → EReal) (r : Fin 256) (l : Fin 1024) (x : EReal) (h : a (ix2 r l) = x) :
    k0_pay2 (F := Ideal) a (iblk m c 0 t) (iblk m c 1 t) (ix2 r l)
      = x + ∑ q : Fin 1024, term 4 (lhs m c) (rhs m c) r l (t.val / 4) (t.val % 4 * 1024 + q.val) := by
  rw [pay2, h]
  exact congrArg₂ (fun x y : EReal => x + y) rfl
    (sum_blocks _ _ _ _ _ _ (fun q => iblk m c 0 t (ix2 r q)) (fun q => iblk m c 1 t (ix2 q l)) (blk0 m c t r) (blk1 m c t l))

theorem accA (c : Dev nD) (t : Fin cfg0.N) (h : t.val % 4 = 0) (r : Fin 256) (l : Fin 1024) :
    (outsAt0 m c t.val t.isLt).2 (ix2 r l) = 0 + ∑ q : Fin 1024, term 4 (lhs m c) (rhs m c) r l (t.val / 4) (t.val % 4 * 1024 + q.val) := by
  rw [outsAt0_A m c t h (by omega)]
  frame_out
  exact step m c t _ r l _ (pay1 r l)

theorem accB (c : Dev nD) (t : Fin cfg0.N) (h : t.val % 4 ≠ 0) (r : Fin 256) (l : Fin 1024) :
    (outsAt0 m c t.val t.isLt).2 (ix2 r l)
      = (outsAt0 m c (t.val - 1) (Nat.lt_of_le_of_lt (Nat.sub_le _ _) t.isLt)).2 (ix2 r l)
        + ∑ q : Fin 1024, term 4 (lhs m c) (rhs m c) r l (t.val / 4) (t.val % 4 * 1024 + q.val) := by
  by_cases hl : t.val % 4 = 3
  · rw [outsAt0_C m c t h hl]
    frame_out
    exact step m c t _ r l _ (congrFun (Memref.IsWhole.read_unread _ _) _)
  · rw [outsAt0_B m c t h hl]
    frame_out
    exact step m c t _ r l _ (congrFun (Memref.IsWhole.read_unread _ _) _)

/-- The last step of a block writes the accumulator out. -/
theorem out_eq (c : Dev nD) (t : Fin cfg0.N) (hl : t.val % 4 = 3) (r : Fin 256) (l : Fin 1024) :
    (outsAt0 m c t.val t.isLt).1 (ix2 r l) = (outsAt0 m c t.val t.isLt).2 (ix2 r l) := by
  rw [outsAt0_C m c t (by omega) hl]
  frame_out

theorem out_last (c : Dev nD) (t : Fin cfg0.N) (hl : t.val % 4 = 3) (r : Fin 256) (l : Fin 1024) :
    (outsAt0 m c t.val t.isLt).1 (ix2 r l) = 0 + ∑ k : Fin 4096, term 4 (lhs m c) (rhs m c) r l (t.val / 4) k.val :=
  (out_eq m c t hl r l).trans
    (acc_last (J := 4) (B := 1024) (K := 4096) (by norm_num) (by norm_num) (fun n h => (outsAt0 m c n h).2 (ix2 r l))
      (fun _ => 0) (term 4 (lhs m c) (rhs m c) r l)
      (fun n h h0 => accA m c ⟨n, h⟩ h0 r l) (fun n h h0 => accB m c ⟨n, h⟩ h0 r l) t.val t.isLt (by omega))

theorem whole (c : Dev nD) (r : Fin 256) (l : Fin 1024) (p : ℕ) (i : Fin 256) (j : Fin 4096) (hp : p < 4) (hi : i.val = p / 4 * 256 + r.val)
    (hj : j.val = p % 4 * 1024 + l.val) :
    0 + ∑ k : Fin 4096, term 4 (lhs m c) (rhs m c) r l p k.val = ∑ k : Fin 4096, lhs m c i k * rhs m c j k := by
  rw [sum_term _ _ _ _ _ i j (by omega) hj, zero_add]

/-- The array the launch leaves. -/
theorem product (c : Dev nD) (i : Fin 256) (j : Fin 4096) :
    (dats m 0 c).arrAt 2 cfg0.N (ix2 i j) = ∑ k : Fin 4096, lhs m c i k * rhs m c j k := by
  have e : (dats m 0 c).arrAt 2 cfg0.N
      = fun y => ∑ k : Fin 4096, lhs m c (y 0) k * rhs m c (y 1) k := by
    refine (dats m 0 c).arrAt_eq_of_covers 2 _ (by decide +kernel) fun t hf y => ?_
    have hl := (flush0_2 t).mp hf
    obtain ⟨r, l, rfl⟩ : ∃ (r : Fin 256) (l : Fin 1024), y = ix2 r l := ⟨y 0, y 1, eq_ix2 y⟩
    blk_simp
    rw [after0_2, out_last m c t hl]
    refine whole m c r l (t.val / 4) _ _ (by have ht : t.val < 16 := t.isLt; omega) ?_ ?_ <;> blk_ext [idx2 t]
  exact congrFun e _

end Cert.Kernel32Ideal
-- ==== Proof.KMem.Claims.lean ====
module
public import proofs.«01_k».proof.Defs
public import proofs.«01_k».proof.Proof.KMem.Points
public import proofs.«01_k».proof.Proof.Gen.Reference32Ideal.Run

/-!
# The memory's keys or values: the claims
-/

@[expose] public section
set_option maxRecDepth 16384
noncomputable section
namespace Cert.KMem
open Idealize.ShloMosaic Idealize.ShloMosaic.TcCoe Idealize.ShloMosaic.Tactic
open Idealize.SL Idealize.SL.Sem

/-- The plain product runs to its end, keeps its arguments, and has no semaphores. -/
theorem frame_ref : Cert.quiescent_Reference32Ideal := fun m ρ _ =>
  (θ_run Cert.Reference32Ideal.defs _ _).mono (fun r h => ⟨fun c => (h c).2, sem_eq_zero_of_no_sems (by decide) r.2⟩)
    (Cert.Reference32Ideal.Value.run (F := Ideal) m ρ)

/-- The tiled product is the plain one. -/
theorem algebraic : Cert.algebraic_Kernel32Ideal_Reference32Ideal := by
  intro m g m' g' _ hagree
  refine ⟨_, (θ_run Cert.Kernel32Ideal.defs _ _).mono (fun r h => h) (Cert.Kernel32Ideal.Value.run_blocks (F := Ideal) m g),
    (θ_run Cert.Reference32Ideal.defs _ _).mono (fun r h c => ⟨(h c).1.trans ?_, (h c).2⟩)
      (Cert.Reference32Ideal.Value.run (F := Ideal) m' g')⟩
  rw [(hagree c).1, (hagree c).2]
  funext y
  obtain ⟨i, j, rfl⟩ : ∃ (i : Fin 256) (j : Fin 4096), y = ix2 i j := ⟨y 0, y 1, eq_ix2 y⟩
  refine Eq.trans ?_ (Cert.Kernel32Ideal.product m c i j).symm
  pointwise []

end Cert.KMem
-- ==== Proof.GWk.Points.lean ====
module
public import proofs.«01_k».proof.Proof.Gen.Kernel33Ideal.Value
public import Idealize.ShloMosaic.PureOps.Ideal
public import Idealize.ShloMosaic.Lib.Pipeline.ValueKit
public import Idealize.ShloMosaic.Lib.Pipeline.ReadBack
public import Idealize.ShloMosaic.Lib.Pointwise

/-!
# The gradient of the memory's key or value weight, block by block

The call computes the memory's 256 rows, transposed, times the cotangent.  The inner sum is one step long: point `t` sets
its accumulator to zero, adds the whole product of its two blocks, and writes block `(t / 4, t % 4)` of the result.
-/

@[expose] public section
set_option maxRecDepth 16384
noncomputable section
namespace Cert.Kernel33Ideal
open Idealize.ShloMosaic Idealize.ShloMosaic.TcCoe Idealize.ShloMosaic.Tactic
open Idealize.SL Idealize.SL.Sem
variable (m : (ℓ : Loc nD τ sig) → Buf (Elt Ideal) ℓ)
open Gen

theorem idx0 : ∀ t : Fin cfg0.N, win0_0.index t 0 = 0 ∧ win0_0.index t 1 = t.val / 4 := by
  decide +kernel
theorem idx1 : ∀ t : Fin cfg0.N, win0_1.index t 0 = 0 ∧ win0_1.index t 1 = t.val % 4 := by
  decide +kernel
theorem idx2 : ∀ t : Fin cfg0.N, win0_2.index t 0 = t.val / 4 ∧ win0_2.index t 1 = t.val % 4 := by
  decide +kernel

/-- The left factor, its inner index second. -/
abbrev lhs (c : Dev nD) : Fin 4096 → Fin 256 → EReal := fun r k => m ((c : Thread nD τ).loc main_arg0) (ix2 k r)
/-- The right factor, its inner index second. -/
abbrev rhs (c : Dev nD) : Fin 4096 → Fin 256 → EReal := fun r k => m ((c : Thread nD τ).loc main_arg1) (ix2 k r)

/-- A point's block of the memory's rows. -/
abbrev left (c : Dev nD) (t : Fin cfg0.N) : S256x1024.Idx → EReal := iblk m c 0 t
/-- A point's block of the cotangent. -/
abbrev right (c : Dev nD) (t : Fin cfg0.N) : S256x1024.Idx → EReal := iblk m c 1 t

theorem blk0 (c : Dev nD) (t : Fin cfg0.N) (q : Fin 256) (r : Fin 1024) (i : Fin 4096) (hi : i.val = t.val / 4 * 1024 + r.val) :
    iblk m c 0 t (ix2 q r) = lhs m c i q := by
  obtain ⟨i, _⟩ := i
  obtain rfl : i = t.val / 4 * 1024 + r.val := hi
  show iblk m c 0 t (ix2 q r) = m ((c : Thread nD τ).loc main_arg0) (ix2 q _)
  blk_ext [iblk, V, idx0 t]

theorem blk1 (c : Dev nD) (t : Fin cfg0.N) (q : Fin 256) (l : Fin 1024) (j : Fin 4096) (hj : j.val = t.val % 4 * 1024 + l.val) :
    iblk m c 1 t (ix2 q l) = rhs m c j q := by
  obtain ⟨j, _⟩ := j
  obtain rfl : j = t.val % 4 * 1024 + l.val := hj
  show iblk m c 1 t (ix2 q l) = m ((c : Thread nD τ).loc main_arg1) (ix2 q _)
  blk_ext [iblk, V, idx1 t]

theorem pay2 (x y : S256x1024.Idx → EReal) (r l : Fin 1024) :
    k0_pay2 (F := Ideal) (k0_pay1 (F := Ideal)) x y (ix2 r l) = ∑ q : Fin 256, x (ix2 q r) * y (ix2 q l) := by
  pointwise [k0_pay2, k0_pay1]

/-- What a point writes. -/
theorem out_at (c : Dev nD) (t : Fin cfg0.N) (r l : Fin 1024) :
    outsAt0 m c t (ix2 r l) = ∑ q : Fin 256, left m c t (ix2 q r) * right m c t (ix2 q l) := by
  unfold outsAt0
  frame_out
  exact pay2 _ _ r l

/-- The array the launch leaves. -/
theorem product (c : Dev nD) (i j : Fin 4096) :
    (dats m 0 c).arrAt 2 cfg0.N (ix2 i j) = ∑ k : Fin 256, lhs m c i k * rhs m c j k := by
  have e : (dats m 0 c).arrAt 2 cfg0.N
      = fun y => ∑ k : Fin 256, lhs m c (y 0) k * rhs m c (y 1) k := by
    refine (dats m 0 c).arrAt_eq_of_covers 2 _ (by decide +kernel) fun t _ y => ?_
    obtain ⟨r, l, rfl⟩ : ∃ r l : Fin 1024, y = ix2 r l := ⟨y 0, y 1, eq_ix2 y⟩
    blk_simp
    rw [after0_2, out_at m c t]
    refine congrArg (fun f : Fin 256 → EReal => ∑ k, f k) (funext fun q => ?_)
    refine congrArg₂ (fun a b : EReal => a * b) (blk0 m c t q r _ ?_) (blk1 m c t q l _ ?_) <;> blk_ext [idx2 t]
  exact congrFun e _

end Cert.Kernel33Ideal
-- ==== Proof.GWk.Claims.lean ====
module
public import proofs.«01_k».proof.Defs
public import proofs.«01_k».proof.Proof.GWk.Points
public import proofs.«01_k».proof.Proof.Gen.Reference33Ideal.Run

/-!
# The gradient of the memory's key or value weight: the claims
-/

@[expose] public section
set_option maxRecDepth 16384
noncomputable section
namespace Cert.GWk
open Idealize.ShloMosaic Idealize.ShloMosaic.TcCoe Idealize.ShloMosaic.Tactic
open Idealize.SL Idealize.SL.Sem

/-- The plain product runs to its end, keeps its arguments, and has no semaphores. -/
theorem frame_ref : Cert.quiescent_Reference33Ideal := fun m ρ _ =>
  (θ_run Cert.Reference33Ideal.defs _ _).mono (fun r h => ⟨fun c => (h c).2, sem_eq_zero_of_no_sems (by decide) r.2⟩)
    (Cert.Reference33Ideal.Value.run (F := Ideal) m ρ)

/-- The tiled product is the plain one. -/
theorem algebraic : Cert.algebraic_Kernel33Ideal_Reference33Ideal := by
  intro m g m' g' _ hagree
  refine ⟨_, (θ_run Cert.Kernel33Ideal.defs _ _).mono (fun r h => h) (Cert.Kernel33Ideal.Value.run_blocks (F := Ideal) m g),
    (θ_run Cert.Reference33Ideal.defs _ _).mono (fun r h c => ⟨(h c).1.trans ?_, (h c).2⟩)
      (Cert.Reference33Ideal.Value.run (F := Ideal) m' g')⟩
  rw [(hagree c).1, (hagree c).2]
  funext y
  obtain ⟨i, j, rfl⟩ : ∃ (i : Fin 4096) (j : Fin 4096), y = ix2 i j := ⟨y 0, y 1, eq_ix2 y⟩
  refine Eq.trans ?_ (Cert.Kernel33Ideal.product m c i j).symm
  refine Eq.trans (b := ∑ k : Fin 256, Cert.Kernel33Ideal.rhs m c j k * Cert.Kernel33Ideal.lhs m c i k) ?_
    (Finset.sum_congr rfl fun k _ => mul_comm _ _)
  pointwise []

end Cert.GWk
-- ==== Proof.DMemK.Points.lean ====
module
public import proofs.«01_k».proof.Proof.Product
public import proofs.«01_k».proof.Proof.Gen.Kernel34Ideal.Value
public import Idealize.ShloMosaic.PureOps.Ideal
public import Idealize.ShloMosaic.Lib.Pipeline.ValueKit
public import Idealize.ShloMosaic.Lib.Pipeline.ReadBack
public import Idealize.ShloMosaic.Lib.Pointwise

/-!
# The gradient of the memory's rows, block by block

The call computes the cotangent of 256 rows times the transposed weight.  Point `t` works on block `t / 4` of the result, of which 4 lie side by side, and on the
inner columns of step `t % 4`.
-/

@[expose] public section
set_option maxRecDepth 16384
noncomputable section
namespace Cert.Kernel34Ideal
open Idealize.ShloMosaic Idealize.ShloMosaic.TcCoe Idealize.ShloMosaic.Tactic
open Idealize.SL Idealize.SL.Sem
variable (m : (ℓ : Loc nD τ sig) → Buf (Elt Ideal) ℓ)
open Gen Cert.Product

theorem idx0 : ∀ t : Fin cfg0.N, win0_0.index t 0 = t.val / 4 / 4 ∧ win0_0.index t 1 = t.val % 4 := by
  decide +kernel
theorem idx1 : ∀ t : Fin cfg0.N, win0_1.index t 0 = t.val / 4 % 4 ∧ win0_1.index t 1 = t.val % 4 := by
  decide +kernel
theorem idx2 : ∀ t : Fin cfg0.N, win0_2.index t 0 = t.val / 4 / 4 ∧ win0_2.index t 1 = t.val / 4 % 4 := by
  decide +kernel

/-- The left factor, its inner index second. -/
abbrev lhs (c : Dev nD) : Fin 256 → Fin 4096 → EReal := fun r k => m ((c : Thread nD τ).loc main_arg0) (ix2 r k)
/-- The right factor, its inner index second. -/
abbrev rhs (c : Dev nD) : Fin 4096 → Fin 4096 → EReal := fun r k => m ((c : Thread nD τ).loc main_arg1) (ix2 r k)

theorem blk0 (c : Dev nD) (t : Fin cfg0.N) (r : Fin 256) (q : Fin 1024) :
    iblk m c 0 t (ix2 r q) = entry (lhs m c) (t.val / 4 / 4 * 1024 + r.val) (t.val % 4 * 1024 + q.val) := by
  have ht : t.val < 16 := t.isLt
  rw [entry_at _ (by omega) (by omega)]
  blk_ext [iblk, V, idx0 t]

theorem blk1 (c : Dev nD) (t : Fin cfg0.N) (r q : Fin 1024) :
    iblk m c 1 t (ix2 r q) = entry (rhs m c) (t.val / 4 % 4 * 1024 + r.val) (t.val % 4 * 1024 + q.val) := by
  have ht : t.val < 16 := t.isLt
  rw [entry_at _ (by omega) (by omega)]
  blk_ext [iblk, V, idx1 t]

theorem pay1 (r : Fin 256) (l : Fin 1024) : k0_pay1 (F := Ideal) (ix2 r l) = (0 : EReal) := by
  pointwise [k0_pay1]

theorem pay2 (a x : S256x1024.Idx → EReal) (y : S1024x1024.Idx → EReal) (r : Fin 256) (l : Fin 1024) :
    k0_pay2 (F := Ideal) a x y (ix2 r l) = a (ix2 r l) + ∑ q : Fin 1024, x (ix2 r q) * y (ix2 l q) := by
  pointwise [k0_pay2]

/-- One step adds its columns to the accumulator. -/
theorem step (c : Dev nD) (t : Fin cfg0.N) (a : S256x1024.Idx → EReal) (r : Fin 256) (l : Fin 1024) (x : EReal) (h : a (ix2 r l) = x) :
    k0_pay2 (F := Ideal) a (iblk m c 0 t) (iblk m c 1 t) (ix2 r l)
      = x + ∑ q : Fin 1024, term 4 (lhs m c) (rhs m c) r l (t.val / 4) (t.val % 4 * 1024 + q.val) := by
  rw [pay2, h]
  exact congrArg₂ (fun x y : EReal => x + y) rfl
    (sum_blocks _ _ _ _ _ _ (fun q => iblk m c 0 t (ix2 r q)) (fun q => iblk m c 1 t (ix2 l q)) (blk0 m c t r) (blk1 m c t l))

theorem accA (c : Dev nD) (t : Fin cfg0.N) (h : t.val % 4 = 0) (r : Fin 256) (l : Fin 1024) :
    (outsAt0 m c t.val t.isLt).2 (ix2 r l) = 0 + ∑ q : Fin 1024, term 4 (lhs m c) (rhs m c) r l (t.val / 4) (t.val % 4 * 1024 + q.val) := by
  rw [outsAt0_A m c t h (by omega)]
  frame_out
  exact step m c t _ r l _ (pay1 r l)

theorem accB (c : Dev nD) (t : Fin cfg0.N) (h : t.val % 4 ≠ 0) (r : Fin 256) (l : Fin 1024) :
    (outsAt0 m c t.val t.isLt).2 (ix2 r l)
      = (outsAt0 m c (t.val - 1) (Nat.lt_of_le_of_lt (Nat.sub_le _ _) t.isLt)).2 (ix2 r l)
        + ∑ q : Fin 1024, term 4 (lhs m c) (rhs m c) r l (t.val / 4) (t.val % 4 * 1024 + q.val) := by
  by_cases hl : t.val % 4 = 3
  · rw [outsAt0_C m c t h hl]
    frame_out
    exact step m c t _ r l _ (congrFun (Memref.IsWhole.read_unread _ _) _)
  · rw [outsAt0_B m c t h hl]
    frame_out
    exact step m c t _ r l _ (congrFun (Memref.IsWhole.read_unread _ _) _)

/-- The last step of a block writes the accumulator out. -/
theorem out_eq (c : Dev nD) (t : Fin cfg0.N) (hl : t.val % 4 = 3) (r : Fin 256) (l : Fin 1024) :
    (outsAt0 m c t.val t.isLt).1 (ix2 r l) = (outsAt0 m c t.val t.isLt).2 (ix2 r l) := by
  rw [outsAt0_C m c t (by omega) hl]
  frame_out

theorem out_last (c : Dev nD) (t : Fin cfg0.N) (hl : t.val % 4 = 3) (r : Fin 256) (l : Fin 1024) :
    (outsAt0 m c t.val t.isLt).1 (ix2 r l) = 0 + ∑ k : Fin 4096, term 4 (lhs m c) (rhs m c) r l (t.val / 4) k.val :=
  (out_eq m c t hl r l).trans
    (acc_last (J := 4) (B := 1024) (K := 4096) (by norm_num) (by norm_num) (fun n h => (outsAt0 m c n h).2 (ix2 r l))
      (fun _ => 0) (term 4 (lhs m c) (rhs m c) r l)
      (fun n h h0 => accA m c ⟨n, h⟩ h0 r l) (fun n h h0 => accB m c ⟨n, h⟩ h0 r l) t.val t.isLt (by omega))

theorem whole (c : Dev nD) (r : Fin 256) (l : Fin 1024) (p : ℕ) (i : Fin 256) (j : Fin 4096) (hp : p < 4) (hi : i.val = p / 4 * 256 + r.val)
    (hj : j.val = p % 4 * 1024 + l.val) :
    0 + ∑ k : Fin 4096, term 4 (lhs m c) (rhs m c) r l p k.val = ∑ k : Fin 4096, lhs m c i k * rhs m c j k := by
  rw [sum_term _ _ _ _ _ i j (by omega) hj, zero_add]

/-- The array the launch leaves. -/
theorem product (c : Dev nD) (i : Fin 256) (j : Fin 4096) :
    (dats m 0 c).arrAt 2 cfg0.N (ix2 i j) = ∑ k : Fin 4096, lhs m c i k * rhs m c j k := by
  have e : (dats m 0 c).arrAt 2 cfg0.N
      = fun y => ∑ k : Fin 4096, lhs m c (y 0) k * rhs m c (y 1) k := by
    refine (dats m 0 c).arrAt_eq_of_covers 2 _ (by decide +kernel) fun t hf y => ?_
    have hl := (flush0_2 t).mp hf
    obtain ⟨r, l, rfl⟩ : ∃ (r : Fin 256) (l : Fin 1024), y = ix2 r l := ⟨y 0, y 1, eq_ix2 y⟩
    blk_simp
    rw [after0_2, out_last m c t hl]
    refine whole m c r l (t.val / 4) _ _ (by have ht : t.val < 16 := t.isLt; omega) ?_ ?_ <;> blk_ext [idx2 t]
  exact congrFun e _

end Cert.Kernel34Ideal
-- ==== Proof.DMemK.Claims.lean ====
module
public import proofs.«01_k».proof.Defs
public import proofs.«01_k».proof.Proof.DMemK.Points
public import proofs.«01_k».proof.Proof.Gen.Reference34Ideal.Run

/-!
# The gradient of the memory's rows: the claims
-/

@[expose] public section
set_option maxRecDepth 16384
noncomputable section
namespace Cert.DMemK
open Idealize.ShloMosaic Idealize.ShloMosaic.TcCoe Idealize.ShloMosaic.Tactic
open Idealize.SL Idealize.SL.Sem

/-- The plain product runs to its end, keeps its arguments, and has no semaphores. -/
theorem frame_ref : Cert.quiescent_Reference34Ideal := fun m ρ _ =>
  (θ_run Cert.Reference34Ideal.defs _ _).mono (fun r h => ⟨fun c => (h c).2, sem_eq_zero_of_no_sems (by decide) r.2⟩)
    (Cert.Reference34Ideal.Value.run (F := Ideal) m ρ)

/-- The tiled product is the plain one. -/
theorem algebraic : Cert.algebraic_Kernel34Ideal_Reference34Ideal := by
  intro m g m' g' _ hagree
  refine ⟨_, (θ_run Cert.Kernel34Ideal.defs _ _).mono (fun r h => h) (Cert.Kernel34Ideal.Value.run_blocks (F := Ideal) m g),
    (θ_run Cert.Reference34Ideal.defs _ _).mono (fun r h c => ⟨(h c).1.trans ?_, (h c).2⟩)
      (Cert.Reference34Ideal.Value.run (F := Ideal) m' g')⟩
  rw [(hagree c).1, (hagree c).2]
  funext y
  obtain ⟨i, j, rfl⟩ : ∃ (i : Fin 256) (j : Fin 4096), y = ix2 i j := ⟨y 0, y 1, eq_ix2 y⟩
  refine Eq.trans ?_ (Cert.Kernel34Ideal.product m c i j).symm
  pointwise []

end Cert.DMemK
-- ==== Proof.DMemV.Points.lean ====
module
public import proofs.«01_k».proof.Proof.Product
public import proofs.«01_k».proof.Proof.Gen.Kernel35Ideal.Value
public import Idealize.ShloMosaic.PureOps.Ideal
public import Idealize.ShloMosaic.Lib.Pipeline.ValueKit
public import Idealize.ShloMosaic.Lib.Pipeline.ReadBack
public import Idealize.ShloMosaic.Lib.Pointwise

/-!
# The gradient of the memory's rows, added up, block by block

The call computes the cotangent of 256 rows times the transposed weight, added to a gradient that is already there.  Point `t` works on block `t / 4` of the result, of which 4 lie side by side, and on the
inner columns of step `t % 4`.
-/

@[expose] public section
set_option maxRecDepth 16384
noncomputable section
namespace Cert.Kernel35Ideal
open Idealize.ShloMosaic Idealize.ShloMosaic.TcCoe Idealize.ShloMosaic.Tactic
open Idealize.SL Idealize.SL.Sem
variable (m : (ℓ : Loc nD τ sig) → Buf (Elt Ideal) ℓ)
open Gen Cert.Product

theorem idx0 : ∀ t : Fin cfg0.N, win0_0.index t 0 = t.val / 4 / 4 ∧ win0_0.index t 1 = t.val % 4 := by
  decide +kernel
theorem idx1 : ∀ t : Fin cfg0.N, win0_1.index t 0 = t.val / 4 % 4 ∧ win0_1.index t 1 = t.val % 4 := by
  decide +kernel
theorem idx2 : ∀ t : Fin cfg0.N, win0_2.index t 0 = t.val / 4 / 4 ∧ win0_2.index t 1 = t.val / 4 % 4 := by
  decide +kernel
theorem idx3 : ∀ t : Fin cfg0.N, win0_3.index t 0 = t.val / 4 / 4 ∧ win0_3.index t 1 = t.val / 4 % 4 := by
  decide +kernel

/-- The left factor, its inner index second. -/
abbrev lhs (c : Dev nD) : Fin 256 → Fin 4096 → EReal := fun r k => m ((c : Thread nD τ).loc main_arg0) (ix2 r k)
/-- The right factor, its inner index second. -/
abbrev rhs (c : Dev nD) : Fin 4096 → Fin 4096 → EReal := fun r k => m ((c : Thread nD τ).loc main_arg1) (ix2 r k)
/-- The gradient the product is added to. -/
abbrev base (c : Dev nD) : Fin 256 → Fin 4096 → EReal := fun r k => m ((c : Thread nD τ).loc main_arg2) (ix2 r k)

theorem V_base (c : Dev nD) : V m c main_v0 = m ((c : Thread nD τ).loc main_arg2) := by
  unfold_abbrev_sides
  after_results
  rfl

theorem blk0 (c : Dev nD) (t : Fin cfg0.N) (r : Fin 256) (q : Fin 1024) :
    iblk m c 0 t (ix2 r q) = entry (lhs m c) (t.val / 4 / 4 * 1024 + r.val) (t.val % 4 * 1024 + q.val) := by
  have ht : t.val < 16 := t.isLt
  rw [entry_at _ (by omega) (by omega)]
  blk_ext [iblk, V, idx0 t]

theorem blk1 (c : Dev nD) (t : Fin cfg0.N) (r q : Fin 1024) :
    iblk m c 1 t (ix2 r q) = entry (rhs m c) (t.val / 4 % 4 * 1024 + r.val) (t.val % 4 * 1024 + q.val) := by
  have ht : t.val < 16 := t.isLt
  rw [entry_at _ (by omega) (by omega)]
  blk_ext [iblk, V, idx1 t]

theorem blk2 (c : Dev nD) (t : Fin cfg0.N) (r : Fin 256) (q : Fin 1024) :
    iblk m c 2 t (ix2 r q) = entry (base m c) (t.val / 4 / 4 * 1024 + r.val) (t.val / 4 % 4 * 1024 + q.val) := by
  have ht : t.val < 16 := t.isLt
  rw [entry_at _ (by omega) (by omega)]
  have e : iblk m c 2 t (ix2 r q) = V m c main_v0 (ix2 (⟨t.val / 4 / 4 * 1024 + r.val, by omega⟩ : Fin 256)
      (⟨t.val / 4 % 4 * 1024 + q.val, by omega⟩ : Fin 4096)) := by
    blk_ext [iblk, idx2 t]
  rw [e, V_base]

theorem pay1 (z : S256x1024.Idx → EReal) (r : Fin 256) (l : Fin 1024) : k0_pay1 (F := Ideal) z (ix2 r l) = z (ix2 r l) := by
  pointwise [k0_pay1]

theorem pay2 (a x : S256x1024.Idx → EReal) (y : S1024x1024.Idx → EReal) (r : Fin 256) (l : Fin 1024) :
    k0_pay2 (F := Ideal) a x y (ix2 r l) = a (ix2 r l) + ∑ q : Fin 1024, x (ix2 r q) * y (ix2 l q) := by
  pointwise [k0_pay2]

/-- One step adds its columns to the accumulator. -/
theorem step (c : Dev nD) (t : Fin cfg0.N) (a : S256x1024.Idx → EReal) (r : Fin 256) (l : Fin 1024) (x : EReal) (h : a (ix2 r l) = x) :
    k0_pay2 (F := Ideal) a (iblk m c 0 t) (iblk m c 1 t) (ix2 r l)
      = x + ∑ q : Fin 1024, term 4 (lhs m c) (rhs m c) r l (t.val / 4) (t.val % 4 * 1024 + q.val) := by
  rw [pay2, h]
  exact congrArg₂ (fun x y : EReal => x + y) rfl
    (sum_blocks _ _ _ _ _ _ (fun q => iblk m c 0 t (ix2 r q)) (fun q => iblk m c 1 t (ix2 l q)) (blk0 m c t r) (blk1 m c t l))

theorem accA (c : Dev nD) (t : Fin cfg0.N) (h : t.val % 4 = 0) (r : Fin 256) (l : Fin 1024) :
    (outsAt0 m c t.val t.isLt).2 (ix2 r l) = entry (base m c) (t.val / 4 / 4 * 1024 + r.val) (t.val / 4 % 4 * 1024 + l.val) + ∑ q : Fin 1024, term 4 (lhs m c) (rhs m c) r l (t.val / 4) (t.val % 4 * 1024 + q.val) := by
  rw [outsAt0_A m c t h (by omega)]
  frame_out
  exact step m c t _ r l _ ((pay1 _ r l).trans (blk2 m c t r l))

theorem accB (c : Dev nD) (t : Fin cfg0.N) (h : t.val % 4 ≠ 0) (r : Fin 256) (l : Fin 1024) :
    (outsAt0 m c t.val t.isLt).2 (ix2 r l)
      = (outsAt0 m c (t.val - 1) (Nat.lt_of_le_of_lt (Nat.sub_le _ _) t.isLt)).2 (ix2 r l)
        + ∑ q : Fin 1024, term 4 (lhs m c) (rhs m c) r l (t.val / 4) (t.val % 4 * 1024 + q.val) := by
  by_cases hl : t.val % 4 = 3
  · rw [outsAt0_C m c t h hl]
    frame_out
    exact step m c t _ r l _ (congrFun (Memref.IsWhole.read_unread _ _) _)
  · rw [outsAt0_B m c t h hl]
    frame_out
    exact step m c t _ r l _ (congrFun (Memref.IsWhole.read_unread _ _) _)

/-- The last step of a block writes the accumulator out. -/
theorem out_eq (c : Dev nD) (t : Fin cfg0.N) (hl : t.val % 4 = 3) (r : Fin 256) (l : Fin 1024) :
    (outsAt0 m c t.val t.isLt).1 (ix2 r l) = (outsAt0 m c t.val t.isLt).2 (ix2 r l) := by
  rw [outsAt0_C m c t (by omega) hl]
  frame_out

theorem out_last (c : Dev nD) (t : Fin cfg0.N) (hl : t.val % 4 = 3) (r : Fin 256) (l : Fin 1024) :
    (outsAt0 m c t.val t.isLt).1 (ix2 r l) = entry (base m c) (t.val / 4 / 4 * 1024 + r.val) (t.val / 4 % 4 * 1024 + l.val) + ∑ k : Fin 4096, term 4 (lhs m c) (rhs m c) r l (t.val / 4) k.val :=
  (out_eq m c t hl r l).trans
    (acc_last (J := 4) (B := 1024) (K := 4096) (by norm_num) (by norm_num) (fun n h => (outsAt0 m c n h).2 (ix2 r l))
      (fun p => entry (base m c) (p / 4 * 1024 + r.val) (p % 4 * 1024 + l.val)) (term 4 (lhs m c) (rhs m c) r l)
      (fun n h h0 => accA m c ⟨n, h⟩ h0 r l) (fun n h h0 => accB m c ⟨n, h⟩ h0 r l) t.val t.isLt (by omega))

theorem whole (c : Dev nD) (r : Fin 256) (l : Fin 1024) (p : ℕ) (i : Fin 256) (j : Fin 4096) (hp : p < 4) (hi : i.val = p / 4 * 256 + r.val)
    (hj : j.val = p % 4 * 1024 + l.val) :
    entry (base m c) (p / 4 * 1024 + r.val) (p % 4 * 1024 + l.val) + ∑ k : Fin 4096, term 4 (lhs m c) (rhs m c) r l p k.val
      = base m c i j + ∑ k : Fin 4096, lhs m c i k * rhs m c j k := by
  have hi' : i.val = p / 4 * 1024 + r.val := by omega
  rw [sum_term _ _ _ _ _ i j hi' hj, ← hi', ← hj, entry_of]

/-- The array the launch leaves. -/
theorem product (c : Dev nD) (i : Fin 256) (j : Fin 4096) :
    (dats m 0 c).arrAt 3 cfg0.N (ix2 i j) = base m c i j + ∑ k : Fin 4096, lhs m c i k * rhs m c j k := by
  have e : (dats m 0 c).arrAt 3 cfg0.N
      = fun y => base m c (y 0) (y 1) + ∑ k : Fin 4096, lhs m c (y 0) k * rhs m c (y 1) k := by
    refine (dats m 0 c).arrAt_eq_of_covers 3 _ (by decide +kernel) fun t hf y => ?_
    have hl := (flush0_3 t).mp hf
    obtain ⟨r, l, rfl⟩ : ∃ (r : Fin 256) (l : Fin 1024), y = ix2 r l := ⟨y 0, y 1, eq_ix2 y⟩
    blk_simp
    rw [after0_3, out_last m c t hl]
    refine whole m c r l (t.val / 4) _ _ (by have ht : t.val < 16 := t.isLt; omega) ?_ ?_ <;> blk_ext [idx3 t]
  exact congrFun e _

end Cert.Kernel35Ideal
-- ==== Proof.DMemV.Claims.lean ====
module
public import proofs.«01_k».proof.Defs
public import proofs.«01_k».proof.Proof.DMemV.Points
public import proofs.«01_k».proof.Proof.Gen.Reference35Ideal.Run

/-!
# The gradient of the memory's rows, added up: the claims
-/

@[expose] public section
set_option maxRecDepth 16384
noncomputable section
namespace Cert.DMemV
open Idealize.ShloMosaic Idealize.ShloMosaic.TcCoe Idealize.ShloMosaic.Tactic
open Idealize.SL Idealize.SL.Sem

/-- The plain product runs to its end, keeps its arguments, and has no semaphores. -/
theorem frame_ref : Cert.quiescent_Reference35Ideal := fun m ρ _ =>
  (θ_run Cert.Reference35Ideal.defs _ _).mono (fun r h => ⟨fun c => (h c).2, sem_eq_zero_of_no_sems (by decide) r.2⟩)
    (Cert.Reference35Ideal.Value.run (F := Ideal) m ρ)

/-- The tiled product is the plain one. -/
theorem algebraic : Cert.algebraic_Kernel35Ideal_Reference35Ideal := by
  intro m g m' g' _ hagree
  refine ⟨_, (θ_run Cert.Kernel35Ideal.defs _ _).mono (fun r h => h) (Cert.Kernel35Ideal.Value.run_blocks (F := Ideal) m g),
    (θ_run Cert.Reference35Ideal.defs _ _).mono (fun r h c => ⟨(h c).1.trans ?_, (h c).2⟩)
      (Cert.Reference35Ideal.Value.run (F := Ideal) m' g')⟩
  rw [(hagree c).1, (hagree c).2.1, (hagree c).2.2]
  funext y
  obtain ⟨i, j, rfl⟩ : ∃ (i : Fin 256) (j : Fin 4096), y = ix2 i j := ⟨y 0, y 1, eq_ix2 y⟩
  refine Eq.trans ?_ (Cert.Kernel35Ideal.product m c i j).symm
  pointwise []

end Cert.DMemV
-- ==== Proof.ZL.Points.lean ====
module
public import proofs.«01_k».proof.Proof.Product
public import proofs.«01_k».proof.Proof.Gen.Kernel36Ideal.Value
public import Idealize.ShloMosaic.PureOps.Ideal
public import Idealize.ShloMosaic.Lib.Pipeline.ValueKit
public import Idealize.ShloMosaic.Lib.Pipeline.ReadBack
public import Idealize.ShloMosaic.Lib.Pointwise

/-!
# The low-rank cut of the layer's rows, block by block

The call computes the rows times the 448 low-rank columns of the input weight, padded to 512.  Point `t` works on block `t / 4` of the result, of which 1 lie side by side, and on the
inner columns of step `t % 4`.
-/

@[expose] public section
set_option maxRecDepth 16384
noncomputable section
namespace Cert.Kernel36Ideal
open Idealize.ShloMosaic Idealize.ShloMosaic.TcCoe Idealize.ShloMosaic.Tactic
open Idealize.SL Idealize.SL.Sem
variable (m : (ℓ : Loc nD τ sig) → Buf (Elt Ideal) ℓ)
open Gen Cert.Product

theorem idx0 : ∀ t : Fin cfg0.N, win0_0.index t 0 = t.val / 4 / 1 ∧ win0_0.index t 1 = t.val % 4 := by
  decide +kernel
theorem idx1 : ∀ t : Fin cfg0.N, win0_1.index t 0 = t.val % 4 ∧ win0_1.index t 1 = t.val / 4 % 1 := by
  decide +kernel
theorem idx2 : ∀ t : Fin cfg0.N, win0_2.index t 0 = t.val / 4 / 1 ∧ win0_2.index t 1 = t.val / 4 % 1 := by
  decide +kernel

/-- The left factor, its inner index second. -/
abbrev lhs (c : Dev nD) : Fin 4096 → Fin 4096 → EReal := fun r k => m ((c : Thread nD τ).loc main_arg0) (ix2 r k)
/-- The right factor, its inner index second. -/
abbrev rhs (c : Dev nD) : Fin 512 → Fin 4096 → EReal := fun r k => m ((c : Thread nD τ).loc main_arg1) (ix2 k r)

theorem blk0 (c : Dev nD) (t : Fin cfg0.N) (r q : Fin 1024) :
    iblk m c 0 t (ix2 r q) = entry (lhs m c) (t.val / 4 / 1 * 1024 + r.val) (t.val % 4 * 1024 + q.val) := by
  have ht : t.val < 16 := t.isLt
  rw [entry_at _ (by omega) (by omega)]
  blk_ext [iblk, V, idx0 t]

theorem blk1 (c : Dev nD) (t : Fin cfg0.N) (r : Fin 512) (q : Fin 1024) :
    iblk m c 1 t (ix2 q r) = entry (rhs m c) (t.val / 4 % 1 * 1024 + r.val) (t.val % 4 * 1024 + q.val) := by
  have ht : t.val < 16 := t.isLt
  rw [entry_at _ (by omega) (by omega)]
  blk_ext [iblk, V, idx1 t]

theorem pay1 (r : Fin 1024) (l : Fin 512) : k0_pay1 (F := Ideal) (ix2 r l) = (0 : EReal) := by
  pointwise [k0_pay1]

theorem pay2 (a : S1024x512.Idx → EReal) (x : S1024x1024.Idx → EReal) (y : S1024x512.Idx → EReal) (r : Fin 1024) (l : Fin 512) :
    k0_pay2 (F := Ideal) a x y (ix2 r l) = a (ix2 r l) + ∑ q : Fin 1024, x (ix2 r q) * y (ix2 q l) := by
  pointwise [k0_pay2]

/-- One step adds its columns to the accumulator. -/
theorem step (c : Dev nD) (t : Fin cfg0.N) (a : S1024x512.Idx → EReal) (r : Fin 1024) (l : Fin 512) (x : EReal) (h : a (ix2 r l) = x) :
    k0_pay2 (F := Ideal) a (iblk m c 0 t) (iblk m c 1 t) (ix2 r l)
      = x + ∑ q : Fin 1024, term 1 (lhs m c) (rhs m c) r l (t.val / 4) (t.val % 4 * 1024 + q.val) := by
  rw [pay2, h]
  exact congrArg₂ (fun x y : EReal => x + y) rfl
    (sum_blocks _ _ _ _ _ _ (fun q => iblk m c 0 t (ix2 r q)) (fun q => iblk m c 1 t (ix2 q l)) (blk0 m c t r) (blk1 m c t l))

theorem accA (c : Dev nD) (t : Fin cfg0.N) (h : t.val % 4 = 0) (r : Fin 1024) (l : Fin 512) :
    (outsAt0 m c t.val t.isLt).2 (ix2 r l) = 0 + ∑ q : Fin 1024, term 1 (lhs m c) (rhs m c) r l (t.val / 4) (t.val % 4 * 1024 + q.val) := by
  rw [outsAt0_A m c t h (by omega)]
  frame_out
  exact step m c t _ r l _ (pay1 r l)

theorem accB (c : Dev nD) (t : Fin cfg0.N) (h : t.val % 4 ≠ 0) (r : Fin 1024) (l : Fin 512) :
    (outsAt0 m c t.val t.isLt).2 (ix2 r l)
      = (outsAt0 m c (t.val - 1) (Nat.lt_of_le_of_lt (Nat.sub_le _ _) t.isLt)).2 (ix2 r l)
        + ∑ q : Fin 1024, term 1 (lhs m c) (rhs m c) r l (t.val / 4) (t.val % 4 * 1024 + q.val) := by
  by_cases hl : t.val % 4 = 3
  · rw [outsAt0_C m c t h hl]
    frame_out
    exact step m c t _ r l _ (congrFun (Memref.IsWhole.read_unread _ _) _)
  · rw [outsAt0_B m c t h hl]
    frame_out
    exact step m c t _ r l _ (congrFun (Memref.IsWhole.read_unread _ _) _)

/-- The last step of a block writes the accumulator out. -/
theorem out_eq (c : Dev nD) (t : Fin cfg0.N) (hl : t.val % 4 = 3) (r : Fin 1024) (l : Fin 512) :
    (outsAt0 m c t.val t.isLt).1 (ix2 r l) = (outsAt0 m c t.val t.isLt).2 (ix2 r l) := by
  rw [outsAt0_C m c t (by omega) hl]
  frame_out

theorem out_last (c : Dev nD) (t : Fin cfg0.N) (hl : t.val % 4 = 3) (r : Fin 1024) (l : Fin 512) :
    (outsAt0 m c t.val t.isLt).1 (ix2 r l) = 0 + ∑ k : Fin 4096, term 1 (lhs m c) (rhs m c) r l (t.val / 4) k.val :=
  (out_eq m c t hl r l).trans
    (acc_last (J := 4) (B := 1024) (K := 4096) (by norm_num) (by norm_num) (fun n h => (outsAt0 m c n h).2 (ix2 r l))
      (fun _ => 0) (term 1 (lhs m c) (rhs m c) r l)
      (fun n h h0 => accA m c ⟨n, h⟩ h0 r l) (fun n h h0 => accB m c ⟨n, h⟩ h0 r l) t.val t.isLt (by omega))

theorem whole (c : Dev nD) (r : Fin 1024) (l : Fin 512) (p : ℕ) (i : Fin 4096) (j : Fin 512) (hi : i.val = p / 1 * 1024 + r.val)
    (hj : j.val = p % 1 * 512 + l.val) :
    0 + ∑ k : Fin 4096, term 1 (lhs m c) (rhs m c) r l p k.val = ∑ k : Fin 4096, lhs m c i k * rhs m c j k := by
  rw [sum_term _ _ _ _ _ i j hi (by omega), zero_add]

/-- The array the launch leaves. -/
theorem product (c : Dev nD) (i : Fin 4096) (j : Fin 512) :
    (dats m 0 c).arrAt 2 cfg0.N (ix2 i j) = ∑ k : Fin 4096, lhs m c i k * rhs m c j k := by
  have e : (dats m 0 c).arrAt 2 cfg0.N
      = fun y => ∑ k : Fin 4096, lhs m c (y 0) k * rhs m c (y 1) k := by
    refine (dats m 0 c).arrAt_eq_of_covers 2 _ (by decide +kernel) fun t hf y => ?_
    have hl := (flush0_2 t).mp hf
    obtain ⟨r, l, rfl⟩ : ∃ (r : Fin 1024) (l : Fin 512), y = ix2 r l := ⟨y 0, y 1, eq_ix2 y⟩
    blk_simp
    rw [after0_2, out_last m c t hl]
    refine whole m c r l (t.val / 4) _ _ ?_ ?_ <;> blk_ext [idx2 t]
  exact congrFun e _

end Cert.Kernel36Ideal
-- ==== Proof.ZL.Claims.lean ====
module
public import proofs.«01_k».proof.Defs
public import proofs.«01_k».proof.Proof.ZL.Points
public import proofs.«01_k».proof.Proof.Gen.Reference36Ideal.Run

/-!
# The low-rank cut of the layer's rows: the claims
-/

@[expose] public section
set_option maxRecDepth 16384
noncomputable section
namespace Cert.ZL
open Idealize.ShloMosaic Idealize.ShloMosaic.TcCoe Idealize.ShloMosaic.Tactic
open Idealize.SL Idealize.SL.Sem

/-- The plain product runs to its end, keeps its arguments, and has no semaphores. -/
theorem frame_ref : Cert.quiescent_Reference36Ideal := fun m ρ _ =>
  (θ_run Cert.Reference36Ideal.defs _ _).mono (fun r h => ⟨fun c => (h c).2, sem_eq_zero_of_no_sems (by decide) r.2⟩)
    (Cert.Reference36Ideal.Value.run (F := Ideal) m ρ)

/-- The tiled product is the plain one. -/
theorem algebraic : Cert.algebraic_Kernel36Ideal_Reference36Ideal := by
  intro m g m' g' _ hagree
  refine ⟨_, (θ_run Cert.Kernel36Ideal.defs _ _).mono (fun r h => h) (Cert.Kernel36Ideal.Value.run_blocks (F := Ideal) m g),
    (θ_run Cert.Reference36Ideal.defs _ _).mono (fun r h c => ⟨(h c).1.trans ?_, (h c).2⟩)
      (Cert.Reference36Ideal.Value.run (F := Ideal) m' g')⟩
  rw [(hagree c).1, (hagree c).2]
  funext y
  obtain ⟨i, j, rfl⟩ : ∃ (i : Fin 4096) (j : Fin 512), y = ix2 i j := ⟨y 0, y 1, eq_ix2 y⟩
  refine Eq.trans ?_ (Cert.Kernel36Ideal.product m c i j).symm
  pointwise []

end Cert.ZL
-- ==== Proof.GWL.Points.lean ====
module
public import proofs.«01_k».proof.Proof.Product
public import proofs.«01_k».proof.Proof.Gen.Kernel37Ideal.Value
public import Idealize.ShloMosaic.PureOps.Ideal
public import Idealize.ShloMosaic.Lib.Pipeline.ValueKit
public import Idealize.ShloMosaic.Lib.Pipeline.ReadBack
public import Idealize.ShloMosaic.Lib.Pointwise

/-!
# The gradient of the low-rank cut, block by block

The call computes the transposed rows times the cotangent of 512 columns.  Point `t` works on block `t / 4` of the result, of which 1 lie side by side, and on the
inner columns of step `t % 4`.
-/

@[expose] public section
set_option maxRecDepth 16384
noncomputable section
namespace Cert.Kernel37Ideal
open Idealize.ShloMosaic Idealize.ShloMosaic.TcCoe Idealize.ShloMosaic.Tactic
open Idealize.SL Idealize.SL.Sem
variable (m : (ℓ : Loc nD τ sig) → Buf (Elt Ideal) ℓ)
open Gen Cert.Product

theorem idx0 : ∀ t : Fin cfg0.N, win0_0.index t 0 = t.val % 4 ∧ win0_0.index t 1 = t.val / 4 / 1 := by
  decide +kernel
theorem idx1 : ∀ t : Fin cfg0.N, win0_1.index t 0 = t.val % 4 ∧ win0_1.index t 1 = t.val / 4 % 1 := by
  decide +kernel
theorem idx2 : ∀ t : Fin cfg0.N, win0_2.index t 0 = t.val / 4 / 1 ∧ win0_2.index t 1 = t.val / 4 % 1 := by
  decide +kernel

/-- The left factor, its inner index second. -/
abbrev lhs (c : Dev nD) : Fin 4096 → Fin 4096 → EReal := fun r k => m ((c : Thread nD τ).loc main_arg0) (ix2 k r)
/-- The right factor, its inner index second. -/
abbrev rhs (c : Dev nD) : Fin 512 → Fin 4096 → EReal := fun r k => m ((c : Thread nD τ).loc main_arg1) (ix2 k r)

theorem blk0 (c : Dev nD) (t : Fin cfg0.N) (r q : Fin 1024) :
    iblk m c 0 t (ix2 q r) = entry (lhs m c) (t.val / 4 / 1 * 1024 + r.val) (t.val % 4 * 1024 + q.val) := by
  have ht : t.val < 16 := t.isLt
  rw [entry_at _ (by omega) (by omega)]
  blk_ext [iblk, V, idx0 t]

theorem blk1 (c : Dev nD) (t : Fin cfg0.N) (r : Fin 512) (q : Fin 1024) :
    iblk m c 1 t (ix2 q r) = entry (rhs m c) (t.val / 4 % 1 * 1024 + r.val) (t.val % 4 * 1024 + q.val) := by
  have ht : t.val < 16 := t.isLt
  rw [entry_at _ (by omega) (by omega)]
  blk_ext [iblk, V, idx1 t]

theorem pay1 (r : Fin 1024) (l : Fin 512) : k0_pay1 (F := Ideal) (ix2 r l) = (0 : EReal) := by
  pointwise [k0_pay1]

theorem pay2 (a : S1024x512.Idx → EReal) (x : S1024x1024.Idx → EReal) (y : S1024x512.Idx → EReal) (r : Fin 1024) (l : Fin 512) :
    k0_pay2 (F := Ideal) a x y (ix2 r l) = a (ix2 r l) + ∑ q : Fin 1024, x (ix2 q r) * y (ix2 q l) := by
  pointwise [k0_pay2]

theorem pay3 (a : S1024x512.Idx → EReal) (r : Fin 1024) (l : Fin 512) : k0_pay3 (F := Ideal) a (ix2 r l) = a (ix2 r l) := by
  pointwise [k0_pay3]

/-- One step adds its columns to the accumulator. -/
theorem step (c : Dev nD) (t : Fin cfg0.N) (a : S1024x512.Idx → EReal) (r : Fin 1024) (l : Fin 512) (x : EReal) (h : a (ix2 r l) = x) :
    k0_pay2 (F := Ideal) a (iblk m c 0 t) (iblk m c 1 t) (ix2 r l)
      = x + ∑ q : Fin 1024, term 1 (lhs m c) (rhs m c) r l (t.val / 4) (t.val % 4 * 1024 + q.val) := by
  rw [pay2, h]
  exact congrArg₂ (fun x y : EReal => x + y) rfl
    (sum_blocks _ _ _ _ _ _ (fun q => iblk m c 0 t (ix2 q r)) (fun q => iblk m c 1 t (ix2 q l)) (blk0 m c t r) (blk1 m c t l))

theorem accA (c : Dev nD) (t : Fin cfg0.N) (h : t.val % 4 = 0) (r : Fin 1024) (l : Fin 512) :
    (outsAt0 m c t.val t.isLt).2 (ix2 r l) = 0 + ∑ q : Fin 1024, term 1 (lhs m c) (rhs m c) r l (t.val / 4) (t.val % 4 * 1024 + q.val) := by
  rw [outsAt0_A m c t h (by omega)]
  frame_out
  exact step m c t _ r l _ (pay1 r l)

theorem accB (c : Dev nD) (t : Fin cfg0.N) (h : t.val % 4 ≠ 0) (r : Fin 1024) (l : Fin 512) :
    (outsAt0 m c t.val t.isLt).2 (ix2 r l)
      = (outsAt0 m c (t.val - 1) (Nat.lt_of_le_of_lt (Nat.sub_le _ _) t.isLt)).2 (ix2 r l)
        + ∑ q : Fin 1024, term 1 (lhs m c) (rhs m c) r l (t.val / 4) (t.val % 4 * 1024 + q.val) := by
  by_cases hl : t.val % 4 = 3
  · rw [outsAt0_C m c t h hl]
    frame_out
    exact step m c t _ r l _ (congrFun (Memref.IsWhole.read_unread _ _) _)
  · rw [outsAt0_B m c t h hl]
    frame_out
    exact step m c t _ r l _ (congrFun (Memref.IsWhole.read_unread _ _) _)

/-- The last step of a block writes the accumulator out. -/
theorem out_eq (c : Dev nD) (t : Fin cfg0.N) (hl : t.val % 4 = 3) (r : Fin 1024) (l : Fin 512) :
    (outsAt0 m c t.val t.isLt).1 (ix2 r l) = (outsAt0 m c t.val t.isLt).2 (ix2 r l) := by
  rw [outsAt0_C m c t (by omega) hl]
  frame_out
  exact pay3 _ r l

theorem out_last (c : Dev nD) (t : Fin cfg0.N) (hl : t.val % 4 = 3) (r : Fin 1024) (l : Fin 512) :
    (outsAt0 m c t.val t.isLt).1 (ix2 r l) = 0 + ∑ k : Fin 4096, term 1 (lhs m c) (rhs m c) r l (t.val / 4) k.val :=
  (out_eq m c t hl r l).trans
    (acc_last (J := 4) (B := 1024) (K := 4096) (by norm_num) (by norm_num) (fun n h => (outsAt0 m c n h).2 (ix2 r l))
      (fun _ => 0) (term 1 (lhs m c) (rhs m c) r l)
      (fun n h h0 => accA m c ⟨n, h⟩ h0 r l) (fun n h h0 => accB m c ⟨n, h⟩ h0 r l) t.val t.isLt (by omega))

theorem whole (c : Dev nD) (r : Fin 1024) (l : Fin 512) (p : ℕ) (i : Fin 4096) (j : Fin 512) (hi : i.val = p / 1 * 1024 + r.val)
    (hj : j.val = p % 1 * 512 + l.val) :
    0 + ∑ k : Fin 4096, term 1 (lhs m c) (rhs m c) r l p k.val = ∑ k : Fin 4096, lhs m c i k * rhs m c j k := by
  rw [sum_term _ _ _ _ _ i j hi (by omega), zero_add]

/-- The array the launch leaves. -/
theorem product (c : Dev nD) (i : Fin 4096) (j : Fin 512) :
    (dats m 0 c).arrAt 2 cfg0.N (ix2 i j) = ∑ k : Fin 4096, lhs m c i k * rhs m c j k := by
  have e : (dats m 0 c).arrAt 2 cfg0.N
      = fun y => ∑ k : Fin 4096, lhs m c (y 0) k * rhs m c (y 1) k := by
    refine (dats m 0 c).arrAt_eq_of_covers 2 _ (by decide +kernel) fun t hf y => ?_
    have hl := (flush0_2 t).mp hf
    obtain ⟨r, l, rfl⟩ : ∃ (r : Fin 1024) (l : Fin 512), y = ix2 r l := ⟨y 0, y 1, eq_ix2 y⟩
    blk_simp
    rw [after0_2, out_last m c t hl]
    refine whole m c r l (t.val / 4) _ _ ?_ ?_ <;> blk_ext [idx2 t]
  exact congrFun e _

end Cert.Kernel37Ideal
-- ==== Proof.GWL.Claims.lean ====
module
public import proofs.«01_k».proof.Defs
public import proofs.«01_k».proof.Proof.GWL.Points
public import proofs.«01_k».proof.Proof.Gen.Reference37Ideal.Run

/-!
# The gradient of the low-rank cut: the claims
-/

@[expose] public section
set_option maxRecDepth 16384
noncomputable section
namespace Cert.GWL
open Idealize.ShloMosaic Idealize.ShloMosaic.TcCoe Idealize.ShloMosaic.Tactic
open Idealize.SL Idealize.SL.Sem

/-- The plain product runs to its end, keeps its arguments, and has no semaphores. -/
theorem frame_ref : Cert.quiescent_Reference37Ideal := fun m ρ _ =>
  (θ_run Cert.Reference37Ideal.defs _ _).mono (fun r h => ⟨fun c => (h c).2, sem_eq_zero_of_no_sems (by decide) r.2⟩)
    (Cert.Reference37Ideal.Value.run (F := Ideal) m ρ)

/-- The tiled product is the plain one. -/
theorem algebraic : Cert.algebraic_Kernel37Ideal_Reference37Ideal := by
  intro m g m' g' _ hagree
  refine ⟨_, (θ_run Cert.Kernel37Ideal.defs _ _).mono (fun r h => h) (Cert.Kernel37Ideal.Value.run_blocks (F := Ideal) m g),
    (θ_run Cert.Reference37Ideal.defs _ _).mono (fun r h c => ⟨(h c).1.trans ?_, (h c).2⟩)
      (Cert.Reference37Ideal.Value.run (F := Ideal) m' g')⟩
  rw [(hagree c).1, (hagree c).2]
  funext y
  obtain ⟨i, j, rfl⟩ : ∃ (i : Fin 4096) (j : Fin 512), y = ix2 i j := ⟨y 0, y 1, eq_ix2 y⟩
  refine Eq.trans ?_ (Cert.Kernel37Ideal.product m c i j).symm
  refine Eq.trans (b := ∑ k : Fin 4096, Cert.Kernel37Ideal.rhs m c j k * Cert.Kernel37Ideal.lhs m c i k) ?_
    (Finset.sum_congr rfl fun k _ => mul_comm _ _)
  pointwise []

end Cert.GWL
-- ==== Proof.DXL.Points.lean ====
module
public import proofs.«01_k».proof.Proof.Gen.Kernel38Ideal.Value
public import Idealize.ShloMosaic.PureOps.Ideal
public import Idealize.ShloMosaic.Lib.Pipeline.ValueKit
public import Idealize.ShloMosaic.Lib.Pipeline.ReadBack
public import Idealize.ShloMosaic.Lib.Pointwise

/-!
# The gradient of the layer's rows through the low-rank cut, block by block

The call adds the cotangent of 512 columns times the transposed cut to a gradient that is already there.  The inner sum is one
step long: point `t` copies block `(t / 4, t % 4)` of that gradient, adds the whole product of its two blocks, and writes it.
-/

@[expose] public section
set_option maxRecDepth 16384
noncomputable section
namespace Cert.Kernel38Ideal
open Idealize.ShloMosaic Idealize.ShloMosaic.TcCoe Idealize.ShloMosaic.Tactic
open Idealize.SL Idealize.SL.Sem
variable (m : (ℓ : Loc nD τ sig) → Buf (Elt Ideal) ℓ)
open Gen

theorem idx0 : ∀ t : Fin cfg0.N, win0_0.index t 0 = t.val / 4 ∧ win0_0.index t 1 = 0 := by
  decide +kernel
theorem idx1 : ∀ t : Fin cfg0.N, win0_1.index t 0 = t.val % 4 ∧ win0_1.index t 1 = 0 := by
  decide +kernel
theorem idx2 : ∀ t : Fin cfg0.N, win0_2.index t 0 = t.val / 4 ∧ win0_2.index t 1 = t.val % 4 := by
  decide +kernel
theorem idx3 : ∀ t : Fin cfg0.N, win0_3.index t 0 = t.val / 4 ∧ win0_3.index t 1 = t.val % 4 := by
  decide +kernel

/-- The left factor, its inner index second. -/
abbrev lhs (c : Dev nD) : Fin 4096 → Fin 512 → EReal := fun r k => m ((c : Thread nD τ).loc main_arg0) (ix2 r k)
/-- The right factor, its inner index second. -/
abbrev rhs (c : Dev nD) : Fin 4096 → Fin 512 → EReal := fun r k => m ((c : Thread nD τ).loc main_arg1) (ix2 r k)
/-- The gradient the product is added to. -/
abbrev base (c : Dev nD) : Fin 4096 → Fin 4096 → EReal := fun r k => m ((c : Thread nD τ).loc main_arg2) (ix2 r k)

theorem V_base (c : Dev nD) : V m c main_v0 = m ((c : Thread nD τ).loc main_arg2) := by
  unfold_abbrev_sides
  after_results
  rfl

/-- A point's blocks of the cotangent, of the cut and of the gradient that is already there. -/
abbrev left (c : Dev nD) (t : Fin cfg0.N) : S1024x512.Idx → EReal := iblk m c 0 t
abbrev right (c : Dev nD) (t : Fin cfg0.N) : S1024x512.Idx → EReal := iblk m c 1 t
abbrev there (c : Dev nD) (t : Fin cfg0.N) : S1024x1024.Idx → EReal := iblk m c 2 t

theorem blk0 (c : Dev nD) (t : Fin cfg0.N) (r : Fin 1024) (q : Fin 512) (i : Fin 4096) (hi : i.val = t.val / 4 * 1024 + r.val) :
    left m c t (ix2 r q) = lhs m c i q := by
  obtain ⟨i, _⟩ := i
  obtain rfl : i = t.val / 4 * 1024 + r.val := hi
  show iblk m c 0 t (ix2 r q) = m ((c : Thread nD τ).loc main_arg0) (ix2 _ q)
  blk_ext [iblk, V, idx0 t]

theorem blk1 (c : Dev nD) (t : Fin cfg0.N) (l : Fin 1024) (q : Fin 512) (j : Fin 4096) (hj : j.val = t.val % 4 * 1024 + l.val) :
    right m c t (ix2 l q) = rhs m c j q := by
  obtain ⟨j, _⟩ := j
  obtain rfl : j = t.val % 4 * 1024 + l.val := hj
  show iblk m c 1 t (ix2 l q) = m ((c : Thread nD τ).loc main_arg1) (ix2 _ q)
  blk_ext [iblk, V, idx1 t]

theorem blk2 (c : Dev nD) (t : Fin cfg0.N) (r l : Fin 1024) (i j : Fin 4096) (hi : i.val = t.val / 4 * 1024 + r.val)
    (hj : j.val = t.val % 4 * 1024 + l.val) : there m c t (ix2 r l) = base m c i j := by
  obtain ⟨i, _⟩ := i
  obtain ⟨j, _⟩ := j
  obtain rfl : i = t.val / 4 * 1024 + r.val := hi
  obtain rfl : j = t.val % 4 * 1024 + l.val := hj
  have e : iblk m c 2 t (ix2 r l) = V m c main_v0 (ix2 (⟨t.val / 4 * 1024 + r.val, by assumption⟩ : Fin 4096)
      (⟨t.val % 4 * 1024 + l.val, by assumption⟩ : Fin 4096)) := by
    blk_ext [iblk, idx2 t]
  refine e.trans ?_
  rw [V_base]

theorem pay2 (a : S1024x1024.Idx → EReal) (x y : S1024x512.Idx → EReal) (r l : Fin 1024) :
    k0_pay2 (F := Ideal) (k0_pay1 (F := Ideal) a) x y (ix2 r l) = a (ix2 r l) + ∑ q : Fin 512, x (ix2 r q) * y (ix2 l q) := by
  pointwise [k0_pay2, k0_pay1]

/-- What a point writes. -/
theorem out_at (c : Dev nD) (t : Fin cfg0.N) (r l : Fin 1024) :
    outsAt0 m c t (ix2 r l) = there m c t (ix2 r l) + ∑ q : Fin 512, left m c t (ix2 r q) * right m c t (ix2 l q) := by
  unfold outsAt0
  frame_out
  exact pay2 _ _ _ r l

/-- The array the launch leaves. -/
theorem product (c : Dev nD) (i j : Fin 4096) :
    (dats m 0 c).arrAt 3 cfg0.N (ix2 i j) = base m c i j + ∑ k : Fin 512, lhs m c i k * rhs m c j k := by
  have e : (dats m 0 c).arrAt 3 cfg0.N
      = fun y => base m c (y 0) (y 1) + ∑ k : Fin 512, lhs m c (y 0) k * rhs m c (y 1) k := by
    refine (dats m 0 c).arrAt_eq_of_covers 3 _ (by decide +kernel) fun t _ y => ?_
    obtain ⟨r, l, rfl⟩ : ∃ r l : Fin 1024, y = ix2 r l := ⟨y 0, y 1, eq_ix2 y⟩
    blk_simp
    rw [after0_3, out_at m c t]
    refine congrArg₂ (fun a b : EReal => a + b) (blk2 m c t r l _ _ ?_ ?_)
      (congrArg (fun f : Fin 512 → EReal => ∑ k, f k) (funext fun q =>
        congrArg₂ (fun a b : EReal => a * b) (blk0 m c t r q _ ?_) (blk1 m c t l q _ ?_))) <;> blk_ext [idx3 t]
  exact congrFun e _

end Cert.Kernel38Ideal
-- ==== Proof.DXL.Claims.lean ====
module
public import proofs.«01_k».proof.Defs
public import proofs.«01_k».proof.Proof.DXL.Points
public import proofs.«01_k».proof.Proof.Gen.Reference38Ideal.Run

/-!
# The gradient of the layer's rows through the low-rank cut: the claims
-/

@[expose] public section
set_option maxRecDepth 16384
noncomputable section
namespace Cert.DXL
open Idealize.ShloMosaic Idealize.ShloMosaic.TcCoe Idealize.ShloMosaic.Tactic
open Idealize.SL Idealize.SL.Sem

/-- The plain product runs to its end, keeps its arguments, and has no semaphores. -/
theorem frame_ref : Cert.quiescent_Reference38Ideal := fun m ρ _ =>
  (θ_run Cert.Reference38Ideal.defs _ _).mono (fun r h => ⟨fun c => (h c).2, sem_eq_zero_of_no_sems (by decide) r.2⟩)
    (Cert.Reference38Ideal.Value.run (F := Ideal) m ρ)

/-- The tiled product is the plain one. -/
theorem algebraic : Cert.algebraic_Kernel38Ideal_Reference38Ideal := by
  intro m g m' g' _ hagree
  refine ⟨_, (θ_run Cert.Kernel38Ideal.defs _ _).mono (fun r h => h) (Cert.Kernel38Ideal.Value.run_blocks (F := Ideal) m g),
    (θ_run Cert.Reference38Ideal.defs _ _).mono (fun r h c => ⟨(h c).1.trans ?_, (h c).2⟩)
      (Cert.Reference38Ideal.Value.run (F := Ideal) m' g')⟩
  rw [(hagree c).1, (hagree c).2.1, (hagree c).2.2]
  funext y
  obtain ⟨i, j, rfl⟩ : ∃ (i : Fin 4096) (j : Fin 4096), y = ix2 i j := ⟨y 0, y 1, eq_ix2 y⟩
  refine Eq.trans ?_ (Cert.Kernel38Ideal.product m c i j).symm
  pointwise []

end Cert.DXL
-- ==== Proof.GluF.Claims.lean ====
module
public import proofs.«01_k».proof.Defs
public import proofs.«01_k».proof.Proof.Gen.Kernel39Ideal.Value
public import proofs.«01_k».proof.Proof.Gen.Reference39Ideal.Run
public import Idealize.ShloMosaic.Lib.Pointwise

/-!
# The gated linear unit: the claims
-/

@[expose] public section
set_option maxRecDepth 16384
noncomputable section
namespace Cert.GluF
open Idealize.ShloMosaic Idealize.ShloMosaic.TcCoe Idealize.ShloMosaic.Tactic
open Idealize.SL Idealize.SL.Sem

/-- The definition runs to its end, keeps its arguments, and has no semaphores. -/
theorem frame_ref : Cert.quiescent_Reference39Ideal := fun m ρ _ =>
  (θ_run Cert.Reference39Ideal.defs _ _).mono (fun r h => ⟨fun c => (h c).2, sem_eq_zero_of_no_sems (by decide) r.2⟩)
    (Cert.Reference39Ideal.Value.run (F := Ideal) m ρ)

/-- The value times the gate's sigmoid. -/
theorem algebraic : Cert.algebraic_Kernel39Ideal_Reference39Ideal := by
  intro m g m' g' _ hagree
  refine ⟨_, (θ_run Cert.Kernel39Ideal.defs _ _).mono (fun r h => h) (Cert.Kernel39Ideal.Value.run (F := Ideal) m g),
    (θ_run Cert.Reference39Ideal.defs _ _).mono (fun r h c => ⟨(h c).1.trans ?_, (h c).2⟩)
      (Cert.Reference39Ideal.Value.run (F := Ideal) m' g')⟩
  simp only [(hagree c).1, (hagree c).2]
  funext y
  obtain ⟨i, j, rfl⟩ : ∃ (i : Fin 4096) (j : Fin 2048), y = ix2 i j := ⟨y 0, y 1, eq_ix2 y⟩
  pointwise [Cert.Kernel39Ideal.Value.G2]
  rw [zero_sub]

end Cert.GluF
-- ==== Proof.MergeF.Claims.lean ====
module
public import proofs.«01_k».proof.Defs
public import proofs.«01_k».proof.Proof.Gen.Kernel40Ideal.Value
public import proofs.«01_k».proof.Proof.Gen.Reference40Ideal.Run
public import Idealize.ShloMosaic.Lib.Pointwise

/-!
# The gated sum of the two mixers: the claims
-/

@[expose] public section
set_option maxRecDepth 16384
noncomputable section
namespace Cert.MergeF
open Idealize.ShloMosaic Idealize.ShloMosaic.TcCoe Idealize.ShloMosaic.Tactic
open Idealize.SL Idealize.SL.Sem

/-- The definition runs to its end, keeps its arguments, and has no semaphores. -/
theorem frame_ref : Cert.quiescent_Reference40Ideal := fun m ρ _ =>
  (θ_run Cert.Reference40Ideal.defs _ _).mono (fun r h => ⟨fun c => (h c).2, sem_eq_zero_of_no_sems (by decide) r.2⟩)
    (Cert.Reference40Ideal.Value.run (F := Ideal) m ρ)

/-- Each mixer times its gate's sigmoid, added. -/
theorem algebraic : Cert.algebraic_Kernel40Ideal_Reference40Ideal := by
  intro m g m' g' _ hagree
  refine ⟨_, (θ_run Cert.Kernel40Ideal.defs _ _).mono (fun r h => h) (Cert.Kernel40Ideal.Value.run (F := Ideal) m g),
    (θ_run Cert.Reference40Ideal.defs _ _).mono (fun r h c => ⟨(h c).1.trans ?_, (h c).2⟩)
      (Cert.Reference40Ideal.Value.run (F := Ideal) m' g')⟩
  simp only [(hagree c).1, (hagree c).2.1, (hagree c).2.2.1, (hagree c).2.2.2]
  funext y
  obtain ⟨i, j, rfl⟩ : ∃ (i : Fin 4096) (j : Fin 4096), y = ix2 i j := ⟨y 0, y 1, eq_ix2 y⟩
  pointwise [Cert.Kernel40Ideal.Value.G4]
  rw [zero_sub, zero_sub]

end Cert.MergeF
-- ==== Proof.ReluF.Claims.lean ====
module
public import proofs.«01_k».proof.Defs
public import proofs.«01_k».proof.Proof.Gen.Kernel41Ideal.Value
public import proofs.«01_k».proof.Proof.Gen.Reference41Ideal.Run
public import Idealize.ShloMosaic.Lib.Pointwise

/-!
# The squared rectifier: the claims
-/

@[expose] public section
set_option maxRecDepth 16384
noncomputable section
namespace Cert.ReluF
open Idealize.ShloMosaic Idealize.ShloMosaic.TcCoe Idealize.ShloMosaic.Tactic
open Idealize.SL Idealize.SL.Sem

/-- The definition runs to its end, keeps its arguments, and has no semaphores. -/
theorem frame_ref : Cert.quiescent_Reference41Ideal := fun m ρ _ =>
  (θ_run Cert.Reference41Ideal.defs _ _).mono (fun r h => ⟨fun c => (h c).2, sem_eq_zero_of_no_sems (by decide) r.2⟩)
    (Cert.Reference41Ideal.Value.run (F := Ideal) m ρ)

/-- The rectified entry times itself. -/
theorem algebraic : Cert.algebraic_Kernel41Ideal_Reference41Ideal := by
  intro m g m' g' _ hagree
  refine ⟨_, (θ_run Cert.Kernel41Ideal.defs _ _).mono (fun r h => h) (Cert.Kernel41Ideal.Value.run (F := Ideal) m g),
    (θ_run Cert.Reference41Ideal.defs _ _).mono (fun r h c => ⟨(h c).1.trans ?_, (h c).2⟩)
      (Cert.Reference41Ideal.Value.run (F := Ideal) m' g')⟩
  simp only [hagree c]
  funext y
  obtain ⟨i, j, rfl⟩ : ∃ (i : Fin 4096) (j : Fin 16384), y = ix2 i j := ⟨y 0, y 1, eq_ix2 y⟩
  pointwise [Cert.Kernel41Ideal.Value.G1]

end Cert.ReluF
-- ==== Proof.LnMemF.Claims.lean ====
module
public import proofs.«01_k».proof.Defs
public import proofs.«01_k».proof.Proof.Gen.Kernel42Ideal.Value
public import proofs.«01_k».proof.Proof.Gen.Reference42Ideal.Run
public import Idealize.ShloMosaic.Lib.Pointwise

/-!
# The memory's layer norm: the claims
-/

@[expose] public section
set_option maxRecDepth 16384
noncomputable section
namespace Cert.LnMemF
open Idealize.ShloMosaic Idealize.ShloMosaic.TcCoe Idealize.ShloMosaic.Tactic
open Idealize.SL Idealize.SL.Sem

/-- The definition runs to its end, keeps its arguments, and has no semaphores. -/
theorem frame_ref : Cert.quiescent_Reference42Ideal := fun m ρ _ =>
  (θ_run Cert.Reference42Ideal.defs _ _).mono (fun r h => ⟨fun c => (h c).2, sem_eq_zero_of_no_sems (by decide) r.2⟩)
    (Cert.Reference42Ideal.Value.run (F := Ideal) m ρ)

/-- The centred row over its deviation, scaled and shifted. -/
theorem algebraic : Cert.algebraic_Kernel42Ideal_Reference42Ideal := by
  intro m g m' g' _ hagree
  refine ⟨_, (θ_run Cert.Kernel42Ideal.defs _ _).mono (fun r h => h) (Cert.Kernel42Ideal.Value.run (F := Ideal) m g),
    (θ_run Cert.Reference42Ideal.defs _ _).mono (fun r h c => ⟨(h c).1.trans ?_, (h c).2⟩)
      (Cert.Reference42Ideal.Value.run (F := Ideal) m' g')⟩
  simp only [(hagree c).1, (hagree c).2.1, (hagree c).2.2]
  funext y
  obtain ⟨i, j, rfl⟩ : ∃ (i : Fin 256) (j : Fin 4096), y = ix2 i j := ⟨y 0, y 1, eq_ix2 y⟩
  pointwise [Cert.Kernel42Ideal.Value.G3, Cert.Kernel42Ideal.Gen.k0_pay1]

end Cert.LnMemF
-- ==== Proof.LnF.Points.lean ====
module
public import proofs.«01_k».proof.Proof.Norm
public import proofs.«01_k».proof.Proof.Gen.Kernel43Ideal.Value
public import Idealize.ShloMosaic.PureOps.Ideal
public import Idealize.ShloMosaic.Lib.Pipeline.ValueKit
public import Idealize.ShloMosaic.Lib.Pipeline.ReadBack
public import Idealize.ShloMosaic.Lib.Pointwise

/-!
# A residual sum's layer norm, block by block

Point `t` works on rows `128 t` and on, and writes the same values twice, once as they are and once rounded.
-/

@[expose] public section
set_option maxRecDepth 16384
noncomputable section
namespace Cert.Kernel43Ideal
open Idealize.ShloMosaic Idealize.ShloMosaic.TcCoe Idealize.ShloMosaic.Tactic
open Idealize.SL Idealize.SL.Sem
variable (m : (ℓ : Loc nD τ sig) → Buf (Elt Ideal) ℓ)
open Gen Cert.Norm

/-- The factor of the residual, the row's length and the variance's small term. -/
abbrev ka : EReal := Ideal.ofBits FTy.f32 1066940400#32
abbrev kd : EReal := Ideal.ofBits FTy.f32 1166016512#32
abbrev ke : EReal := Ideal.ofBits FTy.f32 925353388#32

/-- The normalised row, scaled and shifted. -/
abbrev normed (h y g b : Fin 4096 → EReal) (j : Fin 4096) : EReal := scaled kd ke (fun k => ka * h k + y k) j * g j + b j

theorem pay1 (h y : S128x4096.Idx → EReal) (g b : S1x4096.Idx → EReal) (r : Fin 128) (j : Fin 4096) :
    k0_pay1 (F := Ideal) h y g b (ix2 r j) = normed (fun k => h (ix2 r k)) (fun k => y (ix2 r k)) (fun k => g (ix2 0 k)) (fun k => b (ix2 0 k)) j := by
  pointwise [k0_pay1]
  rfl

theorem pay2 (h y : S128x4096.Idx → EReal) (g b : S1x4096.Idx → EReal) (r : Fin 128) (j : Fin 4096) :
    k0_pay2 (F := Ideal) h y g b (ix2 r j) = normed (fun k => h (ix2 r k)) (fun k => y (ix2 r k)) (fun k => g (ix2 0 k)) (fun k => b (ix2 0 k)) j := by
  pointwise [k0_pay2]
  exact pay1 h y g b r j

theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = 0 ∧ win0_3.index t 1 = 0 := by decide +kernel
theorem idx4 : ∀ t : Fin cfg0.N, win0_4.index t 0 = t.val ∧ win0_4.index t 1 = 0 := by decide +kernel
theorem idx5 : ∀ t : Fin cfg0.N, win0_5.index t 0 = t.val ∧ win0_5.index t 1 = 0 := by decide +kernel

theorem blk0 (c : Dev nD) (t : Fin cfg0.N) (r : Fin 128) :
    (fun k => iblk m c 0 t (ix2 r k)) = row (n := 4096) (M := 4096) (m ((c : Thread nD τ).loc main_arg0)) (t.val * 128 + r.val) := by
  have ht : t.val < 32 := t.isLt
  funext k
  rw [row_at _ (by omega)]
  blk_ext [iblk, V, idx0 t]

theorem blk1 (c : Dev nD) (t : Fin cfg0.N) (r : Fin 128) :
    (fun k => iblk m c 1 t (ix2 r k)) = row (n := 4096) (M := 4096) (m ((c : Thread nD τ).loc main_arg1)) (t.val * 128 + r.val) := by
  have ht : t.val < 32 := t.isLt
  funext k
  rw [row_at _ (by omega)]
  blk_ext [iblk, V, idx1 t]

theorem blk2 (c : Dev nD) (t : Fin cfg0.N) :
    (fun k => iblk m c 2 t (ix2 0 k)) = fun k => m ((c : Thread nD τ).loc main_arg2) (ix2 0 k) := by
  funext k
  blk_ext [iblk, V, idx2 t]

theorem blk3 (c : Dev nD) (t : Fin cfg0.N) :
    (fun k => iblk m c 3 t (ix2 0 k)) = fun k => m ((c : Thread nD τ).loc main_arg3) (ix2 0 k) := by
  funext k
  blk_ext [iblk, V, idx3 t]

/-- One entry of both results. -/
abbrev outAt (c : Dev nD) (i : ℕ) (j : Fin 4096) : EReal :=
  normed (row (n := 4096) (M := 4096) (m ((c : Thread nD τ).loc main_arg0)) i) (row (n := 4096) (M := 4096) (m ((c : Thread nD τ).loc main_arg1)) i)
    (fun k => m ((c : Thread nD τ).loc main_arg2) (ix2 0 k)) (fun k => m ((c : Thread nD τ).loc main_arg3) (ix2 0 k)) j

theorem out4 (c : Dev nD) (t : Fin cfg0.N) (r : Fin 128) (l : Fin 4096) :
    out0_4 (iblk m c 0 t) (iblk m c 1 t) (iblk m c 2 t) (iblk m c 3 t) (ix2 r l) = outAt m c (t.val * 128 + r.val) l := by
  frame_out
  rw [pay1, blk0, blk1, blk2, blk3]

theorem out5 (c : Dev nD) (t : Fin cfg0.N) (r : Fin 128) (l : Fin 4096) :
    out0_5 (iblk m c 0 t) (iblk m c 1 t) (iblk m c 2 t) (iblk m c 3 t) (ix2 r l) = outAt m c (t.val * 128 + r.val) l := by
  frame_out
  rw [pay2, blk0, blk1, blk2, blk3]

/-- The two arrays the launch leaves. -/
theorem final4 (c : Dev nD) : (dats m 0 c).arrAt 4 cfg0.N = fun i : S4096x4096.Idx => outAt m c (i 0).val (i 1) := by
  refine (dats m 0 c).arrAt_eq_of_covers 4 _ (by decide +kernel) fun t hf y => ?_
  obtain ⟨r, l, rfl⟩ : ∃ (r : Fin 128) (l : Fin 4096), y = ix2 r l := ⟨y 0, y 1, eq_ix2 y⟩
  blk_simp
  rw [after0_4, out4]
  refine congrArg₂ (fun (i : ℕ) (l : Fin 4096) => outAt m c i l) ?_ (Fin.ext ?_) <;> blk_simp [idx4 t] <;> omega

theorem final5 (c : Dev nD) : (dats m 0 c).arrAt 5 cfg0.N = fun i : S4096x4096.Idx => outAt m c (i 0).val (i 1) := by
  refine (dats m 0 c).arrAt_eq_of_covers 5 _ (by decide +kernel) fun t hf y => ?_
  obtain ⟨r, l, rfl⟩ : ∃ (r : Fin 128) (l : Fin 4096), y = ix2 r l := ⟨y 0, y 1, eq_ix2 y⟩
  blk_simp
  rw [after0_5, out5]
  refine congrArg₂ (fun (i : ℕ) (l : Fin 4096) => outAt m c i l) ?_ (Fin.ext ?_) <;> blk_simp [idx5 t] <;> omega

end Cert.Kernel43Ideal
-- ==== Proof.LnF.Claims.lean ====
module
public import proofs.«01_k».proof.Defs
public import proofs.«01_k».proof.Proof.LnF.Points
public import proofs.«01_k».proof.Proof.Gen.Reference43Ideal.Run

/-!
# A residual sum's layer norm: the claims
-/

@[expose] public section
set_option maxRecDepth 16384
noncomputable section
namespace Cert.LnF
open Idealize.ShloMosaic Idealize.ShloMosaic.TcCoe Idealize.ShloMosaic.Tactic
open Idealize.SL Idealize.SL.Sem
open Cert.Norm

/-- The definition runs to its end, keeps its arguments, and has no semaphores. -/
theorem frame_ref : Cert.quiescent_Reference43Ideal := fun m ρ _ =>
  (θ_run Cert.Reference43Ideal.defs _ _).mono (fun r h => ⟨fun c => (h c).2.2, sem_eq_zero_of_no_sems (by decide) r.2⟩)
    (Cert.Reference43Ideal.Value.run (F := Ideal) m ρ)

/-- Both results are the definition's. -/
theorem algebraic : Cert.algebraic_Kernel43Ideal_Reference43Ideal := by
  intro m g m' g' _ hagree
  refine ⟨_, _, (θ_run Cert.Kernel43Ideal.defs _ _).mono (fun r h => h) (Cert.Kernel43Ideal.Value.run_blocks (F := Ideal) m g),
    (θ_run Cert.Reference43Ideal.defs _ _).mono (fun r h c => ⟨(h c).1.trans ?_, (h c).2.1.trans ?_, (h c).2.2⟩)
      (Cert.Reference43Ideal.Value.run (F := Ideal) m' g')⟩
  all_goals
    simp only [(hagree c).1, (hagree c).2.1, (hagree c).2.2.1, (hagree c).2.2.2]
    funext y
    obtain ⟨i, j, rfl⟩ : ∃ (i j : Fin 4096), y = ix2 i j := ⟨y 0, y 1, eq_ix2 y⟩
  · rw [Cert.Kernel43Ideal.final4]
    refine Eq.trans ?_ (show _ = Cert.Kernel43Ideal.outAt m c i.val j from by rw [Cert.Kernel43Ideal.outAt, row_of, row_of])
    pointwise []
    rfl
  · rw [Cert.Kernel43Ideal.final5]
    refine Eq.trans ?_ (show _ = Cert.Kernel43Ideal.outAt m c i.val j from by rw [Cert.Kernel43Ideal.outAt, row_of, row_of])
    pointwise []
    rfl

end Cert.LnF
-- ==== Proof.ConvLnF.Points.lean ====
module
public import proofs.«01_k».proof.Proof.Norm
public import proofs.«01_k».proof.Proof.Gen.Kernel44Ideal.Value
public import Idealize.ShloMosaic.PureOps.Ideal
public import Idealize.ShloMosaic.Lib.Pipeline.ValueKit
public import Idealize.ShloMosaic.Lib.Pipeline.ReadBack
public import Idealize.ShloMosaic.Lib.Pointwise

/-!
# The convolution's layer norm and its activation, block by block

Point `t` works on rows `128 t` and on.
-/

@[expose] public section
set_option maxRecDepth 16384
noncomputable section
namespace Cert.Kernel44Ideal
open Idealize.ShloMosaic Idealize.ShloMosaic.TcCoe Idealize.ShloMosaic.Tactic
open Idealize.SL Idealize.SL.Sem
variable (m : (ℓ : Loc nD τ sig) → Buf (Elt Ideal) ℓ)
open Gen Cert.Norm

/-- The row's length and the variance's small term. -/
abbrev kd : EReal := Ideal.ofBits FTy.f32 1157627904#32
abbrev ke : EReal := Ideal.ofBits FTy.f32 925353388#32

/-- The normalised row, scaled and shifted. -/
abbrev normed (x g b : Fin 2048 → EReal) (j : Fin 2048) : EReal := scaled kd ke x j * g j + b j

/-- A number times its sigmoid. -/
abbrev gated (z : EReal) : EReal := z * Ideal.div 1 (1 + Ideal.exp (-z))

theorem pay1 (x : S128x2048.Idx → EReal) (g b : S1x2048.Idx → EReal) (r : Fin 128) (j : Fin 2048) :
    k0_pay1 (F := Ideal) x g b (ix2 r j) = gated (normed (fun k => x (ix2 r k)) (fun k => g (ix2 0 k)) (fun k => b (ix2 0 k)) j) := by
  pointwise [k0_pay1]
  simp only [gated, ← zero_sub (normed _ _ _ _)]
  rfl

theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = t.val ∧ win0_3.index t 1 = 0 := by decide +kernel

theorem blk0 (c : Dev nD) (t : Fin cfg0.N) (r : Fin 128) :
    (fun k => iblk m c 0 t (ix2 r k)) = row (n := 2048) (M := 4096) (m ((c : Thread nD τ).loc main_arg0)) (t.val * 128 + r.val) := by
  have ht : t.val < 32 := t.isLt
  funext k
  rw [row_at _ (by omega)]
  blk_ext [iblk, V, idx0 t]

theorem blk1 (c : Dev nD) (t : Fin cfg0.N) :
    (fun k => iblk m c 1 t (ix2 0 k)) = fun k => m ((c : Thread nD τ).loc main_arg1) (ix2 0 k) := by
  funext k
  blk_ext [iblk, V, idx1 t]

theorem blk2 (c : Dev nD) (t : Fin cfg0.N) :
    (fun k => iblk m c 2 t (ix2 0 k)) = fun k => m ((c : Thread nD τ).loc main_arg2) (ix2 0 k) := by
  funext k
  blk_ext [iblk, V, idx2 t]

/-- One entry of the result. -/
abbrev outAt (c : Dev nD) (i : ℕ) (j : Fin 2048) : EReal :=
  gated (normed (row (n := 2048) (M := 4096) (m ((c : Thread nD τ).loc main_arg0)) i)
    (fun k => m ((c : Thread nD τ).loc main_arg1) (ix2 0 k)) (fun k => m ((c : Thread nD τ).loc main_arg2) (ix2 0 k)) j)

theorem out3 (c : Dev nD) (t : Fin cfg0.N) (r : Fin 128) (l : Fin 2048) :
    out0_3 (iblk m c 0 t) (iblk m c 1 t) (iblk m c 2 t) (ix2 r l) = outAt m c (t.val * 128 + r.val) l := by
  frame_out
  rw [pay1, blk0, blk1, blk2]

/-- The array the launch leaves. -/
theorem final3 (c : Dev nD) : (dats m 0 c).arrAt 3 cfg0.N = fun i : S4096x2048.Idx => outAt m c (i 0).val (i 1) := by
  refine (dats m 0 c).arrAt_eq_of_covers 3 _ (by decide +kernel) fun t hf y => ?_
  obtain ⟨r, l, rfl⟩ : ∃ (r : Fin 128) (l : Fin 2048), y = ix2 r l := ⟨y 0, y 1, eq_ix2 y⟩
  blk_simp
  rw [after0_3, out3]
  refine congrArg₂ (fun (i : ℕ) (l : Fin 2048) => outAt m c i l) ?_ (Fin.ext ?_) <;> blk_simp [idx3 t] <;> omega

end Cert.Kernel44Ideal
-- ==== Proof.ConvLnF.Claims.lean ====
module
public import proofs.«01_k».proof.Defs
public import proofs.«01_k».proof.Proof.ConvLnF.Points
public import proofs.«01_k».proof.Proof.Gen.Reference44Ideal.Run

/-!
# The convolution's layer norm and its activation: the claims
-/

@[expose] public section
set_option maxRecDepth 16384
noncomputable section
namespace Cert.ConvLnF
open Idealize.ShloMosaic Idealize.ShloMosaic.TcCoe Idealize.ShloMosaic.Tactic
open Idealize.SL Idealize.SL.Sem
open Cert.Norm

/-- The definition runs to its end, keeps its arguments, and has no semaphores. -/
theorem frame_ref : Cert.quiescent_Reference44Ideal := fun m ρ _ =>
  (θ_run Cert.Reference44Ideal.defs _ _).mono (fun r h => ⟨fun c => (h c).2, sem_eq_zero_of_no_sems (by decide) r.2⟩)
    (Cert.Reference44Ideal.Value.run (F := Ideal) m ρ)

/-- The result is the definition's. -/
theorem algebraic : Cert.algebraic_Kernel44Ideal_Reference44Ideal := by
  intro m g m' g' _ hagree
  refine ⟨_, (θ_run Cert.Kernel44Ideal.defs _ _).mono (fun r h => h) (Cert.Kernel44Ideal.Value.run_blocks (F := Ideal) m g),
    (θ_run Cert.Reference44Ideal.defs _ _).mono (fun r h c => ⟨(h c).1.trans ?_, (h c).2⟩)
      (Cert.Reference44Ideal.Value.run (F := Ideal) m' g')⟩
  simp only [(hagree c).1, (hagree c).2.1, (hagree c).2.2]
  rw [Cert.Kernel44Ideal.final3]
  funext y
  obtain ⟨i, j, rfl⟩ : ∃ (i : Fin 4096) (j : Fin 2048), y = ix2 i j := ⟨y 0, y 1, eq_ix2 y⟩
  refine Eq.trans ?_ (show _ = Cert.Kernel44Ideal.outAt m c i.val j from by rw [Cert.Kernel44Ideal.outAt, row_of])
  pointwise []
  rfl

end Cert.ConvLnF
-- ==== Proof.ConvLnB.Points.lean ====
module
public import proofs.«01_k».proof.Proof.Norm
public import proofs.«01_k».proof.Proof.Sigmoid
public import proofs.«01_k».proof.Proof.Gen.Kernel45Ideal.Value
public import Idealize.ShloMosaic.PureOps.Ideal
public import Idealize.ShloMosaic.Lib.Pipeline.ValueKit
public import Idealize.ShloMosaic.Lib.Pipeline.ReadBack
public import Idealize.ShloMosaic.Lib.Pointwise

/-!
# The gradients of the convolution's layer norm and its activation, block by block

Point `t` works on rows `128 t` and on; the gradients of the scale and the shift are summed over the points.
-/

@[expose] public section
set_option maxRecDepth 16384
noncomputable section
namespace Cert.Kernel45Ideal
open Idealize.ShloMosaic Idealize.ShloMosaic.TcCoe Idealize.ShloMosaic.Tactic
open Idealize.SL Idealize.SL.Sem
variable (m : (ℓ : Loc nD τ sig) → Buf (Elt Ideal) ℓ)
open Gen Cert.Norm

/-- The row's length, the variance's small term, minus a half, and two. -/
abbrev kd : EReal := Ideal.ofBits FTy.f32 1157627904#32
abbrev ke : EReal := Ideal.ofBits FTy.f32 925353388#32
abbrev kh : EReal := Ideal.ofBits FTy.f32 3204448256#32
abbrev k2 : EReal := Ideal.ofBits FTy.f32 1073741824#32

/-- The normalised row, scaled and shifted. -/
abbrev normed (x g b : Fin 2048 → EReal) : Fin 2048 → EReal := fun k => scaled kd ke x k * g k + b k
/-- What the activation `z σ(z)` hands back of a cotangent `w`. -/
abbrev back (z w : EReal) : EReal :=
  w * Ideal.div 1 (1 + Ideal.exp (-z)) + z * w * (Ideal.div 1 (1 + Ideal.exp (-z)) * (1 - Ideal.div 1 (1 + Ideal.exp (-z))))
/-- The cotangent of the layer norm's result. -/
abbrev ctOut (x g b ct : Fin 2048 → EReal) : Fin 2048 → EReal := fun k => back (normed x g b k) (ct k)
/-- The cotangent of the normalised row. -/
abbrev ctRow (x g b ct : Fin 2048 → EReal) : Fin 2048 → EReal := fun k => ctOut x g b ct k * g k

section Pay
variable (x ct : S128x2048.Idx → EReal) (g b : S1x2048.Idx → EReal) (r : Fin 128)

theorem pay3 (j : Fin 2048) : k0_pay3 (F := Ideal) x (ix2 r j) = centre kd (fun k => x (ix2 r k)) j := by
  pointwise [k0_pay3, centre]

theorem pay4 : k0_pay4 (F := Ideal) x (ix2 r 0) = spread kd ke (fun k => x (ix2 r k)) := by
  pointwise [k0_pay4, spread]
  simp only [pay3]

theorem pay5 : k0_pay5 (F := Ideal) x (ix2 r 0) = Ideal.rsqrt (spread kd ke (fun k => x (ix2 r k))) := by
  pointwise [k0_pay5]
  rw [pay4]

theorem pay6 : k0_pay6 (F := Ideal) x (ix2 r 0) =
    kh * Ideal.div (Ideal.rsqrt (spread kd ke (fun k => x (ix2 r k)))) (spread kd ke (fun k => x (ix2 r k))) := by
  pointwise [k0_pay6]
  rw [pay4, pay5]

theorem pay7 (j : Fin 2048) : k0_pay7 (F := Ideal) x (ix2 r j) = scaled kd ke (fun k => x (ix2 r k)) j := by
  pointwise [k0_pay7, scaled]
  rw [pay3, pay5]

theorem pay8 (j : Fin 2048) : k0_pay8 (F := Ideal) x g b (ix2 r j) =
    normed (fun k => x (ix2 r k)) (fun k => g (ix2 0 k)) (fun k => b (ix2 0 k)) j := by
  pointwise [k0_pay8]
  rw [pay7]

theorem pay9 (j : Fin 2048) : k0_pay9 (F := Ideal) x g b (ix2 r j) =
    Ideal.exp (0 - normed (fun k => x (ix2 r k)) (fun k => g (ix2 0 k)) (fun k => b (ix2 0 k)) j) := by
  pointwise [k0_pay9]
  rw [pay8]

theorem pay10 (j : Fin 2048) : k0_pay10 (F := Ideal) x g b (ix2 r j) =
    1 + Ideal.exp (0 - normed (fun k => x (ix2 r k)) (fun k => g (ix2 0 k)) (fun k => b (ix2 0 k)) j) := by
  pointwise [k0_pay10]
  rw [pay9]

/-- The cotangent of the layer norm's result, which the kernel forms as a quotient by a square. -/
theorem pay13 {o : EReal} (ho : o = 1) (j : Fin 2048) :
    k0_pay13 (F := Ideal) (k0_pay9 x g b) (k0_pay11 x ct g b) (k0_pay12 x ct g b) o (ix2 r j) =
      ctOut (fun k => x (ix2 r k)) (fun k => g (ix2 0 k)) (fun k => b (ix2 0 k)) (fun k => ct (ix2 r k)) j := by
  subst ho
  pointwise [k0_pay13, k0_pay11, k0_pay12]
  rw [pay8, pay9, pay10]
  rw [Cert.Sigmoid.turned, zero_sub]

/-- One block's part of the shift's gradient. -/
theorem pay14 {o : EReal} (ho : o = 1) (j : Fin 2048) :
    k0_pay14 (F := Ideal) (k0_pay9 x g b) (k0_pay11 x ct g b) (k0_pay12 x ct g b) o (ix2 0 j) =
      ∑ r, ctOut (fun k => x (ix2 r k)) (fun k => g (ix2 0 k)) (fun k => b (ix2 0 k)) (fun k => ct (ix2 r k)) j := by
  pointwise [k0_pay14]
  simp only [pay13 x ct g b _ ho]

/-- One block's part of the scale's gradient. -/
theorem pay15 {o : EReal} (ho : o = 1) (j : Fin 2048) :
    k0_pay15 (F := Ideal) (k0_pay7 x) (k0_pay9 x g b) (k0_pay11 x ct g b) (k0_pay12 x ct g b) o (ix2 0 j) =
      ∑ r, scaled kd ke (fun k => x (ix2 r k)) j
        * ctOut (fun k => x (ix2 r k)) (fun k => g (ix2 0 k)) (fun k => b (ix2 0 k)) (fun k => ct (ix2 r k)) j := by
  pointwise [k0_pay15]
  simp only [pay13 x ct g b _ ho, pay7]

/-- One entry of the row's cotangent. -/
theorem pay16 {o : EReal} (ho : o = 1) (j : Fin 2048) :
    k0_pay16 (F := Ideal) g (k0_pay3 x) (k0_pay5 x) (k0_pay6 x) (k0_pay9 x g b) (k0_pay11 x ct g b) (k0_pay12 x ct g b) o (ix2 r j) =
      grad kd ke kh k2 (fun k => x (ix2 r k))
        (ctRow (fun k => x (ix2 r k)) (fun k => g (ix2 0 k)) (fun k => b (ix2 0 k)) (fun k => ct (ix2 r k))) j := by
  pointwise [k0_pay16]
  simp only [Fin.sum_univ_one, pay3, pay5, pay6, pay13 x ct g b _ ho]
  simp only [grad, ctCentre, ctSquare, both_sides, zero_sub]
end Pay

end Cert.Kernel45Ideal
-- ==== Proof.ConvLnB.Arrays.lean ====
module
public import proofs.«01_k».proof.Proof.ConvLnB.Points

/-!
# The gradients of the convolution's layer norm and its activation: the arrays
-/

@[expose] public section
set_option maxRecDepth 16384
noncomputable section
namespace Cert.Kernel45Ideal
open Idealize.ShloMosaic Idealize.ShloMosaic.TcCoe Idealize.ShloMosaic.Tactic
open Idealize.SL Idealize.SL.Sem
variable (m : (ℓ : Loc nD τ sig) → Buf (Elt Ideal) ℓ)
open Gen Cert.Norm

theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = 0 ∧ win0_3.index t 1 = 0 := by decide +kernel
theorem idx4 : ∀ t : Fin cfg0.N, win0_4.index t 0 = t.val ∧ win0_4.index t 1 = 0 := by decide +kernel

/-- The row to normalise, the scale, the shift, the result's cotangent, at row `i`. -/
abbrev rowX (c : Dev nD) (i : ℕ) : Fin 2048 → EReal := row (n := 2048) (M := 4096) (m ((c : Thread nD τ).loc main_arg0)) i
abbrev rowG (c : Dev nD) : Fin 2048 → EReal := fun k => m ((c : Thread nD τ).loc main_arg1) (ix2 0 k)
abbrev rowB (c : Dev nD) : Fin 2048 → EReal := fun k => m ((c : Thread nD τ).loc main_arg2) (ix2 0 k)
abbrev rowC (c : Dev nD) (i : ℕ) : Fin 2048 → EReal := row (n := 2048) (M := 4096) (m ((c : Thread nD τ).loc main_arg3)) i

theorem blk0 (c : Dev nD) (t : Fin cfg0.N) (r : Fin 128) : (fun k => iblk m c 0 t (ix2 r k)) = rowX m c (t.val * 128 + r.val) := by
  have ht : t.val < 32 := t.isLt
  funext k
  rw [rowX, row_at _ (by omega)]
  blk_ext [iblk, V, idx0 t]

theorem blk1 (c : Dev nD) (t : Fin cfg0.N) (r : Fin 128) : (fun k => iblk m c 1 t (ix2 r k)) = rowC m c (t.val * 128 + r.val) := by
  have ht : t.val < 32 := t.isLt
  funext k
  rw [rowC, row_at _ (by omega)]
  blk_ext [iblk, V, idx1 t]

theorem blk2 (c : Dev nD) (t : Fin cfg0.N) : (fun k => iblk m c 2 t (ix2 0 k)) = rowG m c := by
  funext k
  blk_ext [iblk, V, idx2 t]

theorem blk3 (c : Dev nD) (t : Fin cfg0.N) : (fun k => iblk m c 3 t (ix2 0 k)) = rowB m c := by
  funext k
  blk_ext [iblk, V, idx3 t]

/-- The cotangent of the layer norm's result, and one entry of the row's cotangent. -/
abbrev outC (c : Dev nD) (i : ℕ) : Fin 2048 → EReal := ctOut (rowX m c i) (rowG m c) (rowB m c) (rowC m c i)
abbrev dxAt (c : Dev nD) (i : ℕ) (j : Fin 2048) : EReal :=
  grad kd ke kh k2 (rowX m c i) (ctRow (rowX m c i) (rowG m c) (rowB m c) (rowC m c i)) j

theorem entry (c : Dev nD) (t : Fin cfg0.N) (r : Fin 128) (j : Fin 2048) {o : EReal} (ho : o = 1) :
    k0_pay16 (F := Ideal) (iblk m c 2 t) (k0_pay3 (iblk m c 0 t)) (k0_pay5 (iblk m c 0 t)) (k0_pay6 (iblk m c 0 t))
      (k0_pay9 (iblk m c 0 t) (iblk m c 2 t) (iblk m c 3 t)) (k0_pay11 (iblk m c 0 t) (iblk m c 1 t) (iblk m c 2 t) (iblk m c 3 t))
      (k0_pay12 (iblk m c 0 t) (iblk m c 1 t) (iblk m c 2 t) (iblk m c 3 t)) o (ix2 r j) = dxAt m c (t.val * 128 + r.val) j := by
  rw [pay16 _ _ _ _ _ ho, blk0, blk1, blk2, blk3]

/-- The first result: the row's cotangent. -/
theorem final4 (c : Dev nD) : (dats m 0 c).arrAt 4 cfg0.N = fun i : S4096x2048.Idx => dxAt m c (i 0).val (i 1) := by
  refine (dats m 0 c).arrAt_eq_of_covers 4 _ (by decide +kernel) fun t hf y => ?_
  obtain ⟨r, l, rfl⟩ : ∃ (r : Fin 128) (l : Fin 2048), y = ix2 r l := ⟨y 0, y 1, eq_ix2 y⟩
  blk_simp
  rw [after0_4]
  have e : (outsAt0 m c t.val t.isLt).1 (ix2 r l) = dxAt m c (t.val * 128 + r.val) l := by
    by_cases h : t.val = 0
    · rw [outsAt0_A m c t (by omega) (by omega) (by omega) (by omega)]
      frame_out
      exact entry m c t r l Ideal.ofBits_one_f32
    · have ht : t.val < 32 := t.isLt
      rw [outsAt0_B m c t (by omega) (by omega) (by omega) (by omega)]
      frame_out
      exact entry m c t r l Ideal.ofBits_one_f32
  rw [e]
  refine congrArg₂ (fun (i : ℕ) (l : Fin 2048) => dxAt m c i l) ?_ (Fin.ext ?_) <;> blk_simp [idx4 t] <;> omega

/-- One row's part of the scale's gradient. -/
abbrev dgAt (c : Dev nD) (j : Fin 2048) (i : ℕ) : EReal := scaled kd ke (rowX m c i) j * outC m c i j

theorem partG (c : Dev nD) (t : Fin cfg0.N) (j : Fin 2048) {o : EReal} (ho : o = 1) :
    k0_pay15 (F := Ideal) (k0_pay7 (iblk m c 0 t)) (k0_pay9 (iblk m c 0 t) (iblk m c 2 t) (iblk m c 3 t))
      (k0_pay11 (iblk m c 0 t) (iblk m c 1 t) (iblk m c 2 t) (iblk m c 3 t)) (k0_pay12 (iblk m c 0 t) (iblk m c 1 t) (iblk m c 2 t) (iblk m c 3 t)) o (ix2 0 j)
      = ∑ r : Fin 128, dgAt m c j (t.val * 128 + r.val) := by
  rw [pay15 _ _ _ _ ho]
  simp only [blk0, blk1, blk2, blk3]

theorem partB (c : Dev nD) (t : Fin cfg0.N) (j : Fin 2048) {o : EReal} (ho : o = 1) :
    k0_pay14 (F := Ideal) (k0_pay9 (iblk m c 0 t) (iblk m c 2 t) (iblk m c 3 t))
      (k0_pay11 (iblk m c 0 t) (iblk m c 1 t) (iblk m c 2 t) (iblk m c 3 t)) (k0_pay12 (iblk m c 0 t) (iblk m c 1 t) (iblk m c 2 t) (iblk m c 3 t)) o (ix2 0 j)
      = ∑ r : Fin 128, outC m c (t.val * 128 + r.val) j := by
  rw [pay14 _ _ _ _ ho]
  simp only [blk0, blk1, blk2, blk3]

/-- The scale's gradient after point `t`. -/
theorem dg_upto (c : Dev nD) (j : Fin 2048) : ∀ (t : ℕ) (h : t < cfg0.N),
    (outsAt0 m c t h).2.1 (ix2 0 j) = ∑ s ∈ Finset.range (t + 1), ∑ r : Fin 128, dgAt m c j (s * 128 + r.val) := by
  refine upto (fun t h => (outsAt0 m c t h).2.1 (ix2 0 j)) _ (fun h => ?_) fun t h => ?_
  · show (outsAt0 m c (⟨0, h⟩ : Fin cfg0.N).val _).2.1 (ix2 0 j) = _
    rw [outsAt0_A m c ⟨0, h⟩ (by simp) (by simp) (by simp) (by simp)]
    frame_out
    exact partG m c ⟨0, h⟩ j Ideal.ofBits_one_f32
  · show (outsAt0 m c (⟨t + 1, h⟩ : Fin cfg0.N).val _).2.1 (ix2 0 j) = _
    have ht : t + 1 < 32 := h
    rw [outsAt0_B m c ⟨t + 1, h⟩ (by dsimp only; omega) (by simp) (by dsimp only; omega) (by simp)]
    frame_out
    pointwise [k0_pay1]
    exact congrArg₂ (fun x y : EReal => x + y) rfl (partG m c ⟨t + 1, h⟩ j rfl)

/-- The shift's gradient after point `t`. -/
theorem db_upto (c : Dev nD) (j : Fin 2048) : ∀ (t : ℕ) (h : t < cfg0.N),
    (outsAt0 m c t h).2.2 (ix2 0 j) = ∑ s ∈ Finset.range (t + 1), ∑ r : Fin 128, outC m c (s * 128 + r.val) j := by
  refine upto (fun t h => (outsAt0 m c t h).2.2 (ix2 0 j)) _ (fun h => ?_) fun t h => ?_
  · show (outsAt0 m c (⟨0, h⟩ : Fin cfg0.N).val _).2.2 (ix2 0 j) = _
    rw [outsAt0_A m c ⟨0, h⟩ (by simp) (by simp) (by simp) (by simp)]
    frame_out
    exact partB m c ⟨0, h⟩ j Ideal.ofBits_one_f32
  · show (outsAt0 m c (⟨t + 1, h⟩ : Fin cfg0.N).val _).2.2 (ix2 0 j) = _
    have ht : t + 1 < 32 := h
    rw [outsAt0_B m c ⟨t + 1, h⟩ (by dsimp only; omega) (by simp) (by dsimp only; omega) (by simp)]
    frame_out
    pointwise [k0_pay2]
    exact congrArg₂ (fun x y : EReal => x + y) rfl (partB m c ⟨t + 1, h⟩ j rfl)

/-- The last point is the one that writes the two summed results back. -/
theorem last_point : ∃ t : Fin cfg0.N, t.val = 31 ∧ (cfg0.win 5).WholeAt t ∧ (cfg0.win 6).WholeAt t :=
  ⟨⟨31, by decide⟩, rfl, by decide +kernel, by decide +kernel⟩

/-- The second result: the scale's gradient, summed over all rows. -/
theorem final5 (c : Dev nD) : (dats m 0 c).arrAt 5 cfg0.N = fun i : S1x2048.Idx => ∑ x : Fin 4096, dgAt m c (i 1) x.val := by
  obtain ⟨t, ht, h5, -⟩ := last_point
  refine (dats m 0 c).arrAt_eq_of_after_last 5 t h5 _ fun j => ?_
  blk_simp
  rw [after0_5]
  obtain ⟨k, rfl⟩ : ∃ (k : Fin 2048), j = ix2 0 k := ⟨j 1, (eq_ix2 j).trans (congrArg (fun a : Fin 1 => ix2 a (j 1)) (Subsingleton.elim (α := Fin 1) _ _))⟩
  refine (dg_upto m c k t.val t.isLt).trans ?_
  rw [ht]
  exact sum_rows 32 128 4096 rfl (dgAt m c k)

/-- The third result: the shift's gradient, summed over all rows. -/
theorem final6 (c : Dev nD) : (dats m 0 c).arrAt 6 cfg0.N = fun i : S1x2048.Idx => ∑ x : Fin 4096, outC m c x.val (i 1) := by
  obtain ⟨t, ht, -, h6⟩ := last_point
  refine (dats m 0 c).arrAt_eq_of_after_last 6 t h6 _ fun j => ?_
  blk_simp
  rw [after0_6]
  obtain ⟨k, rfl⟩ : ∃ (k : Fin 2048), j = ix2 0 k := ⟨j 1, (eq_ix2 j).trans (congrArg (fun a : Fin 1 => ix2 a (j 1)) (Subsingleton.elim (α := Fin 1) _ _))⟩
  refine (db_upto m c k t.val t.isLt).trans ?_
  rw [ht]
  exact sum_rows 32 128 4096 rfl (fun i => outC m c i k)

end Cert.Kernel45Ideal
-- ==== Proof.ConvLnB.Claims.lean ====
module
public import proofs.«01_k».proof.Defs
public import proofs.«01_k».proof.Proof.ConvLnB.Arrays
public import proofs.«01_k».proof.Proof.Gen.Reference45Ideal.Run

/-!
# The gradients of the convolution's layer norm and its activation: the claims
-/

@[expose] public section
set_option maxRecDepth 16384
noncomputable section
namespace Cert.ConvLnB
open Idealize.ShloMosaic Idealize.ShloMosaic.TcCoe Idealize.ShloMosaic.Tactic
open Idealize.SL Idealize.SL.Sem
open Cert.Norm

/-- The definition runs to its end, keeps its arguments, and has no semaphores. -/
theorem frame_ref : Cert.quiescent_Reference45Ideal := fun m ρ _ =>
  (θ_run Cert.Reference45Ideal.defs _ _).mono (fun r h => ⟨fun c => (h c).2.2.2, sem_eq_zero_of_no_sems (by decide) r.2⟩)
    (Cert.Reference45Ideal.Value.run (F := Ideal) m ρ)

/-- The three gradients are the definition's. -/
theorem algebraic : Cert.algebraic_Kernel45Ideal_Reference45Ideal := by
  intro m g m' g' _ hagree
  refine ⟨_, _, _, (θ_run Cert.Kernel45Ideal.defs _ _).mono (fun r h => h) (Cert.Kernel45Ideal.Value.run_blocks (F := Ideal) m g),
    (θ_run Cert.Reference45Ideal.defs _ _).mono
      (fun r h c => ⟨(h c).1.trans ?_, (h c).2.1.trans ?_, (h c).2.2.1.trans ?_, (h c).2.2.2⟩)
      (Cert.Reference45Ideal.Value.run (F := Ideal) m' g')⟩
  · rw [Cert.Kernel45Ideal.final4]
    funext y
    obtain ⟨i, j, rfl⟩ : ∃ (i : Fin 4096) (j : Fin 2048), y = ix2 i j := ⟨y 0, y 1, eq_ix2 y⟩
    pointwise [Cert.Reference45Ideal.Value.res_main_v53]
    simp only [(hagree c).1, (hagree c).2.1, (hagree c).2.2.1, (hagree c).2.2.2, Fin.sum_univ_one,
      Cert.Kernel45Ideal.dxAt, Cert.Kernel45Ideal.rowX, Cert.Kernel45Ideal.rowC, Cert.Kernel45Ideal.rowG, Cert.Kernel45Ideal.rowB, Cert.Kernel45Ideal.ctRow, Cert.Kernel45Ideal.ctOut, Cert.Kernel45Ideal.back, Cert.Kernel45Ideal.normed,
      grad, ctCentre, ctSquare, scaled, spread, centre, row_of]
  · rw [Cert.Kernel45Ideal.final5]
    funext y
    obtain ⟨j, rfl⟩ : ∃ (j : Fin 2048), y = ix2 0 j := ⟨y 1, (eq_ix2 y).trans (congrArg (fun a : Fin 1 => ix2 a (y 1)) (Subsingleton.elim (α := Fin 1) _ _))⟩
    pointwise [Cert.Reference45Ideal.Value.res_main_v31]
    simp only [(hagree c).1, (hagree c).2.1, (hagree c).2.2.1, (hagree c).2.2.2,
      Cert.Kernel45Ideal.dgAt, Cert.Kernel45Ideal.outC, Cert.Kernel45Ideal.rowX, Cert.Kernel45Ideal.rowC, Cert.Kernel45Ideal.rowG, Cert.Kernel45Ideal.rowB, Cert.Kernel45Ideal.ctOut, Cert.Kernel45Ideal.back, Cert.Kernel45Ideal.normed,
      scaled, spread, centre, row_of]
  · rw [Cert.Kernel45Ideal.final6]
    funext y
    obtain ⟨j, rfl⟩ : ∃ (j : Fin 2048), y = ix2 0 j := ⟨y 1, (eq_ix2 y).trans (congrArg (fun a : Fin 1 => ix2 a (y 1)) (Subsingleton.elim (α := Fin 1) _ _))⟩
    pointwise [Cert.Reference45Ideal.Value.res_main_v28]
    simp only [(hagree c).1, (hagree c).2.1, (hagree c).2.2.1, (hagree c).2.2.2,
      Cert.Kernel45Ideal.outC, Cert.Kernel45Ideal.rowX, Cert.Kernel45Ideal.rowC, Cert.Kernel45Ideal.rowG, Cert.Kernel45Ideal.rowB, Cert.Kernel45Ideal.ctOut, Cert.Kernel45Ideal.back, Cert.Kernel45Ideal.normed,
      scaled, spread, centre, row_of]

end Cert.ConvLnB
-- ==== Proof.LnMemB.Points.lean ====
module
public import proofs.«01_k».proof.Proof.Norm
public import proofs.«01_k».proof.Proof.Gen.Kernel46Ideal.Value
public import Idealize.ShloMosaic.PureOps.Ideal
public import Idealize.ShloMosaic.Lib.Pipeline.ValueKit
public import Idealize.ShloMosaic.Lib.Pipeline.ReadBack
public import Idealize.ShloMosaic.Lib.Pointwise

/-!
# The gradients of the memory's layer norm's scale and shift, in one block
-/

@[expose] public section
set_option maxRecDepth 16384
noncomputable section
namespace Cert.Kernel46Ideal
open Idealize.ShloMosaic Idealize.ShloMosaic.TcCoe Idealize.ShloMosaic.Tactic
open Idealize.SL Idealize.SL.Sem
variable (m : (ℓ : Loc nD τ sig) → Buf (Elt Ideal) ℓ)
open Gen Cert.Norm

/-- The row's length and the variance's small term. -/
abbrev kd : EReal := Ideal.ofBits FTy.f32 1166016512#32
abbrev ke : EReal := Ideal.ofBits FTy.f32 925353388#32

/-- The shift's gradient sums the cotangent's rows, the scale's the normalised rows times the cotangent. -/
theorem pay1 (ct : S256x4096.Idx → EReal) (j : Fin 4096) : k0_pay1 (F := Ideal) ct (ix2 0 j) = ∑ r, ct (ix2 r j) := by
  pointwise [k0_pay1]

theorem pay2 (x ct : S256x4096.Idx → EReal) (j : Fin 4096) :
    k0_pay2 (F := Ideal) x ct (ix2 0 j) = ∑ r, scaled kd ke (fun k => x (ix2 r k)) j * ct (ix2 r j) := by
  pointwise [k0_pay2, scaled, spread, centre]

theorem idx0 : ∀ t : Fin cfg0.N, win0_0.index t 0 = 0 ∧ win0_0.index t 1 = 0 := by decide +kernel
theorem idx1 : ∀ t : Fin cfg0.N, win0_1.index t 0 = 0 ∧ win0_1.index t 1 = 0 := by decide +kernel

theorem blk0 (c : Dev nD) (t : Fin cfg0.N) (r : Fin 256) (k : Fin 4096) :
    iblk m c 0 t (ix2 r k) = m ((c : Thread nD τ).loc main_arg0) (ix2 r k) := by
  blk_ext [iblk, V, idx0 t]

theorem blk1 (c : Dev nD) (t : Fin cfg0.N) (r : Fin 256) (k : Fin 4096) :
    iblk m c 1 t (ix2 r k) = m ((c : Thread nD τ).loc main_arg3) (ix2 r k) := by
  blk_ext [iblk, V, idx1 t]

/-- The only point writes both results back. -/
theorem only_point : ∃ t : Fin cfg0.N, (cfg0.win 4).WholeAt t ∧ (cfg0.win 5).WholeAt t :=
  ⟨⟨0, by decide⟩, by decide +kernel, by decide +kernel⟩

/-- The arguments' entries. -/
abbrev argX (c : Dev nD) (r : Fin 256) (k : Fin 4096) : EReal := m ((c : Thread nD τ).loc main_arg0) (ix2 r k)
abbrev argC (c : Dev nD) (r : Fin 256) (k : Fin 4096) : EReal := m ((c : Thread nD τ).loc main_arg3) (ix2 r k)

/-- The first result: the scale's gradient. -/
theorem final4 (c : Dev nD) : (dats m 0 c).arrAt 4 cfg0.N =
    fun i : S1x4096.Idx => ∑ r, scaled kd ke (argX m c r) (i 1) * argC m c r (i 1) := by
  obtain ⟨t, h, -⟩ := only_point
  refine (dats m 0 c).arrAt_eq_of_after_last 4 t h _ fun j => ?_
  blk_simp
  rw [after0_4]
  obtain ⟨k, rfl⟩ : ∃ (k : Fin 4096), j = ix2 0 k := ⟨j 1, (eq_ix2 j).trans (congrArg (fun a : Fin 1 => ix2 a (j 1)) (Subsingleton.elim (α := Fin 1) _ _))⟩
  have e : (outsAt0 m c t).1 (ix2 0 k) = ∑ r, scaled kd ke (argX m c r) k * argC m c r k := by
    unfold outsAt0
    frame_out
    rw [pay2]
    simp only [blk0, blk1]
  exact e

/-- The second result: the shift's gradient. -/
theorem final5 (c : Dev nD) : (dats m 0 c).arrAt 5 cfg0.N = fun i : S1x4096.Idx => ∑ r, argC m c r (i 1) := by
  obtain ⟨t, -, h⟩ := only_point
  refine (dats m 0 c).arrAt_eq_of_after_last 5 t h _ fun j => ?_
  blk_simp
  rw [after0_5]
  obtain ⟨k, rfl⟩ : ∃ (k : Fin 4096), j = ix2 0 k := ⟨j 1, (eq_ix2 j).trans (congrArg (fun a : Fin 1 => ix2 a (j 1)) (Subsingleton.elim (α := Fin 1) _ _))⟩
  have e : (outsAt0 m c t).2 (ix2 0 k) = ∑ r, argC m c r k := by
    unfold outsAt0
    frame_out
    rw [pay1]
    simp only [blk1]
  exact e

end Cert.Kernel46Ideal
-- ==== Proof.LnMemB.Claims.lean ====
module
public import proofs.«01_k».proof.Defs
public import proofs.«01_k».proof.Proof.LnMemB.Points
public import proofs.«01_k».proof.Proof.Gen.Reference46Ideal.Run

/-!
# The gradients of the memory's layer norm's scale and shift: the claims
-/

@[expose] public section
set_option maxRecDepth 16384
noncomputable section
namespace Cert.LnMemB
open Idealize.ShloMosaic Idealize.ShloMosaic.TcCoe Idealize.ShloMosaic.Tactic
open Idealize.SL Idealize.SL.Sem
open Cert.Norm

/-- The definition runs to its end, keeps its arguments, and has no semaphores. -/
theorem frame_ref : Cert.quiescent_Reference46Ideal := fun m ρ _ =>
  (θ_run Cert.Reference46Ideal.defs _ _).mono (fun r h => ⟨fun c => (h c).2.2, sem_eq_zero_of_no_sems (by decide) r.2⟩)
    (Cert.Reference46Ideal.Value.run (F := Ideal) m ρ)

/-- Both gradients are the definition's. -/
theorem algebraic : Cert.algebraic_Kernel46Ideal_Reference46Ideal := by
  intro m g m' g' _ hagree
  refine ⟨_, _, (θ_run Cert.Kernel46Ideal.defs _ _).mono (fun r h => h) (Cert.Kernel46Ideal.Value.run_blocks (F := Ideal) m g),
    (θ_run Cert.Reference46Ideal.defs _ _).mono (fun r h c => ⟨(h c).1.trans ?_, (h c).2.1.trans ?_, (h c).2.2⟩)
      (Cert.Reference46Ideal.Value.run (F := Ideal) m' g')⟩
  · rw [Cert.Kernel46Ideal.final4]
    funext y
    obtain ⟨j, rfl⟩ : ∃ (j : Fin 4096), y = ix2 0 j := ⟨y 1, (eq_ix2 y).trans (congrArg (fun a : Fin 1 => ix2 a (y 1)) (Subsingleton.elim (α := Fin 1) _ _))⟩
    pointwise []
    simp only [(hagree c).1, (hagree c).2.1, (hagree c).2.2.1, (hagree c).2.2.2, Cert.Kernel46Ideal.argX, Cert.Kernel46Ideal.argC, scaled, spread, centre]
  · rw [Cert.Kernel46Ideal.final5]
    funext y
    obtain ⟨j, rfl⟩ : ∃ (j : Fin 4096), y = ix2 0 j := ⟨y 1, (eq_ix2 y).trans (congrArg (fun a : Fin 1 => ix2 a (y 1)) (Subsingleton.elim (α := Fin 1) _ _))⟩
    pointwise []
    simp only [(hagree c).1, (hagree c).2.1, (hagree c).2.2.1, (hagree c).2.2.2, Cert.Kernel46Ideal.argC]

end Cert.LnMemB
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gen.Kernel24.Frame
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Gen.Kernel25.Frame
public import proofs.«01_k».proof.Proof.Gen.Kernel25Ideal.Frame
public import proofs.«01_k».proof.Proof.Gen.Kernel25Ideal.Value
public import proofs.«01_k».proof.Proof.Gen.Reference25Ideal.Run
public import proofs.«01_k».proof.Proof.Gen.Kernel26.Frame
public import proofs.«01_k».proof.Proof.Gen.Kernel26Ideal.Frame
public import proofs.«01_k».proof.Proof.Gen.Kernel26Ideal.Value
public import proofs.«01_k».proof.Proof.Gen.Reference26Ideal.Run
public import proofs.«01_k».proof.Proof.Gen.Kernel27.Frame
public import proofs.«01_k».proof.Proof.Gen.Kernel27Ideal.Frame
public import proofs.«01_k».proof.Proof.Gen.Kernel27Ideal.Value
public import proofs.«01_k».proof.Proof.Gen.Reference27Ideal.Run
public import proofs.«01_k».proof.Proof.Gen.Kernel28.Frame
public import proofs.«01_k».proof.Proof.Gen.Kernel28Ideal.Frame
public import proofs.«01_k».proof.Proof.Gen.Kernel28Ideal.Value
public import proofs.«01_k».proof.Proof.Gen.Reference28Ideal.Run
public import proofs.«01_k».proof.Proof.Gen.Kernel29.Frame
public import proofs.«01_k».proof.Proof.Gen.Kernel29Ideal.Frame
public import proofs.«01_k».proof.Proof.Gen.Kernel29Ideal.Value
public import proofs.«01_k».proof.Proof.Gen.Reference29Ideal.Run
public import proofs.«01_k».proof.Proof.Gen.Kernel30.Frame
public import proofs.«01_k».proof.Proof.Gen.Kernel30Ideal.Frame
public import proofs.«01_k».proof.Proof.Gen.Kernel30Ideal.Value
public import proofs.«01_k».proof.Proof.Gen.Reference30Ideal.Run
public import proofs.«01_k».proof.Proof.Gen.Kernel31.Frame
public import proofs.«01_k».proof.Proof.Gen.Kernel31Ideal.Frame
public import proofs.«01_k».proof.Proof.Gen.Kernel31Ideal.Value
public import proofs.«01_k».proof.Proof.Gen.Reference31Ideal.Run
public import proofs.«01_k».proof.Proof.Gen.Kernel32.Frame
public import proofs.«01_k».proof.Proof.Gen.Kernel32Ideal.Frame
public import proofs.«01_k».proof.Proof.Gen.Kernel32Ideal.Value
public import proofs.«01_k».proof.Proof.Gen.Reference32Ideal.Run
public import proofs.«01_k».proof.Proof.Gen.Kernel33.Frame
public import proofs.«01_k».proof.Proof.Gen.Kernel33Ideal.Frame
public import proofs.«01_k».proof.Proof.Gen.Kernel33Ideal.Value
public import proofs.«01_k».proof.Proof.Gen.Reference33Ideal.Run
public import proofs.«01_k».proof.Proof.Gen.Kernel34.Frame
public import proofs.«01_k».proof.Proof.Gen.Kernel34Ideal.Frame
public import proofs.«01_k».proof.Proof.Gen.Kernel34Ideal.Value
public import proofs.«01_k».proof.Proof.Gen.Reference34Ideal.Run
public import proofs.«01_k».proof.Proof.Gen.Kernel35.Frame
public import proofs.«01_k».proof.Proof.Gen.Kernel35Ideal.Frame
public import proofs.«01_k».proof.Proof.Gen.Kernel35Ideal.Value
public import proofs.«01_k».proof.Proof.Gen.Reference35Ideal.Run
public import proofs.«01_k».proof.Proof.Gen.Kernel36.Frame
public import proofs.«01_k».proof.Proof.Gen.Kernel36Ideal.Frame
public import proofs.«01_k».proof.Proof.Gen.Kernel36Ideal.Value
public import proofs.«01_k».proof.Proof.Gen.Reference36Ideal.Run
public import proofs.«01_k».proof.Proof.Gen.Kernel37.Frame
public import proofs.«01_k».proof.Proof.Gen.Kernel37Ideal.Frame
public import proofs.«01_k».proof.Proof.Gen.Kernel37Ideal.Value
public import proofs.«01_k».proof.Proof.Gen.Reference37Ideal.Run
public import proofs.«01_k».proof.Proof.Gen.Kernel38.Frame
public import proofs.«01_k».proof.Proof.Gen.Kernel38Ideal.Frame
public import proofs.«01_k».proof.Proof.Gen.Kernel38Ideal.Value
public import proofs.«01_k».proof.Proof.Gen.Reference38Ideal.Run
public import proofs.«01_k».proof.Proof.Gen.Kernel39.Frame
public import proofs.«01_k».proof.Proof.Gen.Kernel39Ideal.Frame
public import proofs.«01_k».proof.Proof.Gen.Kernel39Ideal.Value
public import proofs.«01_k».proof.Proof.Gen.Reference39Ideal.Run
public import proofs.«01_k».proof.Proof.Gen.Kernel40.Frame
public import proofs.«01_k».proof.Proof.Gen.Kernel40Ideal.Frame
public import proofs.«01_k».proof.Proof.Gen.Kernel40Ideal.Value
public import proofs.«01_k».proof.Proof.Gen.Reference40Ideal.Run
public import proofs.«01_k».proof.Proof.Gen.Kernel41.Frame
public import proofs.«01_k».proof.Proof.Gen.Kernel41Ideal.Frame
public import proofs.«01_k».proof.Proof.Gen.Kernel41Ideal.Value
public import proofs.«01_k».proof.Proof.Gen.Reference41Ideal.Run
public import proofs.«01_k».proof.Proof.Gen.Kernel42.Frame
public import proofs.«01_k».proof.Proof.Gen.Kernel42Ideal.Frame
public import proofs.«01_k».proof.Proof.Gen.Kernel42Ideal.Value
public import proofs.«01_k».proof.Proof.Gen.Reference42Ideal.Run
public import proofs.«01_k».proof.Proof.Gen.Kernel43.Frame
public import proofs.«01_k».proof.Proof.Gen.Kernel43Ideal.Frame
public import proofs.«01_k».proof.Proof.Gen.Kernel43Ideal.Value
public import proofs.«01_k».proof.Proof.Gen.Reference43Ideal.Run
public import proofs.«01_k».proof.Proof.Gen.Kernel44.Frame
public import proofs.«01_k».proof.Proof.Gen.Kernel44Ideal.Frame
public import proofs.«01_k».proof.Proof.Gen.Kernel44Ideal.Value
public import proofs.«01_k».proof.Proof.Gen.Reference44Ideal.Run
public import proofs.«01_k».proof.Proof.Gen.Kernel45.Frame
public import proofs.«01_k».proof.Proof.Gen.Kernel45Ideal.Frame
public import proofs.«01_k».proof.Proof.Gen.Kernel45Ideal.Value
public import proofs.«01_k».proof.Proof.Gen.Reference45Ideal.Run
public import proofs.«01_k».proof.Proof.Gen.Kernel46.Frame
public import proofs.«01_k».proof.Proof.Gen.Kernel46Ideal.Frame
public import proofs.«01_k».proof.Proof.Gen.Kernel46Ideal.Value
public import proofs.«01_k».proof.Proof.Gen.Reference46Ideal.Run
public import proofs.«01_k».proof.Proof.Conv.Claims
public import proofs.«01_k».proof.Proof.GMlpW1.Claims
public import proofs.«01_k».proof.Proof.DAct.Claims
public import proofs.«01_k».proof.Proof.DH2.Claims
public import proofs.«01_k».proof.Proof.GMlpW2.Claims
public import proofs.«01_k».proof.Proof.U1.Claims
public import proofs.«01_k».proof.Proof.FF.Claims
public import proofs.«01_k».proof.Proof.GWq.Claims
public import proofs.«01_k».proof.Proof.DAo.Claims
public import proofs.«01_k».proof.Proof.DH1.Claims
public import proofs.«01_k».proof.Proof.Q.Claims
public import proofs.«01_k».proof.Proof.GWCa.Claims
public import proofs.«01_k».proof.Proof.DXCa.Claims
public import proofs.«01_k».proof.Proof.ZCa.Claims
public import proofs.«01_k».proof.Proof.GProjR.Claims
public import proofs.«01_k».proof.Proof.DOR.Claims
public import proofs.«01_k».proof.Proof.ProjR.Claims
public import proofs.«01_k».proof.Proof.AdamWIn.Claims
public import proofs.«01_k».proof.Proof.AdamUp.Claims
public import proofs.«01_k».proof.Proof.AdamGate.Claims
public import proofs.«01_k».proof.Proof.AdamConv.Claims
public import proofs.«01_k».proof.Proof.AdamProj.Claims
public import proofs.«01_k».proof.Proof.AdamSquare.Claims
public import proofs.«01_k».proof.Proof.AdamMlp.Claims
public import proofs.«01_k».proof.Proof.AdamSmall.Claims
public import proofs.«01_k».proof.Proof.Relu.Claims
public import proofs.«01_k».proof.Proof.Glu.Claims
public import proofs.«01_k».proof.Proof.Merge.Claims
public import proofs.«01_k».proof.Proof.Ln.Claims
public import proofs.«01_k».proof.Proof.Attn.Claims
public import proofs.«01_k».proof.Proof.AttnF.Claims
public import proofs.«01_k».proof.Proof.KMem.Claims
public import proofs.«01_k».proof.Proof.GWk.Claims
public import proofs.«01_k».proof.Proof.DMemK.Claims
public import proofs.«01_k».proof.Proof.DMemV.Claims
public import proofs.«01_k».proof.Proof.ZL.Claims
public import proofs.«01_k».proof.Proof.GWL.Claims
public import proofs.«01_k».proof.Proof.DXL.Claims
public import proofs.«01_k».proof.Proof.GluF.Claims
public import proofs.«01_k».proof.Proof.MergeF.Claims
public import proofs.«01_k».proof.Proof.ReluF.Claims
public import proofs.«01_k».proof.Proof.LnMemF.Claims
public import proofs.«01_k».proof.Proof.LnF.Claims
public import proofs.«01_k».proof.Proof.ConvLnF.Claims
public import proofs.«01_k».proof.Proof.ConvLnB.Claims
public import proofs.«01_k».proof.Proof.LnMemB.Claims

@[expose] public section

noncomputable section

namespace Cert.Proof

open Idealize.ShloMosaic Idealize.SL.Sem

theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.Kernel33.Gen.facts, Cert.Kernel33Ideal.Gen.facts, Cert.Reference33Ideal.Gen.facts,
  Cert.Kernel34.Gen.facts, Cert.Kernel34Ideal.Gen.facts, Cert.Reference34Ideal.Gen.facts,
  Cert.Kernel35.Gen.facts, Cert.Kernel35Ideal.Gen.facts, Cert.Reference35Ideal.Gen.facts,
  Cert.Kernel36.Gen.facts, Cert.Kernel36Ideal.Gen.facts, Cert.Reference36Ideal.Gen.facts,
  Cert.Kernel37.Gen.facts, Cert.Kernel37Ideal.Gen.facts, Cert.Reference37Ideal.Gen.facts,
  Cert.Kernel38.Gen.facts, Cert.Kernel38Ideal.Gen.facts, Cert.Reference38Ideal.Gen.facts,
  Cert.Kernel39.Gen.facts, Cert.Kernel39Ideal.Gen.facts, Cert.Reference39Ideal.Gen.facts,
  Cert.Kernel40.Gen.facts, Cert.Kernel40Ideal.Gen.facts, Cert.Reference40Ideal.Gen.facts,
  Cert.Kernel41.Gen.facts, Cert.Kernel41Ideal.Gen.facts, Cert.Reference41Ideal.Gen.facts,
  Cert.Kernel42.Gen.facts, Cert.Kernel42Ideal.Gen.facts, Cert.Reference42Ideal.Gen.facts,
  Cert.Kernel43.Gen.facts, Cert.Kernel43Ideal.Gen.facts, Cert.Reference43Ideal.Gen.facts,
  Cert.Kernel44.Gen.facts, Cert.Kernel44Ideal.Gen.facts, Cert.Reference44Ideal.Gen.facts,
  Cert.Kernel45.Gen.facts, Cert.Kernel45Ideal.Gen.facts, Cert.Reference45Ideal.Gen.facts,
  Cert.Kernel46.Gen.facts, Cert.Kernel46Ideal.Gen.facts, Cert.Reference46Ideal.Gen.facts,
  Cert.Attention.shapes,
  fun m ρ _ => Cert.Kernel.Gen.frame m ρ, fun m ρ _ => Cert.KernelIdeal.Gen.frame m ρ, Cert.Conv.frame_ref,
  fun m ρ _ => Cert.Kernel2.Gen.frame m ρ, fun m ρ _ => Cert.Kernel2Ideal.Gen.frame m ρ, Cert.GMlpW1.frame_ref,
  fun m ρ _ => Cert.Kernel3.Gen.frame m ρ, fun m ρ _ => Cert.Kernel3Ideal.Gen.frame m ρ, Cert.DAct.frame_ref,
  fun m ρ _ => Cert.Kernel4.Gen.frame m ρ, fun m ρ _ => Cert.Kernel4Ideal.Gen.frame m ρ, Cert.DH2.frame_ref,
  fun m ρ _ => Cert.Kernel5.Gen.frame m ρ, fun m ρ _ => Cert.Kernel5Ideal.Gen.frame m ρ, Cert.GMlpW2.frame_ref,
  fun m ρ _ => Cert.Kernel6.Gen.frame m ρ, fun m ρ _ => Cert.Kernel6Ideal.Gen.frame m ρ, Cert.U1.frame_ref,
  fun m ρ _ => Cert.Kernel7.Gen.frame m ρ, fun m ρ _ => Cert.Kernel7Ideal.Gen.frame m ρ, Cert.FF.frame_ref,
  fun m ρ _ => Cert.Kernel8.Gen.frame m ρ, fun m ρ _ => Cert.Kernel8Ideal.Gen.frame m ρ, Cert.GWq.frame_ref,
  fun m ρ _ => Cert.Kernel9.Gen.frame m ρ, fun m ρ _ => Cert.Kernel9Ideal.Gen.frame m ρ, Cert.DAo.frame_ref,
  fun m ρ _ => Cert.Kernel10.Gen.frame m ρ, fun m ρ _ => Cert.Kernel10Ideal.Gen.frame m ρ, Cert.DH1.frame_ref,
  fun m ρ _ => Cert.Kernel11.Gen.frame m ρ, fun m ρ _ => Cert.Kernel11Ideal.Gen.frame m ρ, Cert.Q.frame_ref,
  fun m ρ _ => Cert.Kernel12.Gen.frame m ρ, fun m ρ _ => Cert.Kernel12Ideal.Gen.frame m ρ, Cert.GWCa.frame_ref,
  fun m ρ _ => Cert.Kernel13.Gen.frame m ρ, fun m ρ _ => Cert.Kernel13Ideal.Gen.frame m ρ, Cert.DXCa.frame_ref,
  fun m ρ _ => Cert.Kernel14.Gen.frame m ρ, fun m ρ _ => Cert.Kernel14Ideal.Gen.frame m ρ, Cert.ZCa.frame_ref,
  fun m ρ _ => Cert.Kernel15.Gen.frame m ρ, fun m ρ _ => Cert.Kernel15Ideal.Gen.frame m ρ, Cert.GProjR.frame_ref,
  fun m ρ _ => Cert.Kernel16.Gen.frame m ρ, fun m ρ _ => Cert.Kernel16Ideal.Gen.frame m ρ, Cert.DOR.frame_ref,
  fun m ρ _ => Cert.Kernel17.Gen.frame m ρ, fun m ρ _ => Cert.Kernel17Ideal.Gen.frame m ρ, Cert.ProjR.frame_ref,
  fun m ρ _ => Cert.Kernel18.Gen.frame m ρ, fun m ρ _ => Cert.Kernel18Ideal.Gen.frame m ρ, Cert.AdamWIn.frame_ref,
  fun m ρ _ => Cert.Kernel19.Gen.frame m ρ, fun m ρ _ => Cert.Kernel19Ideal.Gen.frame m ρ, Cert.AdamUp.frame_ref,
  fun m ρ _ => Cert.Kernel20.Gen.frame m ρ, fun m ρ _ => Cert.Kernel20Ideal.Gen.frame m ρ, Cert.AdamGate.frame_ref,
  fun m ρ _ => Cert.Kernel21.Gen.frame m ρ, fun m ρ _ => Cert.Kernel21Ideal.Gen.frame m ρ, Cert.AdamConv.frame_ref,
  fun m ρ _ => Cert.Kernel22.Gen.frame m ρ, fun m ρ _ => Cert.Kernel22Ideal.Gen.frame m ρ, Cert.AdamProj.frame_ref,
  fun m ρ _ => Cert.Kernel23.Gen.frame m ρ, fun m ρ _ => Cert.Kernel23Ideal.Gen.frame m ρ, Cert.AdamSquare.frame_ref,
  fun m ρ _ => Cert.Kernel24.Gen.frame m ρ, fun m ρ _ => Cert.Kernel24Ideal.Gen.frame m ρ, Cert.AdamMlp.frame_ref,
  fun m ρ _ => Cert.Kernel25.Gen.frame m ρ, fun m ρ _ => Cert.Kernel25Ideal.Gen.frame m ρ, Cert.AdamSmall.frame_ref,
  fun m ρ _ => Cert.Kernel26.Gen.frame m ρ, fun m ρ _ => Cert.Kernel26Ideal.Gen.frame m ρ, Cert.Relu.frame_ref,
  fun m ρ _ => Cert.Kernel27.Gen.frame m ρ, fun m ρ _ => Cert.Kernel27Ideal.Gen.frame m ρ, Cert.Glu.frame_ref,
  fun m ρ _ => Cert.Kernel28.Gen.frame m ρ, fun m ρ _ => Cert.Kernel28Ideal.Gen.frame m ρ, Cert.Merge.frame_ref,
  fun m ρ _ => Cert.Kernel29.Gen.frame m ρ, fun m ρ _ => Cert.Kernel29Ideal.Gen.frame m ρ, Cert.Ln.frame_ref,
  fun m ρ _ => Cert.Kernel30.Gen.frame m ρ, fun m ρ _ => Cert.Kernel30Ideal.Gen.frame m ρ, fun m ρ _ => Cert.Kernel30Ideal.Gen.frame m ρ, Cert.Attn.frame_ref, fun m ρ _ => Cert.Attn.frame_ref m ρ trivial,
  fun m ρ _ => Cert.Kernel31.Gen.frame m ρ, fun m ρ _ => Cert.Kernel31Ideal.Gen.frame m ρ, Cert.AttnF.frame_ref,
  fun m ρ _ => Cert.Kernel32.Gen.frame m ρ, fun m ρ _ => Cert.Kernel32Ideal.Gen.frame m ρ, Cert.KMem.frame_ref,
  fun m ρ _ => Cert.Kernel33.Gen.frame m ρ, fun m ρ _ => Cert.Kernel33Ideal.Gen.frame m ρ, Cert.GWk.frame_ref,
  fun m ρ _ => Cert.Kernel34.Gen.frame m ρ, fun m ρ _ => Cert.Kernel34Ideal.Gen.frame m ρ, Cert.DMemK.frame_ref,
  fun m ρ _ => Cert.Kernel35.Gen.frame m ρ, fun m ρ _ => Cert.Kernel35Ideal.Gen.frame m ρ, Cert.DMemV.frame_ref,
  fun m ρ _ => Cert.Kernel36.Gen.frame m ρ, fun m ρ _ => Cert.Kernel36Ideal.Gen.frame m ρ, Cert.ZL.frame_ref,
  fun m ρ _ => Cert.Kernel37.Gen.frame m ρ, fun m ρ _ => Cert.Kernel37Ideal.Gen.frame m ρ, Cert.GWL.frame_ref,
  fun m ρ _ => Cert.Kernel38.Gen.frame m ρ, fun m ρ _ => Cert.Kernel38Ideal.Gen.frame m ρ, Cert.DXL.frame_ref,
  fun m ρ _ => Cert.Kernel39.Gen.frame m ρ, fun m ρ _ => Cert.Kernel39Ideal.Gen.frame m ρ, Cert.GluF.frame_ref,
  fun m ρ _ => Cert.Kernel40.Gen.frame m ρ, fun m ρ _ => Cert.Kernel40Ideal.Gen.frame m ρ, Cert.MergeF.frame_ref,
  fun m ρ _ => Cert.Kernel41.Gen.frame m ρ, fun m ρ _ => Cert.Kernel41Ideal.Gen.frame m ρ, Cert.ReluF.frame_ref,
  fun m ρ _ => Cert.Kernel42.Gen.frame m ρ, fun m ρ _ => Cert.Kernel42Ideal.Gen.frame m ρ, Cert.LnMemF.frame_ref,
  fun m ρ _ => Cert.Kernel43.Gen.frame m ρ, fun m ρ _ => Cert.Kernel43Ideal.Gen.frame m ρ, Cert.LnF.frame_ref,
  fun m ρ _ => Cert.Kernel44.Gen.frame m ρ, fun m ρ _ => Cert.Kernel44Ideal.Gen.frame m ρ, Cert.ConvLnF.frame_ref,
  fun m ρ _ => Cert.Kernel45.Gen.frame m ρ, fun m ρ _ => Cert.Kernel45Ideal.Gen.frame m ρ, Cert.ConvLnB.frame_ref,
  fun m ρ _ => Cert.Kernel46.Gen.frame m ρ, fun m ρ _ => Cert.Kernel46Ideal.Gen.frame m ρ, Cert.LnMemB.frame_ref,
  trivial, Cert.Conv.algebraic,
  trivial, Cert.GMlpW1.algebraic,
  trivial, Cert.DAct.algebraic,
  trivial, Cert.DH2.algebraic,
  trivial, Cert.GMlpW2.algebraic,
  trivial, Cert.U1.algebraic,
  trivial, Cert.FF.algebraic,
  trivial, Cert.GWq.algebraic,
  trivial, Cert.DAo.algebraic,
  trivial, Cert.DH1.algebraic,
  trivial, Cert.Q.algebraic,
  trivial, Cert.GWCa.algebraic,
  trivial, Cert.DXCa.algebraic,
  trivial, Cert.ZCa.algebraic,
  trivial, Cert.GProjR.algebraic,
  trivial, Cert.DOR.algebraic,
  trivial, Cert.ProjR.algebraic,
  trivial, Cert.AdamWIn.algebraic,
  trivial, Cert.AdamUp.algebraic,
  trivial, Cert.AdamGate.algebraic,
  trivial, Cert.AdamConv.algebraic,
  trivial, Cert.AdamProj.algebraic,
  trivial, Cert.AdamSquare.algebraic,
  trivial, Cert.AdamMlp.algebraic,
  trivial, Cert.AdamSmall.algebraic,
  trivial, Cert.Relu.algebraic,
  trivial, Cert.Glu.algebraic,
  trivial, Cert.Merge.algebraic,
  trivial, Cert.Ln.algebraic,
  trivial, Cert.Attn.algebraic,
  trivial, Cert.AttnF.algebraic,
  trivial, Cert.KMem.algebraic,
  trivial, Cert.GWk.algebraic,
  trivial, Cert.DMemK.algebraic,
  trivial, Cert.DMemV.algebraic,
  trivial, Cert.ZL.algebraic,
  trivial, Cert.GWL.algebraic,
  trivial, Cert.DXL.algebraic,
  trivial, Cert.GluF.algebraic,
  trivial, Cert.MergeF.algebraic,
  trivial, Cert.ReluF.algebraic,
  trivial, Cert.LnMemF.algebraic,
  trivial, Cert.LnF.algebraic,
  trivial, Cert.ConvLnF.algebraic,
  trivial, Cert.ConvLnB.algebraic,
  trivial, Cert.LnMemB.algebraic⟩

end Cert.Proof

end
